-- ==== Defs.lean ====
def Pre_Banded (m : (ℓ : Loc Cert.Banded.nD Cert.Banded.τ Cert.Banded.sig) → Buf (Elt Bits) ℓ) : Prop :=
  True

def Pre_BandedIdeal (m : (ℓ : Loc Cert.BandedIdeal.nD Cert.BandedIdeal.τ Cert.BandedIdeal.sig) → Buf (Elt Ideal) ℓ) : Prop :=
  True

def Pre_BandedIdeal_finite [hPre_finite : Cert.Pre_finite.Facts] (m : (ℓ : Loc Cert.BandedIdeal.nD Cert.BandedIdeal.τ Cert.BandedIdeal.sig) → Buf (Elt Ideal) ℓ) : Prop :=
  ∀ c : Dev Cert.BandedIdeal.nD,
    (Cert.Pre_finite.fn (F := Ideal) (m ((c.tc : Thread Cert.BandedIdeal.nD Cert.BandedIdeal.τ).loc Cert.BandedIdeal.main_arg0)) (m ((c.tc : Thread Cert.BandedIdeal.nD Cert.BandedIdeal.τ).loc Cert.BandedIdeal.main_arg1)) (m ((c.tc : Thread Cert.BandedIdeal.nD Cert.BandedIdeal.τ).loc Cert.BandedIdeal.main_arg2)) (m ((c.tc : Thread Cert.BandedIdeal.nD Cert.BandedIdeal.τ).loc Cert.BandedIdeal.main_arg3))) = (fun _ => 1#1)

def Pre_BandedRefIdeal (m : (ℓ : Loc Cert.BandedRefIdeal.nD Cert.BandedRefIdeal.τ Cert.BandedRefIdeal.sig) → Buf (Elt Ideal) ℓ) : Prop :=
  True

def Pre_BandedRefIdeal_finite [hPre_finite : Cert.Pre_finite.Facts] (m : (ℓ : Loc Cert.BandedRefIdeal.nD Cert.BandedRefIdeal.τ Cert.BandedRefIdeal.sig) → Buf (Elt Ideal) ℓ) : Prop :=
  ∀ c : Dev Cert.BandedRefIdeal.nD,
    (Cert.Pre_finite.fn (F := Ideal) (m ((c.tc : Thread Cert.BandedRefIdeal.nD Cert.BandedRefIdeal.τ).loc Cert.BandedRefIdeal.main_arg0)) (m ((c.tc : Thread Cert.BandedRefIdeal.nD Cert.BandedRefIdeal.τ).loc Cert.BandedRefIdeal.main_arg1)) (m ((c.tc : Thread Cert.BandedRefIdeal.nD Cert.BandedRefIdeal.τ).loc Cert.BandedRefIdeal.main_arg2)) (m ((c.tc : Thread Cert.BandedRefIdeal.nD Cert.BandedRefIdeal.τ).loc Cert.BandedRefIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCRefIdeal (m : (ℓ : Loc Cert.ProjCRefIdeal.nD Cert.ProjCRefIdeal.τ Cert.ProjCRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_BandC1 (m : (ℓ : Loc Cert.BandC1.nD Cert.BandC1.τ Cert.BandC1.sig) → Buf (Elt Bits) ℓ) : Prop :=
  True

def Pre_BandC1Ideal (m : (ℓ : Loc Cert.BandC1Ideal.nD Cert.BandC1Ideal.τ Cert.BandC1Ideal.sig) → Buf (Elt Ideal) ℓ) : Prop :=
  True

def Pre_BandC1Ideal_finite_c1 [hPre_finite_c1 : Cert.Pre_finite_c1.Facts] (m : (ℓ : Loc Cert.BandC1Ideal.nD Cert.BandC1Ideal.τ Cert.BandC1Ideal.sig) → Buf (Elt Ideal) ℓ) : Prop :=
  ∀ c : Dev Cert.BandC1Ideal.nD,
    (Cert.Pre_finite_c1.fn (F := Ideal) (m ((c.tc : Thread Cert.BandC1Ideal.nD Cert.BandC1Ideal.τ).loc Cert.BandC1Ideal.main_arg0)) (m ((c.tc : Thread Cert.BandC1Ideal.nD Cert.BandC1Ideal.τ).loc Cert.BandC1Ideal.main_arg1)) (m ((c.tc : Thread Cert.BandC1Ideal.nD Cert.BandC1Ideal.τ).loc Cert.BandC1Ideal.main_arg2))) = (fun _ => 1#1)

def Pre_BandC1RefIdeal (m : (ℓ : Loc Cert.BandC1RefIdeal.nD Cert.BandC1RefIdeal.τ Cert.BandC1RefIdeal.sig) → Buf (Elt Ideal) ℓ) : Prop :=
  True

def Pre_BandC1RefIdeal_finite_c1 [hPre_finite_c1 : Cert.Pre_finite_c1.Facts] (m : (ℓ : Loc Cert.BandC1RefIdeal.nD Cert.BandC1RefIdeal.τ Cert.BandC1RefIdeal.sig) → Buf (Elt Ideal) ℓ) : Prop :=
  ∀ c : Dev Cert.BandC1RefIdeal.nD,
    (Cert.Pre_finite_c1.fn (F := Ideal) (m ((c.tc : Thread Cert.BandC1RefIdeal.nD Cert.BandC1RefIdeal.τ).loc Cert.BandC1RefIdeal.main_arg0)) (m ((c.tc : Thread Cert.BandC1RefIdeal.nD Cert.BandC1RefIdeal.τ).loc Cert.BandC1RefIdeal.main_arg1)) (m ((c.tc : Thread Cert.BandC1RefIdeal.nD Cert.BandC1RefIdeal.τ).loc Cert.BandC1RefIdeal.main_arg2))) = (fun _ => 1#1)

def Pre_BandC4 (m : (ℓ : Loc Cert.BandC4.nD Cert.BandC4.τ Cert.BandC4.sig) → Buf (Elt Bits) ℓ) : Prop :=
  True

def Pre_BandC4Ideal (m : (ℓ : Loc Cert.BandC4Ideal.nD Cert.BandC4Ideal.τ Cert.BandC4Ideal.sig) → Buf (Elt Ideal) ℓ) : Prop :=
  True

def Pre_BandC4Ideal_finite_c4 [hPre_finite_c4 : Cert.Pre_finite_c4.Facts] (m : (ℓ : Loc Cert.BandC4Ideal.nD Cert.BandC4Ideal.τ Cert.BandC4Ideal.sig) → Buf (Elt Ideal) ℓ) : Prop :=
  ∀ c : Dev Cert.BandC4Ideal.nD,
    (Cert.Pre_finite_c4.fn (F := Ideal) (m ((c.tc : Thread Cert.BandC4Ideal.nD Cert.BandC4Ideal.τ).loc Cert.BandC4Ideal.main_arg0)) (m ((c.tc : Thread Cert.BandC4Ideal.nD Cert.BandC4Ideal.τ).loc Cert.BandC4Ideal.main_arg1)) (m ((c.tc : Thread Cert.BandC4Ideal.nD Cert.BandC4Ideal.τ).loc Cert.BandC4Ideal.main_arg2))) = (fun _ => 1#1)

def Pre_BandC4RefIdeal (m : (ℓ : Loc Cert.BandC4RefIdeal.nD Cert.BandC4RefIdeal.τ Cert.BandC4RefIdeal.sig) → Buf (Elt Ideal) ℓ) : Prop :=
  True

def Pre_BandC4RefIdeal_finite_c4 [hPre_finite_c4 : Cert.Pre_finite_c4.Facts] (m : (ℓ : Loc Cert.BandC4RefIdeal.nD Cert.BandC4RefIdeal.τ Cert.BandC4RefIdeal.sig) → Buf (Elt Ideal) ℓ) : Prop :=
  ∀ c : Dev Cert.BandC4RefIdeal.nD,
    (Cert.Pre_finite_c4.fn (F := Ideal) (m ((c.tc : Thread Cert.BandC4RefIdeal.nD Cert.BandC4RefIdeal.τ).loc Cert.BandC4RefIdeal.main_arg0)) (m ((c.tc : Thread Cert.BandC4RefIdeal.nD Cert.BandC4RefIdeal.τ).loc Cert.BandC4RefIdeal.main_arg1)) (m ((c.tc : Thread Cert.BandC4RefIdeal.nD Cert.BandC4RefIdeal.τ).loc Cert.BandC4RefIdeal.main_arg2))) = (fun _ => 1#1)

def Pre_BandC16 (m : (ℓ : Loc Cert.BandC16.nD Cert.BandC16.τ Cert.BandC16.sig) → Buf (Elt Bits) ℓ) : Prop :=
  True

def Pre_BandC16Ideal (m : (ℓ : Loc Cert.BandC16Ideal.nD Cert.BandC16Ideal.τ Cert.BandC16Ideal.sig) → Buf (Elt Ideal) ℓ) : Prop :=
  True

def Pre_BandC16Ideal_finite_c16 [hPre_finite_c16 : Cert.Pre_finite_c16.Facts] (m : (ℓ : Loc Cert.BandC16Ideal.nD Cert.BandC16Ideal.τ Cert.BandC16Ideal.sig) → Buf (Elt Ideal) ℓ) : Prop :=
  ∀ c : Dev Cert.BandC16Ideal.nD,
    (Cert.Pre_finite_c16.fn (F := Ideal) (m ((c.tc : Thread Cert.BandC16Ideal.nD Cert.BandC16Ideal.τ).loc Cert.BandC16Ideal.main_arg0)) (m ((c.tc : Thread Cert.BandC16Ideal.nD Cert.BandC16Ideal.τ).loc Cert.BandC16Ideal.main_arg1)) (m ((c.tc : Thread Cert.BandC16Ideal.nD Cert.BandC16Ideal.τ).loc Cert.BandC16Ideal.main_arg2))) = (fun _ => 1#1)

def Pre_BandC16RefIdeal (m : (ℓ : Loc Cert.BandC16RefIdeal.nD Cert.BandC16RefIdeal.τ Cert.BandC16RefIdeal.sig) → Buf (Elt Ideal) ℓ) : Prop :=
  True

def Pre_BandC16RefIdeal_finite_c16 [hPre_finite_c16 : Cert.Pre_finite_c16.Facts] (m : (ℓ : Loc Cert.BandC16RefIdeal.nD Cert.BandC16RefIdeal.τ Cert.BandC16RefIdeal.sig) → Buf (Elt Ideal) ℓ) : Prop :=
  ∀ c : Dev Cert.BandC16RefIdeal.nD,
    (Cert.Pre_finite_c16.fn (F := Ideal) (m ((c.tc : Thread Cert.BandC16RefIdeal.nD Cert.BandC16RefIdeal.τ).loc Cert.BandC16RefIdeal.main_arg0)) (m ((c.tc : Thread Cert.BandC16RefIdeal.nD Cert.BandC16RefIdeal.τ).loc Cert.BandC16RefIdeal.main_arg1)) (m ((c.tc : Thread Cert.BandC16RefIdeal.nD Cert.BandC16RefIdeal.τ).loc Cert.BandC16RefIdeal.main_arg2))) = (fun _ => 1#1)

def quiescent_Banded [hBanded : Cert.Banded.Facts] : Prop :=
  ∀ (m : (ℓ : Loc Cert.Banded.nD Cert.Banded.τ Cert.Banded.sig) → Buf (Elt Bits) ℓ) (g : Dev Cert.Banded.nD → PrngReg), Pre_Banded m →
    θ_run (Cert.Banded.defs (F := Bits)) (onTc (τ := Cert.Banded.τ) (Cert.Banded.main (F := Bits))) ⟨m, fun _ => 0, g⟩ (fun r => (∀ c : Dev Cert.Banded.nD,
      r.2.mem ((c.tc : Thread Cert.Banded.nD Cert.Banded.τ).loc Cert.Banded.main_arg0) = m ((c.tc : Thread Cert.Banded.nD Cert.Banded.τ).loc Cert.Banded.main_arg0)
      ∧ r.2.mem ((c.tc : Thread Cert.Banded.nD Cert.Banded.τ).loc Cert.Banded.main_arg1) = m ((c.tc : Thread Cert.Banded.nD Cert.Banded.τ).loc Cert.Banded.main_arg1)
      ∧ r.2.mem ((c.tc : Thread Cert.Banded.nD Cert.Banded.τ).loc Cert.Banded.main_arg2) = m ((c.tc : Thread Cert.Banded.nD Cert.Banded.τ).loc Cert.Banded.main_arg2)
      ∧ r.2.mem ((c.tc : Thread Cert.Banded.nD Cert.Banded.τ).loc Cert.Banded.main_arg3) = m ((c.tc : Thread Cert.Banded.nD Cert.Banded.τ).loc Cert.Banded.main_arg3))
      ∧ r.2.sem = fun _ => 0)

def quiescent_BandedIdeal [hBandedIdeal : Cert.BandedIdeal.Facts] : Prop :=
  ∀ (m : (ℓ : Loc Cert.BandedIdeal.nD Cert.BandedIdeal.τ Cert.BandedIdeal.sig) → Buf (Elt Ideal) ℓ) (g : Dev Cert.BandedIdeal.nD → PrngReg), Pre_BandedIdeal m →
    θ_run (Cert.BandedIdeal.defs (F := Ideal)) (onTc (τ := Cert.BandedIdeal.τ) (Cert.BandedIdeal.main (F := Ideal))) ⟨m, fun _ => 0, g⟩ (fun r => (∀ c : Dev Cert.BandedIdeal.nD,
      r.2.mem ((c.tc : Thread Cert.BandedIdeal.nD Cert.BandedIdeal.τ).loc Cert.BandedIdeal.main_arg0) = m ((c.tc : Thread Cert.BandedIdeal.nD Cert.BandedIdeal.τ).loc Cert.BandedIdeal.main_arg0)
      ∧ r.2.mem ((c.tc : Thread Cert.BandedIdeal.nD Cert.BandedIdeal.τ).loc Cert.BandedIdeal.main_arg1) = m ((c.tc : Thread Cert.BandedIdeal.nD Cert.BandedIdeal.τ).loc Cert.BandedIdeal.main_arg1)
      ∧ r.2.mem ((c.tc : Thread Cert.BandedIdeal.nD Cert.BandedIdeal.τ).loc Cert.BandedIdeal.main_arg2) = m ((c.tc : Thread Cert.BandedIdeal.nD Cert.BandedIdeal.τ).loc Cert.BandedIdeal.main_arg2)
      ∧ r.2.mem ((c.tc : Thread Cert.BandedIdeal.nD Cert.BandedIdeal.τ).loc Cert.BandedIdeal.main_arg3) = m ((c.tc : Thread Cert.BandedIdeal.nD Cert.BandedIdeal.τ).loc Cert.BandedIdeal.main_arg3))
      ∧ r.2.sem = fun _ => 0)

def quiescent_BandedIdeal_pre_finite [hBandedIdeal : Cert.BandedIdeal.Facts] [hPre_finite : Cert.Pre_finite.Facts] : Prop :=
  ∀ (m : (ℓ : Loc Cert.BandedIdeal.nD Cert.BandedIdeal.τ Cert.BandedIdeal.sig) → Buf (Elt Ideal) ℓ) (g : Dev Cert.BandedIdeal.nD → PrngReg), Pre_BandedIdeal_finite m →
    θ_run (Cert.BandedIdeal.defs (F := Ideal)) (onTc (τ := Cert.BandedIdeal.τ) (Cert.BandedIdeal.main (F := Ideal))) ⟨m, fun _ => 0, g⟩ (fun r => (∀ c : Dev Cert.BandedIdeal.nD,
      r.2.mem ((c.tc : Thread Cert.BandedIdeal.nD Cert.BandedIdeal.τ).loc Cert.BandedIdeal.main_arg0) = m ((c.tc : Thread Cert.BandedIdeal.nD Cert.BandedIdeal.τ).loc Cert.BandedIdeal.main_arg0)
      ∧ r.2.mem ((c.tc : Thread Cert.BandedIdeal.nD Cert.BandedIdeal.τ).loc Cert.BandedIdeal.main_arg1) = m ((c.tc : Thread Cert.BandedIdeal.nD Cert.BandedIdeal.τ).loc Cert.BandedIdeal.main_arg1)
      ∧ r.2.mem ((c.tc : Thread Cert.BandedIdeal.nD Cert.BandedIdeal.τ).loc Cert.BandedIdeal.main_arg2) = m ((c.tc : Thread Cert.BandedIdeal.nD Cert.BandedIdeal.τ).loc Cert.BandedIdeal.main_arg2)
      ∧ r.2.mem ((c.tc : Thread Cert.BandedIdeal.nD Cert.BandedIdeal.τ).loc Cert.BandedIdeal.main_arg3) = m ((c.tc : Thread Cert.BandedIdeal.nD Cert.BandedIdeal.τ).loc Cert.BandedIdeal.main_arg3))
      ∧ r.2.sem = fun _ => 0)

def quiescent_BandedRefIdeal [hBandedRefIdeal : Cert.BandedRefIdeal.Facts] : Prop :=
  ∀ (m : (ℓ : Loc Cert.BandedRefIdeal.nD Cert.BandedRefIdeal.τ Cert.BandedRefIdeal.sig) → Buf (Elt Ideal) ℓ) (g : Dev Cert.BandedRefIdeal.nD → PrngReg), Pre_BandedRefIdeal m →
    θ_run (Cert.BandedRefIdeal.defs (F := Ideal)) (onTc (τ := Cert.BandedRefIdeal.τ) (Cert.BandedRefIdeal.main (F := Ideal))) ⟨m, fun _ => 0, g⟩ (fun r => (∀ c : Dev Cert.BandedRefIdeal.nD,
      r.2.mem ((c.tc : Thread Cert.BandedRefIdeal.nD Cert.BandedRefIdeal.τ).loc Cert.BandedRefIdeal.main_arg0) = m ((c.tc : Thread Cert.BandedRefIdeal.nD Cert.BandedRefIdeal.τ).loc Cert.BandedRefIdeal.main_arg0)
      ∧ r.2.mem ((c.tc : Thread Cert.BandedRefIdeal.nD Cert.BandedRefIdeal.τ).loc Cert.BandedRefIdeal.main_arg1) = m ((c.tc : Thread Cert.BandedRefIdeal.nD Cert.BandedRefIdeal.τ).loc Cert.BandedRefIdeal.main_arg1)
      ∧ r.2.mem ((c.tc : Thread Cert.BandedRefIdeal.nD Cert.BandedRefIdeal.τ).loc Cert.BandedRefIdeal.main_arg2) = m ((c.tc : Thread Cert.BandedRefIdeal.nD Cert.BandedRefIdeal.τ).loc Cert.BandedRefIdeal.main_arg2)
      ∧ r.2.mem ((c.tc : Thread Cert.BandedRefIdeal.nD Cert.BandedRefIdeal.τ).loc Cert.BandedRefIdeal.main_arg3) = m ((c.tc : Thread Cert.BandedRefIdeal.nD Cert.BandedRefIdeal.τ).loc Cert.BandedRefIdeal.main_arg3))
      ∧ r.2.sem = fun _ => 0)

def quiescent_BandedRefIdeal_pre_finite [hBandedRefIdeal : Cert.BandedRefIdeal.Facts] [hPre_finite : Cert.Pre_finite.Facts] : Prop :=
  ∀ (m : (ℓ : Loc Cert.BandedRefIdeal.nD Cert.BandedRefIdeal.τ Cert.BandedRefIdeal.sig) → Buf (Elt Ideal) ℓ) (g : Dev Cert.BandedRefIdeal.nD → PrngReg), Pre_BandedRefIdeal_finite m →
    θ_run (Cert.BandedRefIdeal.defs (F := Ideal)) (onTc (τ := Cert.BandedRefIdeal.τ) (Cert.BandedRefIdeal.main (F := Ideal))) ⟨m, fun _ => 0, g⟩ (fun r => (∀ c : Dev Cert.BandedRefIdeal.nD,
      r.2.mem ((c.tc : Thread Cert.BandedRefIdeal.nD Cert.BandedRefIdeal.τ).loc Cert.BandedRefIdeal.main_arg0) = m ((c.tc : Thread Cert.BandedRefIdeal.nD Cert.BandedRefIdeal.τ).loc Cert.BandedRefIdeal.main_arg0)
      ∧ r.2.mem ((c.tc : Thread Cert.BandedRefIdeal.nD Cert.BandedRefIdeal.τ).loc Cert.BandedRefIdeal.main_arg1) = m ((c.tc : Thread Cert.BandedRefIdeal.nD Cert.BandedRefIdeal.τ).loc Cert.BandedRefIdeal.main_arg1)
      ∧ r.2.mem ((c.tc : Thread Cert.BandedRefIdeal.nD Cert.BandedRefIdeal.τ).loc Cert.BandedRefIdeal.main_arg2) = m ((c.tc : Thread Cert.BandedRefIdeal.nD Cert.BandedRefIdeal.τ).loc Cert.BandedRefIdeal.main_arg2)
      ∧ r.2.mem ((c.tc : Thread Cert.BandedRefIdeal.nD Cert.BandedRefIdeal.τ).loc Cert.BandedRefIdeal.main_arg3) = m ((c.tc : Thread Cert.BandedRefIdeal.nD Cert.BandedRefIdeal.τ).loc Cert.BandedRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1)
      ∧ r.2.mem ((c.tc : Thread Cert.ProjBRefIdeal.nD Cert.ProjBRefIdeal.τ).loc Cert.ProjBRefIdeal.main_arg2) = m ((c.tc : Thread Cert.ProjBRefIdeal.nD Cert.ProjBRefIdeal.τ).loc Cert.ProjBRefIdeal.main_arg2))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1)
      ∧ r.2.mem ((c.tc : Thread Cert.ProjC.nD Cert.ProjC.τ).loc Cert.ProjC.main_arg2) = m ((c.tc : Thread Cert.ProjC.nD Cert.ProjC.τ).loc Cert.ProjC.main_arg2))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
      ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2))
      ∧ r.2.sem = fun _ => 0)

def quiescent_ProjCRefIdeal [hProjCRefIdeal : Cert.ProjCRefIdeal.Facts] : Prop :=
  ∀ (m : (ℓ : Loc Cert.ProjCRefIdeal.nD Cert.ProjCRefIdeal.τ Cert.ProjCRefIdeal.sig) → Buf (Elt Ideal) ℓ) (g : Dev Cert.ProjCRefIdeal.nD → PrngReg), Pre_ProjCRefIdeal m →
    θ_run (Cert.ProjCRefIdeal.defs (F := Ideal)) (onTc (τ := Cert.ProjCRefIdeal.τ) (Cert.ProjCRefIdeal.main (F := Ideal))) ⟨m, fun _ => 0, g⟩ (fun r => (∀ c : Dev Cert.ProjCRefIdeal.nD,
      r.2.mem ((c.tc : Thread Cert.ProjCRefIdeal.nD Cert.ProjCRefIdeal.τ).loc Cert.ProjCRefIdeal.main_arg0) = m ((c.tc : Thread Cert.ProjCRefIdeal.nD Cert.ProjCRefIdeal.τ).loc Cert.ProjCRefIdeal.main_arg0)
      ∧ r.2.mem ((c.tc : Thread Cert.ProjCRefIdeal.nD Cert.ProjCRefIdeal.τ).loc Cert.ProjCRefIdeal.main_arg1) = m ((c.tc : Thread Cert.ProjCRefIdeal.nD Cert.ProjCRefIdeal.τ).loc Cert.ProjCRefIdeal.main_arg1)
      ∧ r.2.mem ((c.tc : Thread Cert.ProjCRefIdeal.nD Cert.ProjCRefIdeal.τ).loc Cert.ProjCRefIdeal.main_arg2) = m ((c.tc : Thread Cert.ProjCRefIdeal.nD Cert.ProjCRefIdeal.τ).loc Cert.ProjCRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_BandC1 [hBandC1 : Cert.BandC1.Facts] : Prop :=
  ∀ (m : (ℓ : Loc Cert.BandC1.nD Cert.BandC1.τ Cert.BandC1.sig) → Buf (Elt Bits) ℓ) (g : Dev Cert.BandC1.nD → PrngReg), Pre_BandC1 m →
    θ_run (Cert.BandC1.defs (F := Bits)) (onTc (τ := Cert.BandC1.τ) (Cert.BandC1.main (F := Bits))) ⟨m, fun _ => 0, g⟩ (fun r => (∀ c : Dev Cert.BandC1.nD,
      r.2.mem ((c.tc : Thread Cert.BandC1.nD Cert.BandC1.τ).loc Cert.BandC1.main_arg0) = m ((c.tc : Thread Cert.BandC1.nD Cert.BandC1.τ).loc Cert.BandC1.main_arg0)
      ∧ r.2.mem ((c.tc : Thread Cert.BandC1.nD Cert.BandC1.τ).loc Cert.BandC1.main_arg1) = m ((c.tc : Thread Cert.BandC1.nD Cert.BandC1.τ).loc Cert.BandC1.main_arg1)
      ∧ r.2.mem ((c.tc : Thread Cert.BandC1.nD Cert.BandC1.τ).loc Cert.BandC1.main_arg2) = m ((c.tc : Thread Cert.BandC1.nD Cert.BandC1.τ).loc Cert.BandC1.main_arg2))
      ∧ r.2.sem = fun _ => 0)

def quiescent_BandC1Ideal [hBandC1Ideal : Cert.BandC1Ideal.Facts] : Prop :=
  ∀ (m : (ℓ : Loc Cert.BandC1Ideal.nD Cert.BandC1Ideal.τ Cert.BandC1Ideal.sig) → Buf (Elt Ideal) ℓ) (g : Dev Cert.BandC1Ideal.nD → PrngReg), Pre_BandC1Ideal m →
    θ_run (Cert.BandC1Ideal.defs (F := Ideal)) (onTc (τ := Cert.BandC1Ideal.τ) (Cert.BandC1Ideal.main (F := Ideal))) ⟨m, fun _ => 0, g⟩ (fun r => (∀ c : Dev Cert.BandC1Ideal.nD,
      r.2.mem ((c.tc : Thread Cert.BandC1Ideal.nD Cert.BandC1Ideal.τ).loc Cert.BandC1Ideal.main_arg0) = m ((c.tc : Thread Cert.BandC1Ideal.nD Cert.BandC1Ideal.τ).loc Cert.BandC1Ideal.main_arg0)
      ∧ r.2.mem ((c.tc : Thread Cert.BandC1Ideal.nD Cert.BandC1Ideal.τ).loc Cert.BandC1Ideal.main_arg1) = m ((c.tc : Thread Cert.BandC1Ideal.nD Cert.BandC1Ideal.τ).loc Cert.BandC1Ideal.main_arg1)
      ∧ r.2.mem ((c.tc : Thread Cert.BandC1Ideal.nD Cert.BandC1Ideal.τ).loc Cert.BandC1Ideal.main_arg2) = m ((c.tc : Thread Cert.BandC1Ideal.nD Cert.BandC1Ideal.τ).loc Cert.BandC1Ideal.main_arg2))
      ∧ r.2.sem = fun _ => 0)

def quiescent_BandC1Ideal_pre_finite_c1 [hBandC1Ideal : Cert.BandC1Ideal.Facts] [hPre_finite_c1 : Cert.Pre_finite_c1.Facts] : Prop :=
  ∀ (m : (ℓ : Loc Cert.BandC1Ideal.nD Cert.BandC1Ideal.τ Cert.BandC1Ideal.sig) → Buf (Elt Ideal) ℓ) (g : Dev Cert.BandC1Ideal.nD → PrngReg), Pre_BandC1Ideal_finite_c1 m →
    θ_run (Cert.BandC1Ideal.defs (F := Ideal)) (onTc (τ := Cert.BandC1Ideal.τ) (Cert.BandC1Ideal.main (F := Ideal))) ⟨m, fun _ => 0, g⟩ (fun r => (∀ c : Dev Cert.BandC1Ideal.nD,
      r.2.mem ((c.tc : Thread Cert.BandC1Ideal.nD Cert.BandC1Ideal.τ).loc Cert.BandC1Ideal.main_arg0) = m ((c.tc : Thread Cert.BandC1Ideal.nD Cert.BandC1Ideal.τ).loc Cert.BandC1Ideal.main_arg0)
      ∧ r.2.mem ((c.tc : Thread Cert.BandC1Ideal.nD Cert.BandC1Ideal.τ).loc Cert.BandC1Ideal.main_arg1) = m ((c.tc : Thread Cert.BandC1Ideal.nD Cert.BandC1Ideal.τ).loc Cert.BandC1Ideal.main_arg1)
      ∧ r.2.mem ((c.tc : Thread Cert.BandC1Ideal.nD Cert.BandC1Ideal.τ).loc Cert.BandC1Ideal.main_arg2) = m ((c.tc : Thread Cert.BandC1Ideal.nD Cert.BandC1Ideal.τ).loc Cert.BandC1Ideal.main_arg2))
      ∧ r.2.sem = fun _ => 0)

def quiescent_BandC1RefIdeal [hBandC1RefIdeal : Cert.BandC1RefIdeal.Facts] : Prop :=
  ∀ (m : (ℓ : Loc Cert.BandC1RefIdeal.nD Cert.BandC1RefIdeal.τ Cert.BandC1RefIdeal.sig) → Buf (Elt Ideal) ℓ) (g : Dev Cert.BandC1RefIdeal.nD → PrngReg), Pre_BandC1RefIdeal m →
    θ_run (Cert.BandC1RefIdeal.defs (F := Ideal)) (onTc (τ := Cert.BandC1RefIdeal.τ) (Cert.BandC1RefIdeal.main (F := Ideal))) ⟨m, fun _ => 0, g⟩ (fun r => (∀ c : Dev Cert.BandC1RefIdeal.nD,
      r.2.mem ((c.tc : Thread Cert.BandC1RefIdeal.nD Cert.BandC1RefIdeal.τ).loc Cert.BandC1RefIdeal.main_arg0) = m ((c.tc : Thread Cert.BandC1RefIdeal.nD Cert.BandC1RefIdeal.τ).loc Cert.BandC1RefIdeal.main_arg0)
      ∧ r.2.mem ((c.tc : Thread Cert.BandC1RefIdeal.nD Cert.BandC1RefIdeal.τ).loc Cert.BandC1RefIdeal.main_arg1) = m ((c.tc : Thread Cert.BandC1RefIdeal.nD Cert.BandC1RefIdeal.τ).loc Cert.BandC1RefIdeal.main_arg1)
      ∧ r.2.mem ((c.tc : Thread Cert.BandC1RefIdeal.nD Cert.BandC1RefIdeal.τ).loc Cert.BandC1RefIdeal.main_arg2) = m ((c.tc : Thread Cert.BandC1RefIdeal.nD Cert.BandC1RefIdeal.τ).loc Cert.BandC1RefIdeal.main_arg2))
      ∧ r.2.sem = fun _ => 0)

def quiescent_BandC1RefIdeal_pre_finite_c1 [hBandC1RefIdeal : Cert.BandC1RefIdeal.Facts] [hPre_finite_c1 : Cert.Pre_finite_c1.Facts] : Prop :=
  ∀ (m : (ℓ : Loc Cert.BandC1RefIdeal.nD Cert.BandC1RefIdeal.τ Cert.BandC1RefIdeal.sig) → Buf (Elt Ideal) ℓ) (g : Dev Cert.BandC1RefIdeal.nD → PrngReg), Pre_BandC1RefIdeal_finite_c1 m →
    θ_run (Cert.BandC1RefIdeal.defs (F := Ideal)) (onTc (τ := Cert.BandC1RefIdeal.τ) (Cert.BandC1RefIdeal.main (F := Ideal))) ⟨m, fun _ => 0, g⟩ (fun r => (∀ c : Dev Cert.BandC1RefIdeal.nD,
      r.2.mem ((c.tc : Thread Cert.BandC1RefIdeal.nD Cert.BandC1RefIdeal.τ).loc Cert.BandC1RefIdeal.main_arg0) = m ((c.tc : Thread Cert.BandC1RefIdeal.nD Cert.BandC1RefIdeal.τ).loc Cert.BandC1RefIdeal.main_arg0)
      ∧ r.2.mem ((c.tc : Thread Cert.BandC1RefIdeal.nD Cert.BandC1RefIdeal.τ).loc Cert.BandC1RefIdeal.main_arg1) = m ((c.tc : Thread Cert.BandC1RefIdeal.nD Cert.BandC1RefIdeal.τ).loc Cert.BandC1RefIdeal.main_arg1)
      ∧ r.2.mem ((c.tc : Thread Cert.BandC1RefIdeal.nD Cert.BandC1RefIdeal.τ).loc Cert.BandC1RefIdeal.main_arg2) = m ((c.tc : Thread Cert.BandC1RefIdeal.nD Cert.BandC1RefIdeal.τ).loc Cert.BandC1RefIdeal.main_arg2))
      ∧ r.2.sem = fun _ => 0)

def quiescent_BandC4 [hBandC4 : Cert.BandC4.Facts] : Prop :=
  ∀ (m : (ℓ : Loc Cert.BandC4.nD Cert.BandC4.τ Cert.BandC4.sig) → Buf (Elt Bits) ℓ) (g : Dev Cert.BandC4.nD → PrngReg), Pre_BandC4 m →
    θ_run (Cert.BandC4.defs (F := Bits)) (onTc (τ := Cert.BandC4.τ) (Cert.BandC4.main (F := Bits))) ⟨m, fun _ => 0, g⟩ (fun r => (∀ c : Dev Cert.BandC4.nD,
      r.2.mem ((c.tc : Thread Cert.BandC4.nD Cert.BandC4.τ).loc Cert.BandC4.main_arg0) = m ((c.tc : Thread Cert.BandC4.nD Cert.BandC4.τ).loc Cert.BandC4.main_arg0)
      ∧ r.2.mem ((c.tc : Thread Cert.BandC4.nD Cert.BandC4.τ).loc Cert.BandC4.main_arg1) = m ((c.tc : Thread Cert.BandC4.nD Cert.BandC4.τ).loc Cert.BandC4.main_arg1)
      ∧ r.2.mem ((c.tc : Thread Cert.BandC4.nD Cert.BandC4.τ).loc Cert.BandC4.main_arg2) = m ((c.tc : Thread Cert.BandC4.nD Cert.BandC4.τ).loc Cert.BandC4.main_arg2))
      ∧ r.2.sem = fun _ => 0)

def quiescent_BandC4Ideal [hBandC4Ideal : Cert.BandC4Ideal.Facts] : Prop :=
  ∀ (m : (ℓ : Loc Cert.BandC4Ideal.nD Cert.BandC4Ideal.τ Cert.BandC4Ideal.sig) → Buf (Elt Ideal) ℓ) (g : Dev Cert.BandC4Ideal.nD → PrngReg), Pre_BandC4Ideal m →
    θ_run (Cert.BandC4Ideal.defs (F := Ideal)) (onTc (τ := Cert.BandC4Ideal.τ) (Cert.BandC4Ideal.main (F := Ideal))) ⟨m, fun _ => 0, g⟩ (fun r => (∀ c : Dev Cert.BandC4Ideal.nD,
      r.2.mem ((c.tc : Thread Cert.BandC4Ideal.nD Cert.BandC4Ideal.τ).loc Cert.BandC4Ideal.main_arg0) = m ((c.tc : Thread Cert.BandC4Ideal.nD Cert.BandC4Ideal.τ).loc Cert.BandC4Ideal.main_arg0)
      ∧ r.2.mem ((c.tc : Thread Cert.BandC4Ideal.nD Cert.BandC4Ideal.τ).loc Cert.BandC4Ideal.main_arg1) = m ((c.tc : Thread Cert.BandC4Ideal.nD Cert.BandC4Ideal.τ).loc Cert.BandC4Ideal.main_arg1)
      ∧ r.2.mem ((c.tc : Thread Cert.BandC4Ideal.nD Cert.BandC4Ideal.τ).loc Cert.BandC4Ideal.main_arg2) = m ((c.tc : Thread Cert.BandC4Ideal.nD Cert.BandC4Ideal.τ).loc Cert.BandC4Ideal.main_arg2))
      ∧ r.2.sem = fun _ => 0)

def quiescent_BandC4Ideal_pre_finite_c4 [hBandC4Ideal : Cert.BandC4Ideal.Facts] [hPre_finite_c4 : Cert.Pre_finite_c4.Facts] : Prop :=
  ∀ (m : (ℓ : Loc Cert.BandC4Ideal.nD Cert.BandC4Ideal.τ Cert.BandC4Ideal.sig) → Buf (Elt Ideal) ℓ) (g : Dev Cert.BandC4Ideal.nD → PrngReg), Pre_BandC4Ideal_finite_c4 m →
    θ_run (Cert.BandC4Ideal.defs (F := Ideal)) (onTc (τ := Cert.BandC4Ideal.τ) (Cert.BandC4Ideal.main (F := Ideal))) ⟨m, fun _ => 0, g⟩ (fun r => (∀ c : Dev Cert.BandC4Ideal.nD,
      r.2.mem ((c.tc : Thread Cert.BandC4Ideal.nD Cert.BandC4Ideal.τ).loc Cert.BandC4Ideal.main_arg0) = m ((c.tc : Thread Cert.BandC4Ideal.nD Cert.BandC4Ideal.τ).loc Cert.BandC4Ideal.main_arg0)
      ∧ r.2.mem ((c.tc : Thread Cert.BandC4Ideal.nD Cert.BandC4Ideal.τ).loc Cert.BandC4Ideal.main_arg1) = m ((c.tc : Thread Cert.BandC4Ideal.nD Cert.BandC4Ideal.τ).loc Cert.BandC4Ideal.main_arg1)
      ∧ r.2.mem ((c.tc : Thread Cert.BandC4Ideal.nD Cert.BandC4Ideal.τ).loc Cert.BandC4Ideal.main_arg2) = m ((c.tc : Thread Cert.BandC4Ideal.nD Cert.BandC4Ideal.τ).loc Cert.BandC4Ideal.main_arg2))
      ∧ r.2.sem = fun _ => 0)

def quiescent_BandC4RefIdeal [hBandC4RefIdeal : Cert.BandC4RefIdeal.Facts] : Prop :=
  ∀ (m : (ℓ : Loc Cert.BandC4RefIdeal.nD Cert.BandC4RefIdeal.τ Cert.BandC4RefIdeal.sig) → Buf (Elt Ideal) ℓ) (g : Dev Cert.BandC4RefIdeal.nD → PrngReg), Pre_BandC4RefIdeal m →
    θ_run (Cert.BandC4RefIdeal.defs (F := Ideal)) (onTc (τ := Cert.BandC4RefIdeal.τ) (Cert.BandC4RefIdeal.main (F := Ideal))) ⟨m, fun _ => 0, g⟩ (fun r => (∀ c : Dev Cert.BandC4RefIdeal.nD,
      r.2.mem ((c.tc : Thread Cert.BandC4RefIdeal.nD Cert.BandC4RefIdeal.τ).loc Cert.BandC4RefIdeal.main_arg0) = m ((c.tc : Thread Cert.BandC4RefIdeal.nD Cert.BandC4RefIdeal.τ).loc Cert.BandC4RefIdeal.main_arg0)
      ∧ r.2.mem ((c.tc : Thread Cert.BandC4RefIdeal.nD Cert.BandC4RefIdeal.τ).loc Cert.BandC4RefIdeal.main_arg1) = m ((c.tc : Thread Cert.BandC4RefIdeal.nD Cert.BandC4RefIdeal.τ).loc Cert.BandC4RefIdeal.main_arg1)
      ∧ r.2.mem ((c.tc : Thread Cert.BandC4RefIdeal.nD Cert.BandC4RefIdeal.τ).loc Cert.BandC4RefIdeal.main_arg2) = m ((c.tc : Thread Cert.BandC4RefIdeal.nD Cert.BandC4RefIdeal.τ).loc Cert.BandC4RefIdeal.main_arg2))
      ∧ r.2.sem = fun _ => 0)

def quiescent_BandC4RefIdeal_pre_finite_c4 [hBandC4RefIdeal : Cert.BandC4RefIdeal.Facts] [hPre_finite_c4 : Cert.Pre_finite_c4.Facts] : Prop :=
  ∀ (m : (ℓ : Loc Cert.BandC4RefIdeal.nD Cert.BandC4RefIdeal.τ Cert.BandC4RefIdeal.sig) → Buf (Elt Ideal) ℓ) (g : Dev Cert.BandC4RefIdeal.nD → PrngReg), Pre_BandC4RefIdeal_finite_c4 m →
    θ_run (Cert.BandC4RefIdeal.defs (F := Ideal)) (onTc (τ := Cert.BandC4RefIdeal.τ) (Cert.BandC4RefIdeal.main (F := Ideal))) ⟨m, fun _ => 0, g⟩ (fun r => (∀ c : Dev Cert.BandC4RefIdeal.nD,
      r.2.mem ((c.tc : Thread Cert.BandC4RefIdeal.nD Cert.BandC4RefIdeal.τ).loc Cert.BandC4RefIdeal.main_arg0) = m ((c.tc : Thread Cert.BandC4RefIdeal.nD Cert.BandC4RefIdeal.τ).loc Cert.BandC4RefIdeal.main_arg0)
      ∧ r.2.mem ((c.tc : Thread Cert.BandC4RefIdeal.nD Cert.BandC4RefIdeal.τ).loc Cert.BandC4RefIdeal.main_arg1) = m ((c.tc : Thread Cert.BandC4RefIdeal.nD Cert.BandC4RefIdeal.τ).loc Cert.BandC4RefIdeal.main_arg1)
      ∧ r.2.mem ((c.tc : Thread Cert.BandC4RefIdeal.nD Cert.BandC4RefIdeal.τ).loc Cert.BandC4RefIdeal.main_arg2) = m ((c.tc : Thread Cert.BandC4RefIdeal.nD Cert.BandC4RefIdeal.τ).loc Cert.BandC4RefIdeal.main_arg2))
      ∧ r.2.sem = fun _ => 0)

def quiescent_BandC16 [hBandC16 : Cert.BandC16.Facts] : Prop :=
  ∀ (m : (ℓ : Loc Cert.BandC16.nD Cert.BandC16.τ Cert.BandC16.sig) → Buf (Elt Bits) ℓ) (g : Dev Cert.BandC16.nD → PrngReg), Pre_BandC16 m →
    θ_run (Cert.BandC16.defs (F := Bits)) (onTc (τ := Cert.BandC16.τ) (Cert.BandC16.main (F := Bits))) ⟨m, fun _ => 0, g⟩ (fun r => (∀ c : Dev Cert.BandC16.nD,
      r.2.mem ((c.tc : Thread Cert.BandC16.nD Cert.BandC16.τ).loc Cert.BandC16.main_arg0) = m ((c.tc : Thread Cert.BandC16.nD Cert.BandC16.τ).loc Cert.BandC16.main_arg0)
      ∧ r.2.mem ((c.tc : Thread Cert.BandC16.nD Cert.BandC16.τ).loc Cert.BandC16.main_arg1) = m ((c.tc : Thread Cert.BandC16.nD Cert.BandC16.τ).loc Cert.BandC16.main_arg1)
      ∧ r.2.mem ((c.tc : Thread Cert.BandC16.nD Cert.BandC16.τ).loc Cert.BandC16.main_arg2) = m ((c.tc : Thread Cert.BandC16.nD Cert.BandC16.τ).loc Cert.BandC16.main_arg2))
      ∧ r.2.sem = fun _ => 0)

def quiescent_BandC16Ideal [hBandC16Ideal : Cert.BandC16Ideal.Facts] : Prop :=
  ∀ (m : (ℓ : Loc Cert.BandC16Ideal.nD Cert.BandC16Ideal.τ Cert.BandC16Ideal.sig) → Buf (Elt Ideal) ℓ) (g : Dev Cert.BandC16Ideal.nD → PrngReg), Pre_BandC16Ideal m →
    θ_run (Cert.BandC16Ideal.defs (F := Ideal)) (onTc (τ := Cert.BandC16Ideal.τ) (Cert.BandC16Ideal.main (F := Ideal))) ⟨m, fun _ => 0, g⟩ (fun r => (∀ c : Dev Cert.BandC16Ideal.nD,
      r.2.mem ((c.tc : Thread Cert.BandC16Ideal.nD Cert.BandC16Ideal.τ).loc Cert.BandC16Ideal.main_arg0) = m ((c.tc : Thread Cert.BandC16Ideal.nD Cert.BandC16Ideal.τ).loc Cert.BandC16Ideal.main_arg0)
      ∧ r.2.mem ((c.tc : Thread Cert.BandC16Ideal.nD Cert.BandC16Ideal.τ).loc Cert.BandC16Ideal.main_arg1) = m ((c.tc : Thread Cert.BandC16Ideal.nD Cert.BandC16Ideal.τ).loc Cert.BandC16Ideal.main_arg1)
      ∧ r.2.mem ((c.tc : Thread Cert.BandC16Ideal.nD Cert.BandC16Ideal.τ).loc Cert.BandC16Ideal.main_arg2) = m ((c.tc : Thread Cert.BandC16Ideal.nD Cert.BandC16Ideal.τ).loc Cert.BandC16Ideal.main_arg2))
      ∧ r.2.sem = fun _ => 0)

def quiescent_BandC16Ideal_pre_finite_c16 [hBandC16Ideal : Cert.BandC16Ideal.Facts] [hPre_finite_c16 : Cert.Pre_finite_c16.Facts] : Prop :=
  ∀ (m : (ℓ : Loc Cert.BandC16Ideal.nD Cert.BandC16Ideal.τ Cert.BandC16Ideal.sig) → Buf (Elt Ideal) ℓ) (g : Dev Cert.BandC16Ideal.nD → PrngReg), Pre_BandC16Ideal_finite_c16 m →
    θ_run (Cert.BandC16Ideal.defs (F := Ideal)) (onTc (τ := Cert.BandC16Ideal.τ) (Cert.BandC16Ideal.main (F := Ideal))) ⟨m, fun _ => 0, g⟩ (fun r => (∀ c : Dev Cert.BandC16Ideal.nD,
      r.2.mem ((c.tc : Thread Cert.BandC16Ideal.nD Cert.BandC16Ideal.τ).loc Cert.BandC16Ideal.main_arg0) = m ((c.tc : Thread Cert.BandC16Ideal.nD Cert.BandC16Ideal.τ).loc Cert.BandC16Ideal.main_arg0)
      ∧ r.2.mem ((c.tc : Thread Cert.BandC16Ideal.nD Cert.BandC16Ideal.τ).loc Cert.BandC16Ideal.main_arg1) = m ((c.tc : Thread Cert.BandC16Ideal.nD Cert.BandC16Ideal.τ).loc Cert.BandC16Ideal.main_arg1)
      ∧ r.2.mem ((c.tc : Thread Cert.BandC16Ideal.nD Cert.BandC16Ideal.τ).loc Cert.BandC16Ideal.main_arg2) = m ((c.tc : Thread Cert.BandC16Ideal.nD Cert.BandC16Ideal.τ).loc Cert.BandC16Ideal.main_arg2))
      ∧ r.2.sem = fun _ => 0)

def quiescent_BandC16RefIdeal [hBandC16RefIdeal : Cert.BandC16RefIdeal.Facts] : Prop :=
  ∀ (m : (ℓ : Loc Cert.BandC16RefIdeal.nD Cert.BandC16RefIdeal.τ Cert.BandC16RefIdeal.sig) → Buf (Elt Ideal) ℓ) (g : Dev Cert.BandC16RefIdeal.nD → PrngReg), Pre_BandC16RefIdeal m →
    θ_run (Cert.BandC16RefIdeal.defs (F := Ideal)) (onTc (τ := Cert.BandC16RefIdeal.τ) (Cert.BandC16RefIdeal.main (F := Ideal))) ⟨m, fun _ => 0, g⟩ (fun r => (∀ c : Dev Cert.BandC16RefIdeal.nD,
      r.2.mem ((c.tc : Thread Cert.BandC16RefIdeal.nD Cert.BandC16RefIdeal.τ).loc Cert.BandC16RefIdeal.main_arg0) = m ((c.tc : Thread Cert.BandC16RefIdeal.nD Cert.BandC16RefIdeal.τ).loc Cert.BandC16RefIdeal.main_arg0)
      ∧ r.2.mem ((c.tc : Thread Cert.BandC16RefIdeal.nD Cert.BandC16RefIdeal.τ).loc Cert.BandC16RefIdeal.main_arg1) = m ((c.tc : Thread Cert.BandC16RefIdeal.nD Cert.BandC16RefIdeal.τ).loc Cert.BandC16RefIdeal.main_arg1)
      ∧ r.2.mem ((c.tc : Thread Cert.BandC16RefIdeal.nD Cert.BandC16RefIdeal.τ).loc Cert.BandC16RefIdeal.main_arg2) = m ((c.tc : Thread Cert.BandC16RefIdeal.nD Cert.BandC16RefIdeal.τ).loc Cert.BandC16RefIdeal.main_arg2))
      ∧ r.2.sem = fun _ => 0)

def quiescent_BandC16RefIdeal_pre_finite_c16 [hBandC16RefIdeal : Cert.BandC16RefIdeal.Facts] [hPre_finite_c16 : Cert.Pre_finite_c16.Facts] : Prop :=
  ∀ (m : (ℓ : Loc Cert.BandC16RefIdeal.nD Cert.BandC16RefIdeal.τ Cert.BandC16RefIdeal.sig) → Buf (Elt Ideal) ℓ) (g : Dev Cert.BandC16RefIdeal.nD → PrngReg), Pre_BandC16RefIdeal_finite_c16 m →
    θ_run (Cert.BandC16RefIdeal.defs (F := Ideal)) (onTc (τ := Cert.BandC16RefIdeal.τ) (Cert.BandC16RefIdeal.main (F := Ideal))) ⟨m, fun _ => 0, g⟩ (fun r => (∀ c : Dev Cert.BandC16RefIdeal.nD,
      r.2.mem ((c.tc : Thread Cert.BandC16RefIdeal.nD Cert.BandC16RefIdeal.τ).loc Cert.BandC16RefIdeal.main_arg0) = m ((c.tc : Thread Cert.BandC16RefIdeal.nD Cert.BandC16RefIdeal.τ).loc Cert.BandC16RefIdeal.main_arg0)
      ∧ r.2.mem ((c.tc : Thread Cert.BandC16RefIdeal.nD Cert.BandC16RefIdeal.τ).loc Cert.BandC16RefIdeal.main_arg1) = m ((c.tc : Thread Cert.BandC16RefIdeal.nD Cert.BandC16RefIdeal.τ).loc Cert.BandC16RefIdeal.main_arg1)
      ∧ r.2.mem ((c.tc : Thread Cert.BandC16RefIdeal.nD Cert.BandC16RefIdeal.τ).loc Cert.BandC16RefIdeal.main_arg2) = m ((c.tc : Thread Cert.BandC16RefIdeal.nD Cert.BandC16RefIdeal.τ).loc Cert.BandC16RefIdeal.main_arg2))
      ∧ r.2.sem = fun _ => 0)

def preserves_Banded_BandedIdeal : Prop :=
  IdealRules.named_const.Statement Cert.BandedIdeal.κ "mask" .f32 0xF149F2CA#32 ⊥

def algebraic_BandedIdeal_BandedRefIdeal_pre_finite [hBandedIdeal : Cert.BandedIdeal.Facts] [hBandedRefIdeal : Cert.BandedRefIdeal.Facts] [hPre_finite : Cert.Pre_finite.Facts] : Prop :=
  ∀ (m : (ℓ : Loc Cert.BandedIdeal.nD Cert.BandedIdeal.τ Cert.BandedIdeal.sig) → Buf (Elt Ideal) ℓ) (g : Dev Cert.BandedIdeal.nD → PrngReg)
    (m' : (ℓ : Loc Cert.BandedRefIdeal.nD Cert.BandedRefIdeal.τ Cert.BandedRefIdeal.sig) → Buf (Elt Ideal) ℓ) (g' : Dev Cert.BandedRefIdeal.nD → PrngReg), Pre_BandedIdeal_finite m →
    (∀ c : Dev Cert.BandedIdeal.nD,
      m' ((c.tc : Thread Cert.BandedRefIdeal.nD Cert.BandedRefIdeal.τ).loc Cert.BandedRefIdeal.main_arg0) = m ((c.tc : Thread Cert.BandedIdeal.nD Cert.BandedIdeal.τ).loc Cert.BandedIdeal.main_arg0)
      ∧ m' ((c.tc : Thread Cert.BandedRefIdeal.nD Cert.BandedRefIdeal.τ).loc Cert.BandedRefIdeal.main_arg1) = m ((c.tc : Thread Cert.BandedIdeal.nD Cert.BandedIdeal.τ).loc Cert.BandedIdeal.main_arg1)
      ∧ m' ((c.tc : Thread Cert.BandedRefIdeal.nD Cert.BandedRefIdeal.τ).loc Cert.BandedRefIdeal.main_arg2) = m ((c.tc : Thread Cert.BandedIdeal.nD Cert.BandedIdeal.τ).loc Cert.BandedIdeal.main_arg2)
      ∧ m' ((c.tc : Thread Cert.BandedRefIdeal.nD Cert.BandedRefIdeal.τ).loc Cert.BandedRefIdeal.main_arg3) = m ((c.tc : Thread Cert.BandedIdeal.nD Cert.BandedIdeal.τ).loc Cert.BandedIdeal.main_arg3)) →
    ∃ (v0 : (c : Dev Cert.BandedIdeal.nD) → Buf (Elt Ideal) ((c.tc : Thread Cert.BandedIdeal.nD Cert.BandedIdeal.τ).loc Cert.BandedIdeal.main_v0)),
      θ_run (Cert.BandedIdeal.defs (F := Ideal)) (onTc (τ := Cert.BandedIdeal.τ) (Cert.BandedIdeal.main (F := Ideal))) ⟨m, fun _ => 0, g⟩ (fun r => ∀ c : Dev Cert.BandedIdeal.nD,
          r.2.mem ((c.tc : Thread Cert.BandedIdeal.nD Cert.BandedIdeal.τ).loc Cert.BandedIdeal.main_v0) = v0 c
          ∧ r.2.mem ((c.tc : Thread Cert.BandedIdeal.nD Cert.BandedIdeal.τ).loc Cert.BandedIdeal.main_arg0) = m ((c.tc : Thread Cert.BandedIdeal.nD Cert.BandedIdeal.τ).loc Cert.BandedIdeal.main_arg0)
          ∧ r.2.mem ((c.tc : Thread Cert.BandedIdeal.nD Cert.BandedIdeal.τ).loc Cert.BandedIdeal.main_arg1) = m ((c.tc : Thread Cert.BandedIdeal.nD Cert.BandedIdeal.τ).loc Cert.BandedIdeal.main_arg1)
          ∧ r.2.mem ((c.tc : Thread Cert.BandedIdeal.nD Cert.BandedIdeal.τ).loc Cert.BandedIdeal.main_arg2) = m ((c.tc : Thread Cert.BandedIdeal.nD Cert.BandedIdeal.τ).loc Cert.BandedIdeal.main_arg2)
          ∧ r.2.mem ((c.tc : Thread Cert.BandedIdeal.nD Cert.BandedIdeal.τ).loc Cert.BandedIdeal.main_arg3) = m ((c.tc : Thread Cert.BandedIdeal.nD Cert.BandedIdeal.τ).loc Cert.BandedIdeal.main_arg3))
      ∧ θ_run (Cert.BandedRefIdeal.defs (F := Ideal)) (onTc (τ := Cert.BandedRefIdeal.τ) (Cert.BandedRefIdeal.main (F := Ideal))) ⟨m', fun _ => 0, g'⟩ (fun r => ∀ c : Dev Cert.BandedRefIdeal.nD,
          r.2.mem ((c.tc : Thread Cert.BandedRefIdeal.nD Cert.BandedRefIdeal.τ).loc Cert.BandedRefIdeal.main_v57) = v0 c
          ∧ r.2.mem ((c.tc : Thread Cert.BandedRefIdeal.nD Cert.BandedRefIdeal.τ).loc Cert.BandedRefIdeal.main_arg0) = m' ((c.tc : Thread Cert.BandedRefIdeal.nD Cert.BandedRefIdeal.τ).loc Cert.BandedRefIdeal.main_arg0)
          ∧ r.2.mem ((c.tc : Thread Cert.BandedRefIdeal.nD Cert.BandedRefIdeal.τ).loc Cert.BandedRefIdeal.main_arg1) = m' ((c.tc : Thread Cert.BandedRefIdeal.nD Cert.BandedRefIdeal.τ).loc Cert.BandedRefIdeal.main_arg1)
          ∧ r.2.mem ((c.tc : Thread Cert.BandedRefIdeal.nD Cert.BandedRefIdeal.τ).loc Cert.BandedRefIdeal.main_arg2) = m' ((c.tc : Thread Cert.BandedRefIdeal.nD Cert.BandedRefIdeal.τ).loc Cert.BandedRefIdeal.main_arg2)
          ∧ r.2.mem ((c.tc : Thread Cert.BandedRefIdeal.nD Cert.BandedRefIdeal.τ).loc Cert.BandedRefIdeal.main_arg3) = m' ((c.tc : Thread Cert.BandedRefIdeal.nD Cert.BandedRefIdeal.τ).loc Cert.BandedRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2_0)) (v1 : (c : Dev Cert.ProjIdeal.nD) → Buf (Elt Ideal) ((c.tc : Thread Cert.ProjIdeal.nD Cert.ProjIdeal.τ).loc Cert.ProjIdeal.main_v2_1)) (v2 : (c : Dev Cert.ProjIdeal.nD) → Buf (Elt Ideal) ((c.tc : Thread Cert.ProjIdeal.nD Cert.ProjIdeal.τ).loc Cert.ProjIdeal.main_v2_2)) (v3 : (c : Dev Cert.ProjIdeal.nD) → Buf (Elt Ideal) ((c.tc : Thread Cert.ProjIdeal.nD Cert.ProjIdeal.τ).loc Cert.ProjIdeal.main_v2_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2_0) = v0 c
          ∧ r.2.mem ((c.tc : Thread Cert.ProjIdeal.nD Cert.ProjIdeal.τ).loc Cert.ProjIdeal.main_v2_1) = v1 c
          ∧ r.2.mem ((c.tc : Thread Cert.ProjIdeal.nD Cert.ProjIdeal.τ).loc Cert.ProjIdeal.main_v2_2) = v2 c
          ∧ r.2.mem ((c.tc : Thread Cert.ProjIdeal.nD Cert.ProjIdeal.τ).loc Cert.ProjIdeal.main_v2_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v19) = v0 c
          ∧ r.2.mem ((c.tc : Thread Cert.ProjRefIdeal.nD Cert.ProjRefIdeal.τ).loc Cert.ProjRefIdeal.main_v15) = v1 c
          ∧ r.2.mem ((c.tc : Thread Cert.ProjRefIdeal.nD Cert.ProjRefIdeal.τ).loc Cert.ProjRefIdeal.main_v20) = v2 c
          ∧ r.2.mem ((c.tc : Thread Cert.ProjRefIdeal.nD Cert.ProjRefIdeal.τ).loc Cert.ProjRefIdeal.main_v16) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v16) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)
      ∧ m' ((c.tc : Thread Cert.ProjBRefIdeal.nD Cert.ProjBRefIdeal.τ).loc Cert.ProjBRefIdeal.main_arg2) = m ((c.tc : Thread Cert.ProjBIdeal.nD Cert.ProjBIdeal.τ).loc Cert.ProjBIdeal.main_arg2)) →
    ∃ (v0 : (c : Dev Cert.ProjBIdeal.nD) → Buf (Elt Ideal) ((c.tc : Thread Cert.ProjBIdeal.nD Cert.ProjBIdeal.τ).loc Cert.ProjBIdeal.main_v2_0)) (v1 : (c : Dev Cert.ProjBIdeal.nD) → Buf (Elt Ideal) ((c.tc : Thread Cert.ProjBIdeal.nD Cert.ProjBIdeal.τ).loc Cert.ProjBIdeal.main_v2_1)) (v2 : (c : Dev Cert.ProjBIdeal.nD) → Buf (Elt Ideal) ((c.tc : Thread Cert.ProjBIdeal.nD Cert.ProjBIdeal.τ).loc Cert.ProjBIdeal.main_v2_2)) (v3 : (c : Dev Cert.ProjBIdeal.nD) → Buf (Elt Ideal) ((c.tc : Thread Cert.ProjBIdeal.nD Cert.ProjBIdeal.τ).loc Cert.ProjBIdeal.main_v2_3)) (v4 : (c : Dev Cert.ProjBIdeal.nD) → Buf (Elt Ideal) ((c.tc : Thread Cert.ProjBIdeal.nD Cert.ProjBIdeal.τ).loc Cert.ProjBIdeal.main_v2_4)) (v5 : (c : Dev Cert.ProjBIdeal.nD) → Buf (Elt Ideal) ((c.tc : Thread Cert.ProjBIdeal.nD Cert.ProjBIdeal.τ).loc Cert.ProjBIdeal.main_v2_5)) (v6 : (c : Dev Cert.ProjBIdeal.nD) → Buf (Elt Ideal) ((c.tc : Thread Cert.ProjBIdeal.nD Cert.ProjBIdeal.τ).loc Cert.ProjBIdeal.main_v2_6)) (v7 : (c : Dev Cert.ProjBIdeal.nD) → Buf (Elt Ideal) ((c.tc : Thread Cert.ProjBIdeal.nD Cert.ProjBIdeal.τ).loc Cert.ProjBIdeal.main_v2_7)) (v8 : (c : Dev Cert.ProjBIdeal.nD) → Buf (Elt Ideal) ((c.tc : Thread Cert.ProjBIdeal.nD Cert.ProjBIdeal.τ).loc Cert.ProjBIdeal.main_v2_8)) (v9 : (c : Dev Cert.ProjBIdeal.nD) → Buf (Elt Ideal) ((c.tc : Thread Cert.ProjBIdeal.nD Cert.ProjBIdeal.τ).loc Cert.ProjBIdeal.main_v2_9)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v2_0) = v0 c
          ∧ r.2.mem ((c.tc : Thread Cert.ProjBIdeal.nD Cert.ProjBIdeal.τ).loc Cert.ProjBIdeal.main_v2_1) = v1 c
          ∧ r.2.mem ((c.tc : Thread Cert.ProjBIdeal.nD Cert.ProjBIdeal.τ).loc Cert.ProjBIdeal.main_v2_2) = v2 c
          ∧ r.2.mem ((c.tc : Thread Cert.ProjBIdeal.nD Cert.ProjBIdeal.τ).loc Cert.ProjBIdeal.main_v2_3) = v3 c
          ∧ r.2.mem ((c.tc : Thread Cert.ProjBIdeal.nD Cert.ProjBIdeal.τ).loc Cert.ProjBIdeal.main_v2_4) = v4 c
          ∧ r.2.mem ((c.tc : Thread Cert.ProjBIdeal.nD Cert.ProjBIdeal.τ).loc Cert.ProjBIdeal.main_v2_5) = v5 c
          ∧ r.2.mem ((c.tc : Thread Cert.ProjBIdeal.nD Cert.ProjBIdeal.τ).loc Cert.ProjBIdeal.main_v2_6) = v6 c
          ∧ r.2.mem ((c.tc : Thread Cert.ProjBIdeal.nD Cert.ProjBIdeal.τ).loc Cert.ProjBIdeal.main_v2_7) = v7 c
          ∧ r.2.mem ((c.tc : Thread Cert.ProjBIdeal.nD Cert.ProjBIdeal.τ).loc Cert.ProjBIdeal.main_v2_8) = v8 c
          ∧ r.2.mem ((c.tc : Thread Cert.ProjBIdeal.nD Cert.ProjBIdeal.τ).loc Cert.ProjBIdeal.main_v2_9) = v9 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v37) = v0 c
          ∧ r.2.mem ((c.tc : Thread Cert.ProjBRefIdeal.nD Cert.ProjBRefIdeal.τ).loc Cert.ProjBRefIdeal.main_v15) = v1 c
          ∧ r.2.mem ((c.tc : Thread Cert.ProjBRefIdeal.nD Cert.ProjBRefIdeal.τ).loc Cert.ProjBRefIdeal.main_v39) = v2 c
          ∧ r.2.mem ((c.tc : Thread Cert.ProjBRefIdeal.nD Cert.ProjBRefIdeal.τ).loc Cert.ProjBRefIdeal.main_v41) = v3 c
          ∧ r.2.mem ((c.tc : Thread Cert.ProjBRefIdeal.nD Cert.ProjBRefIdeal.τ).loc Cert.ProjBRefIdeal.main_v17) = v4 c
          ∧ r.2.mem ((c.tc : Thread Cert.ProjBRefIdeal.nD Cert.ProjBRefIdeal.τ).loc Cert.ProjBRefIdeal.main_v18) = v5 c
          ∧ r.2.mem ((c.tc : Thread Cert.ProjBRefIdeal.nD Cert.ProjBRefIdeal.τ).loc Cert.ProjBRefIdeal.main_v19) = v6 c
          ∧ r.2.mem ((c.tc : Thread Cert.ProjBRefIdeal.nD Cert.ProjBRefIdeal.τ).loc Cert.ProjBRefIdeal.main_v42) = v7 c
          ∧ r.2.mem ((c.tc : Thread Cert.ProjBRefIdeal.nD Cert.ProjBRefIdeal.τ).loc Cert.ProjBRefIdeal.main_v43) = v8 c
          ∧ r.2.mem ((c.tc : Thread Cert.ProjBRefIdeal.nD Cert.ProjBRefIdeal.τ).loc Cert.ProjBRefIdeal.main_v44) = v9 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1)
          ∧ r.2.mem ((c.tc : Thread Cert.ProjBRefIdeal.nD Cert.ProjBRefIdeal.τ).loc Cert.ProjBRefIdeal.main_arg2) = m' ((c.tc : Thread Cert.ProjBRefIdeal.nD Cert.ProjBRefIdeal.τ).loc Cert.ProjBRefIdeal.main_arg2))

def preserves_ProjC_ProjCIdeal : Prop :=
  True

def algebraic_ProjCIdeal_ProjCRefIdeal [hProjCIdeal : Cert.ProjCIdeal.Facts] [hProjCRefIdeal : Cert.ProjCRefIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCRefIdeal.nD Cert.ProjCRefIdeal.τ Cert.ProjCRefIdeal.sig) → Buf (Elt Ideal) ℓ) (g' : Dev Cert.ProjCRefIdeal.nD → PrngReg), Pre_ProjCIdeal m →
    (∀ c : Dev Cert.ProjCIdeal.nD,
      m' ((c.tc : Thread Cert.ProjCRefIdeal.nD Cert.ProjCRefIdeal.τ).loc Cert.ProjCRefIdeal.main_arg0) = m ((c.tc : Thread Cert.ProjCIdeal.nD Cert.ProjCIdeal.τ).loc Cert.ProjCIdeal.main_arg0)
      ∧ m' ((c.tc : Thread Cert.ProjCRefIdeal.nD Cert.ProjCRefIdeal.τ).loc Cert.ProjCRefIdeal.main_arg1) = m ((c.tc : Thread Cert.ProjCIdeal.nD Cert.ProjCIdeal.τ).loc Cert.ProjCIdeal.main_arg1)
      ∧ m' ((c.tc : Thread Cert.ProjCRefIdeal.nD Cert.ProjCRefIdeal.τ).loc Cert.ProjCRefIdeal.main_arg2) = m ((c.tc : Thread Cert.ProjCIdeal.nD Cert.ProjCIdeal.τ).loc Cert.ProjCIdeal.main_arg2)) →
    ∃ (v0 : (c : Dev Cert.ProjCIdeal.nD) → Buf (Elt Ideal) ((c.tc : Thread Cert.ProjCIdeal.nD Cert.ProjCIdeal.τ).loc Cert.ProjCIdeal.main_v2_0)) (v1 : (c : Dev Cert.ProjCIdeal.nD) → Buf (Elt Ideal) ((c.tc : Thread Cert.ProjCIdeal.nD Cert.ProjCIdeal.τ).loc Cert.ProjCIdeal.main_v2_1)) (v2 : (c : Dev Cert.ProjCIdeal.nD) → Buf (Elt Ideal) ((c.tc : Thread Cert.ProjCIdeal.nD Cert.ProjCIdeal.τ).loc Cert.ProjCIdeal.main_v2_2)) (v3 : (c : Dev Cert.ProjCIdeal.nD) → Buf (Elt Ideal) ((c.tc : Thread Cert.ProjCIdeal.nD Cert.ProjCIdeal.τ).loc Cert.ProjCIdeal.main_v2_3)) (v4 : (c : Dev Cert.ProjCIdeal.nD) → Buf (Elt Ideal) ((c.tc : Thread Cert.ProjCIdeal.nD Cert.ProjCIdeal.τ).loc Cert.ProjCIdeal.main_v2_4)) (v5 : (c : Dev Cert.ProjCIdeal.nD) → Buf (Elt Ideal) ((c.tc : Thread Cert.ProjCIdeal.nD Cert.ProjCIdeal.τ).loc Cert.ProjCIdeal.main_v2_5)) (v6 : (c : Dev Cert.ProjCIdeal.nD) → Buf (Elt Ideal) ((c.tc : Thread Cert.ProjCIdeal.nD Cert.ProjCIdeal.τ).loc Cert.ProjCIdeal.main_v2_6)) (v7 : (c : Dev Cert.ProjCIdeal.nD) → Buf (Elt Ideal) ((c.tc : Thread Cert.ProjCIdeal.nD Cert.ProjCIdeal.τ).loc Cert.ProjCIdeal.main_v2_7)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v2_0) = v0 c
          ∧ r.2.mem ((c.tc : Thread Cert.ProjCIdeal.nD Cert.ProjCIdeal.τ).loc Cert.ProjCIdeal.main_v2_1) = v1 c
          ∧ r.2.mem ((c.tc : Thread Cert.ProjCIdeal.nD Cert.ProjCIdeal.τ).loc Cert.ProjCIdeal.main_v2_2) = v2 c
          ∧ r.2.mem ((c.tc : Thread Cert.ProjCIdeal.nD Cert.ProjCIdeal.τ).loc Cert.ProjCIdeal.main_v2_3) = v3 c
          ∧ r.2.mem ((c.tc : Thread Cert.ProjCIdeal.nD Cert.ProjCIdeal.τ).loc Cert.ProjCIdeal.main_v2_4) = v4 c
          ∧ r.2.mem ((c.tc : Thread Cert.ProjCIdeal.nD Cert.ProjCIdeal.τ).loc Cert.ProjCIdeal.main_v2_5) = v5 c
          ∧ r.2.mem ((c.tc : Thread Cert.ProjCIdeal.nD Cert.ProjCIdeal.τ).loc Cert.ProjCIdeal.main_v2_6) = v6 c
          ∧ r.2.mem ((c.tc : Thread Cert.ProjCIdeal.nD Cert.ProjCIdeal.τ).loc Cert.ProjCIdeal.main_v2_7) = v7 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
          ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2))
      ∧ θ_run (Cert.ProjCRefIdeal.defs (F := Ideal)) (onTc (τ := Cert.ProjCRefIdeal.τ) (Cert.ProjCRefIdeal.main (F := Ideal))) ⟨m', fun _ => 0, g'⟩ (fun r => ∀ c : Dev Cert.ProjCRefIdeal.nD,
          r.2.mem ((c.tc : Thread Cert.ProjCRefIdeal.nD Cert.ProjCRefIdeal.τ).loc Cert.ProjCRefIdeal.main_v20) = v0 c
          ∧ r.2.mem ((c.tc : Thread Cert.ProjCRefIdeal.nD Cert.ProjCRefIdeal.τ).loc Cert.ProjCRefIdeal.main_v25) = v1 c
          ∧ r.2.mem ((c.tc : Thread Cert.ProjCRefIdeal.nD Cert.ProjCRefIdeal.τ).loc Cert.ProjCRefIdeal.main_v30) = v2 c
          ∧ r.2.mem ((c.tc : Thread Cert.ProjCRefIdeal.nD Cert.ProjCRefIdeal.τ).loc Cert.ProjCRefIdeal.main_v32) = v3 c
          ∧ r.2.mem ((c.tc : Thread Cert.ProjCRefIdeal.nD Cert.ProjCRefIdeal.τ).loc Cert.ProjCRefIdeal.main_v35) = v4 c
          ∧ r.2.mem ((c.tc : Thread Cert.ProjCRefIdeal.nD Cert.ProjCRefIdeal.τ).loc Cert.ProjCRefIdeal.main_v38) = v5 c
          ∧ r.2.mem ((c.tc : Thread Cert.ProjCRefIdeal.nD Cert.ProjCRefIdeal.τ).loc Cert.ProjCRefIdeal.main_v15) = v6 c
          ∧ r.2.mem ((c.tc : Thread Cert.ProjCRefIdeal.nD Cert.ProjCRefIdeal.τ).loc Cert.ProjCRefIdeal.main_v16) = v7 c
          ∧ r.2.mem ((c.tc : Thread Cert.ProjCRefIdeal.nD Cert.ProjCRefIdeal.τ).loc Cert.ProjCRefIdeal.main_arg0) = m' ((c.tc : Thread Cert.ProjCRefIdeal.nD Cert.ProjCRefIdeal.τ).loc Cert.ProjCRefIdeal.main_arg0)
          ∧ r.2.mem ((c.tc : Thread Cert.ProjCRefIdeal.nD Cert.ProjCRefIdeal.τ).loc Cert.ProjCRefIdeal.main_arg1) = m' ((c.tc : Thread Cert.ProjCRefIdeal.nD Cert.ProjCRefIdeal.τ).loc Cert.ProjCRefIdeal.main_arg1)
          ∧ r.2.mem ((c.tc : Thread Cert.ProjCRefIdeal.nD Cert.ProjCRefIdeal.τ).loc Cert.ProjCRefIdeal.main_arg2) = m' ((c.tc : Thread Cert.ProjCRefIdeal.nD Cert.ProjCRefIdeal.τ).loc Cert.ProjCRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v37) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_BandC1_BandC1Ideal : Prop :=
  IdealRules.named_const.Statement Cert.BandC1Ideal.κ "mask" .f32 0xF149F2CA#32 ⊥

def algebraic_BandC1Ideal_BandC1RefIdeal_pre_finite_c1 [hBandC1Ideal : Cert.BandC1Ideal.Facts] [hBandC1RefIdeal : Cert.BandC1RefIdeal.Facts] [hPre_finite_c1 : Cert.Pre_finite_c1.Facts] : Prop :=
  ∀ (m : (ℓ : Loc Cert.BandC1Ideal.nD Cert.BandC1Ideal.τ Cert.BandC1Ideal.sig) → Buf (Elt Ideal) ℓ) (g : Dev Cert.BandC1Ideal.nD → PrngReg)
    (m' : (ℓ : Loc Cert.BandC1RefIdeal.nD Cert.BandC1RefIdeal.τ Cert.BandC1RefIdeal.sig) → Buf (Elt Ideal) ℓ) (g' : Dev Cert.BandC1RefIdeal.nD → PrngReg), Pre_BandC1Ideal_finite_c1 m →
    (∀ c : Dev Cert.BandC1Ideal.nD,
      m' ((c.tc : Thread Cert.BandC1RefIdeal.nD Cert.BandC1RefIdeal.τ).loc Cert.BandC1RefIdeal.main_arg0) = m ((c.tc : Thread Cert.BandC1Ideal.nD Cert.BandC1Ideal.τ).loc Cert.BandC1Ideal.main_arg0)
      ∧ m' ((c.tc : Thread Cert.BandC1RefIdeal.nD Cert.BandC1RefIdeal.τ).loc Cert.BandC1RefIdeal.main_arg1) = m ((c.tc : Thread Cert.BandC1Ideal.nD Cert.BandC1Ideal.τ).loc Cert.BandC1Ideal.main_arg1)
      ∧ m' ((c.tc : Thread Cert.BandC1RefIdeal.nD Cert.BandC1RefIdeal.τ).loc Cert.BandC1RefIdeal.main_arg2) = m ((c.tc : Thread Cert.BandC1Ideal.nD Cert.BandC1Ideal.τ).loc Cert.BandC1Ideal.main_arg2)) →
    ∃ (v0 : (c : Dev Cert.BandC1Ideal.nD) → Buf (Elt Ideal) ((c.tc : Thread Cert.BandC1Ideal.nD Cert.BandC1Ideal.τ).loc Cert.BandC1Ideal.main_v0_0)) (v1 : (c : Dev Cert.BandC1Ideal.nD) → Buf (Elt Ideal) ((c.tc : Thread Cert.BandC1Ideal.nD Cert.BandC1Ideal.τ).loc Cert.BandC1Ideal.main_v0_1)),
      θ_run (Cert.BandC1Ideal.defs (F := Ideal)) (onTc (τ := Cert.BandC1Ideal.τ) (Cert.BandC1Ideal.main (F := Ideal))) ⟨m, fun _ => 0, g⟩ (fun r => ∀ c : Dev Cert.BandC1Ideal.nD,
          r.2.mem ((c.tc : Thread Cert.BandC1Ideal.nD Cert.BandC1Ideal.τ).loc Cert.BandC1Ideal.main_v0_0) = v0 c
          ∧ r.2.mem ((c.tc : Thread Cert.BandC1Ideal.nD Cert.BandC1Ideal.τ).loc Cert.BandC1Ideal.main_v0_1) = v1 c
          ∧ r.2.mem ((c.tc : Thread Cert.BandC1Ideal.nD Cert.BandC1Ideal.τ).loc Cert.BandC1Ideal.main_arg0) = m ((c.tc : Thread Cert.BandC1Ideal.nD Cert.BandC1Ideal.τ).loc Cert.BandC1Ideal.main_arg0)
          ∧ r.2.mem ((c.tc : Thread Cert.BandC1Ideal.nD Cert.BandC1Ideal.τ).loc Cert.BandC1Ideal.main_arg1) = m ((c.tc : Thread Cert.BandC1Ideal.nD Cert.BandC1Ideal.τ).loc Cert.BandC1Ideal.main_arg1)
          ∧ r.2.mem ((c.tc : Thread Cert.BandC1Ideal.nD Cert.BandC1Ideal.τ).loc Cert.BandC1Ideal.main_arg2) = m ((c.tc : Thread Cert.BandC1Ideal.nD Cert.BandC1Ideal.τ).loc Cert.BandC1Ideal.main_arg2))
      ∧ θ_run (Cert.BandC1RefIdeal.defs (F := Ideal)) (onTc (τ := Cert.BandC1RefIdeal.τ) (Cert.BandC1RefIdeal.main (F := Ideal))) ⟨m', fun _ => 0, g'⟩ (fun r => ∀ c : Dev Cert.BandC1RefIdeal.nD,
          r.2.mem ((c.tc : Thread Cert.BandC1RefIdeal.nD Cert.BandC1RefIdeal.τ).loc Cert.BandC1RefIdeal.main_v64) = v0 c
          ∧ r.2.mem ((c.tc : Thread Cert.BandC1RefIdeal.nD Cert.BandC1RefIdeal.τ).loc Cert.BandC1RefIdeal.main_v68) = v1 c
          ∧ r.2.mem ((c.tc : Thread Cert.BandC1RefIdeal.nD Cert.BandC1RefIdeal.τ).loc Cert.BandC1RefIdeal.main_arg0) = m' ((c.tc : Thread Cert.BandC1RefIdeal.nD Cert.BandC1RefIdeal.τ).loc Cert.BandC1RefIdeal.main_arg0)
          ∧ r.2.mem ((c.tc : Thread Cert.BandC1RefIdeal.nD Cert.BandC1RefIdeal.τ).loc Cert.BandC1RefIdeal.main_arg1) = m' ((c.tc : Thread Cert.BandC1RefIdeal.nD Cert.BandC1RefIdeal.τ).loc Cert.BandC1RefIdeal.main_arg1)
          ∧ r.2.mem ((c.tc : Thread Cert.BandC1RefIdeal.nD Cert.BandC1RefIdeal.τ).loc Cert.BandC1RefIdeal.main_arg2) = m' ((c.tc : Thread Cert.BandC1RefIdeal.nD Cert.BandC1RefIdeal.τ).loc Cert.BandC1RefIdeal.main_arg2))

def preserves_BandC4_BandC4Ideal : Prop :=
  IdealRules.named_const.Statement Cert.BandC4Ideal.κ "mask" .f32 0xF149F2CA#32 ⊥

def algebraic_BandC4Ideal_BandC4RefIdeal_pre_finite_c4 [hBandC4Ideal : Cert.BandC4Ideal.Facts] [hBandC4RefIdeal : Cert.BandC4RefIdeal.Facts] [hPre_finite_c4 : Cert.Pre_finite_c4.Facts] : Prop :=
  ∀ (m : (ℓ : Loc Cert.BandC4Ideal.nD Cert.BandC4Ideal.τ Cert.BandC4Ideal.sig) → Buf (Elt Ideal) ℓ) (g : Dev Cert.BandC4Ideal.nD → PrngReg)
    (m' : (ℓ : Loc Cert.BandC4RefIdeal.nD Cert.BandC4RefIdeal.τ Cert.BandC4RefIdeal.sig) → Buf (Elt Ideal) ℓ) (g' : Dev Cert.BandC4RefIdeal.nD → PrngReg), Pre_BandC4Ideal_finite_c4 m →
    (∀ c : Dev Cert.BandC4Ideal.nD,
      m' ((c.tc : Thread Cert.BandC4RefIdeal.nD Cert.BandC4RefIdeal.τ).loc Cert.BandC4RefIdeal.main_arg0) = m ((c.tc : Thread Cert.BandC4Ideal.nD Cert.BandC4Ideal.τ).loc Cert.BandC4Ideal.main_arg0)
      ∧ m' ((c.tc : Thread Cert.BandC4RefIdeal.nD Cert.BandC4RefIdeal.τ).loc Cert.BandC4RefIdeal.main_arg1) = m ((c.tc : Thread Cert.BandC4Ideal.nD Cert.BandC4Ideal.τ).loc Cert.BandC4Ideal.main_arg1)
      ∧ m' ((c.tc : Thread Cert.BandC4RefIdeal.nD Cert.BandC4RefIdeal.τ).loc Cert.BandC4RefIdeal.main_arg2) = m ((c.tc : Thread Cert.BandC4Ideal.nD Cert.BandC4Ideal.τ).loc Cert.BandC4Ideal.main_arg2)) →
    ∃ (v0 : (c : Dev Cert.BandC4Ideal.nD) → Buf (Elt Ideal) ((c.tc : Thread Cert.BandC4Ideal.nD Cert.BandC4Ideal.τ).loc Cert.BandC4Ideal.main_v0_0)) (v1 : (c : Dev Cert.BandC4Ideal.nD) → Buf (Elt Ideal) ((c.tc : Thread Cert.BandC4Ideal.nD Cert.BandC4Ideal.τ).loc Cert.BandC4Ideal.main_v0_1)),
      θ_run (Cert.BandC4Ideal.defs (F := Ideal)) (onTc (τ := Cert.BandC4Ideal.τ) (Cert.BandC4Ideal.main (F := Ideal))) ⟨m, fun _ => 0, g⟩ (fun r => ∀ c : Dev Cert.BandC4Ideal.nD,
          r.2.mem ((c.tc : Thread Cert.BandC4Ideal.nD Cert.BandC4Ideal.τ).loc Cert.BandC4Ideal.main_v0_0) = v0 c
          ∧ r.2.mem ((c.tc : Thread Cert.BandC4Ideal.nD Cert.BandC4Ideal.τ).loc Cert.BandC4Ideal.main_v0_1) = v1 c
          ∧ r.2.mem ((c.tc : Thread Cert.BandC4Ideal.nD Cert.BandC4Ideal.τ).loc Cert.BandC4Ideal.main_arg0) = m ((c.tc : Thread Cert.BandC4Ideal.nD Cert.BandC4Ideal.τ).loc Cert.BandC4Ideal.main_arg0)
          ∧ r.2.mem ((c.tc : Thread Cert.BandC4Ideal.nD Cert.BandC4Ideal.τ).loc Cert.BandC4Ideal.main_arg1) = m ((c.tc : Thread Cert.BandC4Ideal.nD Cert.BandC4Ideal.τ).loc Cert.BandC4Ideal.main_arg1)
          ∧ r.2.mem ((c.tc : Thread Cert.BandC4Ideal.nD Cert.BandC4Ideal.τ).loc Cert.BandC4Ideal.main_arg2) = m ((c.tc : Thread Cert.BandC4Ideal.nD Cert.BandC4Ideal.τ).loc Cert.BandC4Ideal.main_arg2))
      ∧ θ_run (Cert.BandC4RefIdeal.defs (F := Ideal)) (onTc (τ := Cert.BandC4RefIdeal.τ) (Cert.BandC4RefIdeal.main (F := Ideal))) ⟨m', fun _ => 0, g'⟩ (fun r => ∀ c : Dev Cert.BandC4RefIdeal.nD,
          r.2.mem ((c.tc : Thread Cert.BandC4RefIdeal.nD Cert.BandC4RefIdeal.τ).loc Cert.BandC4RefIdeal.main_v64) = v0 c
          ∧ r.2.mem ((c.tc : Thread Cert.BandC4RefIdeal.nD Cert.BandC4RefIdeal.τ).loc Cert.BandC4RefIdeal.main_v68) = v1 c
          ∧ r.2.mem ((c.tc : Thread Cert.BandC4RefIdeal.nD Cert.BandC4RefIdeal.τ).loc Cert.BandC4RefIdeal.main_arg0) = m' ((c.tc : Thread Cert.BandC4RefIdeal.nD Cert.BandC4RefIdeal.τ).loc Cert.BandC4RefIdeal.main_arg0)
          ∧ r.2.mem ((c.tc : Thread Cert.BandC4RefIdeal.nD Cert.BandC4RefIdeal.τ).loc Cert.BandC4RefIdeal.main_arg1) = m' ((c.tc : Thread Cert.BandC4RefIdeal.nD Cert.BandC4RefIdeal.τ).loc Cert.BandC4RefIdeal.main_arg1)
          ∧ r.2.mem ((c.tc : Thread Cert.BandC4RefIdeal.nD Cert.BandC4RefIdeal.τ).loc Cert.BandC4RefIdeal.main_arg2) = m' ((c.tc : Thread Cert.BandC4RefIdeal.nD Cert.BandC4RefIdeal.τ).loc Cert.BandC4RefIdeal.main_arg2))

def preserves_BandC16_BandC16Ideal : Prop :=
  IdealRules.named_const.Statement Cert.BandC16Ideal.κ "mask" .f32 0xF149F2CA#32 ⊥

def algebraic_BandC16Ideal_BandC16RefIdeal_pre_finite_c16 [hBandC16Ideal : Cert.BandC16Ideal.Facts] [hBandC16RefIdeal : Cert.BandC16RefIdeal.Facts] [hPre_finite_c16 : Cert.Pre_finite_c16.Facts] : Prop :=
  ∀ (m : (ℓ : Loc Cert.BandC16Ideal.nD Cert.BandC16Ideal.τ Cert.BandC16Ideal.sig) → Buf (Elt Ideal) ℓ) (g : Dev Cert.BandC16Ideal.nD → PrngReg)
    (m' : (ℓ : Loc Cert.BandC16RefIdeal.nD Cert.BandC16RefIdeal.τ Cert.BandC16RefIdeal.sig) → Buf (Elt Ideal) ℓ) (g' : Dev Cert.BandC16RefIdeal.nD → PrngReg), Pre_BandC16Ideal_finite_c16 m →
    (∀ c : Dev Cert.BandC16Ideal.nD,
      m' ((c.tc : Thread Cert.BandC16RefIdeal.nD Cert.BandC16RefIdeal.τ).loc Cert.BandC16RefIdeal.main_arg0) = m ((c.tc : Thread Cert.BandC16Ideal.nD Cert.BandC16Ideal.τ).loc Cert.BandC16Ideal.main_arg0)
      ∧ m' ((c.tc : Thread Cert.BandC16RefIdeal.nD Cert.BandC16RefIdeal.τ).loc Cert.BandC16RefIdeal.main_arg1) = m ((c.tc : Thread Cert.BandC16Ideal.nD Cert.BandC16Ideal.τ).loc Cert.BandC16Ideal.main_arg1)
      ∧ m' ((c.tc : Thread Cert.BandC16RefIdeal.nD Cert.BandC16RefIdeal.τ).loc Cert.BandC16RefIdeal.main_arg2) = m ((c.tc : Thread Cert.BandC16Ideal.nD Cert.BandC16Ideal.τ).loc Cert.BandC16Ideal.main_arg2)) →
    ∃ (v0 : (c : Dev Cert.BandC16Ideal.nD) → Buf (Elt Ideal) ((c.tc : Thread Cert.BandC16Ideal.nD Cert.BandC16Ideal.τ).loc Cert.BandC16Ideal.main_v0_0)) (v1 : (c : Dev Cert.BandC16Ideal.nD) → Buf (Elt Ideal) ((c.tc : Thread Cert.BandC16Ideal.nD Cert.BandC16Ideal.τ).loc Cert.BandC16Ideal.main_v0_1)),
      θ_run (Cert.BandC16Ideal.defs (F := Ideal)) (onTc (τ := Cert.BandC16Ideal.τ) (Cert.BandC16Ideal.main (F := Ideal))) ⟨m, fun _ => 0, g⟩ (fun r => ∀ c : Dev Cert.BandC16Ideal.nD,
          r.2.mem ((c.tc : Thread Cert.BandC16Ideal.nD Cert.BandC16Ideal.τ).loc Cert.BandC16Ideal.main_v0_0) = v0 c
          ∧ r.2.mem ((c.tc : Thread Cert.BandC16Ideal.nD Cert.BandC16Ideal.τ).loc Cert.BandC16Ideal.main_v0_1) = v1 c
          ∧ r.2.mem ((c.tc : Thread Cert.BandC16Ideal.nD Cert.BandC16Ideal.τ).loc Cert.BandC16Ideal.main_arg0) = m ((c.tc : Thread Cert.BandC16Ideal.nD Cert.BandC16Ideal.τ).loc Cert.BandC16Ideal.main_arg0)
          ∧ r.2.mem ((c.tc : Thread Cert.BandC16Ideal.nD Cert.BandC16Ideal.τ).loc Cert.BandC16Ideal.main_arg1) = m ((c.tc : Thread Cert.BandC16Ideal.nD Cert.BandC16Ideal.τ).loc Cert.BandC16Ideal.main_arg1)
          ∧ r.2.mem ((c.tc : Thread Cert.BandC16Ideal.nD Cert.BandC16Ideal.τ).loc Cert.BandC16Ideal.main_arg2) = m ((c.tc : Thread Cert.BandC16Ideal.nD Cert.BandC16Ideal.τ).loc Cert.BandC16Ideal.main_arg2))
      ∧ θ_run (Cert.BandC16RefIdeal.defs (F := Ideal)) (onTc (τ := Cert.BandC16RefIdeal.τ) (Cert.BandC16RefIdeal.main (F := Ideal))) ⟨m', fun _ => 0, g'⟩ (fun r => ∀ c : Dev Cert.BandC16RefIdeal.nD,
          r.2.mem ((c.tc : Thread Cert.BandC16RefIdeal.nD Cert.BandC16RefIdeal.τ).loc Cert.BandC16RefIdeal.main_v64) = v0 c
          ∧ r.2.mem ((c.tc : Thread Cert.BandC16RefIdeal.nD Cert.BandC16RefIdeal.τ).loc Cert.BandC16RefIdeal.main_v68) = v1 c
          ∧ r.2.mem ((c.tc : Thread Cert.BandC16RefIdeal.nD Cert.BandC16RefIdeal.τ).loc Cert.BandC16RefIdeal.main_arg0) = m' ((c.tc : Thread Cert.BandC16RefIdeal.nD Cert.BandC16RefIdeal.τ).loc Cert.BandC16RefIdeal.main_arg0)
          ∧ r.2.mem ((c.tc : Thread Cert.BandC16RefIdeal.nD Cert.BandC16RefIdeal.τ).loc Cert.BandC16RefIdeal.main_arg1) = m' ((c.tc : Thread Cert.BandC16RefIdeal.nD Cert.BandC16RefIdeal.τ).loc Cert.BandC16RefIdeal.main_arg1)
          ∧ r.2.mem ((c.tc : Thread Cert.BandC16RefIdeal.nD Cert.BandC16RefIdeal.τ).loc Cert.BandC16RefIdeal.main_arg2) = m' ((c.tc : Thread Cert.BandC16RefIdeal.nD Cert.BandC16RefIdeal.τ).loc Cert.BandC16RefIdeal.main_arg2))

def Claim : Prop :=
  ∃ (hBanded : Cert.Banded.Facts) (hBandedIdeal : Cert.BandedIdeal.Facts) (hBandedRefIdeal : Cert.BandedRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hProjB : Cert.ProjB.Facts) (hProjBIdeal : Cert.ProjBIdeal.Facts) (hProjBRefIdeal : Cert.ProjBRefIdeal.Facts) (hProjC : Cert.ProjC.Facts) (hProjCIdeal : Cert.ProjCIdeal.Facts) (hProjCRefIdeal : Cert.ProjCRefIdeal.Facts) (hMerge : Cert.Merge.Facts) (hMergeIdeal : Cert.MergeIdeal.Facts) (hMergeRefIdeal : Cert.MergeRefIdeal.Facts) (hBandC1 : Cert.BandC1.Facts) (hBandC1Ideal : Cert.BandC1Ideal.Facts) (hBandC1RefIdeal : Cert.BandC1RefIdeal.Facts) (hBandC4 : Cert.BandC4.Facts) (hBandC4Ideal : Cert.BandC4Ideal.Facts) (hBandC4RefIdeal : Cert.BandC4RefIdeal.Facts) (hBandC16 : Cert.BandC16.Facts) (hBandC16Ideal : Cert.BandC16Ideal.Facts) (hBandC16RefIdeal : Cert.BandC16RefIdeal.Facts) (hPre_finite : Cert.Pre_finite.Facts) (hPre_finite_c1 : Cert.Pre_finite_c1.Facts) (hPre_finite_c4 : Cert.Pre_finite_c4.Facts) (hPre_finite_c16 : Cert.Pre_finite_c16.Facts),
    quiescent_Banded (hBanded := hBanded)
    ∧ quiescent_BandedIdeal (hBandedIdeal := hBandedIdeal)
    ∧ quiescent_BandedIdeal_pre_finite (hBandedIdeal := hBandedIdeal) (hPre_finite := hPre_finite)
    ∧ quiescent_BandedRefIdeal (hBandedRefIdeal := hBandedRefIdeal)
    ∧ quiescent_BandedRefIdeal_pre_finite (hBandedRefIdeal := hBandedRefIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_ProjC (hProjC := hProjC)
    ∧ quiescent_ProjCIdeal (hProjCIdeal := hProjCIdeal)
    ∧ quiescent_ProjCRefIdeal (hProjCRefIdeal := hProjCRefIdeal)
    ∧ quiescent_Merge (hMerge := hMerge)
    ∧ quiescent_MergeIdeal (hMergeIdeal := hMergeIdeal)
    ∧ quiescent_MergeRefIdeal (hMergeRefIdeal := hMergeRefIdeal)
    ∧ quiescent_BandC1 (hBandC1 := hBandC1)
    ∧ quiescent_BandC1Ideal (hBandC1Ideal := hBandC1Ideal)
    ∧ quiescent_BandC1Ideal_pre_finite_c1 (hBandC1Ideal := hBandC1Ideal) (hPre_finite_c1 := hPre_finite_c1)
    ∧ quiescent_BandC1RefIdeal (hBandC1RefIdeal := hBandC1RefIdeal)
    ∧ quiescent_BandC1RefIdeal_pre_finite_c1 (hBandC1RefIdeal := hBandC1RefIdeal) (hPre_finite_c1 := hPre_finite_c1)
    ∧ quiescent_BandC4 (hBandC4 := hBandC4)
    ∧ quiescent_BandC4Ideal (hBandC4Ideal := hBandC4Ideal)
    ∧ quiescent_BandC4Ideal_pre_finite_c4 (hBandC4Ideal := hBandC4Ideal) (hPre_finite_c4 := hPre_finite_c4)
    ∧ quiescent_BandC4RefIdeal (hBandC4RefIdeal := hBandC4RefIdeal)
    ∧ quiescent_BandC4RefIdeal_pre_finite_c4 (hBandC4RefIdeal := hBandC4RefIdeal) (hPre_finite_c4 := hPre_finite_c4)
    ∧ quiescent_BandC16 (hBandC16 := hBandC16)
    ∧ quiescent_BandC16Ideal (hBandC16Ideal := hBandC16Ideal)
    ∧ quiescent_BandC16Ideal_pre_finite_c16 (hBandC16Ideal := hBandC16Ideal) (hPre_finite_c16 := hPre_finite_c16)
    ∧ quiescent_BandC16RefIdeal (hBandC16RefIdeal := hBandC16RefIdeal)
    ∧ quiescent_BandC16RefIdeal_pre_finite_c16 (hBandC16RefIdeal := hBandC16RefIdeal) (hPre_finite_c16 := hPre_finite_c16)
    ∧ preserves_Banded_BandedIdeal
    ∧ algebraic_BandedIdeal_BandedRefIdeal_pre_finite (hBandedIdeal := hBandedIdeal) (hBandedRefIdeal := hBandedRefIdeal) (hPre_finite := hPre_finite)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_ProjB_ProjBIdeal
    ∧ algebraic_ProjBIdeal_ProjBRefIdeal (hProjBIdeal := hProjBIdeal) (hProjBRefIdeal := hProjBRefIdeal)
    ∧ preserves_ProjC_ProjCIdeal
    ∧ algebraic_ProjCIdeal_ProjCRefIdeal (hProjCIdeal := hProjCIdeal) (hProjCRefIdeal := hProjCRefIdeal)
    ∧ preserves_Merge_MergeIdeal
    ∧ algebraic_MergeIdeal_MergeRefIdeal (hMergeIdeal := hMergeIdeal) (hMergeRefIdeal := hMergeRefIdeal)
    ∧ preserves_BandC1_BandC1Ideal
    ∧ algebraic_BandC1Ideal_BandC1RefIdeal_pre_finite_c1 (hBandC1Ideal := hBandC1Ideal) (hBandC1RefIdeal := hBandC1RefIdeal) (hPre_finite_c1 := hPre_finite_c1)
    ∧ preserves_BandC4_BandC4Ideal
    ∧ algebraic_BandC4Ideal_BandC4RefIdeal_pre_finite_c4 (hBandC4Ideal := hBandC4Ideal) (hBandC4RefIdeal := hBandC4RefIdeal) (hPre_finite_c4 := hPre_finite_c4)
    ∧ preserves_BandC16_BandC16Ideal
    ∧ algebraic_BandC16Ideal_BandC16RefIdeal_pre_finite_c16 (hBandC16Ideal := hBandC16Ideal) (hBandC16RefIdeal := hBandC16RefIdeal) (hPre_finite_c16 := hPre_finite_c16)
-- ==== Pre_finite.lean ====
abbrev S2x8192x1024 : Shape := ⟨3, ![2, 8192, 1024]⟩
abbrev S2x8192x256 : Shape := ⟨3, ![2, 8192, 256]⟩
abbrev S16 : Shape := ⟨1, ![16]⟩
abbrev S_ : Shape := ⟨0, ![]⟩

class Facts : Prop where
  bitsLt_bf16_f32 : FTy.bits .bf16 < FTy.bits .f32
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S2x8192x256 : S_.BroadcastsInDim S2x8192x256 (![] : Fin 0 → Fin S2x8192x256.rank)
  reducesTo_S2x8192x256_S_d0_1_2 : S2x8192x256.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_v15 : IVec S_ 1) (main_v16 : FVec F S16 .f32) (main_cst_4 : FVec F S_ .f32) : IVec S_ 1 :=
  let main_v17 : FVec F S16 .f32 := broadcastInDim S16 ![] bcast_S_S16 main_cst_4
  let main_v18 : IVec S16 1 := cmpf .olt main_v16 main_v17
  let main_c_5 : IVec S_ 1 := constantI S_ 1 1#1
  let main_v19 : IVec S_ 1 := (fun x v => Host.reduce IntOp.andi x v reducesTo_S16_S_d0 h_S_) main_v18 main_c_5
  let main_v20 : IVec S_ 1 := andi main_v15 main_v19
  main_v20

def fn {F : FTy → Type} [FloatOps F] (main_arg0 : FVec F S2x8192x1024 .bf16) (main_arg1 : FVec F S2x8192x256 .bf16) (main_arg2 : FVec F S16 .f32) (main_arg3 : FVec F S16 .f32) : IVec S_ 1 :=
  let main_v0 : FVec F S2x8192x1024 .f32 := (extf .f32 · bitsLt_bf16_f32) main_arg0
  let main_v1 : FVec F S2x8192x1024 .f32 := Host.absf main_v0
  let main_cst : FVec F S_ .f32 := constant S_ .f32 0x7F800000#32
  let main_v2 : FVec F S2x8192x1024 .f32 := broadcastInDim S2x8192x1024 ![] bcast_S_S2x8192x1024 main_cst
  let main_v3 : IVec S2x8192x1024 1 := cmpf .olt main_v1 main_v2
  let main_c : IVec S_ 1 := constantI S_ 1 1#1
  let main_v4 : IVec S_ 1 := (fun x v => Host.reduce IntOp.andi x v reducesTo_S2x8192x1024_S_d0_1_2 h_S_) main_v3 main_c
  let main_v5 : FVec F S2x8192x256 .f32 := (extf .f32 · bitsLt_bf16_f32) main_arg1
  let main_v6 : FVec F S2x8192x256 .f32 := Host.absf main_v5
  let main_cst_0 : FVec F S_ .f32 := constant S_ .f32 0x7F800000#32
  let main_v7 : FVec F S2x8192x256 .f32 := broadcastInDim S2x8192x256 ![] bcast_S_S2x8192x256 main_cst_0
  let main_v8 : IVec S2x8192x256 1 := cmpf .olt main_v6 main_v7
  let main_c_1 : IVec S_ 1 := constantI S_ 1 1#1
  let main_v9 : IVec S_ 1 := (fun x v => Host.reduce IntOp.andi x v reducesTo_S2x8192x256_S_d0_1_2 h_S_) main_v8 main_c_1
  let main_v10 : IVec S_ 1 := andi main_v4 main_v9
  let main_v11 : FVec F S16 .f32 := Host.absf main_arg2
  let main_cst_2 : FVec F S_ .f32 := constant S_ .f32 0x7F800000#32
  let main_v12 : FVec F S16 .f32 := broadcastInDim S16 ![] bcast_S_S16 main_cst_2
  let main_v13 : IVec S16 1 := cmpf .olt main_v11 main_v12
  let main_c_3 : IVec S_ 1 := constantI S_ 1 1#1
  let main_v14 : IVec S_ 1 := (fun x v => Host.reduce IntOp.andi x v reducesTo_S16_S_d0 h_S_) main_v13 main_c_3
  let main_v15 : IVec S_ 1 := andi main_v10 main_v14
  let main_v16 : FVec F S16 .f32 := Host.absf main_arg3
  let main_cst_4 : FVec F S_ .f32 := constant S_ .f32 0x7F800000#32
  fn_part1 (F := F) main_v15 main_v16 main_cst_4
-- ==== Pre_finite_c1.lean ====
abbrev S2x8192x1024 : Shape := ⟨3, ![2, 8192, 1024]⟩
abbrev S2x8192x256 : Shape := ⟨3, ![2, 8192, 256]⟩
abbrev S16 : Shape := ⟨1, ![16]⟩
abbrev S_ : Shape := ⟨0, ![]⟩

class Facts : Prop where
  bitsLt_bf16_f32 : FTy.bits .bf16 < FTy.bits .f32
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S2x8192x256 : S_.BroadcastsInDim S2x8192x256 (![] : Fin 0 → Fin S2x8192x256.rank)
  reducesTo_S2x8192x256_S_d0_1_2 : S2x8192x256.ReducesTo [0, 1, 2] S_
  bcast_S_S16 : S_.BroadcastsInDim S16 (![] : Fin 0 → Fin S16.rank)
  reducesTo_S16_S_d0 : S16.ReducesTo [0] S_

variable [Facts]

def fn {F : FTy → Type} [FloatOps F] (main_arg0 : FVec F S2x8192x1024 .bf16) (main_arg1 : FVec F S2x8192x256 .bf16) (main_arg2 : FVec F S16 .f32) : IVec S_ 1 :=
  let main_v0 : FVec F S2x8192x1024 .f32 := (extf .f32 · bitsLt_bf16_f32) main_arg0
  let main_v1 : FVec F S2x8192x1024 .f32 := Host.absf main_v0
  let main_cst : FVec F S_ .f32 := constant S_ .f32 0x7F800000#32
  let main_v2 : FVec F S2x8192x1024 .f32 := broadcastInDim S2x8192x1024 ![] bcast_S_S2x8192x1024 main_cst
  let main_v3 : IVec S2x8192x1024 1 := cmpf .olt main_v1 main_v2
  let main_c : IVec S_ 1 := constantI S_ 1 1#1
  let main_v4 : IVec S_ 1 := (fun x v => Host.reduce IntOp.andi x v reducesTo_S2x8192x1024_S_d0_1_2 h_S_) main_v3 main_c
  let main_v5 : FVec F S2x8192x256 .f32 := (extf .f32 · bitsLt_bf16_f32) main_arg1
  let main_v6 : FVec F S2x8192x256 .f32 := Host.absf main_v5
  let main_cst_0 : FVec F S_ .f32 := constant S_ .f32 0x7F800000#32
  let main_v7 : FVec F S2x8192x256 .f32 := broadcastInDim S2x8192x256 ![] bcast_S_S2x8192x256 main_cst_0
  let main_v8 : IVec S2x8192x256 1 := cmpf .olt main_v6 main_v7
  let main_c_1 : IVec S_ 1 := constantI S_ 1 1#1
  let main_v9 : IVec S_ 1 := (fun x v => Host.reduce IntOp.andi x v reducesTo_S2x8192x256_S_d0_1_2 h_S_) main_v8 main_c_1
  let main_v10 : IVec S_ 1 := andi main_v4 main_v9
  let main_v11 : FVec F S16 .f32 := Host.absf main_arg2
  let main_cst_2 : FVec F S_ .f32 := constant S_ .f32 0x7F800000#32
  let main_v12 : FVec F S16 .f32 := broadcastInDim S16 ![] bcast_S_S16 main_cst_2
  let main_v13 : IVec S16 1 := cmpf .olt main_v11 main_v12
  let main_c_3 : IVec S_ 1 := constantI S_ 1 1#1
  let main_v14 : IVec S_ 1 := (fun x v => Host.reduce IntOp.andi x v reducesTo_S16_S_d0 h_S_) main_v13 main_c_3
  let main_v15 : IVec S_ 1 := andi main_v10 main_v14
  main_v15
-- ==== Pre_finite_c16.lean ====
abbrev S2x512x16384 : Shape := ⟨3, ![2, 512, 16384]⟩
abbrev S2x512x4096 : Shape := ⟨3, ![2, 512, 4096]⟩
abbrev S16 : Shape := ⟨1, ![16]⟩
abbrev S_ : Shape := ⟨0, ![]⟩

class Facts : Prop where
  bitsLt_bf16_f32 : FTy.bits .bf16 < FTy.bits .f32
  bcast_S_S2x512x16384 : S_.BroadcastsInDim S2x512x16384 (![] : Fin 0 → Fin S2x512x16384.rank)
  reducesTo_S2x512x16384_S_d0_1_2 : S2x512x16384.ReducesTo [0, 1, 2] S_
  h_S_ : 0 < S_.numel
  bcast_S_S2x512x4096 : S_.BroadcastsInDim S2x512x4096 (![] : Fin 0 → Fin S2x512x4096.rank)
  reducesTo_S2x512x4096_S_d0_1_2 : S2x512x4096.ReducesTo [0, 1, 2] S_
  bcast_S_S16 : S_.BroadcastsInDim S16 (![] : Fin 0 → Fin S16.rank)
  reducesTo_S16_S_d0 : S16.ReducesTo [0] S_

variable [Facts]

def fn {F : FTy → Type} [FloatOps F] (main_arg0 : FVec F S2x512x16384 .bf16) (main_arg1 : FVec F S2x512x4096 .bf16) (main_arg2 : FVec F S16 .f32) : IVec S_ 1 :=
  let main_v0 : FVec F S2x512x16384 .f32 := (extf .f32 · bitsLt_bf16_f32) main_arg0
  let main_v1 : FVec F S2x512x16384 .f32 := Host.absf main_v0
  let main_cst : FVec F S_ .f32 := constant S_ .f32 0x7F800000#32
  let main_v2 : FVec F S2x512x16384 .f32 := broadcastInDim S2x512x16384 ![] bcast_S_S2x512x16384 main_cst
  let main_v3 : IVec S2x512x16384 1 := cmpf .olt main_v1 main_v2
  let main_c : IVec S_ 1 := constantI S_ 1 1#1
  let main_v4 : IVec S_ 1 := (fun x v => Host.reduce IntOp.andi x v reducesTo_S2x512x16384_S_d0_1_2 h_S_) main_v3 main_c
  let main_v5 : FVec F S2x512x4096 .f32 := (extf .f32 · bitsLt_bf16_f32) main_arg1
  let main_v6 : FVec F S2x512x4096 .f32 := Host.absf main_v5
  let main_cst_0 : FVec F S_ .f32 := constant S_ .f32 0x7F800000#32
  let main_v7 : FVec F S2x512x4096 .f32 := broadcastInDim S2x512x4096 ![] bcast_S_S2x512x4096 main_cst_0
  let main_v8 : IVec S2x512x4096 1 := cmpf .olt main_v6 main_v7
  let main_c_1 : IVec S_ 1 := constantI S_ 1 1#1
  let main_v9 : IVec S_ 1 := (fun x v => Host.reduce IntOp.andi x v reducesTo_S2x512x4096_S_d0_1_2 h_S_) main_v8 main_c_1
  let main_v10 : IVec S_ 1 := andi main_v4 main_v9
  let main_v11 : FVec F S16 .f32 := Host.absf main_arg2
  let main_cst_2 : FVec F S_ .f32 := constant S_ .f32 0x7F800000#32
  let main_v12 : FVec F S16 .f32 := broadcastInDim S16 ![] bcast_S_S16 main_cst_2
  let main_v13 : IVec S16 1 := cmpf .olt main_v11 main_v12
  let main_c_3 : IVec S_ 1 := constantI S_ 1 1#1
  let main_v14 : IVec S_ 1 := (fun x v => Host.reduce IntOp.andi x v reducesTo_S16_S_d0 h_S_) main_v13 main_c_3
  let main_v15 : IVec S_ 1 := andi main_v10 main_v14
  main_v15
-- ==== Pre_finite_c4.lean ====
abbrev S2x2048x4096 : Shape := ⟨3, ![2, 2048, 4096]⟩
abbrev S2x2048x1024 : Shape := ⟨3, ![2, 2048, 1024]⟩
abbrev S16 : Shape := ⟨1, ![16]⟩
abbrev S_ : Shape := ⟨0, ![]⟩

class Facts : Prop where
  bitsLt_bf16_f32 : FTy.bits .bf16 < FTy.bits .f32
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S16 : S_.BroadcastsInDim S16 (![] : Fin 0 → Fin S16.rank)
  reducesTo_S16_S_d0 : S16.ReducesTo [0] S_

variable [Facts]

def fn {F : FTy → Type} [FloatOps F] (main_arg0 : FVec F S2x2048x4096 .bf16) (main_arg1 : FVec F S2x2048x1024 .bf16) (main_arg2 : FVec F S16 .f32) : IVec S_ 1 :=
  let main_v0 : FVec F S2x2048x4096 .f32 := (extf .f32 · bitsLt_bf16_f32) main_arg0
  let main_v1 : FVec F S2x2048x4096 .f32 := Host.absf main_v0
  let main_cst : FVec F S_ .f32 := constant S_ .f32 0x7F800000#32
  let main_v2 : FVec F S2x2048x4096 .f32 := broadcastInDim S2x2048x4096 ![] bcast_S_S2x2048x4096 main_cst
  let main_v3 : IVec S2x2048x4096 1 := cmpf .olt main_v1 main_v2
  let main_c : IVec S_ 1 := constantI S_ 1 1#1
  let main_v4 : IVec S_ 1 := (fun x v => Host.reduce IntOp.andi x v reducesTo_S2x2048x4096_S_d0_1_2 h_S_) main_v3 main_c
  let main_v5 : FVec F S2x2048x1024 .f32 := (extf .f32 · bitsLt_bf16_f32) main_arg1
  let main_v6 : FVec F S2x2048x1024 .f32 := Host.absf main_v5
  let main_cst_0 : FVec F S_ .f32 := constant S_ .f32 0x7F800000#32
  let main_v7 : FVec F S2x2048x1024 .f32 := broadcastInDim S2x2048x1024 ![] bcast_S_S2x2048x1024 main_cst_0
  let main_v8 : IVec S2x2048x1024 1 := cmpf .olt main_v6 main_v7
  let main_c_1 : IVec S_ 1 := constantI S_ 1 1#1
  let main_v9 : IVec S_ 1 := (fun x v => Host.reduce IntOp.andi x v reducesTo_S2x2048x1024_S_d0_1_2 h_S_) main_v8 main_c_1
  let main_v10 : IVec S_ 1 := andi main_v4 main_v9
  let main_v11 : FVec F S16 .f32 := Host.absf main_arg2
  let main_cst_2 : FVec F S_ .f32 := constant S_ .f32 0x7F800000#32
  let main_v12 : FVec F S16 .f32 := broadcastInDim S16 ![] bcast_S_S16 main_cst_2
  let main_v13 : IVec S16 1 := cmpf .olt main_v11 main_v12
  let main_c_3 : IVec S_ 1 := constantI S_ 1 1#1
  let main_v14 : IVec S_ 1 := (fun x v => Host.reduce IntOp.andi x v reducesTo_S16_S_d0 h_S_) main_v13 main_c_3
  let main_v15 : IVec S_ 1 := andi main_v10 main_v14
  main_v15
-- ==== Banded.lean ====
abbrev S2x8192x1024 : Shape := ⟨3, ![2, 8192, 1024]⟩
abbrev S2x8192x256 : Shape := ⟨3, ![2, 8192, 256]⟩
abbrev S16 : Shape := ⟨1, ![16]⟩
abbrev S1x512x512 : Shape := ⟨3, ![1, 512, 512]⟩
abbrev S1x8192x128 : Shape := ⟨3, ![1, 8192, 128]⟩
abbrev S2x1024x256 : Shape := ⟨3, ![2, 1024, 256]⟩
abbrev S1024x1 : Shape := ⟨2, ![1024, 1]⟩
abbrev S1x256 : Shape := ⟨2, ![1, 256]⟩
abbrev S1 : Shape := ⟨1, ![1]⟩
abbrev S1024x256 : Shape := ⟨2, ![1024, 256]⟩
abbrev S1x1024x256 : Shape := ⟨3, ![1, 1024, 256]⟩
abbrev S1x256x128 : Shape := ⟨3, ![1, 256, 128]⟩
abbrev S256x128 : Shape := ⟨2, ![256, 128]⟩
abbrev S1x128x64 : Shape := ⟨3, ![1, 128, 64]⟩
abbrev S128x64 : Shape := ⟨2, ![128, 64]⟩
abbrev S1024x64 : Shape := ⟨2, ![1024, 64]⟩
abbrev S256x64 : Shape := ⟨2, ![256, 64]⟩
abbrev S1024 : Shape := ⟨1, ![1024]⟩

abbrev nBuf : Space → Nat
  | .hbm => 5
  | .vmem => 7
  | .smem => 2
  | _ => 0

abbrev bufTy : (tb : Table) → Fin (tcTables nBuf tb) → BufTy
  | .hbm, ⟨0, _⟩ => ⟨S2x8192x1024, .bf16⟩
  | .hbm, ⟨1, _⟩ => ⟨S2x8192x256, .bf16⟩
  | .hbm, ⟨2, _⟩ => ⟨S16, .f32⟩
  | .hbm, ⟨3, _⟩ => ⟨S16, .f32⟩
  | .hbm, ⟨4, _⟩ => ⟨S2x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x512x512, .f32⟩
  | .local _ .vmem, ⟨5, _⟩ => ⟨S1x512x512, .f32⟩
  | .local _ .vmem, ⟨6, _⟩ => ⟨S2x1024x256, .f32⟩
  | .local _ .smem, ⟨0, _⟩ => ⟨S16, .f32⟩
  | .local _ .smem, ⟨1, _⟩ => ⟨S16, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨4, ![2, 1, 2, 16], ![false, false, false, false]⟩

def k0_cond1 (i : grid0.Coords) : BitVec 1 :=
  let arg3 : BitVec 32 := BitVec.ofNat 32 (i 3).val
  let c0_i32 : BitVec 32 := 0#32
  let v0 : BitVec 1 := Scalar.cmpi .eq arg3 c0_i32
  let v1 : BitVec 32 := Scalar.extui v0
  let c0_i32_0 : BitVec 32 := 0#32
  let v2 : BitVec 1 := Scalar.cmpi .ne v1 c0_i32_0
  v2

def k0_off1 (i : grid0.Coords) (c0_i32_255 : BitVec 32) : Fin 1 → Nat :=
  let arg2 : BitVec 32 := BitVec.ofNat 32 (i 2).val
  let c8_i32_251 : BitVec 32 := 8#32
  let v396 : BitVec 32 := Scalar.muli arg2 c8_i32_251
  let v403 : BitVec 32 := Scalar.addi v396 c0_i32_255
  let v404 : Index := Scalar.indexCast v403
  ![v404.toNat]
def k0_off2 (i : grid0.Coords) (c0_i32_2 : BitVec 32) : Fin 1 → Nat :=
  let arg2 : BitVec 32 := BitVec.ofNat 32 (i 2).val
  let c8_i32 : BitVec 32 := 8#32
  let v3 : BitVec 32 := Scalar.muli arg2 c8_i32
  let v10 : BitVec 32 := Scalar.addi v3 c0_i32_2
  let v11 : Index := Scalar.indexCast v10
  ![v11.toNat]
def k0_mult1 (i : grid0.Coords) : BitVec 32 :=
  let arg3 : BitVec 32 := BitVec.ofNat 32 (i 3).val
  let c512_i32 : BitVec 32 := 512#32
  let v64 : BitVec 32 := Scalar.muli arg3 c512_i32
  let c0_i32_11 : BitVec 32 := 0#32
  let v65 : BitVec 32 := Scalar.addi v64 c0_i32_11
  let c128_i32 : BitVec 32 := 128#32
  let v66 : BitVec 32 := Scalar.subi v65 c128_i32
  let c0_i32_12 : BitVec 32 := 0#32
  let v67 : BitVec 32 := Scalar.maxsi v66 c0_i32_12
  v67
def k0_off3 (i : grid0.Coords) (c0_i32_11 : BitVec 32) : Fin 3 → Nat :=
  let c0 : Index := 0#32
  let arg3 : BitVec 32 := BitVec.ofNat 32 (i 3).val
  let c512_i32 : BitVec 32 := 512#32
  let v64 : BitVec 32 := Scalar.muli arg3 c512_i32
  let v65 : BitVec 32 := Scalar.addi v64 c0_i32_11
  let c128_i32 : BitVec 32 := 128#32
  let v66 : BitVec 32 := Scalar.subi v65 c128_i32
  let c0_i32_12 : BitVec 32 := 0#32
  let v67 : BitVec 32 := Scalar.maxsi v66 c0_i32_12
  let v68 : BitVec 32 := v67
  let v72 : Index := Scalar.indexCast v68
  let c0_16 : Index := 0#32
  ![0, v72.toNat, 0]
def k0_off4 (i : grid0.Coords) (c0_i32_11 : BitVec 32) : Fin 3 → Nat :=
  let c128_i32_13 : BitVec 32 := 128#32
  let arg3 : BitVec 32 := BitVec.ofNat 32 (i 3).val
  let c512_i32 : BitVec 32 := 512#32
  let v64 : BitVec 32 := Scalar.muli arg3 c512_i32
  let v65 : BitVec 32 := Scalar.addi v64 c0_i32_11
  let v69 : BitVec 32 := Scalar.subi c128_i32_13 v65
  let c0_i32_14 : BitVec 32 := 0#32
  let v70 : BitVec 32 := Scalar.maxsi v69 c0_i32_14
  let c7_i32_15 : BitVec 32 := 7#32
  let v71 : BitVec 32 := Scalar.shrsi v70 c7_i32_15
  let v94 : Index := Scalar.indexCast v71
  let c0_35 : Index := 0#32
  let c0_36 : Index := 0#32
  ![v94.toNat, 0, 0]
def k0_mult2 (i : grid0.Coords) : BitVec 32 :=
  let arg3 : BitVec 32 := BitVec.ofNat 32 (i 3).val
  let c512_i32_64 : BitVec 32 := 512#32
  let v146 : BitVec 32 := Scalar.muli arg3 c512_i32_64
  let c128_i32_65 : BitVec 32 := 128#32
  let v147 : BitVec 32 := Scalar.addi v146 c128_i32_65
  let c128_i32_66 : BitVec 32 := 128#32
  let v148 : BitVec 32 := Scalar.subi v147 c128_i32_66
  let c0_i32_67 : BitVec 32 := 0#32
  let v149 : BitVec 32 := Scalar.maxsi v148 c0_i32_67
  v149
def k0_mult3 (i : grid0.Coords) : BitVec 32 :=
  let arg3 : BitVec 32 := BitVec.ofNat 32 (i 3).val
  let c512_i32_127 : BitVec 32 := 512#32
  let v228 : BitVec 32 := Scalar.muli arg3 c512_i32_127
  let c256_i32 : BitVec 32 := 256#32
  let v229 : BitVec 32 := Scalar.addi v228 c256_i32
  let c128_i32_128 : BitVec 32 := 128#32
  let v230 : BitVec 32 := Scalar.subi v229 c128_i32_128
  let c0_i32_129 : BitVec 32 := 0#32
  let v231 : BitVec 32 := Scalar.maxsi v230 c0_i32_129
  v231
def k0_mult4 (i : grid0.Coords) : BitVec 32 :=
  let arg3 : BitVec 32 := BitVec.ofNat 32 (i 3).val
  let c512_i32_189 : BitVec 32 := 512#32
  let v310 : BitVec 32 := Scalar.muli arg3 c512_i32_189
  let c384_i32 : BitVec 32 := 384#32
  let v311 : BitVec 32 := Scalar.addi v310 c384_i32
  let c128_i32_190 : BitVec 32 := 128#32
  let v312 : BitVec 32 := Scalar.subi v311 c128_i32_190
  let c0_i32_191 : BitVec 32 := 0#32
  let v313 : BitVec 32 := Scalar.maxsi v312 c0_i32_191
  v313
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let c0_i32 : BitVec 32 := 0#32
  let v1 : BitVec 32 := Scalar.addi v0 c0_i32
  let v2 : BitVec 32 := Scalar.addi v1 arg2
  let c0_i32_0 : BitVec 32 := 0#32
  ![arg0.toNat, arg3.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let c0_i32 : BitVec 32 := 0#32
  let v1 : BitVec 32 := Scalar.addi v0 c0_i32
  let v2 : BitVec 32 := Scalar.addi v1 arg2
  let c0_i32_0 : BitVec 32 := 0#32
  let c0_i32_1 : BitVec 32 := 0#32
  ![arg0.toNat, c0_i32_0.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, arg3.toNat, v1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]
-- ==== BandedIdeal.lean ====
variable {F : FTy → Type} [FloatOps F] [Named F]
def κ : String → Option EReal := fun
  | "mask" => some ⊥
  | _ => none
-- ==== BandedRefIdeal.lean ====
abbrev S2x8192x1024 : Shape := ⟨3, ![2, 8192, 1024]⟩
abbrev S2x8192x256 : Shape := ⟨3, ![2, 8192, 256]⟩
abbrev S16 : Shape := ⟨1, ![16]⟩
abbrev S2x8192x2x8x64 : Shape := ⟨5, ![2, 8192, 2, 8, 64]⟩
abbrev S2x8192x2x2x64 : Shape := ⟨5, ![2, 8192, 2, 2, 64]⟩
abbrev S2x8192x2x1x64 : Shape := ⟨5, ![2, 8192, 2, 1, 64]⟩
abbrev S2x8192x2x64 : Shape := ⟨4, ![2, 8192, 2, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S2x2x8192x8192x8 : Shape := ⟨5, ![2, 2, 8192, 8192, 8]⟩
abbrev S2x2x8x8192x8192 : Shape := ⟨5, ![2, 2, 8, 8192, 8192]⟩
abbrev S2x8 : Shape := ⟨2, ![2, 8]⟩
abbrev S2x8x1x1 : Shape := ⟨4, ![2, 8, 1, 1]⟩
abbrev S1x1x8192x8192 : Shape := ⟨4, ![1, 1, 8192, 8192]⟩
abbrev S2x8x8192x8192 : Shape := ⟨4, ![2, 8, 8192, 8192]⟩
abbrev S1x2x8x8192x8192 : Shape := ⟨5, ![1, 2, 8, 8192, 8192]⟩
abbrev S2x2x8x8192 : Shape := ⟨4, ![2, 2, 8, 8192]⟩
abbrev S2x2x8x8192x1 : Shape := ⟨5, ![2, 2, 8, 8192, 1]⟩
abbrev S1x2x8x1x1 : Shape := ⟨5, ![1, 2, 8, 1, 1]⟩
abbrev S2x2x64x8x8192 : Shape := ⟨5, ![2, 2, 64, 8, 8192]⟩

abbrev nBuf : Space → Nat
  | .hbm => 78
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x256, .bf16⟩
  | .hbm, ⟨2, _⟩ => ⟨S16, .f32⟩
  | .hbm, ⟨3, _⟩ => ⟨S16, .f32⟩
  | .hbm, ⟨4, _⟩ => ⟨S2x8192x1024, .f32⟩
  | .hbm, ⟨5, _⟩ => ⟨S2x8192x2x8x64, .f32⟩
  | .hbm, ⟨6, _⟩ => ⟨S2x8192x256, .f32⟩
  | .hbm, ⟨7, _⟩ => ⟨S2x8192x2x2x64, .f32⟩
  | .hbm, ⟨8, _⟩ => ⟨S2x8192x2x1x64, .f32⟩
  | .hbm, ⟨9, _⟩ => ⟨S2x8192x2x64, .f32⟩
  | .hbm, ⟨10, _⟩ => ⟨S2x8192x2x1x64, .f32⟩
  | .hbm, ⟨11, _⟩ => ⟨S2x8192x2x64, .f32⟩
  | .hbm, ⟨12, _⟩ => ⟨S8192, .i32⟩
  | .hbm, ⟨13, _⟩ => ⟨S8192x1, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i1⟩
  | .hbm, ⟨21, _⟩ => ⟨S_, .i32⟩
  | .hbm, ⟨22, _⟩ => ⟨S8192x8192, .i32⟩
  | .hbm, ⟨23, _⟩ => ⟨S8192x8192, .i1⟩
  | .hbm, ⟨24, _⟩ => ⟨S8192x8192, .i1⟩
  | .hbm, ⟨25, _⟩ => ⟨S2x2x8192x8192x8, .f32⟩
  | .hbm, ⟨26, _⟩ => ⟨S2x2x8x8192x8192, .f32⟩
  | .hbm, ⟨27, _⟩ => ⟨S2x8, .f32⟩
  | .hbm, ⟨28, _⟩ => ⟨S2x8x1x1, .f32⟩
  | .hbm, ⟨29, _⟩ => ⟨S8192x8192, .f32⟩
  | .hbm, ⟨30, _⟩ => ⟨S1x1x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S1x2x8x8192x8192, .f32⟩
  | .hbm, ⟨35, _⟩ => ⟨S2x2x8x8192x8192, .f32⟩
  | .hbm, ⟨36, _⟩ => ⟨S2x2x8x8192x8192, .f32⟩
  | .hbm, ⟨37, _⟩ => ⟨S_, .f32⟩
  | .hbm, ⟨38, _⟩ => ⟨S_, .f32⟩
  | .hbm, ⟨39, _⟩ => ⟨S2x2x8x8192x8192, .i1⟩
  | .hbm, ⟨40, _⟩ => ⟨S2x2x8x8192x8192, .f32⟩
  | .hbm, ⟨41, _⟩ => ⟨S2x2x8x8192x8192, .f32⟩
  | .hbm, ⟨42, _⟩ => ⟨S2x8, .f32⟩
  | .hbm, ⟨43, _⟩ => ⟨S2x8x1x1, .f32⟩
  | .hbm, ⟨44, _⟩ => ⟨S_, .f32⟩
  | .hbm, ⟨45, _⟩ => ⟨S2x2x8x8192, .f32⟩
  | .hbm, ⟨46, _⟩ => ⟨S2x2x8x8192x1, .f32⟩
  | .hbm, ⟨47, _⟩ => ⟨S1x2x8x1x1, .f32⟩
  | .hbm, ⟨48, _⟩ => ⟨S2x2x8x8192x1, .f32⟩
  | .hbm, ⟨49, _⟩ => ⟨S2x2x8x8192x1, .f32⟩
  | .hbm, ⟨50, _⟩ => ⟨S2x2x8x8192x8192, .f32⟩
  | .hbm, ⟨51, _⟩ => ⟨S2x2x8x8192x8192, .f32⟩
  | .hbm, ⟨52, _⟩ => ⟨S2x2x8x8192x8192, .f32⟩
  | .hbm, ⟨53, _⟩ => ⟨S_, .f32⟩
  | .hbm, ⟨54, _⟩ => ⟨S_, .f32⟩
  | .hbm, ⟨55, _⟩ => ⟨S2x2x8x8192x8192, .i1⟩
  | .hbm, ⟨56, _⟩ => ⟨S2x2x8x8192x8192, .f32⟩
  | .hbm, ⟨57, _⟩ => ⟨S2x2x8x8192x8192, .f32⟩
  | .hbm, ⟨58, _⟩ => ⟨S_, .f32⟩
  | .hbm, ⟨59, _⟩ => ⟨S2x2x8x8192, .f32⟩
  | .hbm, ⟨60, _⟩ => ⟨S2x2x8x8192x1, .f32⟩
  | .hbm, ⟨61, _⟩ => ⟨S1x2x8x1x1, .f32⟩
  | .hbm, ⟨62, _⟩ => ⟨S2x2x8x8192x1, .f32⟩
  | .hbm, ⟨63, _⟩ => ⟨S2x2x8x8192x1, .f32⟩
  | .hbm, ⟨64, _⟩ => ⟨S2x2x8x8192x1, .f32⟩
  | .hbm, ⟨65, _⟩ => ⟨S2x2x8x8192x1, .f32⟩
  | .hbm, ⟨66, _⟩ => ⟨S_, .f32⟩
  | .hbm, ⟨67, _⟩ => ⟨S2x2x8x8192x1, .f32⟩
  | .hbm, ⟨68, _⟩ => ⟨S2x2x8x8192x1, .i1⟩
  | .hbm, ⟨69, _⟩ => ⟨S_, .f32⟩
  | .hbm, ⟨70, _⟩ => ⟨S_, .f32⟩
  | .hbm, ⟨71, _⟩ => ⟨S2x2x8x8192x1, .f32⟩
  | .hbm, ⟨72, _⟩ => ⟨S2x2x8x8192x1, .f32⟩
  | .hbm, ⟨73, _⟩ => ⟨S2x2x8x8192x8192, .f32⟩
  | .hbm, ⟨74, _⟩ => ⟨S2x2x8x8192x8192, .f32⟩
  | .hbm, ⟨75, _⟩ => ⟨S2x2x64x8x8192, .f32⟩
  | .hbm, ⟨76, _⟩ => ⟨S2x8192x2x8x64, .f32⟩
  | .hbm, ⟨77, _⟩ => ⟨S2x8192x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_1 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_2 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_4 : Ref sig .tc := ⟨.hbm, 66, rfl⟩
abbrev main_v50 : Ref sig .tc := ⟨.hbm, 67, rfl⟩
abbrev main_v51 : Ref sig .tc := ⟨.hbm, 68, rfl⟩
abbrev main_cst_5 : Ref sig .tc := ⟨.hbm, 69, rfl⟩
abbrev main_call2_v0 : Ref sig .tc := ⟨.hbm, 70, rfl⟩
abbrev main_call2_v1 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]

def κ : String → Option EReal := fun
  | "mask" => some ⊥
  | _ => none
-- ==== Proj.lean ====
abbrev S16384x1024 : Shape := ⟨2, ![16384, 1024]⟩
abbrev S1024 : Shape := ⟨1, ![1024]⟩
abbrev S1024x2304 : Shape := ⟨2, ![1024, 2304]⟩
abbrev S1x1024 : Shape := ⟨2, ![1, 1024]⟩
abbrev S16384x256 : Shape := ⟨2, ![16384, 256]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1024x256 : Shape := ⟨2, ![1024, 256]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2304, .f32⟩
  | .hbm, ⟨3, _⟩ => ⟨S1024x2304, .bf16⟩
  | .hbm, ⟨4, _⟩ => ⟨S1x1024, .f32⟩
  | .hbm, ⟨5, _⟩ => ⟨S16384x1024, .bf16⟩
  | .hbm, ⟨6, _⟩ => ⟨S16384x256, .f32⟩
  | .hbm, ⟨7, _⟩ => ⟨S16384x256, .bf16⟩
  | .hbm, ⟨8, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2304, .bf16⟩
  | .local _ .vmem, ⟨4, _⟩ => ⟨S256x1024, .bf16⟩
  | .local _ .vmem, ⟨5, _⟩ => ⟨S256x1024, .bf16⟩
  | .local _ .vmem, ⟨6, _⟩ => ⟨S256x256, .f32⟩
  | .local _ .vmem, ⟨7, _⟩ => ⟨S256x256, .f32⟩
  | .local _ .vmem, ⟨8, _⟩ => ⟨S256x256, .bf16⟩
  | .local _ .vmem, ⟨9, _⟩ => ⟨S256x256, .bf16⟩
  | .local _ .vmem, ⟨10, _⟩ => ⟨S256x1024, .f32⟩
  | .local _ .vmem, ⟨11, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjRefIdeal.lean ====
abbrev S16384x1024 : Shape := ⟨2, ![16384, 1024]⟩
abbrev S1024 : Shape := ⟨1, ![1024]⟩
abbrev S1024x2304 : Shape := ⟨2, ![1024, 2304]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2304 : Shape := ⟨2, ![16384, 2304]⟩
abbrev S16384x256 : Shape := ⟨2, ![16384, 256]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2304, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2304, .f32⟩
  | .hbm, ⟨20, _⟩ => ⟨S16384x1024, .f32⟩
  | .hbm, ⟨21, _⟩ => ⟨S16384x256, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .bf16⟩
  | .hbm, ⟨27, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Out.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1024x1024, .f32⟩
  | .hbm, ⟨5, _⟩ => ⟨S1024x1024, .bf16⟩
  | .hbm, ⟨6, _⟩ => ⟨S1x1024, .f32⟩
  | .hbm, ⟨7, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩

abbrev nD : Nat := 1
abbrev τ : Topo := Topo.v7x

variable {F : FTy → Type} [FloatOps F]
-- ==== ProjB.lean ====
abbrev S16384x1024 : Shape := ⟨2, ![16384, 1024]⟩
abbrev S1024 : Shape := ⟨1, ![1024]⟩
abbrev S1024x3632 : Shape := ⟨2, ![1024, 3632]⟩
abbrev S1x1024 : Shape := ⟨2, ![1, 1024]⟩
abbrev S16384x512 : Shape := ⟨2, ![16384, 512]⟩
abbrev S2x512x8192 : Shape := ⟨3, ![2, 512, 8192]⟩
abbrev S16384x48 : Shape := ⟨2, ![16384, 48]⟩
abbrev S256x1024 : Shape := ⟨2, ![256, 1024]⟩
abbrev S256x512 : Shape := ⟨2, ![256, 512]⟩
abbrev S1x512x256 : Shape := ⟨3, ![1, 512, 256]⟩
abbrev S256x48 : Shape := ⟨2, ![256, 48]⟩
abbrev S256 : Shape := ⟨1, ![256]⟩
abbrev S256x1 : Shape := ⟨2, ![256, 1]⟩
abbrev S1024x512 : Shape := ⟨2, ![1024, 512]⟩
abbrev S512x256 : Shape := ⟨2, ![512, 256]⟩
abbrev S1024x48 : Shape := ⟨2, ![1024, 48]⟩
abbrev S1x128 : Shape := ⟨2, ![1, 128]⟩
abbrev S256x128 : Shape := ⟨2, ![256, 128]⟩
abbrev S1024x128 : Shape := ⟨2, ![1024, 128]⟩

abbrev nBuf : Space → Nat
  | .hbm => 15
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3632, .f32⟩
  | .hbm, ⟨3, _⟩ => ⟨S1024x3632, .bf16⟩
  | .hbm, ⟨4, _⟩ => ⟨S1x1024, .f32⟩
  | .hbm, ⟨5, _⟩ => ⟨S16384x1024, .bf16⟩
  | .hbm, ⟨6, _⟩ => ⟨S16384x512, .f32⟩
  | .hbm, ⟨7, _⟩ => ⟨S2x512x8192, .f32⟩
  | .hbm, ⟨8, _⟩ => ⟨S2x512x8192, .f32⟩
  | .hbm, ⟨9, _⟩ => ⟨S16384x512, .f32⟩
  | .hbm, ⟨10, _⟩ => ⟨S16384x1024, .f32⟩
  | .hbm, ⟨11, _⟩ => ⟨S16384x48, .f32⟩
  | .hbm, ⟨12, _⟩ => ⟨S16384x512, .bf16⟩
  | .hbm, ⟨13, _⟩ => ⟨S16384x1024, .bf16⟩
  | .hbm, ⟨14, _⟩ => ⟨S16384x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3632, .bf16⟩
  | .local _ .vmem, ⟨4, _⟩ => ⟨S256x1024, .bf16⟩
  | .local _ .vmem, ⟨5, _⟩ => ⟨S256x1024, .bf16⟩
  | .local _ .vmem, ⟨6, _⟩ => ⟨S256x512, .f32⟩
  | .local _ .vmem, ⟨7, _⟩ => ⟨S256x512, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S256x512, .f32⟩
  | .local _ .vmem, ⟨13, _⟩ => ⟨S256x512, .f32⟩
  | .local _ .vmem, ⟨14, _⟩ => ⟨S256x1024, .f32⟩
  | .local _ .vmem, ⟨15, _⟩ => ⟨S256x1024, .f32⟩
  | .local _ .vmem, ⟨16, _⟩ => ⟨S256x48, .f32⟩
  | .local _ .vmem, ⟨17, _⟩ => ⟨S256x48, .f32⟩
  | .local _ .vmem, ⟨18, _⟩ => ⟨S256x512, .bf16⟩
  | .local _ .vmem, ⟨19, _⟩ => ⟨S256x512, .bf16⟩
  | .local _ .vmem, ⟨20, _⟩ => ⟨S256x1024, .bf16⟩
  | .local _ .vmem, ⟨21, _⟩ => ⟨S256x1024, .bf16⟩
  | .local _ .vmem, ⟨22, _⟩ => ⟨S256x512, .bf16⟩
  | .local _ .vmem, ⟨23, _⟩ => ⟨S256x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v2_8 : Ref sig .tc := ⟨.hbm, 13, rfl⟩
abbrev main_v2_9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x48 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjBRefIdeal.lean ====
abbrev S16384x1024 : Shape := ⟨2, ![16384, 1024]⟩
abbrev S1024 : Shape := ⟨1, ![1024]⟩
abbrev S1024x3632 : Shape := ⟨2, ![1024, 3632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3632 : Shape := ⟨2, ![16384, 3632]⟩
abbrev S16384x512 : Shape := ⟨2, ![16384, 512]⟩
abbrev S16384x48 : Shape := ⟨2, ![16384, 48]⟩
abbrev S16384x4x2x64 : Shape := ⟨4, ![16384, 4, 2, 64]⟩
abbrev S16384x4x1x64 : Shape := ⟨4, ![16384, 4, 1, 64]⟩
abbrev S16384x4x64 : Shape := ⟨3, ![16384, 4, 64]⟩
abbrev S128x128 : Shape := ⟨2, ![128, 128]⟩
abbrev S1x128x1x1x128 : Shape := ⟨5, ![1, 128, 1, 1, 128]⟩
abbrev S2x128x64x4x128 : Shape := ⟨5, ![2, 128, 64, 4, 128]⟩
abbrev S16384x4x128 : Shape := ⟨3, ![16384, 4, 128]⟩
abbrev S16384x4x256 : Shape := ⟨3, ![16384, 4, 256]⟩
abbrev S2x8192x512 : Shape := ⟨3, ![2, 8192, 512]⟩
abbrev S2x512x8192 : Shape := ⟨3, ![2, 512, 8192]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3632, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3632, .f32⟩
  | .hbm, ⟨20, _⟩ => ⟨S16384x1024, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x1024, .f32⟩
  | .hbm, ⟨25, _⟩ => ⟨S16384x48, .f32⟩
  | .hbm, ⟨26, _⟩ => ⟨S16384x4x2x64, .f32⟩
  | .hbm, ⟨27, _⟩ => ⟨S16384x4x1x64, .f32⟩
  | .hbm, ⟨28, _⟩ => ⟨S16384x4x64, .f32⟩
  | .hbm, ⟨29, _⟩ => ⟨S128x128, .i32⟩
  | .hbm, ⟨30, _⟩ => ⟨S128x128, .i32⟩
  | .hbm, ⟨31, _⟩ => ⟨S_, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S128x128, .f32⟩
  | .hbm, ⟨36, _⟩ => ⟨S1x128x1x1x128, .f32⟩
  | .hbm, ⟨37, _⟩ => ⟨S2x128x64x4x128, .f32⟩
  | .hbm, ⟨38, _⟩ => ⟨S16384x4x128, .f32⟩
  | .hbm, ⟨39, _⟩ => ⟨S_, .f32⟩
  | .hbm, ⟨40, _⟩ => ⟨S16384x4x64, .f32⟩
  | .hbm, ⟨41, _⟩ => ⟨S16384x4x256, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .bf16⟩
  | .hbm, ⟨47, _⟩ => ⟨S2x8192x512, .f32⟩
  | .hbm, ⟨48, _⟩ => ⟨S2x512x8192, .f32⟩
  | .hbm, ⟨49, _⟩ => ⟨S2x8192x512, .f32⟩
  | .hbm, ⟨50, _⟩ => ⟨S2x512x8192, .f32⟩
  | .hbm, ⟨51, _⟩ => ⟨S16384x512, .bf16⟩
  | .hbm, ⟨52, _⟩ => ⟨S16384x1024, .bf16⟩
  | .hbm, ⟨53, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== ProjC.lean ====
abbrev S16384x1024 : Shape := ⟨2, ![16384, 1024]⟩
abbrev S1024 : Shape := ⟨1, ![1024]⟩
abbrev S1024x4864 : Shape := ⟨2, ![1024, 4864]⟩
abbrev S1x1024 : Shape := ⟨2, ![1, 1024]⟩
abbrev S4096x4096 : Shape := ⟨2, ![4096, 4096]⟩
abbrev S1024x16384 : Shape := ⟨2, ![1024, 16384]⟩
abbrev S16384x256 : Shape := ⟨2, ![16384, 256]⟩
abbrev S4096x1024 : Shape := ⟨2, ![4096, 1024]⟩
abbrev S1024x4096 : Shape := ⟨2, ![1024, 4096]⟩
abbrev S16384x768 : Shape := ⟨2, ![16384, 768]⟩
abbrev S256x1024 : Shape := ⟨2, ![256, 1024]⟩
abbrev S64x4096 : Shape := ⟨2, ![64, 4096]⟩
abbrev S16x16384 : Shape := ⟨2, ![16, 16384]⟩
abbrev S256x256 : Shape := ⟨2, ![256, 256]⟩
abbrev S64x1024 : Shape := ⟨2, ![64, 1024]⟩
abbrev S16x4096 : Shape := ⟨2, ![16, 4096]⟩
abbrev S256x768 : Shape := ⟨2, ![256, 768]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x256 : Shape := ⟨2, ![1, 256]⟩
abbrev S64x512 : Shape := ⟨2, ![64, 512]⟩
abbrev S16x512 : Shape := ⟨2, ![16, 512]⟩
abbrev S1024x256 : Shape := ⟨2, ![1024, 256]⟩
abbrev S64x256 : Shape := ⟨2, ![64, 256]⟩
abbrev S16x256 : Shape := ⟨2, ![16, 256]⟩

abbrev nBuf : Space → Nat
  | .hbm => 13
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4864, .f32⟩
  | .hbm, ⟨3, _⟩ => ⟨S1024x4864, .bf16⟩
  | .hbm, ⟨4, _⟩ => ⟨S1x1024, .f32⟩
  | .hbm, ⟨5, _⟩ => ⟨S16384x1024, .bf16⟩
  | .hbm, ⟨6, _⟩ => ⟨S4096x4096, .bf16⟩
  | .hbm, ⟨7, _⟩ => ⟨S1024x16384, .bf16⟩
  | .hbm, ⟨8, _⟩ => ⟨S16384x256, .bf16⟩
  | .hbm, ⟨9, _⟩ => ⟨S4096x1024, .bf16⟩
  | .hbm, ⟨10, _⟩ => ⟨S1024x4096, .bf16⟩
  | .hbm, ⟨11, _⟩ => ⟨S16384x768, .f32⟩
  | .hbm, ⟨12, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4864, .bf16⟩
  | .local _ .vmem, ⟨4, _⟩ => ⟨S256x1024, .bf16⟩
  | .local _ .vmem, ⟨5, _⟩ => ⟨S256x1024, .bf16⟩
  | .local _ .vmem, ⟨6, _⟩ => ⟨S64x4096, .bf16⟩
  | .local _ .vmem, ⟨7, _⟩ => ⟨S64x4096, .bf16⟩
  | .local _ .vmem, ⟨8, _⟩ => ⟨S16x16384, .bf16⟩
  | .local _ .vmem, ⟨9, _⟩ => ⟨S16x16384, .bf16⟩
  | .local _ .vmem, ⟨10, _⟩ => ⟨S256x256, .bf16⟩
  | .local _ .vmem, ⟨11, _⟩ => ⟨S256x256, .bf16⟩
  | .local _ .vmem, ⟨12, _⟩ => ⟨S64x1024, .bf16⟩
  | .local _ .vmem, ⟨13, _⟩ => ⟨S64x1024, .bf16⟩
  | .local _ .vmem, ⟨14, _⟩ => ⟨S16x4096, .bf16⟩
  | .local _ .vmem, ⟨15, _⟩ => ⟨S16x4096, .bf16⟩
  | .local _ .vmem, ⟨16, _⟩ => ⟨S256x768, .f32⟩
  | .local _ .vmem, ⟨17, _⟩ => ⟨S256x768, .f32⟩
  | .local _ .vmem, ⟨18, _⟩ => ⟨S256x1024, .f32⟩
  | .local _ .vmem, ⟨19, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x16384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjCRefIdeal.lean ====
abbrev S16384x1024 : Shape := ⟨2, ![16384, 1024]⟩
abbrev S1024 : Shape := ⟨1, ![1024]⟩
abbrev S1024x4864 : Shape := ⟨2, ![1024, 4864]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4864 : Shape := ⟨2, ![16384, 4864]⟩
abbrev S16384x3072 : Shape := ⟨2, ![16384, 3072]⟩
abbrev S16384x768 : Shape := ⟨2, ![16384, 768]⟩
abbrev S4096x4096 : Shape := ⟨2, ![4096, 4096]⟩
abbrev S1024x16384 : Shape := ⟨2, ![1024, 16384]⟩
abbrev S16384x256 : Shape := ⟨2, ![16384, 256]⟩
abbrev S4096x1024 : Shape := ⟨2, ![4096, 1024]⟩
abbrev S1024x4096 : Shape := ⟨2, ![1024, 4096]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4864, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4864, .f32⟩
  | .hbm, ⟨20, _⟩ => ⟨S16384x3072, .f32⟩
  | .hbm, ⟨21, _⟩ => ⟨S16384x768, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .bf16⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .bf16⟩
  | .hbm, ⟨33, _⟩ => ⟨S4096x4096, .bf16⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .bf16⟩
  | .hbm, ⟨39, _⟩ => ⟨S1024x16384, .bf16⟩
  | .hbm, ⟨40, _⟩ => ⟨S16384x256, .f32⟩
  | .hbm, ⟨41, _⟩ => ⟨S16384x256, .bf16⟩
  | .hbm, ⟨42, _⟩ => ⟨S16384x256, .f32⟩
  | .hbm, ⟨43, _⟩ => ⟨S16384x256, .bf16⟩
  | .hbm, ⟨44, _⟩ => ⟨S4096x1024, .bf16⟩
  | .hbm, ⟨45, _⟩ => ⟨S16384x256, .f32⟩
  | .hbm, ⟨46, _⟩ => ⟨S16384x256, .bf16⟩
  | .hbm, ⟨47, _⟩ => ⟨S1024x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Merge.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S16384x1024 : Shape := ⟨2, ![16384, 1024]⟩
abbrev S1024 : Shape := ⟨1, ![1024]⟩
abbrev S1024x1024 : Shape := ⟨2, ![1024, 1024]⟩
abbrev S1x16384x1024 : Shape := ⟨3, ![1, 16384, 1024]⟩
abbrev S3x16384x1024 : Shape := ⟨3, ![3, 16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1024, .f32⟩
  | .hbm, ⟨9, _⟩ => ⟨S1024x1024, .f32⟩
  | .hbm, ⟨10, _⟩ => ⟨S1x16384x1024, .f32⟩
  | .hbm, ⟨11, _⟩ => ⟨S1x16384x1024, .f32⟩
  | .hbm, ⟨12, _⟩ => ⟨S1x16384x1024, .f32⟩
  | .hbm, ⟨13, _⟩ => ⟨S3x16384x1024, .f32⟩
  | .hbm, ⟨14, _⟩ => ⟨S_, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S1x16384x1024, .f32⟩
  | .hbm, ⟨20, _⟩ => ⟨S3x16384x1024, .f32⟩
  | .hbm, ⟨21, _⟩ => ⟨S3x16384x1024, .f32⟩
  | .hbm, ⟨22, _⟩ => ⟨S3x16384x1024, .f32⟩
  | .hbm, ⟨23, _⟩ => ⟨S_, .f32⟩
  | .hbm, ⟨24, _⟩ => ⟨S16384x1024, .f32⟩
  | .hbm, ⟨25, _⟩ => ⟨S1x16384x1024, .f32⟩
  | .hbm, ⟨26, _⟩ => ⟨S3x16384x1024, .f32⟩
  | .hbm, ⟨27, _⟩ => ⟨S3x16384x1024, .f32⟩
  | .hbm, ⟨28, _⟩ => ⟨S1x16384x1024, .f32⟩
  | .hbm, ⟨29, _⟩ => ⟨S1x16384x1024, .f32⟩
  | .hbm, ⟨30, _⟩ => ⟨S1x16384x1024, .f32⟩
  | .hbm, ⟨31, _⟩ => ⟨S3x16384x1024, .f32⟩
  | .hbm, ⟨32, _⟩ => ⟨S3x16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]
-- ==== BandC1.lean ====
abbrev S2x8192x1024 : Shape := ⟨3, ![2, 8192, 1024]⟩
abbrev S2x8192x256 : Shape := ⟨3, ![2, 8192, 256]⟩
abbrev S16 : Shape := ⟨1, ![16]⟩
abbrev S1x512x512 : Shape := ⟨3, ![1, 512, 512]⟩
abbrev S1x8192x128 : Shape := ⟨3, ![1, 8192, 128]⟩
abbrev S2x1024x256 : Shape := ⟨3, ![2, 1024, 256]⟩
abbrev S1024x1 : Shape := ⟨2, ![1024, 1]⟩
abbrev S1x256 : Shape := ⟨2, ![1, 256]⟩
abbrev S1 : Shape := ⟨1, ![1]⟩
abbrev S1024x256 : Shape := ⟨2, ![1024, 256]⟩
abbrev S1x1024x256 : Shape := ⟨3, ![1, 1024, 256]⟩
abbrev S1x256x128 : Shape := ⟨3, ![1, 256, 128]⟩
abbrev S256x128 : Shape := ⟨2, ![256, 128]⟩
abbrev S1x128x64 : Shape := ⟨3, ![1, 128, 64]⟩
abbrev S128x64 : Shape := ⟨2, ![128, 64]⟩
abbrev S1024x64 : Shape := ⟨2, ![1024, 64]⟩
abbrev S256x64 : Shape := ⟨2, ![256, 64]⟩
abbrev S1024 : Shape := ⟨1, ![1024]⟩
abbrev S128x1 : Shape := ⟨2, ![128, 1]⟩

abbrev nBuf : Space → Nat
  | .hbm => 5
  | .vmem => 9
  | .smem => 1
  | _ => 0

abbrev bufTy : (tb : Table) → Fin (tcTables nBuf tb) → BufTy
  | .hbm, ⟨0, _⟩ => ⟨S2x8192x1024, .bf16⟩
  | .hbm, ⟨1, _⟩ => ⟨S2x8192x256, .bf16⟩
  | .hbm, ⟨2, _⟩ => ⟨S16, .f32⟩
  | .hbm, ⟨3, _⟩ => ⟨S2x8192x1024, .f32⟩
  | .hbm, ⟨4, _⟩ => ⟨S2x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S2x1024x256, .f32⟩
  | .local _ .smem, ⟨0, _⟩ => ⟨S16, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨4, ![2, 1, 2, 16], ![false, false, false, false]⟩

def k0_cond1 (i : grid0.Coords) : BitVec 1 :=
  let arg3 : BitVec 32 := BitVec.ofNat 32 (i 3).val
  let c0_i32 : BitVec 32 := 0#32
  let v0 : BitVec 1 := Scalar.cmpi .eq arg3 c0_i32
  let v1 : BitVec 32 := Scalar.extui v0
  let c0_i32_0 : BitVec 32 := 0#32
  let v2 : BitVec 1 := Scalar.cmpi .ne v1 c0_i32_0
  v2

def k0_off1 (i : grid0.Coords) (c0_i32_338 : BitVec 32) : Fin 1 → Nat :=
  let arg2 : BitVec 32 := BitVec.ofNat 32 (i 2).val
  let c8_i32 : BitVec 32 := 8#32
  let v519 : BitVec 32 := Scalar.muli arg2 c8_i32
  let v526 : BitVec 32 := Scalar.addi v519 c0_i32_338
  let v527 : Index := Scalar.indexCast v526
  ![v527.toNat]
def k0_mult1 (i : grid0.Coords) : BitVec 32 :=
  let arg3 : BitVec 32 := BitVec.ofNat 32 (i 3).val
  let c512_i32 : BitVec 32 := 512#32
  let v3 : BitVec 32 := Scalar.muli arg3 c512_i32
  let c0_i32_1 : BitVec 32 := 0#32
  let v4 : BitVec 32 := Scalar.addi v3 c0_i32_1
  let c128_i32 : BitVec 32 := 128#32
  let v5 : BitVec 32 := Scalar.subi v4 c128_i32
  let c0_i32_2 : BitVec 32 := 0#32
  let v6 : BitVec 32 := Scalar.maxsi v5 c0_i32_2
  v6
def k0_off2 (i : grid0.Coords) (c0_i32_1 : BitVec 32) : Fin 3 → Nat :=
  let c0 : Index := 0#32
  let arg3 : BitVec 32 := BitVec.ofNat 32 (i 3).val
  let c512_i32 : BitVec 32 := 512#32
  let v3 : BitVec 32 := Scalar.muli arg3 c512_i32
  let v4 : BitVec 32 := Scalar.addi v3 c0_i32_1
  let c128_i32 : BitVec 32 := 128#32
  let v5 : BitVec 32 := Scalar.subi v4 c128_i32
  let c0_i32_2 : BitVec 32 := 0#32
  let v6 : BitVec 32 := Scalar.maxsi v5 c0_i32_2
  let v7 : BitVec 32 := v6
  let v11 : Index := Scalar.indexCast v7
  let c0_5 : Index := 0#32
  ![0, v11.toNat, 0]
def k0_off3 (i : grid0.Coords) (c0_i32_1 : BitVec 32) : Fin 3 → Nat :=
  let c128_i32_3 : BitVec 32 := 128#32
  let arg3 : BitVec 32 := BitVec.ofNat 32 (i 3).val
  let c512_i32 : BitVec 32 := 512#32
  let v3 : BitVec 32 := Scalar.muli arg3 c512_i32
  let v4 : BitVec 32 := Scalar.addi v3 c0_i32_1
  let v8 : BitVec 32 := Scalar.subi c128_i32_3 v4
  let c0_i32_4 : BitVec 32 := 0#32
  let v9 : BitVec 32 := Scalar.maxsi v8 c0_i32_4
  let c7_i32 : BitVec 32 := 7#32
  let v10 : BitVec 32 := Scalar.shrsi v9 c7_i32
  let v33 : Index := Scalar.indexCast v10
  let c0_23 : Index := 0#32
  let c0_24 : Index := 0#32
  ![v33.toNat, 0, 0]
def k0_mult2 (i : grid0.Coords) : BitVec 32 :=
  let arg3 : BitVec 32 := BitVec.ofNat 32 (i 3).val
  let c512_i32_76 : BitVec 32 := 512#32
  let v131 : BitVec 32 := Scalar.muli arg3 c512_i32_76
  let c128_i32_77 : BitVec 32 := 128#32
  let v132 : BitVec 32 := Scalar.addi v131 c128_i32_77
  let c128_i32_78 : BitVec 32 := 128#32
  let v133 : BitVec 32 := Scalar.subi v132 c128_i32_78
  let c0_i32_79 : BitVec 32 := 0#32
  let v134 : BitVec 32 := Scalar.maxsi v133 c0_i32_79
  v134
def k0_mult3 (i : grid0.Coords) : BitVec 32 :=
  let arg3 : BitVec 32 := BitVec.ofNat 32 (i 3).val
  let c512_i32_163 : BitVec 32 := 512#32
  let v259 : BitVec 32 := Scalar.muli arg3 c512_i32_163
  let c256_i32 : BitVec 32 := 256#32
  let v260 : BitVec 32 := Scalar.addi v259 c256_i32
  let c128_i32_164 : BitVec 32 := 128#32
  let v261 : BitVec 32 := Scalar.subi v260 c128_i32_164
  let c0_i32_165 : BitVec 32 := 0#32
  let v262 : BitVec 32 := Scalar.maxsi v261 c0_i32_165
  v262
def k0_mult4 (i : grid0.Coords) : BitVec 32 :=
  let arg3 : BitVec 32 := BitVec.ofNat 32 (i 3).val
  let c512_i32_249 : BitVec 32 := 512#32
  let v387 : BitVec 32 := Scalar.muli arg3 c512_i32_249
  let c384_i32 : BitVec 32 := 384#32
  let v388 : BitVec 32 := Scalar.addi v387 c384_i32
  let c128_i32_250 : BitVec 32 := 128#32
  let v389 : BitVec 32 := Scalar.subi v388 c128_i32_250
  let c0_i32_251 : BitVec 32 := 0#32
  let v390 : BitVec 32 := Scalar.maxsi v389 c0_i32_251
  v390
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let c0_i32 : BitVec 32 := 0#32
  let v1 : BitVec 32 := Scalar.addi v0 c0_i32
  let v2 : BitVec 32 := Scalar.addi v1 arg2
  let c0_i32_0 : BitVec 32 := 0#32
  ![arg0.toNat, arg3.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let c0_i32 : BitVec 32 := 0#32
  let v1 : BitVec 32 := Scalar.addi v0 c0_i32
  let v2 : BitVec 32 := Scalar.addi v1 arg2
  let c0_i32_0 : BitVec 32 := 0#32
  let c0_i32_1 : BitVec 32 := 0#32
  ![arg0.toNat, c0_i32_0.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, arg3.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, arg3.toNat, v1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]
-- ==== BandC1Ideal.lean ====
variable {F : FTy → Type} [FloatOps F] [Named F]
def κ : String → Option EReal := fun
  | "mask" => some ⊥
  | _ => none
-- ==== BandC1RefIdeal.lean ====
abbrev S2x8192x1024 : Shape := ⟨3, ![2, 8192, 1024]⟩
abbrev S2x8192x256 : Shape := ⟨3, ![2, 8192, 256]⟩
abbrev S16 : Shape := ⟨1, ![16]⟩
abbrev S2x8192x1x1024 : Shape := ⟨4, ![2, 8192, 1, 1024]⟩
abbrev S2x1x8192x1024 : Shape := ⟨4, ![2, 1, 8192, 1024]⟩
abbrev S2x8192x1x256 : Shape := ⟨4, ![2, 8192, 1, 256]⟩
abbrev S2x1x8192x256 : Shape := ⟨4, ![2, 1, 8192, 256]⟩
abbrev S2x8192x2x8x64 : Shape := ⟨5, ![2, 8192, 2, 8, 64]⟩
abbrev S2x8192x2x2x64 : Shape := ⟨5, ![2, 8192, 2, 2, 64]⟩
abbrev S2x8192x2x1x64 : Shape := ⟨5, ![2, 8192, 2, 1, 64]⟩
abbrev S2x8192x2x64 : Shape := ⟨4, ![2, 8192, 2, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S2x2x8192x8192x8 : Shape := ⟨5, ![2, 2, 8192, 8192, 8]⟩
abbrev S2x2x8x8192x8192 : Shape := ⟨5, ![2, 2, 8, 8192, 8192]⟩
abbrev S2x8 : Shape := ⟨2, ![2, 8]⟩
abbrev S2x8x1x1 : Shape := ⟨4, ![2, 8, 1, 1]⟩
abbrev S1x1x8192x8192 : Shape := ⟨4, ![1, 1, 8192, 8192]⟩
abbrev S2x8x8192x8192 : Shape := ⟨4, ![2, 8, 8192, 8192]⟩
abbrev S1x2x8x8192x8192 : Shape := ⟨5, ![1, 2, 8, 8192, 8192]⟩
abbrev S2x2x8x8192 : Shape := ⟨4, ![2, 2, 8, 8192]⟩
abbrev S2x2x8x8192x1 : Shape := ⟨5, ![2, 2, 8, 8192, 1]⟩
abbrev S2x8192x2x8 : Shape := ⟨4, ![2, 8192, 2, 8]⟩
abbrev S2x2x64x8x8192 : Shape := ⟨5, ![2, 2, 64, 8, 8192]⟩
abbrev S2x8192x2x8x1 : Shape := ⟨5, ![2, 8192, 2, 8, 1]⟩

abbrev nBuf : Space → Nat
  | .hbm => 89
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x256, .bf16⟩
  | .hbm, ⟨2, _⟩ => ⟨S16, .f32⟩
  | .hbm, ⟨3, _⟩ => ⟨S2x8192x1024, .f32⟩
  | .hbm, ⟨4, _⟩ => ⟨S2x8192x1x1024, .f32⟩
  | .hbm, ⟨5, _⟩ => ⟨S2x1x8192x1024, .f32⟩
  | .hbm, ⟨6, _⟩ => ⟨S2x8192x1024, .f32⟩
  | .hbm, ⟨7, _⟩ => ⟨S2x8192x256, .f32⟩
  | .hbm, ⟨8, _⟩ => ⟨S2x8192x1x256, .f32⟩
  | .hbm, ⟨9, _⟩ => ⟨S2x1x8192x256, .f32⟩
  | .hbm, ⟨10, _⟩ => ⟨S2x8192x256, .f32⟩
  | .hbm, ⟨11, _⟩ => ⟨S2x8192x2x8x64, .f32⟩
  | .hbm, ⟨12, _⟩ => ⟨S2x8192x2x2x64, .f32⟩
  | .hbm, ⟨13, _⟩ => ⟨S2x8192x2x1x64, .f32⟩
  | .hbm, ⟨14, _⟩ => ⟨S2x8192x2x64, .f32⟩
  | .hbm, ⟨15, _⟩ => ⟨S2x8192x2x1x64, .f32⟩
  | .hbm, ⟨16, _⟩ => ⟨S2x8192x2x64, .f32⟩
  | .hbm, ⟨17, _⟩ => ⟨S8192, .i32⟩
  | .hbm, ⟨18, _⟩ => ⟨S8192x1, .i32⟩
  | .hbm, ⟨19, _⟩ => ⟨S1x8192, .i32⟩
  | .hbm, ⟨20, _⟩ => ⟨S8192x8192, .i32⟩
  | .hbm, ⟨21, _⟩ => ⟨S8192x8192, .i32⟩
  | .hbm, ⟨22, _⟩ => ⟨S8192x8192, .i32⟩
  | .hbm, ⟨23, _⟩ => ⟨S_, .i32⟩
  | .hbm, ⟨24, _⟩ => ⟨S8192x8192, .i32⟩
  | .hbm, ⟨25, _⟩ => ⟨S8192x8192, .i32⟩
  | .hbm, ⟨26, _⟩ => ⟨S_, .i32⟩
  | .hbm, ⟨27, _⟩ => ⟨S8192x8192, .i32⟩
  | .hbm, ⟨28, _⟩ => ⟨S8192x8192, .i1⟩
  | .hbm, ⟨29, _⟩ => ⟨S_, .i32⟩
  | .hbm, ⟨30, _⟩ => ⟨S8192x8192, .i32⟩
  | .hbm, ⟨31, _⟩ => ⟨S8192x8192, .i1⟩
  | .hbm, ⟨32, _⟩ => ⟨S8192x8192, .i1⟩
  | .hbm, ⟨33, _⟩ => ⟨S2x2x8192x8192x8, .f32⟩
  | .hbm, ⟨34, _⟩ => ⟨S2x2x8x8192x8192, .f32⟩
  | .hbm, ⟨35, _⟩ => ⟨S2x8, .f32⟩
  | .hbm, ⟨36, _⟩ => ⟨S2x8x1x1, .f32⟩
  | .hbm, ⟨37, _⟩ => ⟨S8192x8192, .f32⟩
  | .hbm, ⟨38, _⟩ => ⟨S1x1x8192x8192, .f32⟩
  | .hbm, ⟨39, _⟩ => ⟨S2x8x8192x8192, .f32⟩
  | .hbm, ⟨40, _⟩ => ⟨S2x8x8192x8192, .f32⟩
  | .hbm, ⟨41, _⟩ => ⟨S2x8x8192x8192, .f32⟩
  | .hbm, ⟨42, _⟩ => ⟨S1x2x8x8192x8192, .f32⟩
  | .hbm, ⟨43, _⟩ => ⟨S2x2x8x8192x8192, .f32⟩
  | .hbm, ⟨44, _⟩ => ⟨S2x2x8x8192x8192, .f32⟩
  | .hbm, ⟨45, _⟩ => ⟨S_, .f32⟩
  | .hbm, ⟨46, _⟩ => ⟨S_, .f32⟩
  | .hbm, ⟨47, _⟩ => ⟨S2x2x8x8192x8192, .i1⟩
  | .hbm, ⟨48, _⟩ => ⟨S2x2x8x8192x8192, .f32⟩
  | .hbm, ⟨49, _⟩ => ⟨S2x2x8x8192x8192, .f32⟩
  | .hbm, ⟨50, _⟩ => ⟨S_, .f32⟩
  | .hbm, ⟨51, _⟩ => ⟨S2x2x8x8192, .f32⟩
  | .hbm, ⟨52, _⟩ => ⟨S2x2x8x8192x1, .f32⟩
  | .hbm, ⟨53, _⟩ => ⟨S2x2x8x8192x8192, .f32⟩
  | .hbm, ⟨54, _⟩ => ⟨S2x2x8x8192x8192, .f32⟩
  | .hbm, ⟨55, _⟩ => ⟨S2x2x8x8192x8192, .f32⟩
  | .hbm, ⟨56, _⟩ => ⟨S_, .f32⟩
  | .hbm, ⟨57, _⟩ => ⟨S_, .f32⟩
  | .hbm, ⟨58, _⟩ => ⟨S2x2x8x8192x8192, .i1⟩
  | .hbm, ⟨59, _⟩ => ⟨S2x2x8x8192x8192, .f32⟩
  | .hbm, ⟨60, _⟩ => ⟨S2x2x8x8192x8192, .f32⟩
  | .hbm, ⟨61, _⟩ => ⟨S_, .f32⟩
  | .hbm, ⟨62, _⟩ => ⟨S2x2x8x8192, .f32⟩
  | .hbm, ⟨63, _⟩ => ⟨S2x2x8x8192x1, .f32⟩
  | .hbm, ⟨64, _⟩ => ⟨S_, .f32⟩
  | .hbm, ⟨65, _⟩ => ⟨S2x2x8x8192x1, .f32⟩
  | .hbm, ⟨66, _⟩ => ⟨S2x2x8x8192x1, .i1⟩
  | .hbm, ⟨67, _⟩ => ⟨S_, .f32⟩
  | .hbm, ⟨68, _⟩ => ⟨S_, .f32⟩
  | .hbm, ⟨69, _⟩ => ⟨S2x2x8x8192x1, .f32⟩
  | .hbm, ⟨70, _⟩ => ⟨S2x2x8x8192x1, .f32⟩
  | .hbm, ⟨71, _⟩ => ⟨S2x2x8x8192x8192, .f32⟩
  | .hbm, ⟨72, _⟩ => ⟨S2x2x8x8192x8192, .f32⟩
  | .hbm, ⟨73, _⟩ => ⟨S2x2x8x8192x1, .f32⟩
  | .hbm, ⟨74, _⟩ => ⟨S2x2x8x8192x1, .f32⟩
  | .hbm, ⟨75, _⟩ => ⟨S2x2x8x8192, .f32⟩
  | .hbm, ⟨76, _⟩ => ⟨S2x8192x2x8, .f32⟩
  | .hbm, ⟨77, _⟩ => ⟨S2x2x64x8x8192, .f32⟩
  | .hbm, ⟨78, _⟩ => ⟨S2x8192x2x8x64, .f32⟩
  | .hbm, ⟨79, _⟩ => ⟨S2x8192x2x8x1, .f32⟩
  | .hbm, ⟨80, _⟩ => ⟨S2x8192x2x8x64, .f32⟩
  | .hbm, ⟨81, _⟩ => ⟨S2x8192x1024, .f32⟩
  | .hbm, ⟨82, _⟩ => ⟨S2x1x8192x1024, .f32⟩
  | .hbm, ⟨83, _⟩ => ⟨S2x8192x1x1024, .f32⟩
  | .hbm, ⟨84, _⟩ => ⟨S2x8192x1024, .f32⟩
  | .hbm, ⟨85, _⟩ => ⟨S2x8192x1024, .f32⟩
  | .hbm, ⟨86, _⟩ => ⟨S2x1x8192x1024, .f32⟩
  | .hbm, ⟨87, _⟩ => ⟨S2x8192x1x1024, .f32⟩
  | .hbm, ⟨88, _⟩ => ⟨S2x8192x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_call2_v0 : Ref sig .tc := ⟨.hbm, 68, rfl⟩
abbrev main_call2_v1 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]

def κ : String → Option EReal := fun
  | "mask" => some ⊥
  | _ => none
-- ==== BandC4.lean ====
abbrev S2x2048x4096 : Shape := ⟨3, ![2, 2048, 4096]⟩
abbrev S2x2048x1024 : Shape := ⟨3, ![2, 2048, 1024]⟩
abbrev S16 : Shape := ⟨1, ![16]⟩
abbrev S1x512x512 : Shape := ⟨3, ![1, 512, 512]⟩
abbrev S1x2048x128 : Shape := ⟨3, ![1, 2048, 128]⟩
abbrev S2x1024x256 : Shape := ⟨3, ![2, 1024, 256]⟩
abbrev S1024x1 : Shape := ⟨2, ![1024, 1]⟩
abbrev S1x256 : Shape := ⟨2, ![1, 256]⟩
abbrev S1 : Shape := ⟨1, ![1]⟩
abbrev S1024x256 : Shape := ⟨2, ![1024, 256]⟩
abbrev S1x1024x256 : Shape := ⟨3, ![1, 1024, 256]⟩
abbrev S1x256x128 : Shape := ⟨3, ![1, 256, 128]⟩
abbrev S256x128 : Shape := ⟨2, ![256, 128]⟩
abbrev S1x128x64 : Shape := ⟨3, ![1, 128, 64]⟩
abbrev S128x64 : Shape := ⟨2, ![128, 64]⟩
abbrev S1024x64 : Shape := ⟨2, ![1024, 64]⟩
abbrev S256x64 : Shape := ⟨2, ![256, 64]⟩
abbrev S1024 : Shape := ⟨1, ![1024]⟩
abbrev S128x1 : Shape := ⟨2, ![128, 1]⟩

abbrev nBuf : Space → Nat
  | .hbm => 5
  | .vmem => 9
  | .smem => 1
  | _ => 0

abbrev bufTy : (tb : Table) → Fin (tcTables nBuf tb) → BufTy
  | .hbm, ⟨0, _⟩ => ⟨S2x2048x4096, .bf16⟩
  | .hbm, ⟨1, _⟩ => ⟨S2x2048x1024, .bf16⟩
  | .hbm, ⟨2, _⟩ => ⟨S16, .f32⟩
  | .hbm, ⟨3, _⟩ => ⟨S2x2048x4096, .f32⟩
  | .hbm, ⟨4, _⟩ => ⟨S2x2048x4096, .f32⟩
  | .local _ .vmem, ⟨0, _⟩ => ⟨S1x512x512, .bf16⟩
  | .local _ .vmem, ⟨1, _⟩ => ⟨S1x512x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S2x1024x256, .f32⟩
  | .local _ .smem, ⟨0, _⟩ => ⟨S16, .f32⟩
  | _, _ => ⟨S2x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨4, ![2, 4, 2, 4], ![false, false, false, false]⟩

def k0_cond1 (i : grid0.Coords) : BitVec 1 :=
  let arg3 : BitVec 32 := BitVec.ofNat 32 (i 3).val
  let c0_i32 : BitVec 32 := 0#32
  let v0 : BitVec 1 := Scalar.cmpi .eq arg3 c0_i32
  let v1 : BitVec 32 := Scalar.extui v0
  let c0_i32_0 : BitVec 32 := 0#32
  let v2 : BitVec 1 := Scalar.cmpi .ne v1 c0_i32_0
  v2

def k0_off1 (i : grid0.Coords) (c0_i32_338 : BitVec 32) : Fin 1 → Nat :=
  let arg2 : BitVec 32 := BitVec.ofNat 32 (i 2).val
  let c8_i32 : BitVec 32 := 8#32
  let v519 : BitVec 32 := Scalar.muli arg2 c8_i32
  let v526 : BitVec 32 := Scalar.addi v519 c0_i32_338
  let v527 : Index := Scalar.indexCast v526
  ![v527.toNat]
def k0_mult1 (i : grid0.Coords) : BitVec 32 :=
  let arg3 : BitVec 32 := BitVec.ofNat 32 (i 3).val
  let c512_i32 : BitVec 32 := 512#32
  let v3 : BitVec 32 := Scalar.muli arg3 c512_i32
  let c0_i32_1 : BitVec 32 := 0#32
  let v4 : BitVec 32 := Scalar.addi v3 c0_i32_1
  let c128_i32 : BitVec 32 := 128#32
  let v5 : BitVec 32 := Scalar.subi v4 c128_i32
  let c0_i32_2 : BitVec 32 := 0#32
  let v6 : BitVec 32 := Scalar.maxsi v5 c0_i32_2
  v6
def k0_off2 (i : grid0.Coords) (c0_i32_1 : BitVec 32) : Fin 3 → Nat :=
  let c0 : Index := 0#32
  let arg3 : BitVec 32 := BitVec.ofNat 32 (i 3).val
  let c512_i32 : BitVec 32 := 512#32
  let v3 : BitVec 32 := Scalar.muli arg3 c512_i32
  let v4 : BitVec 32 := Scalar.addi v3 c0_i32_1
  let c128_i32 : BitVec 32 := 128#32
  let v5 : BitVec 32 := Scalar.subi v4 c128_i32
  let c0_i32_2 : BitVec 32 := 0#32
  let v6 : BitVec 32 := Scalar.maxsi v5 c0_i32_2
  let v7 : BitVec 32 := v6
  let v11 : Index := Scalar.indexCast v7
  let c0_5 : Index := 0#32
  ![0, v11.toNat, 0]
def k0_off3 (i : grid0.Coords) (c0_i32_1 : BitVec 32) : Fin 3 → Nat :=
  let c128_i32_3 : BitVec 32 := 128#32
  let arg3 : BitVec 32 := BitVec.ofNat 32 (i 3).val
  let c512_i32 : BitVec 32 := 512#32
  let v3 : BitVec 32 := Scalar.muli arg3 c512_i32
  let v4 : BitVec 32 := Scalar.addi v3 c0_i32_1
  let v8 : BitVec 32 := Scalar.subi c128_i32_3 v4
  let c0_i32_4 : BitVec 32 := 0#32
  let v9 : BitVec 32 := Scalar.maxsi v8 c0_i32_4
  let c7_i32 : BitVec 32 := 7#32
  let v10 : BitVec 32 := Scalar.shrsi v9 c7_i32
  let v33 : Index := Scalar.indexCast v10
  let c0_23 : Index := 0#32
  let c0_24 : Index := 0#32
  ![v33.toNat, 0, 0]
def k0_mult2 (i : grid0.Coords) : BitVec 32 :=
  let arg3 : BitVec 32 := BitVec.ofNat 32 (i 3).val
  let c512_i32_76 : BitVec 32 := 512#32
  let v131 : BitVec 32 := Scalar.muli arg3 c512_i32_76
  let c128_i32_77 : BitVec 32 := 128#32
  let v132 : BitVec 32 := Scalar.addi v131 c128_i32_77
  let c128_i32_78 : BitVec 32 := 128#32
  let v133 : BitVec 32 := Scalar.subi v132 c128_i32_78
  let c0_i32_79 : BitVec 32 := 0#32
  let v134 : BitVec 32 := Scalar.maxsi v133 c0_i32_79
  v134
def k0_mult3 (i : grid0.Coords) : BitVec 32 :=
  let arg3 : BitVec 32 := BitVec.ofNat 32 (i 3).val
  let c512_i32_163 : BitVec 32 := 512#32
  let v259 : BitVec 32 := Scalar.muli arg3 c512_i32_163
  let c256_i32 : BitVec 32 := 256#32
  let v260 : BitVec 32 := Scalar.addi v259 c256_i32
  let c128_i32_164 : BitVec 32 := 128#32
  let v261 : BitVec 32 := Scalar.subi v260 c128_i32_164
  let c0_i32_165 : BitVec 32 := 0#32
  let v262 : BitVec 32 := Scalar.maxsi v261 c0_i32_165
  v262
def k0_mult4 (i : grid0.Coords) : BitVec 32 :=
  let arg3 : BitVec 32 := BitVec.ofNat 32 (i 3).val
  let c512_i32_249 : BitVec 32 := 512#32
  let v387 : BitVec 32 := Scalar.muli arg3 c512_i32_249
  let c384_i32 : BitVec 32 := 384#32
  let v388 : BitVec 32 := Scalar.addi v387 c384_i32
  let c128_i32_250 : BitVec 32 := 128#32
  let v389 : BitVec 32 := Scalar.subi v388 c128_i32_250
  let c0_i32_251 : BitVec 32 := 0#32
  let v390 : BitVec 32 := Scalar.maxsi v389 c0_i32_251
  v390
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let c0_i32 : BitVec 32 := 0#32
  let v1 : BitVec 32 := Scalar.addi v0 c0_i32
  let v2 : BitVec 32 := Scalar.addi v1 arg2
  let c0_i32_0 : BitVec 32 := 0#32
  ![arg0.toNat, arg3.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let c0_i32 : BitVec 32 := 0#32
  let v1 : BitVec 32 := Scalar.addi v0 c0_i32
  let v2 : BitVec 32 := Scalar.addi v1 arg2
  let c0_i32_0 : BitVec 32 := 0#32
  let c0_i32_1 : BitVec 32 := 0#32
  ![arg0.toNat, c0_i32_0.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, arg3.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, arg3.toNat, v1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]
-- ==== BandC4Ideal.lean ====
variable {F : FTy → Type} [FloatOps F] [Named F]
def κ : String → Option EReal := fun
  | "mask" => some ⊥
  | _ => none
-- ==== BandC4RefIdeal.lean ====
abbrev S2x2048x4096 : Shape := ⟨3, ![2, 2048, 4096]⟩
abbrev S2x2048x1024 : Shape := ⟨3, ![2, 2048, 1024]⟩
abbrev S16 : Shape := ⟨1, ![16]⟩
abbrev S2x2048x4x1024 : Shape := ⟨4, ![2, 2048, 4, 1024]⟩
abbrev S2x4x2048x1024 : Shape := ⟨4, ![2, 4, 2048, 1024]⟩
abbrev S8x2048x1024 : Shape := ⟨3, ![8, 2048, 1024]⟩
abbrev S2x2048x4x256 : Shape := ⟨4, ![2, 2048, 4, 256]⟩
abbrev S2x4x2048x256 : Shape := ⟨4, ![2, 4, 2048, 256]⟩
abbrev S8x2048x256 : Shape := ⟨3, ![8, 2048, 256]⟩
abbrev S8x2048x2x8x64 : Shape := ⟨5, ![8, 2048, 2, 8, 64]⟩
abbrev S8x2048x2x2x64 : Shape := ⟨5, ![8, 2048, 2, 2, 64]⟩
abbrev S8x2048x2x1x64 : Shape := ⟨5, ![8, 2048, 2, 1, 64]⟩
abbrev S8x2048x2x64 : Shape := ⟨4, ![8, 2048, 2, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x2x2048x2048x8 : Shape := ⟨5, ![8, 2, 2048, 2048, 8]⟩
abbrev S8x2x8x2048x2048 : Shape := ⟨5, ![8, 2, 8, 2048, 2048]⟩
abbrev S2x8 : Shape := ⟨2, ![2, 8]⟩
abbrev S2x8x1x1 : Shape := ⟨4, ![2, 8, 1, 1]⟩
abbrev S1x1x2048x2048 : Shape := ⟨4, ![1, 1, 2048, 2048]⟩
abbrev S2x8x2048x2048 : Shape := ⟨4, ![2, 8, 2048, 2048]⟩
abbrev S1x2x8x2048x2048 : Shape := ⟨5, ![1, 2, 8, 2048, 2048]⟩
abbrev S8x2x8x2048 : Shape := ⟨4, ![8, 2, 8, 2048]⟩
abbrev S8x2x8x2048x1 : Shape := ⟨5, ![8, 2, 8, 2048, 1]⟩
abbrev S8x2048x2x8 : Shape := ⟨4, ![8, 2048, 2, 8]⟩
abbrev S8x2x64x8x2048 : Shape := ⟨5, ![8, 2, 64, 8, 2048]⟩
abbrev S8x2048x2x8x1 : Shape := ⟨5, ![8, 2048, 2, 8, 1]⟩

abbrev nBuf : Space → Nat
  | .hbm => 89
  | .vmem => 0
  | .smem => 0
  | _ => 0

abbrev bufTy : (tb : Table) → Fin (tcTables nBuf tb) → BufTy
  | .hbm, ⟨0, _⟩ => ⟨S2x2048x4096, .bf16⟩
  | .hbm, ⟨1, _⟩ => ⟨S2x2048x1024, .bf16⟩
  | .hbm, ⟨2, _⟩ => ⟨S16, .f32⟩
  | .hbm, ⟨3, _⟩ => ⟨S2x2048x4096, .f32⟩
  | .hbm, ⟨4, _⟩ => ⟨S2x2048x4x1024, .f32⟩
  | .hbm, ⟨5, _⟩ => ⟨S2x4x2048x1024, .f32⟩
  | .hbm, ⟨6, _⟩ => ⟨S8x2048x1024, .f32⟩
  | .hbm, ⟨7, _⟩ => ⟨S2x2048x1024, .f32⟩
  | .hbm, ⟨8, _⟩ => ⟨S2x2048x4x256, .f32⟩
  | .hbm, ⟨9, _⟩ => ⟨S2x4x2048x256, .f32⟩
  | .hbm, ⟨10, _⟩ => ⟨S8x2048x256, .f32⟩
  | .hbm, ⟨11, _⟩ => ⟨S8x2048x2x8x64, .f32⟩
  | .hbm, ⟨12, _⟩ => ⟨S8x2048x2x2x64, .f32⟩
  | .hbm, ⟨13, _⟩ => ⟨S8x2048x2x1x64, .f32⟩
  | .hbm, ⟨14, _⟩ => ⟨S8x2048x2x64, .f32⟩
  | .hbm, ⟨15, _⟩ => ⟨S8x2048x2x1x64, .f32⟩
  | .hbm, ⟨16, _⟩ => ⟨S8x2048x2x64, .f32⟩
  | .hbm, ⟨17, _⟩ => ⟨S2048, .i32⟩
  | .hbm, ⟨18, _⟩ => ⟨S2048x1, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i1⟩
  | .hbm, ⟨29, _⟩ => ⟨S_, .i32⟩
  | .hbm, ⟨30, _⟩ => ⟨S2048x2048, .i32⟩
  | .hbm, ⟨31, _⟩ => ⟨S2048x2048, .i1⟩
  | .hbm, ⟨32, _⟩ => ⟨S2048x2048, .i1⟩
  | .hbm, ⟨33, _⟩ => ⟨S8x2x2048x2048x8, .f32⟩
  | .hbm, ⟨34, _⟩ => ⟨S8x2x8x2048x2048, .f32⟩
  | .hbm, ⟨35, _⟩ => ⟨S2x8, .f32⟩
  | .hbm, ⟨36, _⟩ => ⟨S2x8x1x1, .f32⟩
  | .hbm, ⟨37, _⟩ => ⟨S2048x2048, .f32⟩
  | .hbm, ⟨38, _⟩ => ⟨S1x1x2048x2048, .f32⟩
  | .hbm, ⟨39, _⟩ => ⟨S2x8x2048x2048, .f32⟩
  | .hbm, ⟨40, _⟩ => ⟨S2x8x2048x2048, .f32⟩
  | .hbm, ⟨41, _⟩ => ⟨S2x8x2048x2048, .f32⟩
  | .hbm, ⟨42, _⟩ => ⟨S1x2x8x2048x2048, .f32⟩
  | .hbm, ⟨43, _⟩ => ⟨S8x2x8x2048x2048, .f32⟩
  | .hbm, ⟨44, _⟩ => ⟨S8x2x8x2048x2048, .f32⟩
  | .hbm, ⟨45, _⟩ => ⟨S_, .f32⟩
  | .hbm, ⟨46, _⟩ => ⟨S_, .f32⟩
  | .hbm, ⟨47, _⟩ => ⟨S8x2x8x2048x2048, .i1⟩
  | .hbm, ⟨48, _⟩ => ⟨S8x2x8x2048x2048, .f32⟩
  | .hbm, ⟨49, _⟩ => ⟨S8x2x8x2048x2048, .f32⟩
  | .hbm, ⟨50, _⟩ => ⟨S_, .f32⟩
  | .hbm, ⟨51, _⟩ => ⟨S8x2x8x2048, .f32⟩
  | .hbm, ⟨52, _⟩ => ⟨S8x2x8x2048x1, .f32⟩
  | .hbm, ⟨53, _⟩ => ⟨S8x2x8x2048x2048, .f32⟩
  | .hbm, ⟨54, _⟩ => ⟨S8x2x8x2048x2048, .f32⟩
  | .hbm, ⟨55, _⟩ => ⟨S8x2x8x2048x2048, .f32⟩
  | .hbm, ⟨56, _⟩ => ⟨S_, .f32⟩
  | .hbm, ⟨57, _⟩ => ⟨S_, .f32⟩
  | .hbm, ⟨58, _⟩ => ⟨S8x2x8x2048x2048, .i1⟩
  | .hbm, ⟨59, _⟩ => ⟨S8x2x8x2048x2048, .f32⟩
  | .hbm, ⟨60, _⟩ => ⟨S8x2x8x2048x2048, .f32⟩
  | .hbm, ⟨61, _⟩ => ⟨S_, .f32⟩
  | .hbm, ⟨62, _⟩ => ⟨S8x2x8x2048, .f32⟩
  | .hbm, ⟨63, _⟩ => ⟨S8x2x8x2048x1, .f32⟩
  | .hbm, ⟨64, _⟩ => ⟨S_, .f32⟩
  | .hbm, ⟨65, _⟩ => ⟨S8x2x8x2048x1, .f32⟩
  | .hbm, ⟨66, _⟩ => ⟨S8x2x8x2048x1, .i1⟩
  | .hbm, ⟨67, _⟩ => ⟨S_, .f32⟩
  | .hbm, ⟨68, _⟩ => ⟨S_, .f32⟩
  | .hbm, ⟨69, _⟩ => ⟨S8x2x8x2048x1, .f32⟩
  | .hbm, ⟨70, _⟩ => ⟨S8x2x8x2048x1, .f32⟩
  | .hbm, ⟨71, _⟩ => ⟨S8x2x8x2048x2048, .f32⟩
  | .hbm, ⟨72, _⟩ => ⟨S8x2x8x2048x2048, .f32⟩
  | .hbm, ⟨73, _⟩ => ⟨S8x2x8x2048x1, .f32⟩
  | .hbm, ⟨74, _⟩ => ⟨S8x2x8x2048x1, .f32⟩
  | .hbm, ⟨75, _⟩ => ⟨S8x2x8x2048, .f32⟩
  | .hbm, ⟨76, _⟩ => ⟨S8x2048x2x8, .f32⟩
  | .hbm, ⟨77, _⟩ => ⟨S8x2x64x8x2048, .f32⟩
  | .hbm, ⟨78, _⟩ => ⟨S8x2048x2x8x64, .f32⟩
  | .hbm, ⟨79, _⟩ => ⟨S8x2048x2x8x1, .f32⟩
  | .hbm, ⟨80, _⟩ => ⟨S8x2048x2x8x64, .f32⟩
  | .hbm, ⟨81, _⟩ => ⟨S8x2048x1024, .f32⟩
  | .hbm, ⟨82, _⟩ => ⟨S2x4x2048x1024, .f32⟩
  | .hbm, ⟨83, _⟩ => ⟨S2x2048x4x1024, .f32⟩
  | .hbm, ⟨84, _⟩ => ⟨S2x2048x4096, .f32⟩
  | .hbm, ⟨85, _⟩ => ⟨S8x2048x1024, .f32⟩
  | .hbm, ⟨86, _⟩ => ⟨S2x4x2048x1024, .f32⟩
  | .hbm, ⟨87, _⟩ => ⟨S2x2048x4x1024, .f32⟩
  | .hbm, ⟨88, _⟩ => ⟨S2x2048x4096, .f32⟩
  | _, _ => ⟨S2x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_call2_v0 : Ref sig .tc := ⟨.hbm, 68, rfl⟩
abbrev main_call2_v1 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]

def κ : String → Option EReal := fun
  | "mask" => some ⊥
  | _ => none
-- ==== BandC16.lean ====
abbrev S2x512x16384 : Shape := ⟨3, ![2, 512, 16384]⟩
abbrev S2x512x4096 : Shape := ⟨3, ![2, 512, 4096]⟩
abbrev S16 : Shape := ⟨1, ![16]⟩
abbrev S1x512x512 : Shape := ⟨3, ![1, 512, 512]⟩
abbrev S1x512x128 : Shape := ⟨3, ![1, 512, 128]⟩
abbrev S2x1024x256 : Shape := ⟨3, ![2, 1024, 256]⟩
abbrev S1024x1 : Shape := ⟨2, ![1024, 1]⟩
abbrev S1x256 : Shape := ⟨2, ![1, 256]⟩
abbrev S1 : Shape := ⟨1, ![1]⟩
abbrev S1024x256 : Shape := ⟨2, ![1024, 256]⟩
abbrev S1x1024x256 : Shape := ⟨3, ![1, 1024, 256]⟩
abbrev S1x256x128 : Shape := ⟨3, ![1, 256, 128]⟩
abbrev S256x128 : Shape := ⟨2, ![256, 128]⟩
abbrev S1x128x64 : Shape := ⟨3, ![1, 128, 64]⟩
abbrev S128x64 : Shape := ⟨2, ![128, 64]⟩
abbrev S1024x64 : Shape := ⟨2, ![1024, 64]⟩
abbrev S256x64 : Shape := ⟨2, ![256, 64]⟩
abbrev S1024 : Shape := ⟨1, ![1024]⟩
abbrev S128x1 : Shape := ⟨2, ![128, 1]⟩

abbrev nBuf : Space → Nat
  | .hbm => 5
  | .vmem => 9
  | .smem => 1
  | _ => 0

abbrev bufTy : (tb : Table) → Fin (tcTables nBuf tb) → BufTy
  | .hbm, ⟨0, _⟩ => ⟨S2x512x16384, .bf16⟩
  | .hbm, ⟨1, _⟩ => ⟨S2x512x4096, .bf16⟩
  | .hbm, ⟨2, _⟩ => ⟨S16, .f32⟩
  | .hbm, ⟨3, _⟩ => ⟨S2x512x16384, .f32⟩
  | .hbm, ⟨4, _⟩ => ⟨S2x512x16384, .f32⟩
  | .local _ .vmem, ⟨0, _⟩ => ⟨S1x512x512, .bf16⟩
  | .local _ .vmem, ⟨1, _⟩ => ⟨S1x512x512, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S2x1024x256, .f32⟩
  | .local _ .smem, ⟨0, _⟩ => ⟨S16, .f32⟩
  | _, _ => ⟨S2x512x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨4, ![2, 16, 2, 1], ![false, false, false, false]⟩

def k0_cond1 (i : grid0.Coords) : BitVec 1 :=
  let arg3 : BitVec 32 := BitVec.ofNat 32 (i 3).val
  let c0_i32 : BitVec 32 := 0#32
  let v0 : BitVec 1 := Scalar.cmpi .eq arg3 c0_i32
  let v1 : BitVec 32 := Scalar.extui v0
  let c0_i32_0 : BitVec 32 := 0#32
  let v2 : BitVec 1 := Scalar.cmpi .ne v1 c0_i32_0
  v2

def k0_off1 (i : grid0.Coords) (c0_i32_338 : BitVec 32) : Fin 1 → Nat :=
  let arg2 : BitVec 32 := BitVec.ofNat 32 (i 2).val
  let c8_i32 : BitVec 32 := 8#32
  let v519 : BitVec 32 := Scalar.muli arg2 c8_i32
  let v526 : BitVec 32 := Scalar.addi v519 c0_i32_338
  let v527 : Index := Scalar.indexCast v526
  ![v527.toNat]
def k0_mult1 (i : grid0.Coords) : BitVec 32 :=
  let arg3 : BitVec 32 := BitVec.ofNat 32 (i 3).val
  let c512_i32 : BitVec 32 := 512#32
  let v3 : BitVec 32 := Scalar.muli arg3 c512_i32
  let c0_i32_1 : BitVec 32 := 0#32
  let v4 : BitVec 32 := Scalar.addi v3 c0_i32_1
  let c128_i32 : BitVec 32 := 128#32
  let v5 : BitVec 32 := Scalar.subi v4 c128_i32
  let c0_i32_2 : BitVec 32 := 0#32
  let v6 : BitVec 32 := Scalar.maxsi v5 c0_i32_2
  v6
def k0_off2 (i : grid0.Coords) (c0_i32_1 : BitVec 32) : Fin 3 → Nat :=
  let c0 : Index := 0#32
  let arg3 : BitVec 32 := BitVec.ofNat 32 (i 3).val
  let c512_i32 : BitVec 32 := 512#32
  let v3 : BitVec 32 := Scalar.muli arg3 c512_i32
  let v4 : BitVec 32 := Scalar.addi v3 c0_i32_1
  let c128_i32 : BitVec 32 := 128#32
  let v5 : BitVec 32 := Scalar.subi v4 c128_i32
  let c0_i32_2 : BitVec 32 := 0#32
  let v6 : BitVec 32 := Scalar.maxsi v5 c0_i32_2
  let v7 : BitVec 32 := v6
  let v11 : Index := Scalar.indexCast v7
  let c0_5 : Index := 0#32
  ![0, v11.toNat, 0]
def k0_off3 (i : grid0.Coords) (c0_i32_1 : BitVec 32) : Fin 3 → Nat :=
  let c128_i32_3 : BitVec 32 := 128#32
  let arg3 : BitVec 32 := BitVec.ofNat 32 (i 3).val
  let c512_i32 : BitVec 32 := 512#32
  let v3 : BitVec 32 := Scalar.muli arg3 c512_i32
  let v4 : BitVec 32 := Scalar.addi v3 c0_i32_1
  let v8 : BitVec 32 := Scalar.subi c128_i32_3 v4
  let c0_i32_4 : BitVec 32 := 0#32
  let v9 : BitVec 32 := Scalar.maxsi v8 c0_i32_4
  let c7_i32 : BitVec 32 := 7#32
  let v10 : BitVec 32 := Scalar.shrsi v9 c7_i32
  let v33 : Index := Scalar.indexCast v10
  let c0_23 : Index := 0#32
  let c0_24 : Index := 0#32
  ![v33.toNat, 0, 0]
def k0_mult2 (i : grid0.Coords) : BitVec 32 :=
  let arg3 : BitVec 32 := BitVec.ofNat 32 (i 3).val
  let c512_i32_76 : BitVec 32 := 512#32
  let v131 : BitVec 32 := Scalar.muli arg3 c512_i32_76
  let c128_i32_77 : BitVec 32 := 128#32
  let v132 : BitVec 32 := Scalar.addi v131 c128_i32_77
  let c128_i32_78 : BitVec 32 := 128#32
  let v133 : BitVec 32 := Scalar.subi v132 c128_i32_78
  let c0_i32_79 : BitVec 32 := 0#32
  let v134 : BitVec 32 := Scalar.maxsi v133 c0_i32_79
  v134
def k0_mult3 (i : grid0.Coords) : BitVec 32 :=
  let arg3 : BitVec 32 := BitVec.ofNat 32 (i 3).val
  let c512_i32_163 : BitVec 32 := 512#32
  let v259 : BitVec 32 := Scalar.muli arg3 c512_i32_163
  let c256_i32 : BitVec 32 := 256#32
  let v260 : BitVec 32 := Scalar.addi v259 c256_i32
  let c128_i32_164 : BitVec 32 := 128#32
  let v261 : BitVec 32 := Scalar.subi v260 c128_i32_164
  let c0_i32_165 : BitVec 32 := 0#32
  let v262 : BitVec 32 := Scalar.maxsi v261 c0_i32_165
  v262
def k0_mult4 (i : grid0.Coords) : BitVec 32 :=
  let arg3 : BitVec 32 := BitVec.ofNat 32 (i 3).val
  let c512_i32_249 : BitVec 32 := 512#32
  let v387 : BitVec 32 := Scalar.muli arg3 c512_i32_249
  let c384_i32 : BitVec 32 := 384#32
  let v388 : BitVec 32 := Scalar.addi v387 c384_i32
  let c128_i32_250 : BitVec 32 := 128#32
  let v389 : BitVec 32 := Scalar.subi v388 c128_i32_250
  let c0_i32_251 : BitVec 32 := 0#32
  let v390 : BitVec 32 := Scalar.maxsi v389 c0_i32_251
  v390
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let c0_i32 : BitVec 32 := 0#32
  let v1 : BitVec 32 := Scalar.addi v0 c0_i32
  let v2 : BitVec 32 := Scalar.addi v1 arg2
  let c0_i32_0 : BitVec 32 := 0#32
  ![arg0.toNat, arg3.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let c0_i32 : BitVec 32 := 0#32
  let v1 : BitVec 32 := Scalar.addi v0 c0_i32
  let v2 : BitVec 32 := Scalar.addi v1 arg2
  let c0_i32_0 : BitVec 32 := 0#32
  let c0_i32_1 : BitVec 32 := 0#32
  ![arg0.toNat, c0_i32_0.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, arg3.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, arg3.toNat, v1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]
-- ==== BandC16Ideal.lean ====
variable {F : FTy → Type} [FloatOps F] [Named F]
def κ : String → Option EReal := fun
  | "mask" => some ⊥
  | _ => none
-- ==== BandC16RefIdeal.lean ====
abbrev S2x512x16384 : Shape := ⟨3, ![2, 512, 16384]⟩
abbrev S2x512x4096 : Shape := ⟨3, ![2, 512, 4096]⟩
abbrev S16 : Shape := ⟨1, ![16]⟩
abbrev S2x512x16x1024 : Shape := ⟨4, ![2, 512, 16, 1024]⟩
abbrev S2x16x512x1024 : Shape := ⟨4, ![2, 16, 512, 1024]⟩
abbrev S32x512x1024 : Shape := ⟨3, ![32, 512, 1024]⟩
abbrev S2x512x16x256 : Shape := ⟨4, ![2, 512, 16, 256]⟩
abbrev S2x16x512x256 : Shape := ⟨4, ![2, 16, 512, 256]⟩
abbrev S32x512x256 : Shape := ⟨3, ![32, 512, 256]⟩
abbrev S32x512x2x8x64 : Shape := ⟨5, ![32, 512, 2, 8, 64]⟩
abbrev S32x512x2x2x64 : Shape := ⟨5, ![32, 512, 2, 2, 64]⟩
abbrev S32x512x2x1x64 : Shape := ⟨5, ![32, 512, 2, 1, 64]⟩
abbrev S32x512x2x64 : Shape := ⟨4, ![32, 512, 2, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S32x2x512x512x8 : Shape := ⟨5, ![32, 2, 512, 512, 8]⟩
abbrev S32x2x8x512x512 : Shape := ⟨5, ![32, 2, 8, 512, 512]⟩
abbrev S2x8 : Shape := ⟨2, ![2, 8]⟩
abbrev S2x8x1x1 : Shape := ⟨4, ![2, 8, 1, 1]⟩
abbrev S1x1x512x512 : Shape := ⟨4, ![1, 1, 512, 512]⟩
abbrev S2x8x512x512 : Shape := ⟨4, ![2, 8, 512, 512]⟩
abbrev S1x2x8x512x512 : Shape := ⟨5, ![1, 2, 8, 512, 512]⟩
abbrev S32x2x8x512 : Shape := ⟨4, ![32, 2, 8, 512]⟩
abbrev S32x2x8x512x1 : Shape := ⟨5, ![32, 2, 8, 512, 1]⟩
abbrev S32x512x2x8 : Shape := ⟨4, ![32, 512, 2, 8]⟩
abbrev S32x2x64x8x512 : Shape := ⟨5, ![32, 2, 64, 8, 512]⟩
abbrev S32x512x2x8x1 : Shape := ⟨5, ![32, 512, 2, 8, 1]⟩

abbrev nBuf : Space → Nat
  | .hbm => 89
  | .vmem => 0
  | .smem => 0
  | _ => 0

abbrev bufTy : (tb : Table) → Fin (tcTables nBuf tb) → BufTy
  | .hbm, ⟨0, _⟩ => ⟨S2x512x16384, .bf16⟩
  | .hbm, ⟨1, _⟩ => ⟨S2x512x4096, .bf16⟩
  | .hbm, ⟨2, _⟩ => ⟨S16, .f32⟩
  | .hbm, ⟨3, _⟩ => ⟨S2x512x16384, .f32⟩
  | .hbm, ⟨4, _⟩ => ⟨S2x512x16x1024, .f32⟩
  | .hbm, ⟨5, _⟩ => ⟨S2x16x512x1024, .f32⟩
  | .hbm, ⟨6, _⟩ => ⟨S32x512x1024, .f32⟩
  | .hbm, ⟨7, _⟩ => ⟨S2x512x4096, .f32⟩
  | .hbm, ⟨8, _⟩ => ⟨S2x512x16x256, .f32⟩
  | .hbm, ⟨9, _⟩ => ⟨S2x16x512x256, .f32⟩
  | .hbm, ⟨10, _⟩ => ⟨S32x512x256, .f32⟩
  | .hbm, ⟨11, _⟩ => ⟨S32x512x2x8x64, .f32⟩
  | .hbm, ⟨12, _⟩ => ⟨S32x512x2x2x64, .f32⟩
  | .hbm, ⟨13, _⟩ => ⟨S32x512x2x1x64, .f32⟩
  | .hbm, ⟨14, _⟩ => ⟨S32x512x2x64, .f32⟩
  | .hbm, ⟨15, _⟩ => ⟨S32x512x2x1x64, .f32⟩
  | .hbm, ⟨16, _⟩ => ⟨S32x512x2x64, .f32⟩
  | .hbm, ⟨17, _⟩ => ⟨S512, .i32⟩
  | .hbm, ⟨18, _⟩ => ⟨S512x1, .i32⟩
  | .hbm, ⟨19, _⟩ => ⟨S1x512, .i32⟩
  | .hbm, ⟨20, _⟩ => ⟨S512x512, .i32⟩
  | .hbm, ⟨21, _⟩ => ⟨S512x512, .i32⟩
  | .hbm, ⟨22, _⟩ => ⟨S512x512, .i32⟩
  | .hbm, ⟨23, _⟩ => ⟨S_, .i32⟩
  | .hbm, ⟨24, _⟩ => ⟨S512x512, .i32⟩
  | .hbm, ⟨25, _⟩ => ⟨S512x512, .i32⟩
  | .hbm, ⟨26, _⟩ => ⟨S_, .i32⟩
  | .hbm, ⟨27, _⟩ => ⟨S512x512, .i32⟩
  | .hbm, ⟨28, _⟩ => ⟨S512x512, .i1⟩
  | .hbm, ⟨29, _⟩ => ⟨S_, .i32⟩
  | .hbm, ⟨30, _⟩ => ⟨S512x512, .i32⟩
  | .hbm, ⟨31, _⟩ => ⟨S512x512, .i1⟩
  | .hbm, ⟨32, _⟩ => ⟨S512x512, .i1⟩
  | .hbm, ⟨33, _⟩ => ⟨S32x2x512x512x8, .f32⟩
  | .hbm, ⟨34, _⟩ => ⟨S32x2x8x512x512, .f32⟩
  | .hbm, ⟨35, _⟩ => ⟨S2x8, .f32⟩
  | .hbm, ⟨36, _⟩ => ⟨S2x8x1x1, .f32⟩
  | .hbm, ⟨37, _⟩ => ⟨S512x512, .f32⟩
  | .hbm, ⟨38, _⟩ => ⟨S1x1x512x512, .f32⟩
  | .hbm, ⟨39, _⟩ => ⟨S2x8x512x512, .f32⟩
  | .hbm, ⟨40, _⟩ => ⟨S2x8x512x512, .f32⟩
  | .hbm, ⟨41, _⟩ => ⟨S2x8x512x512, .f32⟩
  | .hbm, ⟨42, _⟩ => ⟨S1x2x8x512x512, .f32⟩
  | .hbm, ⟨43, _⟩ => ⟨S32x2x8x512x512, .f32⟩
  | .hbm, ⟨44, _⟩ => ⟨S32x2x8x512x512, .f32⟩
  | .hbm, ⟨45, _⟩ => ⟨S_, .f32⟩
  | .hbm, ⟨46, _⟩ => ⟨S_, .f32⟩
  | .hbm, ⟨47, _⟩ => ⟨S32x2x8x512x512, .i1⟩
  | .hbm, ⟨48, _⟩ => ⟨S32x2x8x512x512, .f32⟩
  | .hbm, ⟨49, _⟩ => ⟨S32x2x8x512x512, .f32⟩
  | .hbm, ⟨50, _⟩ => ⟨S_, .f32⟩
  | .hbm, ⟨51, _⟩ => ⟨S32x2x8x512, .f32⟩
  | .hbm, ⟨52, _⟩ => ⟨S32x2x8x512x1, .f32⟩
  | .hbm, ⟨53, _⟩ => ⟨S32x2x8x512x512, .f32⟩
  | .hbm, ⟨54, _⟩ => ⟨S32x2x8x512x512, .f32⟩
  | .hbm, ⟨55, _⟩ => ⟨S32x2x8x512x512, .f32⟩
  | .hbm, ⟨56, _⟩ => ⟨S_, .f32⟩
  | .hbm, ⟨57, _⟩ => ⟨S_, .f32⟩
  | .hbm, ⟨58, _⟩ => ⟨S32x2x8x512x512, .i1⟩
  | .hbm, ⟨59, _⟩ => ⟨S32x2x8x512x512, .f32⟩
  | .hbm, ⟨60, _⟩ => ⟨S32x2x8x512x512, .f32⟩
  | .hbm, ⟨61, _⟩ => ⟨S_, .f32⟩
  | .hbm, ⟨62, _⟩ => ⟨S32x2x8x512, .f32⟩
  | .hbm, ⟨63, _⟩ => ⟨S32x2x8x512x1, .f32⟩
  | .hbm, ⟨64, _⟩ => ⟨S_, .f32⟩
  | .hbm, ⟨65, _⟩ => ⟨S32x2x8x512x1, .f32⟩
  | .hbm, ⟨66, _⟩ => ⟨S32x2x8x512x1, .i1⟩
  | .hbm, ⟨67, _⟩ => ⟨S_, .f32⟩
  | .hbm, ⟨68, _⟩ => ⟨S_, .f32⟩
  | .hbm, ⟨69, _⟩ => ⟨S32x2x8x512x1, .f32⟩
  | .hbm, ⟨70, _⟩ => ⟨S32x2x8x512x1, .f32⟩
  | .hbm, ⟨71, _⟩ => ⟨S32x2x8x512x512, .f32⟩
  | .hbm, ⟨72, _⟩ => ⟨S32x2x8x512x512, .f32⟩
  | .hbm, ⟨73, _⟩ => ⟨S32x2x8x512x1, .f32⟩
  | .hbm, ⟨74, _⟩ => ⟨S32x2x8x512x1, .f32⟩
  | .hbm, ⟨75, _⟩ => ⟨S32x2x8x512, .f32⟩
  | .hbm, ⟨76, _⟩ => ⟨S32x512x2x8, .f32⟩
  | .hbm, ⟨77, _⟩ => ⟨S32x2x64x8x512, .f32⟩
  | .hbm, ⟨78, _⟩ => ⟨S32x512x2x8x64, .f32⟩
  | .hbm, ⟨79, _⟩ => ⟨S32x512x2x8x1, .f32⟩
  | .hbm, ⟨80, _⟩ => ⟨S32x512x2x8x64, .f32⟩
  | .hbm, ⟨81, _⟩ => ⟨S32x512x1024, .f32⟩
  | .hbm, ⟨82, _⟩ => ⟨S2x16x512x1024, .f32⟩
  | .hbm, ⟨83, _⟩ => ⟨S2x512x16x1024, .f32⟩
  | .hbm, ⟨84, _⟩ => ⟨S2x512x16384, .f32⟩
  | .hbm, ⟨85, _⟩ => ⟨S32x512x1024, .f32⟩
  | .hbm, ⟨86, _⟩ => ⟨S2x16x512x1024, .f32⟩
  | .hbm, ⟨87, _⟩ => ⟨S2x512x16x1024, .f32⟩
  | .hbm, ⟨88, _⟩ => ⟨S2x512x16384, .f32⟩
  | _, _ => ⟨S2x512x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_call2_v0 : Ref sig .tc := ⟨.hbm, 68, rfl⟩
abbrev main_call2_v1 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]

def κ : String → Option EReal := fun
  | "mask" => some ⊥
  | _ => none
-- ==== Proof.K.BOff.lean ====
module

public import proofs.«01_k».proof.Proof.Gen.BandedIdeal.Frame
public import proofs.«01_k».proof.Proof.Gen.BandedIdeal.Skeleton

@[expose] public section

set_option maxRecDepth 16384

noncomputable section

namespace Cert.BandedIdeal.Hand

open Cert.BandedIdeal Cert.BandedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Where the windows and the bias pages lie -/

/-- The bias page a sub-block of the first query block reads: page 1 for the first sub-block, page 0 after it. -/
theorem off4_first : ∀ a : Fin 16, a.val = 0 → ∀ r : Fin 4, ∀ i : grid0.Coords, i 3 = a →
    k0_off4 i (BitVec.ofNat 32 (128 * r.val)) = ![if r.val = 0 then 1 else 0, 0, 0] := by
  have h : ∀ a : Fin 16, a.val = 0 → ∀ r : Fin 4,
      (let v65 : BitVec 32 := Scalar.addi (Scalar.muli (BitVec.ofNat 32 a.val) 512#32) (BitVec.ofNat 32 (128 * r.val))
       (Scalar.indexCast (Scalar.shrsi (Scalar.maxsi (Scalar.subi 128#32 v65) 0#32) 7#32)).toNat)
        = if r.val = 0 then 1 else 0 := by decide +kernel
  intro a ha r i hi
  have := h a ha r
  subst hi
  unfold k0_off4
  simp only at this ⊢
  rw [this]

/-- Every later query block reads page 0. -/
theorem off4_later : ∀ a : Fin 16, a.val ≠ 0 → ∀ r : Fin 4, ∀ i : grid0.Coords, i 3 = a →
    k0_off4 i (BitVec.ofNat 32 (128 * r.val)) = ![0, 0, 0] := by
  have h : ∀ a : Fin 16, a.val ≠ 0 → ∀ r : Fin 4,
      (let v65 : BitVec 32 := Scalar.addi (Scalar.muli (BitVec.ofNat 32 a.val) 512#32) (BitVec.ofNat 32 (128 * r.val))
       (Scalar.indexCast (Scalar.shrsi (Scalar.maxsi (Scalar.subi 128#32 v65) 0#32) 7#32)).toNat)
        = 0 := by decide +kernel
  intro a ha r i hi
  have := h a ha r
  subst hi
  unfold k0_off4
  simp only at this ⊢
  rw [this]

/-- The first key row a sub-block loads: 128 rows before its first query, clipped at row 0. -/
theorem off3_eq (i : grid0.Coords) (r : Fin 4) :
    k0_off3 i (BitVec.ofNat 32 (128 * r.val)) = ![0, 512 * (i 3).val + 128 * r.val - 128, 0] := by
  have h : ∀ a : Fin 16, ∀ r : Fin 4,
      (let v65 : BitVec 32 := Scalar.addi (Scalar.muli (BitVec.ofNat 32 a.val) 512#32) (BitVec.ofNat 32 (128 * r.val))
       (Scalar.indexCast (Scalar.maxsi (Scalar.subi v65 128#32) 0#32)).toNat)
        = 512 * a.val + 128 * r.val - 128 := by decide +kernel
  have := h (i 3) r
  unfold k0_off3
  simp only at this ⊢
  rw [this]

/-- The body's branch is taken exactly at the first query block. -/
theorem cond1_iff (i : grid0.Coords) : k0_cond1 i = 1#1 ↔ (i 3).val = 0 := by
  have h : ∀ a : Fin 16, (let v1 : BitVec 32 := Scalar.extui (Scalar.cmpi .eq (BitVec.ofNat 32 a.val) 0#32)
        Scalar.cmpi .ne v1 0#32 = 1#1) ↔ a.val = 0 := by
    decide +kernel
  exact h (i 3)

end Cert.BandedIdeal.Hand

end
-- ==== Proof.K.BOut.lean ====
module

public import proofs.«01_k».proof.Proof.K.BOff

@[expose] public section

set_option maxRecDepth 16384

noncomputable section

namespace Cert.BandedIdeal.Hand

open Cert.BandedIdeal Cert.BandedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body computes, as functions of what it loads -/

/-- Head `g`'s word of a table of one number per head, in the point's head group. -/
def word (x : Vec F S16 .f32) (i : grid0.Coords) (g : Fin 8) : Elt F .f32 :=
  View.ld x (Rect.unit (s := S16) (k0_off2 i (BitVec.ofNat 32 g.val)) S1.size (k0_off2_inb i g))
    (Shape.Idx.first (numel1_S1.symm ▸ Nat.one_pos))

/-- The key position within the window, lane by lane. -/
abbrev lanes : IVec S1x256 32 := iota .tc S1x256 32 [1] iota_S1x256_d1_w32

/-- The bias page of the ordinary window, from the head group's slopes. -/
def page0 (x0 : Vec F S16 .f32) (i : grid0.Coords) : FVec F S1x1024x256 .f32 :=
  k0_pay12 k0_pay7 lanes k0_pay8 (k0_pay9 (word x0 i 0) (word x0 i 1) (word x0 i 2) (word x0 i 3) (word x0 i 4)) k0_pay10
    (word x0 i 5) (word x0 i 6) (word x0 i 7)

/-- The bias page of the window clipped at the sequence's start. -/
def page1 (x0 : Vec F S16 .f32) (i : grid0.Coords) : FVec F S1x1024x256 .f32 :=
  k0_pay14 lanes (k0_pay11 k0_pay8 (k0_pay9 (word x0 i 0) (word x0 i 1) (word x0 i 2) (word x0 i 3) (word x0 i 4)) k0_pay10
    (word x0 i 5) (word x0 i 6) (word x0 i 7)) (k0_pay13 k0_pay7)

/-- The two stores that fill the bias scratch, the later one first. -/
def biasPieces (x0 : Vec F S16 .f32) (i : grid0.Coords) : List (View.Piece (Elt F) S2x1024x256 .f32) :=
  [⟨Rect.unit ![1, 0, 0] S1x1024x256.size inb_S2x1024x256_S1x1024x256_1_0_0, page1 x0 i⟩,
   ⟨Rect.unit ![0, 0, 0] S1x1024x256.size inb_S2x1024x256_S1x1024x256_0_0_0, page0 x0 i⟩]

/-- The bias scratch once both pages are filled. -/
def bias (x0 : Vec F S16 .f32) (i : grid0.Coords) : Vec F S2x1024x256 .f32 := View.canon (biasPieces x0 i)

/-- The sinks of the head group, one per row of the stacked heads. -/
def sink (x1 : Vec F S16 .f32) (i : grid0.Coords) : FVec F S1024x1 .f32 :=
  k0_pay18 k0_pay15 (k0_pay16 (word x1 i 0) (word x1 i 1) (word x1 i 2) (word x1 i 3)) k0_pay17
    (word x1 i 4) (word x1 i 5) (word x1 i 6) (word x1 i 7)

theorem inb_q (sb : Fin 4) (g : Fin 8) : ∀ a, (![0, 128 * sb.val, 64 * g.val] : Fin 3 → Nat) a + S1x128x64.size a ≤ S1x512x512.size a := by
  revert sb g; decide

/-- Sub-block `sb`, head `g` of a block of queries or of results. -/
abbrev rq (sb : Fin 4) (g : Fin 8) : Rect S1x512x512 := Rect.unit ![0, 128 * sb.val, 64 * g.val] S1x128x64.size (inb_q sb g)

/-- The bias page that sub-block `sb` reads. -/
abbrev rb (i : grid0.Coords) (sb : Fin 4) : Rect S2x1024x256 :=
  Rect.unit (k0_off4 i (BitVec.ofNat 32 (128 * sb.val))) S1x1024x256.size (k0_off4_inb i sb)

/-- The keys and values that sub-block `sb` reads. -/
abbrev rk (i : grid0.Coords) (sb : Fin 4) : Rect S1x8192x128 :=
  Rect.unit (k0_off3 i (BitVec.ofNat 32 (128 * sb.val))) S1x256x128.size (k0_off3_inb i sb)

/-- Sub-block `sb`'s attention output, the group's heads stacked. -/
def attn (x1 : Vec F S16 .f32) (x2 : Vec F S1x512x512 .bf16) (x3 : Vec F S1x8192x128 .bf16)
    (bl : Fin 4 → Vec F S1x1024x256 .f32) (i : grid0.Coords) (sb : Fin 4) : FVec F S1024x64 .f32 :=
  k0_pay22 (sink x1 i) (k0_pay19 (View.ld x3 (rk i sb))) (k0_pay20 (View.ld x2 (rq sb 0))) (k0_pay21 (View.ld x2 (rq sb 1)))
    (View.ld x2 (rq sb 2)) (View.ld x2 (rq sb 3)) (View.ld x2 (rq sb 4)) (View.ld x2 (rq sb 5)) (View.ld x2 (rq sb 6))
    (View.ld x2 (rq sb 7)) (bl sb)

theorem slices_head (g : Fin 8) : S1024x64.Slices ![128 * g.val, 0] S128x64 := by
  revert g; decide

/-- Head `g`'s rows of the stacked output, stored as one block. -/
def headRows (o : FVec F S1024x64 .f32) (g : Fin 8) : FVec F S1x128x64 .f32 :=
  shapeCast S1x128x64 (extractStridedSlice S128x64 ![128 * g.val, 0] o (slices_head g)) shapeCasts_S128x64_S1x128x64

/-- One store into the output block. -/
def outPiece (o : Fin 4 → FVec F S1024x64 .f32) (sb : Fin 4) (g : Fin 8) : View.Piece (Elt F) S1x512x512 .f32 :=
  ⟨rq sb g, headRows (o sb) g⟩

/-- All the stores into the output block, the latest first. -/
def outPieces (o : Fin 4 → FVec F S1024x64 .f32) : List (View.Piece (Elt F) S1x512x512 .f32) :=
  [outPiece o 3 7, outPiece o 3 6, outPiece o 3 5, outPiece o 3 4, outPiece o 3 3, outPiece o 3 2, outPiece o 3 1, outPiece o 3 0,
   outPiece o 2 7, outPiece o 2 6, outPiece o 2 5, outPiece o 2 4, outPiece o 2 3, outPiece o 2 2, outPiece o 2 1, outPiece o 2 0,
   outPiece o 1 7, outPiece o 1 6, outPiece o 1 5, outPiece o 1 4, outPiece o 1 3, outPiece o 1 2, outPiece o 1 1, outPiece o 1 0,
   outPiece o 0 7, outPiece o 0 6, outPiece o 0 5, outPiece o 0 4, outPiece o 0 3, outPiece o 0 2, outPiece o 0 1, outPiece o 0 0]

/-- The output block after the body. -/
def out (x1 : Vec F S16 .f32) (x2 : Vec F S1x512x512 .bf16) (x3 : Vec F S1x8192x128 .bf16)
    (bl : Fin 4 → Vec F S1x1024x256 .f32) (i : grid0.Coords) : Vec F S1x512x512 .f32 :=
  View.canon (outPieces (attn x1 x2 x3 bl i))

theorem cover_out (o : Fin 4 → FVec F S1024x64 .f32) (y : S1x512x512.Idx) : ∃ p ∈ outPieces o, y ∈ p.1.set :=
  View.cover_of_tiled (outPieces o) S1x128x64.size (by rfl) y

theorem cover_bias (x0 : Vec F S16 .f32) (i : grid0.Coords) (y : S2x1024x256.Idx) : ∃ p ∈ biasPieces x0 i, y ∈ p.1.set :=
  View.cover_of_tiled (biasPieces x0 i) S1x1024x256.size (by rfl) y

end Cert.BandedIdeal.Hand

end
-- ==== Proof.K.BRunA.lean ====
module

public import proofs.«01_k».proof.Proof.K.BOut

@[expose] public section

set_option maxRecDepth 16384

noncomputable section

namespace Cert.BandedIdeal.Hand

open Cert.BandedIdeal Cert.BandedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- The body at the first query block of a head group fills the bias scratch, then the output block from it. -/
theorem runA (c : Dev nD) (i : grid0.Coords) (arg4 : Memref sig .tc .smem S16 .f32) (harg4 : arg4.IsWhole) (arg5 : Memref sig .tc .smem S16 .f32) (harg5 : arg5.IsWhole) (arg6 : Memref sig .tc .vmem S1x512x512 .bf16) (harg6 : arg6.IsWhole) (arg7 : Memref sig .tc .vmem S1x8192x128 .bf16) (harg7 : arg7.IsWhole) (arg8 : Memref sig .tc .vmem S1x512x512 .f32) (harg8 : arg8.IsWhole) (arg9 : Memref sig .tc .vmem S2x1024x256 .f32) (harg9 : arg9.IsWhole) (hc0 : k0_cond1 i = 1#1)
    (x0 : Vec F S16 .f32) (x1 : Vec F S16 .f32) (x2 : Vec F S1x512x512 .bf16) (x3 : Vec F S1x8192x128 .bf16) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d)
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (out x1 x2 x3 (fun sb => View.ld (bias x0 i) (rb i sb)) i) ∗ owns (c : Thread nD τ) arg9 fullShare (bias x0 i)) -∗ K ⟨⟩))
      ⊢ wp frame (wpE (defs₀ (F := F)) Variants.none c none) E (cc0_banded_attn i arg4 harg4 arg5 harg5 arg6 harg6 arg7 harg7 arg8 harg8 arg9 harg9) K := by
  have hi := (cond1_iff i).mp hc0
  letI : ClosedOff (k0_off4 i (BitVec.ofNat 32 0)) := ⟨![1, 0, 0], off4_first (i 3) hi 0 i rfl⟩
  letI : ClosedOff (k0_off4 i (BitVec.ofNat 32 128)) := ⟨![0, 0, 0], off4_first (i 3) hi 1 i rfl⟩
  letI : ClosedOff (k0_off4 i (BitVec.ofNat 32 256)) := ⟨![0, 0, 0], off4_first (i 3) hi 2 i rfl⟩
  letI : ClosedOff (k0_off4 i (BitVec.ofNat 32 384)) := ⟨![0, 0, 0], off4_first (i 3) hi 3 i rfl⟩
  simp only [cc0_banded_attn_eq_skeleton]; unfold cc0_banded_attn_skel
  simp only [k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  subst hf0 hf1 hf2 hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ (outPieces (attn _ _ _ (fun sb => arg9.view.readCov (biasPieces _ i) (rb i sb)) i)) (cover_out _)).trans ?_
    exact congrArg (fun b => out _ _ _ b i) (funext fun sb => View.readCov_eq_canon_ld _ _ _ (cover_bias _ i))
  iexists _; isplitr
  swap; · iexact HS0
  ipureintro
  exact View.read_writes_eq_canon _ _ (biasPieces _ i) (cover_bias _ i)

end Cert.BandedIdeal.Hand

end
-- ==== Proof.K.BRunB.lean ====
module

public import proofs.«01_k».proof.Proof.K.BOut

@[expose] public section

set_option maxRecDepth 16384

noncomputable section

namespace Cert.BandedIdeal.Hand

open Cert.BandedIdeal Cert.BandedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- The body at a later query block reads the bias scratch as it finds it. -/
theorem runB (c : Dev nD) (i : grid0.Coords) (arg4 : Memref sig .tc .smem S16 .f32) (harg4 : arg4.IsWhole) (arg5 : Memref sig .tc .smem S16 .f32) (harg5 : arg5.IsWhole) (arg6 : Memref sig .tc .vmem S1x512x512 .bf16) (harg6 : arg6.IsWhole) (arg7 : Memref sig .tc .vmem S1x8192x128 .bf16) (harg7 : arg7.IsWhole) (arg8 : Memref sig .tc .vmem S1x512x512 .f32) (harg8 : arg8.IsWhole) (arg9 : Memref sig .tc .vmem S2x1024x256 .f32) (harg9 : arg9.IsWhole) (hc0 : ¬ k0_cond1 i = 1#1)
    (x0 : Vec F S16 .f32) (x1 : Vec F S16 .f32) (x2 : Vec F S1x512x512 .bf16) (x3 : Vec F S1x8192x128 .bf16) (b : Vec F S2x1024x256 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare b
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (out x1 x2 x3 (fun sb => View.ld b (rb i sb)) i) ∗ owns (c : Thread nD τ) arg9 fullShare b) -∗ K ⟨⟩))
      ⊢ wp frame (wpE (defs₀ (F := F)) Variants.none c none) E (cc0_banded_attn i arg4 harg4 arg5 harg5 arg6 harg6 arg7 harg7 arg8 harg8 arg9 harg9) K := by
  have hi := fun h => hc0 ((cond1_iff i).mpr h)
  letI : ClosedOff (k0_off4 i (BitVec.ofNat 32 0)) := ⟨![0, 0, 0], off4_later (i 3) hi 0 i rfl⟩
  letI : ClosedOff (k0_off4 i (BitVec.ofNat 32 128)) := ⟨![0, 0, 0], off4_later (i 3) hi 1 i rfl⟩
  letI : ClosedOff (k0_off4 i (BitVec.ofNat 32 256)) := ⟨![0, 0, 0], off4_later (i 3) hi 2 i rfl⟩
  letI : ClosedOff (k0_off4 i (BitVec.ofNat 32 384)) := ⟨![0, 0, 0], off4_later (i 3) hi 3 i rfl⟩
  simp only [cc0_banded_attn_eq_skeleton]; unfold cc0_banded_attn_skel
  simp only [k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  subst hf0 hf1 hf2 hf3 hfs0
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ (outPieces (attn _ _ _ (fun sb => View.ld (arg9.view.read (Elt F) fs0) (rb i sb)) i)) (cover_out _)
  iexists _; isplitr
  swap; · iexact HS0
  ipureintro
  rfl

end Cert.BandedIdeal.Hand

end
-- ==== Proof.K.BFrame.lean ====
module

public import proofs.«01_k».proof.Proof.K.BRunA
public import proofs.«01_k».proof.Proof.K.BRunB
public import Idealize.ShloMosaic.Lib.Claim
public import Idealize.ShloMosaic.Lib.WordCmp

@[expose] public section

set_option maxRecDepth 16384

noncomputable section

namespace Cert.BandedIdeal.Hand

open Cert.BandedIdeal Cert.BandedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The staging buffers the body is called with at a point, and the bias scratch. -/
abbrev ms0 (t : Fin cfg0.N) : Memref sig .tc .smem S16 .f32 := win0_0.stage (cfg0.slots t 0)
abbrev ms1 (t : Fin cfg0.N) : Memref sig .tc .smem S16 .f32 := win0_1.stage (cfg0.slots t 1)
abbrev ms2 (t : Fin cfg0.N) : Memref sig .tc .vmem S1x512x512 .bf16 := win0_2.stage (cfg0.slots t 2)
abbrev ms3 (t : Fin cfg0.N) : Memref sig .tc .vmem S1x8192x128 .bf16 := win0_3.stage (cfg0.slots t 3)
abbrev ms4 (t : Fin cfg0.N) : Memref sig .tc .vmem S1x512x512 .f32 := win0_4.stage (cfg0.slots t 4)
abbrev scr : Memref sig .tc .vmem S2x1024x256 .f32 := Memref.whole cc0_scratch0

theorem points : cfg0.N = 64 := N_0

/-- The bias is filled at the points that are multiples of 16. -/
theorem fills (t : Fin cfg0.N) : k0_cond1 (grid0.coords t) = 1#1 ↔ t.val % 16 = 0 := by
  have e3 : (grid0.coords t 3).val = t.val / 1 % 16 := Pipeline.Grid.coords_val t 3 (by decide) rfl
  rw [cond1_iff, e3, Nat.div_one]

/-- The point that filled the bias scratch as it stands when `n` points are done. -/
def filler (n : ℕ) : Fin cfg0.N := ⟨16 * (n / 16 % 4), by have := points; omega⟩

theorem filler_self (t : Fin cfg0.N) (h : t.val % 16 = 0) : filler t.val = t := by
  have := points; have := t.isLt; apply Fin.ext; simp only [filler]; omega

theorem filler_succ (n : ℕ) (h : (n + 1) % 16 ≠ 0) : filler (n + 1) = filler n := by
  apply Fin.ext; simp only [filler]; omega

/-- What the bias scratch holds when `n` points are done, unless a new head group begins there. -/
def held (c : Dev nD) (n : ℕ) : Vec F S2x1024x256 .f32 := bias (iblk m c 0 (filler n)) (grid0.coords (filler n))

/-- The scratch between points: anything where a new head group begins, the group's bias inside it. -/
def carried (c : Dev nD) (n : ℕ) : sProp 𝕄 :=
  if n % 16 = 0 then iprop(∃ d, owns (c : Thread nD τ) scr fullShare d) else owns (c : Thread nD τ) scr fullShare (held m c n)

/-- What the body writes at a point. -/
def written (c : Dev nD) (t : Fin cfg0.N) : Vec F S1x512x512 .f32 :=
  out (iblk m c 1 t) (iblk m c 2 t) (iblk m c 3 t) (fun sb => View.ld (held m c t.val) (rb (grid0.coords t) sb)) (grid0.coords t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => written m c t
  Φ p := iprop(carried m c p.val ∗ (∃ r, prngReg c r))
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = written m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- After a point, the bias of its group is what the next point finds. -/
theorem carried_succ (c : Dev nD) (n : ℕ) : owns (c : Thread nD τ) scr fullShare (held m c n) ⊢ carried m c (n + 1) := by
  unfold carried
  by_cases h : (n + 1) % 16 = 0
  · rw [if_pos h]; iintro H; iexists _; iexact H
  · rw [if_neg h]
    have : held m c (n + 1) = held m c n := by unfold held; rw [filler_succ n h]
    rw [this]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3, after4]
  rw [show (dats m 0 c).Φ t.castSucc = iprop(carried m c t.val ∗ (∃ r, prngReg c r)) from rfl,
    show (dats m 0 c).Φ t.succ = iprop(carried m c (t.val + 1) ∗ (∃ r, prngReg c r)) from rfl]
  by_cases h0 : t.val % 16 = 0
  · rw [show carried m c t.val = iprop(∃ d, owns (c : Thread nD τ) scr fullShare d) from if_pos h0]
    have hw : written m c t = out (iblk m c 1 t) (iblk m c 2 t) (iblk m c 3 t) (fun sb => View.ld (bias (iblk m c 0 t) (grid0.coords t)) (rb (grid0.coords t) sb)) (grid0.coords t) := by
      unfold written held; rw [filler_self t h0]
    have hh : held m c t.val = bias (iblk m c 0 t) (grid0.coords t) := by unfold held; rw [filler_self t h0]
    rw [hw]
    iintro ⟨⟨HS0, Hg⟩, Ho, ⟨%d0, H0⟩, ⟨%d1, H1⟩, ⟨%d2, H2⟩, ⟨%d3, H3⟩, ⟨%d4, H4⟩⟩
    iapply (runA c (grid0.coords t) _ _ _ _ _ _ _ _ _ _ _ _ ((fills t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [HS0 Hg]
    · isplitl [HS0]
      · iapply (carried_succ m c t.val); rw [hh]; iexact HS0
      iexact Hg
    isplitl [Ho]; · iexact Ho
    isplitl [H0]; · iexact H0
    isplitl [H1]; · iexact H1
    isplitl [H2]; · iexact H2
    isplitl [H3]; · iexact H3
    iexact H4
  · rw [show carried m c t.val = owns (c : Thread nD τ) scr fullShare (held m c t.val) from if_neg h0]
    iintro ⟨⟨HS0, Hg⟩, Ho, ⟨%d0, H0⟩, ⟨%d1, H1⟩, ⟨%d2, H2⟩, ⟨%d3, H3⟩, ⟨%d4, H4⟩⟩
    iapply (runB c (grid0.coords t) _ _ _ _ _ _ _ _ _ _ _ _ (fun h => h0 ((fills t).mp h)) (iblk m c 0 t) (iblk m c 1 t) (iblk m c 2 t) (iblk m c 3 t) (held m c t.val) Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [HS0 Hg]
    · isplitl [HS0]
      · iapply (carried_succ m c t.val); iexact HS0
      iexact Hg
    isplitl [Ho]; · iexact Ho
    isplitl [H0]; · iexact H0
    isplitl [H1]; · iexact H1
    isplitl [H2]; · iexact H2
    isplitl [H3]; · iexact H3
    iexact H4

theorem body_row (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  exact triple_restated (sound_body m c t) rfl .rfl fun _ => .rfl

theorem atRest (c : Dev nD) : (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

theorem enters (c : Dev nD) : (Pipeline.ΦA spec0 c : sProp 𝕄) ⊢ (dats m 0 c).Φ 0 := by
  rw [atRest, show (dats m 0 c).Φ 0 = iprop(carried m c 0 ∗ (∃ r, prngReg c r)) from rfl,
    show carried m c 0 = iprop(∃ d, owns (c : Thread nD τ) scr fullShare d) from if_pos rfl]

theorem leaves (c : Dev nD) : (dats m 0 c).Φ (Fin.last cfg0.N) ⊢ (Pipeline.ΦA spec0 c : sProp 𝕄) := by
  rw [atRest, show (dats m 0 c).Φ (Fin.last cfg0.N) = iprop(carried m c cfg0.N ∗ (∃ r, prngReg c r)) from rfl,
    show carried m c cfg0.N = iprop(∃ d, owns (c : Thread nD τ) scr fullShare d) from if_pos (by rw [points])]

set_option backward.isDefEq.respectTransparency.types false in
/-- The launch: every execution ends with the arrays at what the points wrote and every counter at zero. -/
theorem launched : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hin := enters m) (hout := leaves m)

theorem run_main : θ_run defs (onTc (τ := τ) (main (F := F))) (s₀ m ρ) (Pipeline.FramePost cfgs (dats m) 0 (V m)) :=
  (θ_run defs _ _).mono (fun _ h => h.1) (launched m ρ)

/-- The frame: the arguments end as they were and every counter is at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (launched m ρ))

end Cert.BandedIdeal.Hand

end
-- ==== Proof.P.BFrame.lean ====
module

public import proofs.«01_k».proof.Proof.K.BFrame
public import proofs.«01_k».proof.Proof.Gen.Banded

@[expose] public section

set_option maxRecDepth 16384

noncomputable section

namespace Cert.Banded.Hand

open Cert.Banded Cert.Banded.Gen
open Idealize.ShloMosaic Idealize.ShloMosaic.TcCoe Idealize.SL.Sem

variable {F : FTy → Type} [FloatOps F]

/-- Every named number read as the number written. -/
@[reducible] def plain : Named F := ⟨fun _ _ {φ} bits => Scalar.ofBits φ bits⟩

/-- The body is the idealized one, its named number read as written. -/
theorem bodies_eq : letI : Named F := plain; defs₀ (F := F) = Cert.BandedIdeal.defs₀ (F := F) := by
  unfold defs₀ Cert.BandedIdeal.defs₀
  refine congrArg Defs.onTc (funext fun l => funext fun x => ?_)
  match l, x with
  | ⟨0, _⟩, (t, s) => rfl

theorem defs_eq : letI : Named F := plain; defs (F := F) = Cert.BandedIdeal.defs (F := F) := by
  unfold defs Cert.BandedIdeal.defs
  exact congrArg (Pipeline.defs (pcfgs (F := F))) bodies_eq

/-- The frame: the arguments end as they were and every counter is at zero. -/
theorem frame_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  letI : Named F := plain
  (congrArg (fun D => θ_run D (onTc (τ := τ) (main (F := F))) ⟨m, fun _ => 0, ρ⟩ _) defs_eq).mpr
    (Cert.BandedIdeal.Hand.frame_all (F := F) m ρ)

end Cert.Banded.Hand

end
-- ==== Proof.V.Row.lean ====
module

public import Idealize.ShloMosaic.Lib.Pointwise

@[expose] public section

noncomputable section

namespace Cert.Row

open Idealize.ShloMosaic

variable {ι κ : Type} [Fintype ι] [Fintype κ]

/-- A row of attention with a sink: the values weighted by the exponentials of the scores of the admitted
    positions, over those exponentials' sum and the sink's. -/
def att (ok : ι → Prop) [DecidablePred ok] (S V : ι → ℝ) (s : ℝ) : ℝ :=
  (∑ l, if ok l then Real.exp (S l) * V l else 0) / ((∑ l, if ok l then Real.exp (S l) else 0) + Real.exp s)

theorem coe_sum (f : ι → ℝ) : ((∑ l, f l : ℝ) : EReal) = ∑ l, (f l : EReal) := by
  classical
  refine Finset.induction_on (Finset.univ : Finset ι) (by simp) ?_
  intro a t ha ih
  rw [Finset.sum_insert ha, Finset.sum_insert ha, EReal.coe_add, ih]

/-- The largest of scores below infinity and a real sink is a real number. -/
theorem top_real (f : ι → EReal) (hf : ∀ l, f l ≠ ⊤) (s : ℝ) :
    ∃ μ : ℝ, max (Finset.univ.fold max (⊥ : EReal) f) (s : EReal) = μ := by
  have h1 : max (Finset.univ.fold max (⊥ : EReal) f) (s : EReal) ≠ ⊥ :=
    ne_of_gt (lt_of_lt_of_le (EReal.bot_lt_coe s) (le_max_right _ _))
  have h2 : max (Finset.univ.fold max (⊥ : EReal) f) (s : EReal) ≠ ⊤ := by
    refine ne_of_lt (max_lt ?_ (EReal.coe_lt_top s))
    exact (Finset.fold_max_lt _).mpr ⟨bot_lt_top, fun l _ => lt_of_le_of_ne le_top (hf l)⟩
  exact ⟨_, (EReal.coe_toReal h2 h1).symm⟩

/-- The weights may be taken relative to any real number. -/
theorem att_shift (ok : ι → Prop) [DecidablePred ok] (S V : ι → ℝ) (s μ : ℝ) :
    (∑ l, (if ok l then Real.exp (S l - μ) else 0) * V l)
      / ((∑ l, if ok l then Real.exp (S l - μ) else 0) + Real.exp (s - μ)) = att ok S V s := by
  have hμ : Real.exp (-μ) ≠ 0 := (Real.exp_pos _).ne'
  have h (x : ℝ) : Real.exp (x - μ) = Real.exp x * Real.exp (-μ) := by rw [sub_eq_add_neg, Real.exp_add]
  have e1 : (∑ l, (if ok l then Real.exp (S l - μ) else 0) * V l)
      = (∑ l, if ok l then Real.exp (S l) * V l else 0) * Real.exp (-μ) := by
    rw [Finset.sum_mul]
    refine Finset.sum_congr rfl fun l _ => ?_
    split
    · rw [h]; ring
    · simp
  have e2 : (∑ l, if ok l then Real.exp (S l - μ) else 0)
      = (∑ l, if ok l then Real.exp (S l) else 0) * Real.exp (-μ) := by
    rw [Finset.sum_mul]
    refine Finset.sum_congr rfl fun l _ => ?_
    split
    · rw [h]
    · simp
  rw [e1, e2, h, ← add_mul, mul_div_mul_right _ _ hμ]; rfl

theorem total_pos (ok : ι → Prop) [DecidablePred ok] (S : ι → ℝ) (s : ℝ) :
    0 < (∑ l, if ok l then Real.exp (S l) else 0) + Real.exp s := by
  refine add_pos_of_nonneg_of_pos (Finset.sum_nonneg fun l _ => ?_) (Real.exp_pos s)
  split
  · exact (Real.exp_pos _).le
  · exact le_rfl

/-- A row whose excluded scores are the least element, as the kernel computes it: one division at the end. -/
theorem open_row (ok : ι → Prop) [DecidablePred ok] (S V : ι → ℝ) (s : ℝ) (f : ι → EReal)
    (hf : ∀ l, f l = if ok l then ((S l : ℝ) : EReal) else ⊥) :
    Ideal.div (∑ l, Ideal.exp (f l - max (Finset.univ.fold max (⊥ : EReal) f) s) * ((V l : ℝ) : EReal))
      ((∑ l, Ideal.exp (f l - max (Finset.univ.fold max (⊥ : EReal) f) s))
        + Ideal.exp ((s : EReal) - max (Finset.univ.fold max (⊥ : EReal) f) s)) = (att ok S V s : ℝ) := by
  obtain ⟨μ, hμ⟩ := top_real f (fun l => by rw [hf]; split <;> simp) s
  rw [hμ]
  have he (l : ι) : Ideal.exp (f l - (μ : EReal)) = ((if ok l then Real.exp (S l - μ) else 0 : ℝ) : EReal) := by
    rw [hf]; split
    · rw [← EReal.coe_sub, Ideal.exp_coe]
    · rw [EReal.bot_sub, Ideal.exp_bot, EReal.coe_zero]
  simp only [he]
  rw [← EReal.coe_sub, Ideal.exp_coe, ← coe_sum, ← EReal.coe_add]
  simp only [← EReal.coe_mul]
  rw [← coe_sum, Ideal.div_coe (total_pos ok (fun l => S l - μ) (s - μ)).ne', ← EReal.coe_mul, ← att_shift ok S V s μ,
    mul_one_div]

/-- A row whose excluded scores are some real number and whose excluded weights are put to zero, as the reference
    computes it: every weight divided by the total. -/
theorem closed_row (ok : ι → Prop) [DecidablePred ok] (S V : ι → ℝ) (s : ℝ) (f e : ι → EReal) (D one : EReal)
    (hf : ∀ l, ∃ x : ℝ, f l = x ∧ (ok l → x = S l))
    (he : ∀ l, e l = if ok l then Ideal.exp (f l - max (Finset.univ.fold max (⊥ : EReal) f) s) else 0)
    (hD : D = (∑ l, e l) + Ideal.exp ((s : EReal) - max (Finset.univ.fold max (⊥ : EReal) f) s)) :
    (∑ l, ((V l : ℝ) : EReal) * Ideal.div (e l) (if 0 < D then D else one)) = (att ok S V s : ℝ) := by
  obtain ⟨μ, hμ⟩ := top_real f (fun l => by obtain ⟨x, hx, -⟩ := hf l; rw [hx]; exact EReal.coe_ne_top x) s
  rw [hμ] at hD
  have he' (l : ι) : e l = ((if ok l then Real.exp (S l - μ) else 0 : ℝ) : EReal) := by
    rw [he, hμ]; split
    · next h =>
      obtain ⟨x, hx, hS⟩ := hf l
      rw [hx, hS h, ← EReal.coe_sub, Ideal.exp_coe]
    · rw [EReal.coe_zero]
  simp only [he'] at hD ⊢
  rw [← EReal.coe_sub, Ideal.exp_coe, ← coe_sum, ← EReal.coe_add] at hD
  have hp := total_pos ok (fun l => S l - μ) (s - μ)
  rw [hD, if_pos (EReal.coe_pos.mpr hp)]
  simp only [Ideal.div_coe hp.ne', ← EReal.coe_mul]
  rw [← coe_sum, ← att_shift ok S V s μ, Finset.sum_div]
  refine congrArg _ (Finset.sum_congr rfl fun l _ => ?_)
  ring

/-- A row over a window that holds every admitted position is the row over all positions. -/
theorem att_window (w : κ → ι) (hw : Function.Injective w) (ok : ι → Prop) [DecidablePred ok]
    (hok : ∀ l, ok l → ∃ c, w c = l) (S V : ι → ℝ) (s : ℝ) :
    att (fun c => ok (w c)) (fun c => S (w c)) (fun c => V (w c)) s = att ok S V s := by
  have key (g : ι → ℝ) : (∑ c, if ok (w c) then g (w c) else 0) = ∑ l, if ok l then g l else 0 := by
    refine Finset.sum_of_injOn w (hw.injOn) (fun _ _ => Finset.mem_coe.mpr (Finset.mem_univ _)) ?_ (fun _ _ => rfl)
    intro l _ hl
    refine if_neg fun h => hl ?_
    obtain ⟨c, hc⟩ := hok l h
    exact ⟨c, Finset.mem_coe.mpr (Finset.mem_univ c), hc⟩
  unfold att
  rw [key fun l => Real.exp (S l) * V l, key fun l => Real.exp (S l)]

end Cert.Row

end
-- ==== Proof.V.Band.lean ====
module

public import proofs.«01_k».proof.Proof.V.Row

@[expose] public section

noncomputable section

namespace Cert.Row

open Idealize.ShloMosaic

/-! ## Distances as words -/

theorem gap_int (A B : ℕ) (hA : A < 2 ^ 20) (hB : B < 2 ^ 20) :
    (IntOp.subi (BitVec.ofNat 32 A) (BitVec.ofNat 32 B)).toInt = (A : ℤ) - B := by
  have h1 : (BitVec.ofNat 32 A).toInt = A := by
    rw [BitVec.toInt_ofNat']; exact Int.bmod_eq_of_le (by omega) (by omega)
  have h2 : (BitVec.ofNat 32 B).toInt = B := by
    rw [BitVec.toInt_ofNat']; exact Int.bmod_eq_of_le (by omega) (by omega)
  unfold IntOp.subi
  rw [BitVec.toInt_sub, h1, h2]
  exact Int.bmod_eq_of_le (by omega) (by omega)

/-- The distance of two positions, read as a real number. -/
theorem gap_real (A B : ℕ) (hA : A < 2 ^ 20) (hB : B < 2 ^ 20) :
    FloatOps.sitofp (F := Ideal) .f32 (IntOp.subi (BitVec.ofNat 32 A) (BitVec.ofNat 32 B)) = (((A : ℝ) - B : ℝ) : EReal) := by
  show (((IntOp.subi (BitVec.ofNat 32 A) (BitVec.ofNat 32 B)).toInt : ℝ) : EReal) = _
  rw [gap_int A B hA hB]
  push_cast
  rfl

theorem bit_and (p q : Bool) : (IntOp.andi (BitVec.ofBool p) (BitVec.ofBool q) = 1) ↔ (p = true ∧ q = true) := by
  cases p <;> cases q <;> decide

/-- The band's test: the key is not after the query and at most 128 before it. -/
theorem band_select {α : Type} (A B : ℕ) (hA : A < 2 ^ 20) (hB : B < 2 ^ 20) (x y : α) :
    Scalar.select (IntOp.andi (IntOp.cmpi .sge (IntOp.subi (BitVec.ofNat 32 A) (BitVec.ofNat 32 B)) 0#32)
        (IntOp.cmpi .sle (IntOp.subi (BitVec.ofNat 32 A) (BitVec.ofNat 32 B)) 128#32)) x y
      = if B ≤ A ∧ A ≤ B + 128 then x else y := by
  unfold Scalar.select IntOp.cmpi
  refine if_congr ?_ rfl rfl
  rw [bit_and, BitVec.sle_iff_toInt_le, BitVec.sle_iff_toInt_le, gap_int A B hA hB]
  have h0 : (0#32 : BitVec 32).toInt = 0 := by decide
  have h128 : (128#32 : BitVec 32).toInt = 128 := by decide
  rw [h0, h128]
  omega

/-- The word of minus infinity. -/
theorem least : Ideal.ofBits .f32 0xFF800000#32 = (⊥ : EReal) := by
  simp [Ideal.ofBits, Ideal.ieee]

/-- A finite large negative word is a real number. -/
theorem large_neg : ∃ x : ℝ, Ideal.ofBits .f32 0xF149F2CA#32 = (x : EReal) := by
  refine ⟨(Ideal.ofBits .f32 0xF149F2CA#32).toReal, (EReal.coe_toReal ?_ ?_).symm⟩ <;> simp [Ideal.ofBits, Ideal.ieee]
  · rw [← EReal.coe_pow, ← EReal.coe_mul]
    exact EReal.coe_ne_bot _
  · rw [← EReal.coe_pow, ← EReal.coe_mul]
    exact EReal.coe_ne_top _

/-! ## The banded layer over the reals -/

variable (Q : Fin 2 → Fin 8192 → Fin 1024 → ℝ) (KV : Fin 2 → Fin 8192 → Fin 256 → ℝ) (SL SK : Fin 16 → ℝ)

/-- The score of key `l` for query `T` of head `8 a + b`: the product, less the slope times the distance. -/
def score (n a : Fin 2) (b : Fin 8) (T l : Fin 8192) : ℝ :=
  (∑ x : Fin 64, Q n T ⟨a.val * 512 + b.val * 64 + x.val, by omega⟩ * KV n l ⟨a.val * 128 + x.val, by omega⟩)
    - SL ⟨a.val * 8 + b.val, by omega⟩ * ((T.val : ℝ) - l.val)

/-- Value `d` of key `l`. -/
def value (n a : Fin 2) (d : Fin 64) (l : Fin 8192) : ℝ := KV n l ⟨a.val * 128 + 64 + d.val, by omega⟩

/-- One element of the layer's result. -/
def layer (n a : Fin 2) (b : Fin 8) (T : Fin 8192) (d : Fin 64) : ℝ :=
  att (fun l : Fin 8192 => l.val ≤ T.val ∧ T.val ≤ l.val + 128) (score Q KV SL n a b T) (value KV n a d)
    (SK ⟨a.val * 8 + b.val, by omega⟩)

end Cert.Row

end
-- ==== Proof.V.BPage.lean ====
module

public import proofs.«01_k».proof.Proof.K.BOut
public import proofs.«01_k».proof.Proof.V.Band
public import Idealize.ShloMosaic.Lib.Pointwise
public import Idealize.ShloMosaic.Lib.Pipeline.ValueKit

@[expose] public section

set_option maxRecDepth 16384

noncomputable section

namespace Cert.BandedIdeal.Val

open Cert.BandedIdeal Cert.BandedIdeal.Gen Cert.BandedIdeal.Hand Cert.Row
open Idealize.ShloMosaic Idealize.ShloMosaic.TcCoe Idealize.ShloMosaic.Pointwise

/-! ## The words the body computes with rows and positions -/

theorem low_bits : ∀ r : Fin 1024, IntOp.andi (BitVec.ofNat 32 r.val) 127#32 = BitVec.ofNat 32 (r.val % 128) := by
  decide +kernel

theorem high_bits : ∀ r : Fin 1024, IntOp.shrsi .vector (BitVec.ofNat 32 r.val) 7#32 = BitVec.ofNat 32 (r.val / 128) := by
  decide +kernel

/-- The body's choice of a head's number by the row of the stacked heads. -/
theorem head_select (v : Fin 8 → EReal) (r : Fin 1024) :
    Scalar.select (IntOp.cmpi .eq (IntOp.shrsi .vector (BitVec.ofNat 32 r.val) 7#32) 7#32) (v 7)
      (Scalar.select (IntOp.cmpi .eq (IntOp.shrsi .vector (BitVec.ofNat 32 r.val) 7#32) 6#32) (v 6)
      (Scalar.select (IntOp.cmpi .eq (IntOp.shrsi .vector (BitVec.ofNat 32 r.val) 7#32) 5#32) (v 5)
      (Scalar.select (IntOp.cmpi .eq (IntOp.shrsi .vector (BitVec.ofNat 32 r.val) 7#32) 4#32) (v 4)
      (Scalar.select (IntOp.cmpi .eq (IntOp.shrsi .vector (BitVec.ofNat 32 r.val) 7#32) 3#32) (v 3)
      (Scalar.select (IntOp.cmpi .eq (IntOp.shrsi .vector (BitVec.ofNat 32 r.val) 7#32) 2#32) (v 2)
      (Scalar.select (IntOp.cmpi .eq (IntOp.shrsi .vector (BitVec.ofNat 32 r.val) 7#32) 1#32) (v 1)
      (Scalar.select (IntOp.cmpi .eq (IntOp.shrsi .vector (BitVec.ofNat 32 r.val) 7#32) 0#32) (v 0) 0)))))))
      = v ⟨r.val / 128, by omega⟩ := by
  rw [high_bits]
  have main : ∀ (g : ℕ) (hg : g < 8),
    Scalar.select (IntOp.cmpi .eq (BitVec.ofNat 32 g) 7#32) (v 7)
      (Scalar.select (IntOp.cmpi .eq (BitVec.ofNat 32 g) 6#32) (v 6)
      (Scalar.select (IntOp.cmpi .eq (BitVec.ofNat 32 g) 5#32) (v 5)
      (Scalar.select (IntOp.cmpi .eq (BitVec.ofNat 32 g) 4#32) (v 4)
      (Scalar.select (IntOp.cmpi .eq (BitVec.ofNat 32 g) 3#32) (v 3)
      (Scalar.select (IntOp.cmpi .eq (BitVec.ofNat 32 g) 2#32) (v 2)
      (Scalar.select (IntOp.cmpi .eq (BitVec.ofNat 32 g) 1#32) (v 1)
      (Scalar.select (IntOp.cmpi .eq (BitVec.ofNat 32 g) 0#32) (v 0) 0))))))) = v ⟨g, hg⟩ := by
    intro g hg
    match g, hg with
    | 0, _ => rfl
    | 1, _ => rfl
    | 2, _ => rfl
    | 3, _ => rfl
    | 4, _ => rfl
    | 5, _ => rfl
    | 6, _ => rfl
    | 7, _ => rfl
  exact main _ _

/-- The body's distance of a query row from a lane, the queries `k` rows after the window's first key. -/
theorem dist_word (k : ℕ) (r : Fin 1024) (c : Fin 256) :
    IntOp.muli (IntOp.subi (IntOp.addi (BitVec.ofNat 32 k) (IntOp.andi (BitVec.ofNat 32 r.val) 127#32)) (BitVec.ofNat 32 c.val)) 1#32
      = IntOp.subi (BitVec.ofNat 32 (k + r.val % 128)) (BitVec.ofNat 32 c.val) := by
  rw [low_bits]
  unfold IntOp.muli IntOp.addi
  rw [BitVec.mul_one, BitVec.ofNat_add]

/-! ## The pages of the bias and the sinks -/

/-- Head `g`'s word is the table's, at the group's eight entries. -/
theorem word_at (x : Vec Ideal S16 .f32) (i : grid0.Coords) (g : Fin 8) :
    word x i g = x (ix1 ⟨(i 2).val * 8 + g.val, by have h : (i 2).val < 2 := (i 2).isLt; omega⟩) := by
  have h : ∀ a : Fin 2, ∀ g : Fin 8, (let w : BitVec 32 := Scalar.addi (Scalar.muli (BitVec.ofNat 32 a.val) 8#32) (BitVec.ofNat 32 g.val)
       (Scalar.indexCast w).toNat) = a.val * 8 + g.val := by decide +kernel
  unfold word
  refine View.ld_unit_apply_of x _ _ _ _ _ fun a => ?_
  match a with
  | ⟨0, _⟩ => exact (h (i 2) g).symm

theorem sink_row (x : Vec Ideal S16 .f32) (i : grid0.Coords) (r : Fin 1024) :
    sink x i (ix2 r 0) = word x i ⟨r.val / 128, by omega⟩ := by
  rw [← head_select (word x i) r]
  pointwise [sink, k0_pay18, k0_pay15, k0_pay16, k0_pay17]

/-- One element of a bias page: minus the slope times the distance in the band, minus infinity outside it. -/
def pageAt (k : ℕ) (v : Fin 8 → EReal) (r : Fin 1024) (c : Fin 256) : EReal :=
  if c.val ≤ k + r.val % 128 ∧ k + r.val % 128 ≤ c.val + 128 then
    0 - v ⟨r.val / 128, by omega⟩ * ((((k + r.val % 128 : ℕ) : ℝ) - c.val : ℝ) : EReal)
  else ⊥

theorem page_of (k : ℕ) (hk : k < 1024) (v : Fin 8 → EReal) (r : Fin 1024) (c : Fin 256) (s : EReal)
    (hs : s = v ⟨r.val / 128, by omega⟩) :
    Scalar.select (IntOp.andi
      (IntOp.cmpi .sge (IntOp.muli (IntOp.subi (IntOp.addi (BitVec.ofNat 32 k) (IntOp.andi (BitVec.ofNat 32 r.val) 127#32)) (BitVec.ofNat 32 c.val)) 1#32) 0#32)
      (IntOp.cmpi .sle (IntOp.muli (IntOp.subi (IntOp.addi (BitVec.ofNat 32 k) (IntOp.andi (BitVec.ofNat 32 r.val) 127#32)) (BitVec.ofNat 32 c.val)) 1#32) 128#32))
      (0 - s * FloatOps.sitofp (F := Ideal) .f32
        (IntOp.muli (IntOp.subi (IntOp.addi (BitVec.ofNat 32 k) (IntOp.andi (BitVec.ofNat 32 r.val) 127#32)) (BitVec.ofNat 32 c.val)) 1#32))
      (Named.named (F := Ideal) (φ := .f32) κ "mask" 0xF149F2CA#32)
      = pageAt k v r c := by
  rw [dist_word, band_select _ _ (by omega) (by omega), gap_real _ _ (by omega) (by omega), hs]
  unfold pageAt
  refine if_congr Iff.rfl rfl ?_
  exact IdealRules.named_const.ideal_named_scalar _ _ _ _ rfl

theorem page0_at (x : Vec Ideal S16 .f32) (i : grid0.Coords) (r : Fin 1024) (c : Fin 256) :
    page0 x i (ix3 0 r c) = pageAt 128 (word x i) r c := by
  rw [← page_of 128 (by omega) (word x i) r c _ (head_select (word x i) r)]
  pointwise [page0, k0_pay12, k0_pay11, k0_pay9, k0_pay10, k0_pay8, k0_pay7, lanes]

theorem page1_at (x : Vec Ideal S16 .f32) (i : grid0.Coords) (r : Fin 1024) (c : Fin 256) :
    page1 x i (ix3 0 r c) = pageAt 0 (word x i) r c := by
  rw [← page_of 0 (by omega) (word x i) r c _ (head_select (word x i) r)]
  pointwise [page1, k0_pay14, k0_pay13, k0_pay11, k0_pay9, k0_pay10, k0_pay8, k0_pay7, lanes]

theorem pageAt_congr {k k' : ℕ} (v : Fin 8 → EReal) {r r' : Fin 1024} {c c' : Fin 256} (hk : k = k') (hr : r = r') (hc : c = c') :
    pageAt k v r c = pageAt k' v r' c' := by
  rw [hk, hr, hc]

/-- The filled scratch at any of its places: page 0 serves the ordinary windows, page 1 the clipped one. -/
theorem bias_at (x : Vec Ideal S16 .f32) (i : grid0.Coords) (p : Fin 2) (r : Fin 1024) (c : Fin 256) :
    bias x i (ix3 p r c) = pageAt (if p.val = 0 then 128 else 0) (word x i) r c := by
  unfold bias
  refine View.canon_apply_of_pieces (fun y : S2x1024x256.Idx => pageAt (if (y 0).val = 0 then 128 else 0) (word x i) (y 1) (y 2)) _ ?_
    (ix3 p r c) (cover_bias x i _)
  intro q hq y
  rcases List.mem_cons.mp hq with rfl | hq
  · obtain ⟨a, r, c, rfl⟩ : ∃ (a : Fin 1) (r : Fin 1024) (c : Fin 256), y = ix3 a r c :=
      ⟨y 0, y 1, y 2, by funext ax; match ax with | ⟨0, _⟩ => rfl | ⟨1, _⟩ => rfl | ⟨2, _⟩ => rfl⟩
    obtain rfl : a = 0 := Subsingleton.elim _ _
    refine (page1_at x i r c).trans ?_
    refine pageAt_congr _ ?_ (Fin.ext ?_) (Fin.ext ?_)
    · rfl
    · exact ((Rect.idx_unit_val (s := S2x1024x256) ![1, 0, 0] S1x1024x256.size inb_S2x1024x256_S1x1024x256_1_0_0 (ix3 0 r c) 1).trans (Nat.zero_add _)).symm
    · exact ((Rect.idx_unit_val (s := S2x1024x256) ![1, 0, 0] S1x1024x256.size inb_S2x1024x256_S1x1024x256_1_0_0 (ix3 0 r c) 2).trans (Nat.zero_add _)).symm
  · obtain rfl := List.mem_singleton.mp hq
    obtain ⟨a, r, c, rfl⟩ : ∃ (a : Fin 1) (r : Fin 1024) (c : Fin 256), y = ix3 a r c :=
      ⟨y 0, y 1, y 2, by funext ax; match ax with | ⟨0, _⟩ => rfl | ⟨1, _⟩ => rfl | ⟨2, _⟩ => rfl⟩
    obtain rfl : a = 0 := Subsingleton.elim _ _
    refine (page0_at x i r c).trans ?_
    refine pageAt_congr _ ?_ (Fin.ext ?_) (Fin.ext ?_)
    · rfl
    · exact ((Rect.idx_unit_val (s := S2x1024x256) ![0, 0, 0] S1x1024x256.size inb_S2x1024x256_S1x1024x256_0_0_0 (ix3 0 r c) 1).trans (Nat.zero_add _)).symm
    · exact ((Rect.idx_unit_val (s := S2x1024x256) ![0, 0, 0] S1x1024x256.size inb_S2x1024x256_S1x1024x256_0_0_0 (ix3 0 r c) 2).trans (Nat.zero_add _)).symm

end Cert.BandedIdeal.Val

end
-- ==== Proof.V.BTile.lean ====
module

public import proofs.«01_k».proof.Proof.V.BPage

@[expose] public section

set_option maxRecDepth 16384

noncomputable section

namespace Cert.BandedIdeal.Val

open Cert.BandedIdeal Cert.BandedIdeal.Gen Cert.BandedIdeal.Hand Cert.Row
open Idealize.ShloMosaic Idealize.ShloMosaic.TcCoe Idealize.ShloMosaic.Pointwise

/-! ## One row of the attention tile -/

variable (q : Fin 8 → Vec Ideal S1x128x64 .bf16) (r : Fin 1024) (x : Fin 64)

theorem stacked_leaf (g : Fin 8) (w : ℕ) (hw : w < 128) (h : r.val = 128 * g.val + w) :
    q g (ix3 0 ⟨w, hw⟩ x) = q ⟨r.val / 128, by omega⟩ (ix3 0 ⟨r.val % 128, by omega⟩ x) := by
  have hg : g = ⟨r.val / 128, by omega⟩ := Fin.ext (by show g.val = r.val / 128; omega)
  have hw' : (⟨w, hw⟩ : Fin 128) = ⟨r.val % 128, by omega⟩ := Fin.ext (by show w = r.val % 128; omega)
  rw [hw', ← hg]

/-- The stacked heads' queries: row `r` is row `r % 128` of head `r / 128`. -/
theorem stacked :
    (if h : r.val < 128 then q 0 (ix3 0 ⟨r.val, h⟩ x)
      else if h : r.val - 128 < 128 then q 1 (ix3 0 ⟨r.val - 128, h⟩ x)
      else if h : r.val - 128 - 128 < 128 then q 2 (ix3 0 ⟨r.val - 128 - 128, h⟩ x)
      else if h : r.val - 128 - 128 - 128 < 128 then q 3 (ix3 0 ⟨r.val - 128 - 128 - 128, h⟩ x)
      else if h : r.val - 128 - 128 - 128 - 128 < 128 then q 4 (ix3 0 ⟨r.val - 128 - 128 - 128 - 128, h⟩ x)
      else if h : r.val - 128 - 128 - 128 - 128 - 128 < 128 then q 5 (ix3 0 ⟨r.val - 128 - 128 - 128 - 128 - 128, h⟩ x)
      else if h : r.val - 128 - 128 - 128 - 128 - 128 - 128 < 128 then q 6 (ix3 0 ⟨r.val - 128 - 128 - 128 - 128 - 128 - 128, h⟩ x)
      else q 7 (ix3 0 ⟨r.val - 128 - 128 - 128 - 128 - 128 - 128 - 128, by omega⟩ x))
    = q ⟨r.val / 128, by omega⟩ (ix3 0 ⟨r.val % 128, by omega⟩ x) := by
  split_ifs
  · exact stacked_leaf q r x 0 _ _ (by show r.val = 128 * 0 + _; omega)
  · exact stacked_leaf q r x 1 _ _ (by show r.val = 128 * 1 + _; omega)
  · exact stacked_leaf q r x 2 _ _ (by show r.val = 128 * 2 + _; omega)
  · exact stacked_leaf q r x 3 _ _ (by show r.val = 128 * 3 + _; omega)
  · exact stacked_leaf q r x 4 _ _ (by show r.val = 128 * 4 + _; omega)
  · exact stacked_leaf q r x 5 _ _ (by show r.val = 128 * 5 + _; omega)
  · exact stacked_leaf q r x 6 _ _ (by show r.val = 128 * 6 + _; omega)
  · exact stacked_leaf q r x 7 _ _ (by show r.val = 128 * 7 + _; omega)

/-- The scores of a row over the window's keys, bias included. -/
def rowScore (kv : Vec Ideal S1x256x128 .bf16) (bl : Vec Ideal S1x1024x256 .f32) (c : Fin 256) : EReal :=
  (∑ y : Fin 64, q ⟨r.val / 128, by omega⟩ (ix3 0 ⟨r.val % 128, by omega⟩ y) * kv (ix3 0 c ⟨y.val, by omega⟩)) + bl (ix3 0 r c)

/-- One element of the attention tile: the values under the exponentials, over the total with the sink. -/
theorem tile_at (s : FVec Ideal S1024x1 .f32) (kv : Vec Ideal S1x256x128 .bf16) (bl : Vec Ideal S1x1024x256 .f32) (d : Fin 64) :
    k0_pay22 s (k0_pay19 kv) (k0_pay20 (q 0)) (k0_pay21 (q 1)) (q 2) (q 3) (q 4) (q 5) (q 6) (q 7) bl (ix2 r d)
    = Ideal.div
        (∑ c, Ideal.exp (rowScore q r kv bl c - max (Finset.univ.fold max (⊥ : EReal) (rowScore q r kv bl)) (s (ix2 r 0)))
          * kv (ix3 0 c ⟨64 + d.val, by omega⟩))
        ((∑ c, Ideal.exp (rowScore q r kv bl c - max (Finset.univ.fold max (⊥ : EReal) (rowScore q r kv bl)) (s (ix2 r 0))))
          + Ideal.exp (s (ix2 r 0) - max (Finset.univ.fold max (⊥ : EReal) (rowScore q r kv bl)) (s (ix2 r 0)))) := by
  have e : rowScore q r kv bl = fun c => rowScore q r kv bl c := rfl
  rw [e, ← least]
  have st := fun x => (stacked q r x).symm
  simp only [rowScore, st]
  pointwise [k0_pay22, k0_pay19, k0_pay20, k0_pay21]

end Cert.BandedIdeal.Val

end
-- ==== Proof.V.BRow.lean ====
module

public import proofs.«01_k».proof.Proof.V.BTile

@[expose] public section

set_option maxRecDepth 16384

noncomputable section

namespace Cert.BandedIdeal.Val

open Cert.BandedIdeal Cert.BandedIdeal.Gen Cert.BandedIdeal.Hand Cert.Row
open Idealize.ShloMosaic Idealize.ShloMosaic.TcCoe Idealize.ShloMosaic.Pointwise

variable (Q : Fin 2 → Fin 8192 → Fin 1024 → ℝ) (KV : Fin 2 → Fin 8192 → Fin 256 → ℝ) (SL SK : Fin 16 → ℝ)

/-! ## A row of the tile is a row of the layer -/

/-- A row whose query lies `k + w` after the window's first key `st` computes the layer's row, the window holding the band. -/
theorem row_layer (q : Fin 8 → Vec Ideal S1x128x64 .bf16) (s : FVec Ideal S1024x1 .f32) (kv : Vec Ideal S1x256x128 .bf16)
    (bl : Vec Ideal S1x1024x256 .f32) (v : Fin 8 → EReal) (r : Fin 1024) (d : Fin 64) (n a : Fin 2) (T : Fin 8192) (st k : ℕ)
    (hst : st + 256 ≤ 8192) (hT : T.val = st + (k + r.val % 128)) (hk : k = 128 ∨ (k = 0 ∧ st = 0))
    (hq : ∀ x : Fin 64, q ⟨r.val / 128, by omega⟩ (ix3 0 ⟨r.val % 128, by omega⟩ x)
      = (Q n T ⟨a.val * 512 + r.val / 128 * 64 + x.val, by omega⟩ : EReal))
    (hkv : ∀ (c : Fin 256) (x : Fin 128), kv (ix3 0 c x) = (KV n ⟨st + c.val, by omega⟩ ⟨a.val * 128 + x.val, by omega⟩ : EReal))
    (hbl : ∀ c : Fin 256, bl (ix3 0 r c) = pageAt k v r c)
    (hv : v ⟨r.val / 128, by omega⟩ = (SL ⟨a.val * 8 + r.val / 128, by omega⟩ : EReal))
    (hs : s (ix2 r 0) = (SK ⟨a.val * 8 + r.val / 128, by omega⟩ : EReal)) :
    k0_pay22 s (k0_pay19 kv) (k0_pay20 (q 0)) (k0_pay21 (q 1)) (q 2) (q 3) (q 4) (q 5) (q 6) (q 7) bl (ix2 r d)
      = ((layer Q KV SL SK n a ⟨r.val / 128, by omega⟩ T d : ℝ) : EReal) := by
  rw [tile_at, hs]
  have hwv (c : Fin 256) : kv (ix3 0 c ⟨64 + d.val, by omega⟩)
      = ((value KV n a d ⟨st + c.val, by omega⟩ : ℝ) : EReal) := by
    rw [hkv, value]
    exact congrArg (fun e => ((KV n ⟨st + c.val, by omega⟩ e : ℝ) : EReal)) (Fin.ext (Nat.add_assoc _ _ _).symm)
  simp only [hwv]
  have hwin := att_window (fun c : Fin 256 => (⟨st + c.val, by omega⟩ : Fin 8192))
    (fun c c' h => Fin.ext (by have := congrArg Fin.val h; simp only at this; omega))
    (fun l : Fin 8192 => l.val ≤ T.val ∧ T.val ≤ l.val + 128)
    (fun l hl => ⟨⟨l.val - st, by omega⟩, Fin.ext (by show st + (l.val - st) = l.val; omega)⟩)
    (score Q KV SL n a ⟨r.val / 128, by omega⟩ T) (value KV n a d) (SK ⟨a.val * 8 + r.val / 128, by omega⟩)
  unfold layer
  rw [← hwin]
  refine open_row _ _ _ _ (rowScore q r kv bl) fun c => ?_
  have hsum : (∑ y : Fin 64, q ⟨r.val / 128, by omega⟩ (ix3 0 ⟨r.val % 128, by omega⟩ y) * kv (ix3 0 c ⟨y.val, by omega⟩))
      = ((∑ y : Fin 64, Q n T ⟨a.val * 512 + r.val / 128 * 64 + y.val, by omega⟩
          * KV n ⟨st + c.val, by omega⟩ ⟨a.val * 128 + y.val, by omega⟩ : ℝ) : EReal) := by
    rw [coe_sum]
    exact Finset.sum_congr rfl fun y _ => by rw [hq, hkv, EReal.coe_mul]
  unfold rowScore
  rw [hsum, hbl]
  unfold pageAt
  by_cases hin : c.val ≤ k + r.val % 128 ∧ k + r.val % 128 ≤ c.val + 128
  · rw [if_pos hin, if_pos (show (st + c.val ≤ T.val ∧ T.val ≤ st + c.val + 128) by omega), hv, ← EReal.coe_mul, zero_sub,
      ← EReal.coe_neg, ← EReal.coe_add]
    refine congrArg _ ?_
    simp only [Function.comp, score]
    rw [hT]
    push_cast
    ring
  · rw [if_neg hin, if_neg (show ¬ (st + c.val ≤ T.val ∧ T.val ≤ st + c.val + 128) by omega), EReal.add_bot]

end Cert.BandedIdeal.Val

end
-- ==== Proof.V.BRef.lean ====
module

public import proofs.«01_k».proof.Proof.Gen.BandedRefIdeal.Read
public import proofs.«01_k».proof.Proof.V.Band
public import Idealize.ShloMosaic.Lib.Pointwise
public import Idealize.ShloMosaic.Lib.Pipeline.ValueKit

@[expose] public section

set_option maxRecDepth 16384

noncomputable section

namespace Cert.BandedRefIdeal.Val

open Cert.BandedRefIdeal Cert.BandedRefIdeal.Gen Cert.BandedRefIdeal.Read Cert.Row
open Idealize.ShloMosaic Idealize.ShloMosaic.TcCoe Idealize.ShloMosaic.Pointwise

variable (x0 : FVec Ideal S2x8192x1024 .bf16) (x1 : FVec Ideal S2x8192x256 .bf16) (x2 : FVec Ideal S16 .f32) (x3 : FVec Ideal S16 .f32)
variable (Q : Fin 2 → Fin 8192 → Fin 1024 → ℝ) (KV : Fin 2 → Fin 8192 → Fin 256 → ℝ) (SL SK : Fin 16 → ℝ)

/-- The masked scores: in the band the product less slope times distance, outside it the mask's number. -/
theorem scores_at (n a : Fin 2) (b : Fin 8) (T l : Fin 8192) :
    val_main_v31 (F := Ideal) x0 x1 x2 (ix5 n a b T l)
    = if l.val ≤ T.val ∧ T.val ≤ l.val + 128 then
        (∑ x : Fin 64, x1 (ix3 n l ⟨a.val * 128 + x.val, by omega⟩) * x0 (ix3 n T ⟨a.val * 512 + b.val * 64 + x.val, by omega⟩))
          - x2 (ix1 ⟨a.val * 8 + b.val, by omega⟩) * (((T.val : ℝ) - l.val : ℝ) : EReal)
      else Ideal.ofBits .f32 0xF149F2CA#32 := by
  rw [← gap_real T.val l.val (by omega) (by omega), ← band_select T.val l.val (by omega) (by omega)]
  pointwise [val_main_v31, val_main_call0_v0, val_main_call0_v1, val_main_call0_v2, val_main_cst, val_main_v0, val_main_v1,
    val_main_v2, val_main_v3, val_main_v4, val_main_v5, val_main_v8, val_main_v9, val_main_v10, val_main_v11, val_main_v12,
    val_main_v13, val_main_c, val_main_c_0, val_main_v14, val_main_v15, val_main_v16, val_main_v17, val_main_v18, val_main_v19,
    val_main_v20, val_main_v21, val_main_v22, val_main_v23, val_main_v24, val_main_v25, val_main_v26, val_main_v27, val_main_v28,
    val_main_v29, val_main_v30]
  rfl

theorem rowmax_at (n a : Fin 2) (b : Fin 8) (T : Fin 8192) : val_main_v34 (F := Ideal) x0 x1 x2 (ix4 n a b T)
    = Finset.univ.fold max (⊥ : EReal) (fun l : Fin 8192 => val_main_v31 (F := Ideal) x0 x1 x2 (ix5 n a b T l)) := by
  rw [← least]
  unfold val_main_v34
  generalize val_main_v31 (F := Ideal) x0 x1 x2 = y
  refine (Host.reduce_eq_fold_single (FloatOps.maximumf (F := Ideal) (φ := .f32)) y (val_main_cst_1 (F := Ideal))
    reducesTo_S2x2x8x8192x8192_S2x2x8x8192_d4 (by decide) h_S_ (ix4 n a b T)).trans ?_
  have e : y ∘ Shape.Reduces.lift (by decide : S2x2x8x8192x8192.Reduces [4] S2x2x8x8192) (ix4 n a b T)
      = fun l : Fin 8192 => y (ix5 n a b T l) := by
    funext l
    refine congrArg y (funext fun ax => Fin.ext ?_)
    match ax with
    | ⟨0, _⟩ => rfl
    | ⟨1, _⟩ => rfl
    | ⟨2, _⟩ => rfl
    | ⟨3, _⟩ => rfl
    | ⟨4, _⟩ => rfl
  rw [e]
  rfl

theorem sink_at (n a : Fin 2) (b : Fin 8) (T : Fin 8192) : val_main_v37 (F := Ideal) x3 (ix5 n a b T 0) = x3 (ix1 ⟨a.val * 8 + b.val, by omega⟩) := by
  pointwise [val_main_v37, val_main_v36, val_main_v33, val_main_v32]

theorem col_at (n a : Fin 2) (b : Fin 8) (T : Fin 8192) : val_main_v35 (F := Ideal) x0 x1 x2 (ix5 n a b T 0)
    = val_main_v34 (F := Ideal) x0 x1 x2 (ix4 n a b T) := by
  unfold val_main_v35
  generalize val_main_v34 (F := Ideal) x0 x1 x2 = y
  pointwise []

theorem top_of (n a : Fin 2) (b : Fin 8) (T : Fin 8192) : val_main_v38 (F := Ideal) x0 x1 x2 x3 (ix5 n a b T 0)
    = max (val_main_v34 (F := Ideal) x0 x1 x2 (ix4 n a b T)) (x3 (ix1 ⟨a.val * 8 + b.val, by omega⟩)) := by
  rw [val_main_v38_apply, col_at, sink_at]
  generalize val_main_v34 (F := Ideal) x0 x1 x2 (ix4 n a b T) = y
  rfl

/-- The largest score of a row, the sink among them. -/
theorem top_at (n a : Fin 2) (b : Fin 8) (T : Fin 8192) : val_main_v38 (F := Ideal) x0 x1 x2 x3 (ix5 n a b T 0)
    = max (Finset.univ.fold max (⊥ : EReal) (fun l : Fin 8192 => val_main_v31 (F := Ideal) x0 x1 x2 (ix5 n a b T l)))
        (x3 (ix1 ⟨a.val * 8 + b.val, by omega⟩)) := by
  rw [top_of, rowmax_at]

/-- The weights: exponentials in the band, zero outside it. -/
theorem weights_at (n a : Fin 2) (b : Fin 8) (T l : Fin 8192) : val_main_v42 (F := Ideal) x0 x1 x2 x3 (ix5 n a b T l)
    = if l.val ≤ T.val ∧ T.val ≤ l.val + 128 then
        Ideal.exp (val_main_v31 (F := Ideal) x0 x1 x2 (ix5 n a b T l) - val_main_v38 (F := Ideal) x0 x1 x2 x3 (ix5 n a b T 0))
      else 0 := by
  rw [← band_select T.val l.val (by omega) (by omega), show (0 : EReal) = id (constant (F := Ideal) S_ .f32 0#32) ix0 from Ideal.ofBits_zero_f32.symm]
  pointwise [val_main_v42, val_main_call1_v0, val_main_call1_v1, val_main_call1_v2, val_main_cst_2, val_main_v8, val_main_v9,
    val_main_v10, val_main_v11, val_main_v12, val_main_v13, val_main_c, val_main_c_0, val_main_v14, val_main_v15, val_main_v16,
    val_main_v17, val_main_v18, val_main_v41, val_main_v40, val_main_v39]

/-- The row's total, the sink's exponential with it. -/
theorem total_at (n a : Fin 2) (b : Fin 8) (T : Fin 8192) : val_main_v49 (F := Ideal) x0 x1 x2 x3 (ix5 n a b T 0)
    = (∑ l : Fin 8192, val_main_v42 (F := Ideal) x0 x1 x2 x3 (ix5 n a b T l))
      + Ideal.exp (x3 (ix1 ⟨a.val * 8 + b.val, by omega⟩) - val_main_v38 (F := Ideal) x0 x1 x2 x3 (ix5 n a b T 0)) := by
  pointwise [val_main_v49, val_main_v44, val_main_v43, val_main_v48, val_main_v47, val_main_v46, val_main_v45, val_main_v33,
    val_main_v32, val_main_cst_3]

/-- The result: the values under the weights, each over the total. -/
theorem result_at (n : Fin 2) (T : Fin 8192) (j : Fin 1024) : val_main_v57 (F := Ideal) x0 x1 x2 x3 (ix3 n T j)
    = ∑ l : Fin 8192, x1 (ix3 n l ⟨j.val / 512 * 128 + 64 + j.val % 64, by omega⟩)
        * Ideal.div (val_main_v42 (F := Ideal) x0 x1 x2 x3 (ix5 n ⟨j.val / 512, by omega⟩ ⟨j.val / 64 % 8, by omega⟩ T l))
          (if 0 < val_main_v49 (F := Ideal) x0 x1 x2 x3 (ix5 n ⟨j.val / 512, by omega⟩ ⟨j.val / 64 % 8, by omega⟩ T 0) then
            val_main_v49 (F := Ideal) x0 x1 x2 x3 (ix5 n ⟨j.val / 512, by omega⟩ ⟨j.val / 64 % 8, by omega⟩ T 0)
          else id (constant (F := Ideal) S_ .f32 0x3F800000#32) ix0) := by
  pointwise [val_main_v57, val_main_v56, val_main_v55, val_main_v54, val_main_v53, val_main_v52, val_main_v51, val_main_v50,
    val_main_cst_4, val_main_cst_5, val_main_call2_v0, val_main_call2_v1, val_main_v7, val_main_v6, val_main_v3, val_main_v2]

/-- Over real arguments each element of the reference's result is the layer's. -/
theorem layer_at (hQ : ∀ n T j, x0 (ix3 n T j) = (Q n T j : EReal)) (hKV : ∀ n T j, x1 (ix3 n T j) = (KV n T j : EReal))
    (hSL : ∀ h, x2 (ix1 h) = (SL h : EReal)) (hSK : ∀ h, x3 (ix1 h) = (SK h : EReal)) (n : Fin 2) (T : Fin 8192) (j : Fin 1024) :
    val_main_v57 (F := Ideal) x0 x1 x2 x3 (ix3 n T j)
      = ((layer Q KV SL SK n ⟨j.val / 512, by omega⟩ ⟨j.val / 64 % 8, by omega⟩ T ⟨j.val % 64, by omega⟩ : ℝ) : EReal) := by
  rw [result_at]
  generalize ha : (⟨j.val / 512, by omega⟩ : Fin 2) = a
  generalize hb : (⟨j.val / 64 % 8, by omega⟩ : Fin 8) = b
  have hv (l : Fin 8192) : x1 (ix3 n l ⟨j.val / 512 * 128 + 64 + j.val % 64, by omega⟩)
      = ((value KV n a ⟨j.val % 64, by omega⟩ l : ℝ) : EReal) := by
    rw [hKV]; subst ha; rfl
  simp only [hv]
  refine closed_row (fun l : Fin 8192 => l.val ≤ T.val ∧ T.val ≤ l.val + 128) (score Q KV SL n a b T) _
    (SK ⟨a.val * 8 + b.val, by omega⟩) (fun l => val_main_v31 (F := Ideal) x0 x1 x2 (ix5 n a b T l)) _ _ _ ?_ ?_ ?_
  · intro l
    rw [scores_at]
    split
    · refine ⟨score Q KV SL n a b T l, ?_, fun _ => rfl⟩
      simp only [hKV, hQ, hSL]
      have hs : (∑ x : Fin 64, (KV n l ⟨a.val * 128 + x.val, by omega⟩ : EReal) * (Q n T ⟨a.val * 512 + b.val * 64 + x.val, by omega⟩ : EReal))
          = ((∑ x : Fin 64, Q n T ⟨a.val * 512 + b.val * 64 + x.val, by omega⟩ * KV n l ⟨a.val * 128 + x.val, by omega⟩ : ℝ) : EReal) := by
        rw [coe_sum]
        exact Finset.sum_congr rfl fun x _ => by rw [EReal.coe_mul, mul_comm]
      rw [hs, score, EReal.coe_sub _ (_ * _), EReal.coe_mul]
    · next h =>
      obtain ⟨x, hx⟩ := large_neg
      exact ⟨x, hx, fun h' => absurd h' h⟩
  · intro l
    rw [weights_at, top_at, hSK]
  · rw [total_at, top_at, hSK]

end Cert.BandedRefIdeal.Val

end
-- ==== Proof.V.BVal.lean ====
module

public import proofs.«01_k».proof.Proof.K.BFrame
public import proofs.«01_k».proof.Proof.V.BRow
public import proofs.«01_k».proof.Proof.V.BRef

@[expose] public section

set_option maxRecDepth 16384

noncomputable section

namespace Cert.BandedIdeal.Val

open Cert.BandedIdeal Cert.BandedIdeal.Gen Cert.BandedIdeal.Hand Cert.Row
open Idealize.ShloMosaic Idealize.ShloMosaic.TcCoe Idealize.ShloMosaic.Pointwise Idealize.SL.Sem
open Idealize.ShloMosaic.Pipeline (Dat)

/-! ## Where the grid's points lie -/

theorem coords_at : ∀ t : Fin cfg0.N, (grid0.coords t 2).val = t.val / 16 % 2 ∧ (grid0.coords t 3).val = t.val % 16 :=
  (by decide +kernel : ∀ t : Fin grid0.N, _)

theorem at_point : ∀ t : Fin cfg0.N, win0_0.index t = ![0] ∧ win0_1.index t = ![0]
    ∧ win0_2.index t = ![t.val / 32 % 2, t.val % 16, t.val / 16 % 2] ∧ win0_3.index t = ![t.val / 32 % 2, 0, t.val / 16 % 2]
    ∧ win0_4.index t = ![t.val / 32 % 2, t.val % 16, t.val / 16 % 2] :=
  (by decide +kernel : ∀ t : Fin grid0.N, _)

/-! ## The stored block -/

theorem stored (o : Fin 4 → FVec Ideal S1024x64 .f32) : ∀ p ∈ outPieces o, ∃ sb g, p = outPiece o sb g := by
  intro p hp
  simp only [outPieces, List.mem_cons, List.not_mem_nil, or_false] at hp
  rcases hp with h | h | h | h | h | h | h | h | h | h | h | h | h | h | h | h | h | h | h | h | h | h | h | h | h | h | h | h | h | h | h | h
    <;> exact ⟨_, _, h⟩

theorem headRows_at (o : FVec Ideal S1024x64 .f32) (g : Fin 8) (w : Fin 128) (d : Fin 64) :
    headRows o g (ix3 0 w d) = o (ix2 ⟨128 * g.val + w.val, by omega⟩ d) := by
  pointwise [headRows]

/-- The block the body stores, at any of its places: sub-block by row, head by column. -/
theorem block_at (o : Fin 4 → FVec Ideal S1024x64 .f32) (R j : Fin 512) :
    View.canon (outPieces o) (ix3 0 R j) = o ⟨R.val / 128, by omega⟩ (ix2 ⟨128 * (j.val / 64) + R.val % 128, by omega⟩ ⟨j.val % 64, by omega⟩) := by
  refine View.canon_apply_of_pieces (fun y : S1x512x512.Idx =>
      have h1 : (y 1).val < 512 := (y 1).isLt
      have h2 : (y 2).val < 512 := (y 2).isLt
      o ⟨(y 1).val / 128, by omega⟩ (ix2 ⟨128 * ((y 2).val / 64) + (y 1).val % 128, by omega⟩ ⟨(y 2).val % 64, by omega⟩)) _ ?_
    (ix3 0 R j) (cover_out o _)
  intro p hp y
  obtain ⟨sb, g, rfl⟩ := stored o p hp
  obtain ⟨a, w, d, rfl⟩ : ∃ (a : Fin 1) (w : Fin 128) (d : Fin 64), y = ix3 a w d :=
    ⟨y 0, y 1, y 2, by funext ax; match ax with | ⟨0, _⟩ => rfl | ⟨1, _⟩ => rfl | ⟨2, _⟩ => rfl⟩
  obtain rfl : a = 0 := Subsingleton.elim _ _
  have e1 : (((rq sb g).emb (ix3 0 w d) 1 : Fin _) : ℕ) = 128 * sb.val + w.val :=
    Rect.idx_unit_val (s := S1x512x512) ![0, 128 * sb.val, 64 * g.val] S1x128x64.size (inb_q sb g) (ix3 0 w d) 1
  have e2 : (((rq sb g).emb (ix3 0 w d) 2 : Fin _) : ℕ) = 64 * g.val + d.val :=
    Rect.idx_unit_val (s := S1x512x512) ![0, 128 * sb.val, 64 * g.val] S1x128x64.size (inb_q sb g) (ix3 0 w d) 2
  refine (headRows_at (o sb) g w d).trans ?_
  have hs : (⟨(((rq sb g).emb (ix3 0 w d) 1 : Fin _) : ℕ) / 128, by rw [e1]; omega⟩ : Fin 4) = sb := Fin.ext (by
    show _ / 128 = _; rw [e1]; omega)
  show o sb _ = o ⟨(((rq sb g).emb (ix3 0 w d) 1 : Fin _) : ℕ) / 128, _⟩ _
  rw [hs]
  refine congrArg (o sb) (funext fun ax => Fin.ext ?_)
  match ax with
  | ⟨0, _⟩ =>
    show 128 * g.val + w.val = 128 * ((((rq sb g).emb (ix3 0 w d) 2 : Fin _) : ℕ) / 64) + (((rq sb g).emb (ix3 0 w d) 1 : Fin _) : ℕ) % 128
    rw [e1, e2]; omega
  | ⟨1, _⟩ =>
    show d.val = (((rq sb g).emb (ix3 0 w d) 2 : Fin _) : ℕ) % 64
    rw [e2]; omega

/-! ## What the body reads at a grid point -/

variable (m : (ℓ : Loc nD τ sig) → Buf (Elt Ideal) ℓ) (c : Dev nD)
variable (Q : Fin 2 → Fin 8192 → Fin 1024 → ℝ) (KV : Fin 2 → Fin 8192 → Fin 256 → ℝ) (SL SK : Fin 16 → ℝ)

theorem slopes_blk (t : Fin cfg0.N) (h : Fin 16) : iblk m c 0 t (ix1 h) = m ((c : Thread nD τ).loc main_arg2) (ix1 h) := by
  blk_ext [iblk, V, at_point t]

theorem sinks_blk (t : Fin cfg0.N) (h : Fin 16) : iblk m c 1 t (ix1 h) = m ((c : Thread nD τ).loc main_arg3) (ix1 h) := by
  blk_ext [iblk, V, at_point t]

theorem q_blk (t : Fin cfg0.N) (R j : Fin 512) : iblk m c 2 t (ix3 0 R j)
    = m ((c : Thread nD τ).loc main_arg0) (ix3 ⟨t.val / 32 % 2, by omega⟩ ⟨t.val % 16 * 512 + R.val, by omega⟩ ⟨t.val / 16 % 2 * 512 + j.val, by omega⟩) := by
  blk_ext [iblk, V, at_point t]

theorem kv_blk (t : Fin cfg0.N) (l : Fin 8192) (j : Fin 128) : iblk m c 3 t (ix3 0 l j)
    = m ((c : Thread nD τ).loc main_arg1) (ix3 ⟨t.val / 32 % 2, by omega⟩ l ⟨t.val / 16 % 2 * 128 + j.val, by omega⟩) := by
  blk_ext [iblk, V, at_point t]

/-- The bias a sub-block reads, from the scratch filled at the first point of its head group. -/
theorem held_at (t : Fin cfg0.N) (sb : Fin 4) (r : Fin 1024) (e : Fin 256) :
    View.ld (held m c t.val) (rb (grid0.coords t) sb) (ix3 0 r e)
    = pageAt (if t.val % 16 = 0 ∧ sb.val = 0 then 0 else 128) (word (iblk m c 0 (filler t.val)) (grid0.coords (filler t.val))) r e := by
  have h3 := (coords_at t).2
  by_cases h0 : t.val % 16 = 0
  · have ho := off4_first (grid0.coords t 3) (by omega) sb (grid0.coords t) rfl
    by_cases hs : sb.val = 0
    · refine (View.ld_unit_apply_of _ _ _ _ _ (ix3 1 r e) fun a => ?_).trans ((bias_at _ _ 1 r e).trans ?_)
      · refine Eq.trans ?_ (congrArg (fun k => k + _) (congrFun ho a).symm)
        match a with
        | ⟨0, _⟩ => simp [hs]
        | ⟨1, _⟩ => simp
        | ⟨2, _⟩ => simp
      · simp [h0, hs]
    · refine (View.ld_unit_apply_of _ _ _ _ _ (ix3 0 r e) fun a => ?_).trans ((bias_at _ _ 0 r e).trans ?_)
      · refine Eq.trans ?_ (congrArg (fun k => k + _) (congrFun ho a).symm)
        match a with
        | ⟨0, _⟩ => simp [hs]
        | ⟨1, _⟩ => simp
        | ⟨2, _⟩ => simp
      · simp [hs]
  · have ho := off4_later (grid0.coords t 3) (by omega) sb (grid0.coords t) rfl
    refine (View.ld_unit_apply_of _ _ _ _ _ (ix3 0 r e) fun a => ?_).trans ((bias_at _ _ 0 r e).trans ?_)
    · refine Eq.trans ?_ (congrArg (fun k => k + _) (congrFun ho a).symm)
      match a with
      | ⟨0, _⟩ => simp
      | ⟨1, _⟩ => simp
      | ⟨2, _⟩ => simp
    · simp [h0]

variable (hQ : ∀ n T j, m ((c : Thread nD τ).loc main_arg0) (ix3 n T j) = (Q n T j : EReal))
  (hKV : ∀ n T j, m ((c : Thread nD τ).loc main_arg1) (ix3 n T j) = (KV n T j : EReal))
  (hSL : ∀ h, m ((c : Thread nD τ).loc main_arg2) (ix1 h) = (SL h : EReal))
  (hSK : ∀ h, m ((c : Thread nD τ).loc main_arg3) (ix1 h) = (SK h : EReal))

include hQ hKV hSL hSK

/-- One element of what the body writes. -/
theorem attn_at (t : Fin cfg0.N) (sb : Fin 4) (r : Fin 1024) (d : Fin 64) :
    attn (iblk m c 1 t) (iblk m c 2 t) (iblk m c 3 t) (fun sb => View.ld (held m c t.val) (rb (grid0.coords t) sb)) (grid0.coords t) sb (ix2 r d)
    = ((layer Q KV SL SK ⟨t.val / 32 % 2, by omega⟩ ⟨t.val / 16 % 2, by omega⟩ ⟨r.val / 128, by omega⟩
        ⟨t.val % 16 * 512 + (128 * sb.val + r.val % 128), by omega⟩ d : ℝ) : EReal) := by
  have hc := coords_at t
  have hf := coords_at (filler t.val)
  have ho := off3_eq (grid0.coords t) sb
  rw [hc.2] at ho
  have hfv : (filler t.val).val = 16 * (t.val / 16 % 4) := rfl
  unfold attn
  refine row_layer Q KV SL SK (fun g => View.ld (iblk m c 2 t) (rq sb g)) _ _ _ (word (iblk m c 0 (filler t.val)) (grid0.coords (filler t.val)))
    r d _ _ _ (512 * (t.val % 16) + 128 * sb.val - 128) (if t.val % 16 = 0 ∧ sb.val = 0 then 0 else 128) ?_ ?_ ?_ ?_ ?_ ?_ ?_ ?_
  · omega
  · show t.val % 16 * 512 + (128 * sb.val + r.val % 128) = _
    split <;> omega
  · split
    · exact Or.inr ⟨rfl, by omega⟩
    · exact Or.inl rfl
  · intro x
    refine (View.ld_unit_apply_of _ _ _ _ _ (ix3 0 ⟨128 * sb.val + r.val % 128, by omega⟩ ⟨64 * (r.val / 128) + x.val, by omega⟩) fun a => ?_).trans ?_
    · match a with
      | ⟨0, _⟩ => rfl
      | ⟨1, _⟩ => rfl
      | ⟨2, _⟩ => rfl
    · rw [q_blk, hQ]
      refine congrArg (fun e => ((Q _ _ e : ℝ) : EReal)) (Fin.ext ?_)
      show t.val / 16 % 2 * 512 + (64 * (r.val / 128) + x.val) = t.val / 16 % 2 * 512 + r.val / 128 * 64 + x.val
      omega
  · intro e x
    refine (View.ld_unit_apply_of _ _ _ _ _ (ix3 0 ⟨512 * (t.val % 16) + 128 * sb.val - 128 + e.val, by omega⟩ x) fun a => ?_).trans ?_
    · refine Eq.trans ?_ (congrArg (fun k => k + _) (congrFun ho a).symm)
      match a with
      | ⟨0, _⟩ => rfl
      | ⟨1, _⟩ => rfl
      | ⟨2, _⟩ => simp
    · rw [kv_blk, hKV]
  · exact fun e => held_at m c t sb r e
  · rw [word_at, slopes_blk, hSL]
    refine congrArg (fun e => ((SL e : ℝ) : EReal)) (Fin.ext ?_)
    show (grid0.coords (filler t.val) 2).val * 8 + r.val / 128 = t.val / 16 % 2 * 8 + r.val / 128
    omega
  · rw [sink_row, word_at, sinks_blk, hSK]
    refine congrArg (fun e => ((SK e : ℝ) : EReal)) (Fin.ext ?_)
    show (grid0.coords t 2).val * 8 + r.val / 128 = t.val / 16 % 2 * 8 + r.val / 128
    omega

/-- What the body leaves in its block is the reference's result there. -/
theorem point (t : Fin cfg0.N) (y) : written m c t y
    = Cert.BandedRefIdeal.Read.val_main_v57 (F := Ideal) (m ((c : Thread nD τ).loc main_arg0)) (m ((c : Thread nD τ).loc main_arg1))
        (m ((c : Thread nD τ).loc main_arg2)) (m ((c : Thread nD τ).loc main_arg3)) (((cfg0.win 4).blk t).view.emb y) := by
  obtain ⟨a, R, j, rfl⟩ : ∃ (a : Fin 1) (R : Fin 512) (j : Fin 512), y = ix3 a R j :=
    ⟨y 0, y 1, y 2, by funext ax; match ax with | ⟨0, _⟩ => rfl | ⟨1, _⟩ => rfl | ⟨2, _⟩ => rfl⟩
  obtain rfl : a = 0 := Subsingleton.elim _ _
  have hemb : ((cfg0.win 4).blk t).view.emb (ix3 0 R j)
      = ix3 (⟨t.val / 32 % 2, by omega⟩ : Fin 2) (⟨t.val % 16 * 512 + R.val, by omega⟩ : Fin 8192) (⟨t.val / 16 % 2 * 512 + j.val, by omega⟩ : Fin 1024) := by
    blk_ext [at_point t]
  rw [hemb]
  refine Eq.trans ?_ (Cert.BandedRefIdeal.Val.layer_at _ _ _ _ Q KV SL SK hQ hKV hSL hSK _ _ _).symm
  unfold written out
  rw [block_at, attn_at m c Q KV SL SK hQ hKV hSL hSK]
  have e1 : (⟨(128 * (j.val / 64) + R.val % 128) / 128, by omega⟩ : Fin 8) = ⟨(t.val / 16 % 2 * 512 + j.val) / 64 % 8, by omega⟩ :=
    Fin.ext (by show (128 * (j.val / 64) + R.val % 128) / 128 = (t.val / 16 % 2 * 512 + j.val) / 64 % 8; omega)
  have e2 : (⟨t.val / 16 % 2, by omega⟩ : Fin 2) = ⟨(t.val / 16 % 2 * 512 + j.val) / 512, by omega⟩ :=
    Fin.ext (by show t.val / 16 % 2 = (t.val / 16 % 2 * 512 + j.val) / 512; omega)
  have e3 : (⟨t.val % 16 * 512 + (128 * (R.val / 128) + (128 * (j.val / 64) + R.val % 128) % 128), by omega⟩ : Fin 8192)
      = ⟨t.val % 16 * 512 + R.val, by omega⟩ :=
    Fin.ext (by show t.val % 16 * 512 + (128 * (R.val / 128) + (128 * (j.val / 64) + R.val % 128) % 128) = t.val % 16 * 512 + R.val; omega)
  have e4 : (⟨j.val % 64, by omega⟩ : Fin 64) = ⟨(t.val / 16 % 2 * 512 + j.val) % 64, by omega⟩ :=
    Fin.ext (by show j.val % 64 = (t.val / 16 % 2 * 512 + j.val) % 64; omega)
  simp only [e1, e2, e3, e4]

/-- The whole array after the run. -/
theorem final : (dats m 0 c).arrAt 4 cfg0.N
    = Cert.BandedRefIdeal.Read.val_main_v57 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after4]
  exact point m c Q KV SL SK hQ hKV hSL hSK t y

end Cert.BandedIdeal.Val

end
-- ==== Proof.V.BAlg.lean ====
module

public import proofs.«01_k».proof.Defs
public import proofs.«01_k».proof.Proof.V.BVal
public import proofs.«01_k».proof.Proof.Gen.BandedRefIdeal.Run
public import proofs.«01_k».proof.Proof.Gen.Pre_finite
public import Idealize.ShloMosaic.Lib.Claim
public import Idealize.ShloMosaic.Lib.ReduceAll

@[expose] public section

set_option maxRecDepth 16384

noncomputable section

namespace Cert.BandedIdeal.Val

open Idealize.ShloMosaic Idealize.ShloMosaic.TcCoe Idealize.SL.Sem

/-! ## Reading the precondition: every element is a real number -/

instance : Subsingleton (Cert.Pre_finite.S_).Idx := ⟨fun a b => funext fun x => x.elim0⟩

theorem real_of_abs (a : EReal)
    (h : FloatOps.cmpf (F := Ideal) (φ := .f32) .olt (FloatOps.hostAbsf (F := Ideal) (φ := .f32) a) (Ideal.ofBits .f32 0x7F800000#32) = 1#1) :
    ∃ x : ℝ, a = (x : EReal) := by
  induction a using EReal.rec with
  | bot => exact absurd h (by simp [FloatOps.cmpf, FloatOps.hostAbsf, Ideal.cmp, Ideal.ofBits, Ideal.ieee])
  | coe x => exact ⟨x, rfl⟩
  | top => exact absurd h (by simp [FloatOps.cmpf, FloatOps.hostAbsf, Ideal.cmp, Ideal.ofBits, Ideal.ieee])

theorem all_real (x0 : FVec Ideal Cert.Pre_finite.S2x8192x1024 .bf16) (x1 : FVec Ideal Cert.Pre_finite.S2x8192x256 .bf16)
    (x2 x3 : FVec Ideal Cert.Pre_finite.S16 .f32)
    (h : Cert.Pre_finite.fn (F := Ideal) x0 x1 x2 x3 = fun _ => 1#1) :
    (∀ i, ∃ x : ℝ, x0 i = (x : EReal)) ∧ (∀ i, ∃ x : ℝ, x1 i = (x : EReal)) ∧ (∀ i, ∃ x : ℝ, x2 i = (x : EReal))
      ∧ (∀ i, ∃ x : ℝ, x3 i = (x : EReal)) := by
  have h' := congrFun h (fun a => a.elim0)
  obtain ⟨hA, h3⟩ := IntOp.andi_eq_one.1 h'
  obtain ⟨hB, h2⟩ := IntOp.andi_eq_one.1 hA
  obtain ⟨h0, h1⟩ := IntOp.andi_eq_one.1 hB
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i), fun i => real_of_abs _ (Host.reduce_andi_all _ _ _ _ _ h3 i)⟩

/-- The kernel and the reference end with the same result array, the arguments being finite. -/
theorem same_results : Cert.algebraic_BandedIdeal_BandedRefIdeal_pre_finite := by
  pair_intro
  · run_from Cert.BandedIdeal.Hand.run_main m g
  · run_from Cert.BandedRefIdeal.Value.run m' g'
    obtain ⟨a0, a1, a2, a3⟩ := hagree c
    obtain ⟨r0, r1, r2, r3⟩ := all_real _ _ _ _ (hpre c)
    choose Q hQ using r0
    choose KV hKV using r1
    choose SL hSL using r2
    choose SK hSK using r3
    rw [Cert.BandedRefIdeal.Read.val_main_v57_eq, a0, a1, a2, a3]
    exact (final m c (fun n T j => Q (ix3 n T j)) (fun n T j => KV (ix3 n T j)) (fun h => SL (ix1 h)) (fun h => SK (ix1 h))
      (fun _ _ _ => hQ _) (fun _ _ _ => hKV _) (fun _ => hSL _) (fun _ => hSK _)).symm

end Cert.BandedIdeal.Val

end
-- ==== Proof.V.ProjVal.lean ====
module

public import proofs.«01_k».proof.Proof.Gen.ProjIdeal.Value
public import proofs.«01_k».proof.Proof.Gen.ProjRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.ProjIdeal.Val

open Cert.ProjIdeal Cert.ProjIdeal.Gen Cert.ProjRefIdeal.Read
open Idealize.ShloMosaic Idealize.ShloMosaic.TcCoe Idealize.SL.Sem
open Idealize.ShloMosaic.Pipeline (Dat)

variable (m : (ℓ : Loc nD τ sig) → Buf (Elt Ideal) ℓ)

/-- Where each window's block lies at a grid point: the rows go by the point, the gain and the weights stay. -/
theorem at_point : ∀ t : Fin cfg0.N, win0_0.index t = ![t.val, 0] ∧ win0_1.index t = ![0, 0]
    ∧ win0_2.index t = ![0, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The first result (queries, scaled and narrowed): what the body leaves in its block is the reference's rows there. -/
theorem point3 (c : Dev nD) (t : Fin cfg0.N) (y) : out0_3 (iblk m c 0 t) (iblk m c 1 t) (iblk m c 2 t) y
    = val_main_v19 (F := Ideal) (m ((c : Thread nD τ).loc main_arg0)) (m ((c : Thread nD τ).loc main_arg1))
        (m ((c : Thread nD τ).loc main_arg2)) (((cfg0.win 3).blk t).view.emb y) := by
  unfold_out out0_3
  canon_tiles x h
  all_goals
    pointwise [k0_pay5, k0_pay6, k0_pay4, val_main_v19, val_main_v18, val_main_v17, val_main_v14, val_main_cst_2, val_main_v13, val_main_v12, val_main_v11, val_main_v10,
    val_main_v9, val_main_v8, val_main_v7, val_main_v6, val_main_v5, val_main_v4, val_main_v3, val_main_v2,
    val_main_v1, val_main_v0, val_main_cst, val_main_cst_0, val_main_cst_1]
    blk_point [iblk, V, at_point t]

/-- Its whole array after the run. -/
theorem final3 (c : Dev nD) : (dats m 0 c).arrAt 3 cfg0.N
    = val_main_v19 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  exact point3 m c t y

/-- The second result (keys and values, wide): what the body leaves in its block is the reference's rows there. -/
theorem point4 (c : Dev nD) (t : Fin cfg0.N) (y) : out0_4 (iblk m c 0 t) (iblk m c 1 t) (iblk m c 2 t) y
    = val_main_v15 (F := Ideal) (m ((c : Thread nD τ).loc main_arg0)) (m ((c : Thread nD τ).loc main_arg1))
        (m ((c : Thread nD τ).loc main_arg2)) (((cfg0.win 4).blk t).view.emb y) := by
  unfold_out out0_4
  frame_out
  pointwise [k0_pay7, k0_pay4, val_main_v15, val_main_v13, val_main_v12, val_main_v11, val_main_v10,
    val_main_v9, val_main_v8, val_main_v7, val_main_v6, val_main_v5, val_main_v4, val_main_v3, val_main_v2,
    val_main_v1, val_main_v0, val_main_cst, val_main_cst_0, val_main_cst_1]
  blk_point [iblk, V, at_point t]

/-- Its whole array after the run. -/
theorem final4 (c : Dev nD) : (dats m 0 c).arrAt 4 cfg0.N
    = val_main_v15 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]
  exact point4 m c t y

/-- The third result (keys and values, narrowed): what the body leaves in its block is the reference's rows there. -/
theorem point5 (c : Dev nD) (t : Fin cfg0.N) (y) : out0_5 (iblk m c 0 t) (iblk m c 1 t) (iblk m c 2 t) y
    = val_main_v20 (F := Ideal) (m ((c : Thread nD τ).loc main_arg0)) (m ((c : Thread nD τ).loc main_arg1))
        (m ((c : Thread nD τ).loc main_arg2)) (((cfg0.win 5).blk t).view.emb y) := by
  unfold_out out0_5
  frame_out
  pointwise [k0_pay1, k0_pay4, val_main_v20, val_main_v15, val_main_v13, val_main_v12, val_main_v11, val_main_v10,
    val_main_v9, val_main_v8, val_main_v7, val_main_v6, val_main_v5, val_main_v4, val_main_v3, val_main_v2,
    val_main_v1, val_main_v0, val_main_cst, val_main_cst_0, val_main_cst_1]
  blk_point [iblk, V, at_point t]

/-- Its whole array after the run. -/
theorem final5 (c : Dev nD) : (dats m 0 c).arrAt 5 cfg0.N
    = val_main_v20 (F := Ideal) (m ((c : Thread nD τ).loc main_arg0)) (m ((c : Thread nD τ).loc main_arg1))
        (m ((c : Thread nD τ).loc main_arg2)) := by
  refine (dats m 0 c).arrAt_eq_of_covers 5 _ (by decide +kernel) fun t _ y => ?_
  blk_simp
  rw [after0_5]
  exact point5 m c t y

/-- The fourth result (the gate): what the body leaves in its block is the reference's rows there. -/
theorem point6 (c : Dev nD) (t : Fin cfg0.N) (y) : out0_6 (iblk m c 0 t) (iblk m c 1 t) (iblk m c 2 t) y
    = val_main_v16 (F := Ideal) (m ((c : Thread nD τ).loc main_arg0)) (m ((c : Thread nD τ).loc main_arg1))
        (m ((c : Thread nD τ).loc main_arg2)) (((cfg0.win 6).blk t).view.emb y) := by
  unfold_out out0_6
  canon_tiles x h
  all_goals
    pointwise [k0_pay2, k0_pay3, k0_pay4, val_main_v16, val_main_v13, val_main_v12, val_main_v11, val_main_v10,
    val_main_v9, val_main_v8, val_main_v7, val_main_v6, val_main_v5, val_main_v4, val_main_v3, val_main_v2,
    val_main_v1, val_main_v0, val_main_cst, val_main_cst_0, val_main_cst_1]
    blk_point [iblk, V, at_point t]

/-- Its whole array after the run. -/
theorem final6 (c : Dev nD) : (dats m 0 c).arrAt 6 cfg0.N
    = val_main_v16 (F := Ideal) (m ((c : Thread nD τ).loc main_arg0)) (m ((c : Thread nD τ).loc main_arg1))
        (m ((c : Thread nD τ).loc main_arg2)) := by
  refine (dats m 0 c).arrAt_eq_of_covers 6 _ (by decide +kernel) fun t _ y => ?_
  blk_simp
  rw [after0_6]
  exact point6 m c t y

end Cert.ProjIdeal.Val

end
-- ==== Proof.V.ProjAlg.lean ====
module

public import proofs.«01_k».proof.Defs
public import proofs.«01_k».proof.Proof.V.ProjVal
public import proofs.«01_k».proof.Proof.Gen.ProjRefIdeal.Run

@[expose] public section

set_option maxRecDepth 16384

noncomputable section

namespace Cert.ProjIdeal.Val

open Idealize.ShloMosaic Idealize.ShloMosaic.TcCoe Idealize.SL.Sem

/-- The kernel and the reference end with the same result arrays. -/
theorem same_results : Cert.algebraic_ProjIdeal_ProjRefIdeal := by
  pair_intro
  · run_from Cert.ProjIdeal.Gen.run_main m g
  · run_from Cert.ProjRefIdeal.Value.run m' g'
    · exact (final3 m c).symm
    · exact (final4 m c).symm
    · exact (final5 m c).symm
    · exact (final6 m c).symm

end Cert.ProjIdeal.Val

end
-- ==== Proof.V.OutVal.lean ====
module

public import proofs.«01_k».proof.Proof.Gen.OutIdeal.Value
public import proofs.«01_k».proof.Proof.Gen.OutRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.OutIdeal.Val

open Cert.OutIdeal Cert.OutIdeal.Gen Cert.OutRefIdeal.Read
open Idealize.ShloMosaic Idealize.ShloMosaic.TcCoe Idealize.SL.Sem
open Idealize.ShloMosaic.Pipeline (Dat)

variable (m : (ℓ : Loc nD τ sig) → Buf (Elt Ideal) ℓ)

/-- Where each window's block lies at a grid point: the rows go by the point, the gain and the weights stay. -/
theorem at_point : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![t.val, 0] :=
  (by decide +kernel : ∀ t : Fin grid0.N, _)

/-- What the body leaves in its block is the reference's rows there. -/
theorem point (c : Dev nD) (t : Fin cfg0.N) (y) :
    out0_5 (iblk m c 0 t) (iblk m c 1 t) (iblk m c 2 t) (iblk m c 3 t) (iblk m c 4 t) y
    = val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (((cfg0.win 5).blk t).view.emb y) := by
  unfold out0_5
  frame_out
  pointwise [k0_pay1, val_main_call0_v0, val_main_call0_v1, val_main_call0_cst, val_main_call0_v2, val_main_call0_v3,
    val_main_call0_cst_0, val_main_call0_v4, val_main_call0_v5, val_main_v0, val_main_v1, val_main_v2,
    val_main_v3, val_main_v4, val_main_v5, val_main_v6, val_main_v7, val_main_v8, val_main_v9, val_main_v10,
    val_main_v11, val_main_v12, val_main_v13, val_main_v14, val_main_v15, val_main_v16, val_main_cst,
    val_main_cst_0, val_main_cst_1]
  simp only [Ideal.logistic]
  blk_point [iblk, V, at_point t]

/-- The whole array after the run. -/
theorem final (c : Dev nD) : (dats m 0 c).arrAt 5 cfg0.N
    = val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.OutIdeal.Val

end
-- ==== Proof.V.OutAlg.lean ====
module

public import proofs.«01_k».proof.Defs
public import proofs.«01_k».proof.Proof.V.OutVal
public import proofs.«01_k».proof.Proof.Gen.OutRefIdeal.Run

@[expose] public section

set_option maxRecDepth 16384

noncomputable section

namespace Cert.OutIdeal.Val

open Idealize.ShloMosaic Idealize.ShloMosaic.TcCoe Idealize.SL.Sem

/-- The kernel and the reference end with the same result arrays. -/
theorem same_results : Cert.algebraic_OutIdeal_OutRefIdeal := by
  pair_intro
  · run_from Cert.OutIdeal.Gen.run_main m g
  · run_from Cert.OutRefIdeal.Value.run m' g'
    exact (final m c).symm

end Cert.OutIdeal.Val

end
-- ==== Proof.V.ProjBVal.lean ====
module

public import proofs.«01_k».proof.Proof.Gen.ProjBIdeal.Value
public import proofs.«01_k».proof.Proof.Gen.ProjBRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.ProjBIdeal.Val

open Cert.ProjBIdeal Cert.ProjBIdeal.Gen Cert.ProjBRefIdeal.Read
open Idealize.ShloMosaic Idealize.ShloMosaic.TcCoe Idealize.SL.Sem
open Idealize.ShloMosaic.Pipeline (Dat)

variable (m : (ℓ : Loc nD τ sig) → Buf (Elt Ideal) ℓ)

/-- Where each window's block lies at a grid point: the rows go by the point, the gain and the weights stay, and the
    two transposed results go by the sample and the block of its positions. -/
theorem at_point : ∀ t : Fin cfg0.N, win0_0.index t = ![t.val, 0] ∧ win0_1.index t = ![0, 0]
    ∧ win0_2.index t = ![0, 0] ∧ win0_3.index t = ![t.val, 0] ∧ win0_4.index t = ![t.val, 0]
    ∧ win0_5.index t = ![t.val / 32, 0, t.val % 32] ∧ win0_6.index t = ![t.val / 32, 0, t.val % 32]
    ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0]
    ∧ (grid0.coords t 0).val = t.val :=
  (by decide +kernel : ∀ t : Fin grid0.N, _)

/-- Window 3 (queries, scaled and narrowed): what the body leaves in its block is the reference's there. -/
theorem point3 (c : Dev nD) (t : Fin cfg0.N) (y) :
    out0_3 (grid0.coords t) (iblk m c 0 t) (iblk m c 1 t) (iblk m c 2 t) y
    = val_main_v37 (F := Ideal) (m ((c : Thread nD τ).loc main_arg0)) (m ((c : Thread nD τ).loc main_arg1))
        (m ((c : Thread nD τ).loc main_arg2)) (((cfg0.win 3).blk t).view.emb y) := by
  unfold_out out0_3
  canon_tiles x h
  all_goals
    pointwise [k0_pay3, k0_pay4, k0_pay2, val_main_v37, val_main_v36, val_main_v35, val_main_cst_3, val_main_v14,
    val_main_v13, val_main_v12, val_main_v11, val_main_v10,
    val_main_v9, val_main_v8, val_main_v7, val_main_v6, val_main_v5, val_main_v4, val_main_v3, val_main_v2,
    val_main_v1, val_main_v0, val_main_cst, val_main_cst_0, val_main_cst_1]
    blk_point [iblk, V, at_point t]

/-- Its whole array after the run. -/
theorem final3 (c : Dev nD) : (dats m 0 c).arrAt 3 cfg0.N
    = val_main_v37 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  exact point3 m c t y

/-- Window 4 (keys and values to be compressed): what the body leaves in its block is the reference's there. -/
theorem point4 (c : Dev nD) (t : Fin cfg0.N) (y) :
    out0_4 (grid0.coords t) (iblk m c 0 t) (iblk m c 1 t) (iblk m c 2 t) y
    = val_main_v15 (F := Ideal) (m ((c : Thread nD τ).loc main_arg0)) (m ((c : Thread nD τ).loc main_arg1))
        (m ((c : Thread nD τ).loc main_arg2)) (((cfg0.win 4).blk t).view.emb y) := by
  unfold_out out0_4
  frame_out
  pointwise [k0_pay5, k0_pay2, val_main_v15,
    val_main_v13, val_main_v12, val_main_v11, val_main_v10,
    val_main_v9, val_main_v8, val_main_v7, val_main_v6, val_main_v5, val_main_v4, val_main_v3, val_main_v2,
    val_main_v1, val_main_v0, val_main_cst, val_main_cst_0, val_main_cst_1]
  blk_point [iblk, V, at_point t]

/-- Its whole array after the run. -/
theorem final4 (c : Dev nD) : (dats m 0 c).arrAt 4 cfg0.N
    = val_main_v15 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]
  exact point4 m c t y

/-- Window 7 (window keys and values): what the body leaves in its block is the reference's there. -/
theorem point7 (c : Dev nD) (t : Fin cfg0.N) (y) :
    out0_7 (grid0.coords t) (iblk m c 0 t) (iblk m c 1 t) (iblk m c 2 t) y
    = val_main_v17 (F := Ideal) (m ((c : Thread nD τ).loc main_arg0)) (m ((c : Thread nD τ).loc main_arg1))
        (m ((c : Thread nD τ).loc main_arg2)) (((cfg0.win 7).blk t).view.emb y) := by
  unfold_out out0_7
  frame_out
  pointwise [k0_pay8, k0_pay2, val_main_v17,
    val_main_v13, val_main_v12, val_main_v11, val_main_v10,
    val_main_v9, val_main_v8, val_main_v7, val_main_v6, val_main_v5, val_main_v4, val_main_v3, val_main_v2,
    val_main_v1, val_main_v0, val_main_cst, val_main_cst_0, val_main_cst_1]
  blk_point [iblk, V, at_point t]

/-- Its whole array after the run. -/
theorem final7 (c : Dev nD) : (dats m 0 c).arrAt 7 cfg0.N
    = val_main_v17 (F := Ideal) (m ((c : Thread nD τ).loc main_arg0)) (m ((c : Thread nD τ).loc main_arg1))
        (m ((c : Thread nD τ).loc main_arg2)) := by
  refine (dats m 0 c).arrAt_eq_of_covers 7 _ (by decide +kernel) fun t _ y => ?_
  blk_simp
  rw [after0_7]
  exact point7 m c t y

/-- Window 8 (the gate): what the body leaves in its block is the reference's there. -/
theorem point8 (c : Dev nD) (t : Fin cfg0.N) (y) :
    out0_8 (grid0.coords t) (iblk m c 0 t) (iblk m c 1 t) (iblk m c 2 t) y
    = val_main_v18 (F := Ideal) (m ((c : Thread nD τ).loc main_arg0)) (m ((c : Thread nD τ).loc main_arg1))
        (m ((c : Thread nD τ).loc main_arg2)) (((cfg0.win 8).blk t).view.emb y) := by
  unfold_out out0_8
  canon_tiles x h
  all_goals
    pointwise [k0_pay9, k0_pay10, k0_pay2, val_main_v18,
    val_main_v13, val_main_v12, val_main_v11, val_main_v10,
    val_main_v9, val_main_v8, val_main_v7, val_main_v6, val_main_v5, val_main_v4, val_main_v3, val_main_v2,
    val_main_v1, val_main_v0, val_main_cst, val_main_cst_0, val_main_cst_1]
    blk_point [iblk, V, at_point t]

/-- Its whole array after the run. -/
theorem final8 (c : Dev nD) : (dats m 0 c).arrAt 8 cfg0.N
    = val_main_v18 (F := Ideal) (m ((c : Thread nD τ).loc main_arg0)) (m ((c : Thread nD τ).loc main_arg1))
        (m ((c : Thread nD τ).loc main_arg2)) := by
  refine (dats m 0 c).arrAt_eq_of_covers 8 _ (by decide +kernel) fun t _ y => ?_
  blk_simp
  rw [after0_8]
  exact point8 m c t y

/-- Window 9 (the branch gates): what the body leaves in its block is the reference's there. -/
theorem point9 (c : Dev nD) (t : Fin cfg0.N) (y) :
    out0_9 (grid0.coords t) (iblk m c 0 t) (iblk m c 1 t) (iblk m c 2 t) y
    = val_main_v19 (F := Ideal) (m ((c : Thread nD τ).loc main_arg0)) (m ((c : Thread nD τ).loc main_arg1))
        (m ((c : Thread nD τ).loc main_arg2)) (((cfg0.win 9).blk t).view.emb y) := by
  unfold_out out0_9
  frame_out
  pointwise [k0_pay11, k0_pay2, val_main_v19,
    val_main_v13, val_main_v12, val_main_v11, val_main_v10,
    val_main_v9, val_main_v8, val_main_v7, val_main_v6, val_main_v5, val_main_v4, val_main_v3, val_main_v2,
    val_main_v1, val_main_v0, val_main_cst, val_main_cst_0, val_main_cst_1]
  blk_point [iblk, V, at_point t]

/-- Its whole array after the run. -/
theorem final9 (c : Dev nD) : (dats m 0 c).arrAt 9 cfg0.N
    = val_main_v19 (F := Ideal) (m ((c : Thread nD τ).loc main_arg0)) (m ((c : Thread nD τ).loc main_arg1))
        (m ((c : Thread nD τ).loc main_arg2)) := by
  refine (dats m 0 c).arrAt_eq_of_covers 9 _ (by decide +kernel) fun t _ y => ?_
  blk_simp
  rw [after0_9]
  exact point9 m c t y

/-- Window 10 (keys and values to be selected, narrowed): what the body leaves in its block is the reference's there. -/
theorem point10 (c : Dev nD) (t : Fin cfg0.N) (y) :
    out0_10 (grid0.coords t) (iblk m c 0 t) (iblk m c 1 t) (iblk m c 2 t) y
    = val_main_v42 (F := Ideal) (m ((c : Thread nD τ).loc main_arg0)) (m ((c : Thread nD τ).loc main_arg1))
        (m ((c : Thread nD τ).loc main_arg2)) (((cfg0.win 10).blk t).view.emb y) := by
  unfold_out out0_10
  frame_out
  pointwise [k0_pay12, k0_pay2, val_main_v42, val_main_v16,
    val_main_v13, val_main_v12, val_main_v11, val_main_v10,
    val_main_v9, val_main_v8, val_main_v7, val_main_v6, val_main_v5, val_main_v4, val_main_v3, val_main_v2,
    val_main_v1, val_main_v0, val_main_cst, val_main_cst_0, val_main_cst_1]
  blk_point [iblk, V, at_point t]

/-- Its whole array after the run. -/
theorem final10 (c : Dev nD) : (dats m 0 c).arrAt 10 cfg0.N
    = val_main_v42 (F := Ideal) (m ((c : Thread nD τ).loc main_arg0)) (m ((c : Thread nD τ).loc main_arg1))
        (m ((c : Thread nD τ).loc main_arg2)) := by
  refine (dats m 0 c).arrAt_eq_of_covers 10 _ (by decide +kernel) fun t _ y => ?_
  blk_simp
  rw [after0_10]
  exact point10 m c t y

/-- Window 12 (window keys and values, narrowed): what the body leaves in its block is the reference's there. -/
theorem point12 (c : Dev nD) (t : Fin cfg0.N) (y) :
    out0_12 (grid0.coords t) (iblk m c 0 t) (iblk m c 1 t) (iblk m c 2 t) y
    = val_main_v44 (F := Ideal) (m ((c : Thread nD τ).loc main_arg0)) (m ((c : Thread nD τ).loc main_arg1))
        (m ((c : Thread nD τ).loc main_arg2)) (((cfg0.win 12).blk t).view.emb y) := by
  unfold_out out0_12
  frame_out
  pointwise [k0_pay1, k0_pay2, val_main_v44, val_main_v17,
    val_main_v13, val_main_v12, val_main_v11, val_main_v10,
    val_main_v9, val_main_v8, val_main_v7, val_main_v6, val_main_v5, val_main_v4, val_main_v3, val_main_v2,
    val_main_v1, val_main_v0, val_main_cst, val_main_cst_0, val_main_cst_1]
  blk_point [iblk, V, at_point t]

/-- Its whole array after the run. -/
theorem final12 (c : Dev nD) : (dats m 0 c).arrAt 12 cfg0.N
    = val_main_v44 (F := Ideal) (m ((c : Thread nD τ).loc main_arg0)) (m ((c : Thread nD τ).loc main_arg1))
        (m ((c : Thread nD τ).loc main_arg2)) := by
  refine (dats m 0 c).arrAt_eq_of_covers 12 _ (by decide +kernel) fun t _ y => ?_
  blk_simp
  rw [after0_12]
  exact point12 m c t y

/-- Window 5 (the same, a sample at a time with positions last): the body leaves the block of window 4 turned over. -/
theorem turned5 (i : grid0.Coords) (x0 : FVec Ideal S256x1024 .f32) (x1 : FVec Ideal S1x1024 .f32) (x2 : FVec Ideal S1024x3632 .bf16) (y) :
    (show EReal from out0_5 (F := Ideal) i x0 x1 x2 y) = (show EReal from out0_4 (F := Ideal) i x0 x1 x2 (ix2 (y 2) (y 1))) := by
  unfold_out out0_5
  unfold_out out0_4
  frame_out
  pointwise [k0_pay6, k0_pay5, k0_pay19]

/-- The reference's array read there. -/
theorem ref5 (x0 : FVec Ideal S16384x1024 .f32) (x1 : FVec Ideal S1024 .f32) (x2 : FVec Ideal S1024x3632 .f32)
    (n : Fin 2) (d : Fin 512) (p : Fin 8192) : (val_main_v39 (F := Ideal) x0 x1 x2 (ix3 n d p) : EReal)
    = val_main_v15 (F := Ideal) x0 x1 x2 (ix2 ⟨n.val * 8192 + p.val, by omega⟩ d) := by
  pointwise [val_main_v39, val_main_v38]

/-- Window 5: what the body leaves in its block is the reference's there. -/
theorem point5 (c : Dev nD) (t : Fin cfg0.N) (y) :
    out0_5 (grid0.coords t) (iblk m c 0 t) (iblk m c 1 t) (iblk m c 2 t) y
    = val_main_v39 (F := Ideal) (m ((c : Thread nD τ).loc main_arg0)) (m ((c : Thread nD τ).loc main_arg1))
        (m ((c : Thread nD τ).loc main_arg2)) (((cfg0.win 5).blk t).view.emb y) := by
  refine (turned5 _ _ _ _ y).trans ((point4 m c t _).trans ?_)
  have hN : t.val < 64 := t.isLt
  refine Eq.trans ?_ ((ref5 (m ((c : Thread nD τ).loc main_arg0)) (m ((c : Thread nD τ).loc main_arg1))
        (m ((c : Thread nD τ).loc main_arg2)) ⟨t.val / 32, by omega⟩ (y 1) ⟨t.val % 32 * 256 + (y 2).val, by have : (y 2).val < 256 := (y 2).isLt; omega⟩).symm.trans ?_)
  · refine congrArg _ ?_
    blk_ext [at_point t]
  · refine congrArg _ ?_
    blk_ext [at_point t]

/-- Its whole array after the run. -/
theorem final5 (c : Dev nD) : (dats m 0 c).arrAt 5 cfg0.N
    = val_main_v39 (F := Ideal) (m ((c : Thread nD τ).loc main_arg0)) (m ((c : Thread nD τ).loc main_arg1))
        (m ((c : Thread nD τ).loc main_arg2)) := by
  refine (dats m 0 c).arrAt_eq_of_covers 5 _ (by decide +kernel) fun t _ y => ?_
  blk_simp
  rw [after0_5]
  exact point5 m c t y

/-- Window 6 (keys and values to be selected, a sample at a time with positions last): the body leaves the block of window 10 turned over. -/
theorem turned6 (i : grid0.Coords) (x0 : FVec Ideal S256x1024 .f32) (x1 : FVec Ideal S1x1024 .f32) (x2 : FVec Ideal S1024x3632 .bf16) (y) :
    (show EReal from out0_6 (F := Ideal) i x0 x1 x2 y) = (show EReal from out0_10 (F := Ideal) i x0 x1 x2 (ix2 (y 2) (y 1))) := by
  unfold_out out0_6
  unfold_out out0_10
  frame_out
  pointwise [k0_pay7, k0_pay12, k0_pay19]

/-- The reference's array read there. -/
theorem ref6 (x0 : FVec Ideal S16384x1024 .f32) (x1 : FVec Ideal S1024 .f32) (x2 : FVec Ideal S1024x3632 .f32)
    (n : Fin 2) (d : Fin 512) (p : Fin 8192) : (val_main_v41 (F := Ideal) x0 x1 x2 (ix3 n d p) : EReal)
    = val_main_v42 (F := Ideal) x0 x1 x2 (ix2 ⟨n.val * 8192 + p.val, by omega⟩ d) := by
  pointwise [val_main_v41, val_main_v40, val_main_v42]

/-- Window 6: what the body leaves in its block is the reference's there. -/
theorem point6 (c : Dev nD) (t : Fin cfg0.N) (y) :
    out0_6 (grid0.coords t) (iblk m c 0 t) (iblk m c 1 t) (iblk m c 2 t) y
    = val_main_v41 (F := Ideal) (m ((c : Thread nD τ).loc main_arg0)) (m ((c : Thread nD τ).loc main_arg1))
        (m ((c : Thread nD τ).loc main_arg2)) (((cfg0.win 6).blk t).view.emb y) := by
  refine (turned6 _ _ _ _ y).trans ((point10 m c t _).trans ?_)
  have hN : t.val < 64 := t.isLt
  refine Eq.trans ?_ ((ref6 (m ((c : Thread nD τ).loc main_arg0)) (m ((c : Thread nD τ).loc main_arg1))
        (m ((c : Thread nD τ).loc main_arg2)) ⟨t.val / 32, by omega⟩ (y 1) ⟨t.val % 32 * 256 + (y 2).val, by have : (y 2).val < 256 := (y 2).isLt; omega⟩).symm.trans ?_)
  · refine congrArg _ ?_
    blk_ext [at_point t]
  · refine congrArg _ ?_
    blk_ext [at_point t]

/-- Its whole array after the run. -/
theorem final6 (c : Dev nD) : (dats m 0 c).arrAt 6 cfg0.N
    = val_main_v41 (F := Ideal) (m ((c : Thread nD τ).loc main_arg0)) (m ((c : Thread nD τ).loc main_arg1))
        (m ((c : Thread nD τ).loc main_arg2)) := by
  refine (dats m 0 c).arrAt_eq_of_covers 6 _ (by decide +kernel) fun t _ y => ?_
  blk_simp
  rw [after0_6]
  exact point6 m c t y

end Cert.ProjBIdeal.Val

end
-- ==== Proof.V.ProjBKeys.lean ====
module

public import proofs.«01_k».proof.Proof.V.ProjBVal
public import Idealize.ShloMosaic.Lib.KernelVsHost

@[expose] public section

set_option maxRecDepth 16384

noncomputable section

namespace Cert.ProjBIdeal.Val

open Cert.ProjBIdeal Cert.ProjBIdeal.Gen Cert.ProjBRefIdeal.Read
open Idealize.ShloMosaic Idealize.ShloMosaic.TcCoe Idealize.SL.Sem
open Idealize.ShloMosaic.Pipeline (Dat)

/-- A row's position in its sample, over the width of a selection block. -/
theorem block_word : ∀ n : Fin 16384, IntOp.shrsi .vector (IntOp.andi (BitVec.ofNat 32 n.val) 8191#32) 6#32
    = BitVec.ofNat 32 (n.val / 64 % 128) := by decide +kernel

/-- A bit widened and read as a signed word is the bit read unsigned. -/
theorem bit_number : ∀ b : BitVec 1, FloatOps.sitofp (F := Ideal) .f32 (BitVec.setWidth 32 b) = FloatOps.uitofp (F := Ideal) .f32 b :=
  fun b => congrFun (sitofp_extui_eq_uitofp (φ := .f32) (s := ⟨1, ![1]⟩) (fun _ => b) (by decide)) (ix1 0)

/-- The kernel's block number against a lane, as the reference states it. -/
theorem onehot (t r l : ℕ) (ht : t < 64) (hr : r < 256) :
    FloatOps.sitofp (F := Ideal) .f32 (BitVec.setWidth 32
        (IntOp.cmpi CmpIPredicate.eq (BitVec.ofNat 32 l)
          (IntOp.shrsi ArithUnit.vector
            (IntOp.andi (IntOp.addi (Scalar.muli (BitVec.ofNat 32 t) 256#32) (BitVec.ofNat 32 r)) 8191#32) 6#32)))
    = FloatOps.uitofp (F := Ideal) .f32 (IntOp.cmpi CmpIPredicate.eq (BitVec.ofNat 32 ((t * 256 + r) / 64 % 128)) (BitVec.ofNat 32 l)) := by
  have e : IntOp.addi (Scalar.muli (BitVec.ofNat 32 t) 256#32) (BitVec.ofNat 32 r) = BitVec.ofNat 32 (t * 256 + r) := by
    rw [BitVec.ofNat_add, BitVec.ofNat_mul]; rfl
  rw [bit_number, e, block_word ⟨t * 256 + r, by omega⟩]
  unfold IntOp.cmpi
  simp only [Bool.beq_comm]

/-- The reference's keys with block numbers, entry by entry. -/
theorem ref11 (x0 : FVec Ideal S16384x1024 .f32) (x1 : FVec Ideal S1024 .f32) (x2 : FVec Ideal S1024x3632 .f32)
    (r : Fin 16384) (q : Fin 1024) : (show EReal from val_main_v43 (F := Ideal) x0 x1 x2 (ix2 r q))
    = if h : q.val % 256 < 64 then (show EReal from val_main_v42 (F := Ideal) x0 x1 x2 (ix2 r ⟨q.val / 256 * 128 + q.val % 256, by omega⟩))
      else if q.val % 256 - 64 < 64 then (0 : EReal)
      else (show EReal from FloatOps.uitofp (F := Ideal) .f32
        (IntOp.cmpi CmpIPredicate.eq (BitVec.ofNat 32 (r.val / 64 % 128)) (BitVec.ofNat 32 (q.val % 256 - 64 - 64)))) := by
  have e : ∀ w : BitVec 32, IntOp.addi w 0#32 = w := fun w => BitVec.add_zero w
  pointwise [val_main_v43, val_main_v42, val_main_v34, val_main_v33, val_main_v32, val_main_v31, val_main_v30, val_main_v29,
    val_main_v28, val_main_v27, val_main_v26, val_main_v25, val_main_v24, val_main_v23, val_main_v22, val_main_v21, val_main_v20,
    val_main_c, val_main_cst_2, e]
  rfl

/-- A lane below the half, as a bit. -/
theorem half_select (l : ℕ) (hl : l < 128) (a : EReal) :
    Scalar.select (IntOp.cmpi CmpIPredicate.slt (BitVec.ofNat 32 l) 64#32) a 0 = if l < 64 then a else 0 := by
  have e : ∀ l : Fin 128, (IntOp.cmpi CmpIPredicate.slt (BitVec.ofNat 32 l.val) 64#32 = 1) ↔ l.val < 64 := by decide +kernel
  unfold Scalar.select
  exact if_congr (e ⟨l, hl⟩) rfl rfl

/-- The body's keys with block numbers, entry by entry. -/
theorem keys (i : grid0.Coords) (hi : (i 0).val < 64) (x0 : FVec Ideal S256x1024 .f32) (x1 : FVec Ideal S1x1024 .f32)
    (x2 : FVec Ideal S1024x3632 .bf16) (r : Fin 256) (q : Fin 1024) :
    (show EReal from out0_11 (F := Ideal) i x0 x1 x2 (ix2 r q))
    = if h : q.val % 256 < 64 then (show EReal from out0_10 (F := Ideal) i x0 x1 x2 (ix2 r ⟨q.val / 256 * 128 + q.val % 256, by omega⟩))
      else if q.val % 256 - 64 < 64 then (0 : EReal)
      else (show EReal from FloatOps.uitofp (F := Ideal) .f32
        (IntOp.cmpi CmpIPredicate.eq (BitVec.ofNat 32 (((i 0).val * 256 + r.val) / 64 % 128)) (BitVec.ofNat 32 (q.val % 256 - 64 - 64)))) := by
  unfold_out out0_10
  unfold_out out0_11
  generalize hy : (ix2 r q : S256x1024.Idx) = y
  have hr : r.val = (y 0).val := by rw [← hy]; rfl
  have hq : q.val = (y 1).val := by rw [← hy]; rfl
  canon_tiles x h
  all_goals
    frame_out
    pointwise [k0_pay13, k0_pay14, k0_pay15, k0_pay16, k0_pay17, k0_pay18, k0_pay12]
    first
    | rw [onehot _ _ _ hi x0_lt, dif_neg (by omega), if_neg (by omega), show q.val % 256 - 64 - 64 = (x 1).val by omega,
        show r.val = (x 0).val by omega]
    | rw [half_select _ x1_lt]
      by_cases hx : (x 1).val < 64
      · rw [if_pos hx, dif_pos (by omega)]
        refine Finset.sum_congr rfl fun k _ => congrArg₂ (· * ·) ?_ (congrArg x2 ?_)
        · exact congrArg (fun s : Fin 256 => k0_pay2 (F := Ideal) x0 x1 (ix2 s k)) (Fin.ext (by show (x 0).val = r.val; omega))
        · exact (ix2_inj ..).2 ⟨rfl, Fin.ext (by simp only; omega)⟩
      · rw [if_neg hx, dif_neg (by omega), if_pos (by omega)]

variable (m : (ℓ : Loc nD τ sig) → Buf (Elt Ideal) ℓ)

/-- Window 11 (keys with block numbers): what the body leaves in its block is the reference's there. -/
theorem point11_at (c : Dev nD) (t : Fin cfg0.N) (r : Fin 256) (q : Fin 1024) :
    out0_11 (grid0.coords t) (iblk m c 0 t) (iblk m c 1 t) (iblk m c 2 t) (ix2 r q)
    = val_main_v43 (F := Ideal) (m ((c : Thread nD τ).loc main_arg0)) (m ((c : Thread nD τ).loc main_arg1))
        (m ((c : Thread nD τ).loc main_arg2)) (((cfg0.win 11).blk t).view.emb (ix2 r q)) := by
  have hN : t.val < 64 := t.isLt
  have hc : (grid0.coords t 0).val = t.val := (at_point t).2.2.2.2.2.2.2.2.2.2.2.2.2
  have he : ((cfg0.win 11).blk t).view.emb (ix2 r q) = (ix2 (⟨t.val * 256 + r.val, by omega⟩ : Fin 16384) q : S16384x1024.Idx) := by
    blk_ext [at_point t]
  rw [he]
  refine Eq.trans ?_ (ref11 _ _ _ _ _).symm
  refine (keys _ (by omega) _ _ _ r q).trans ?_
  by_cases h1 : q.val % 256 < 64
  · rw [dif_pos h1, dif_pos h1]
    refine (point10 m c t _).trans (congrArg _ ?_)
    blk_ext [at_point t]
  · rw [dif_neg h1, dif_neg h1, hc]

theorem point11 (c : Dev nD) (t : Fin cfg0.N) (y : S256x1024.Idx) :
    out0_11 (grid0.coords t) (iblk m c 0 t) (iblk m c 1 t) (iblk m c 2 t) y
    = val_main_v43 (F := Ideal) (m ((c : Thread nD τ).loc main_arg0)) (m ((c : Thread nD τ).loc main_arg1))
        (m ((c : Thread nD τ).loc main_arg2)) (((cfg0.win 11).blk t).view.emb y) := by
  obtain ⟨r, q, rfl⟩ : ∃ (r : Fin 256) (q : Fin 1024), y = ix2 r q := ⟨y 0, y 1, eq_ix2 y⟩
  exact point11_at m c t r q

/-- Its whole array after the run. -/
theorem final11 (c : Dev nD) : (dats m 0 c).arrAt 11 cfg0.N
    = val_main_v43 (F := Ideal) (m ((c : Thread nD τ).loc main_arg0)) (m ((c : Thread nD τ).loc main_arg1))
        (m ((c : Thread nD τ).loc main_arg2)) := by
  refine (dats m 0 c).arrAt_eq_of_covers 11 _ (by decide +kernel) fun t _ y => ?_
  blk_simp
  rw [after0_11]
  exact point11 m c t y

end Cert.ProjBIdeal.Val

end
-- ==== Proof.V.ProjBAlg.lean ====
module

public import proofs.«01_k».proof.Defs
public import proofs.«01_k».proof.Proof.V.ProjBKeys
public import proofs.«01_k».proof.Proof.Gen.ProjBRefIdeal.Run

@[expose] public section

set_option maxRecDepth 16384

noncomputable section

namespace Cert.ProjBRefIdeal.Named

open Cert.ProjBRefIdeal Cert.ProjBRefIdeal.Read
open Idealize.ShloMosaic Idealize.ShloMosaic.TcCoe Idealize.SL.Sem

/-- The reference's run, each result named by its stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = val_main_v37 (F := Ideal) (m ((c.tc : Thread nD τ).loc main_arg0)) (m ((c.tc : Thread nD τ).loc main_arg1))
          (m ((c.tc : Thread nD τ).loc main_arg2))
      ∧ r.2.mem ((c.tc : Thread nD τ).loc main_v15) = val_main_v15 (F := Ideal) (m ((c.tc : Thread nD τ).loc main_arg0)) (m ((c.tc : Thread nD τ).loc main_arg1))
          (m ((c.tc : Thread nD τ).loc main_arg2))
      ∧ r.2.mem ((c.tc : Thread nD τ).loc main_v39) = val_main_v39 (F := Ideal) (m ((c.tc : Thread nD τ).loc main_arg0)) (m ((c.tc : Thread nD τ).loc main_arg1))
          (m ((c.tc : Thread nD τ).loc main_arg2))
      ∧ r.2.mem ((c.tc : Thread nD τ).loc main_v41) = val_main_v41 (F := Ideal) (m ((c.tc : Thread nD τ).loc main_arg0)) (m ((c.tc : Thread nD τ).loc main_arg1))
          (m ((c.tc : Thread nD τ).loc main_arg2))
      ∧ r.2.mem ((c.tc : Thread nD τ).loc main_v17) = val_main_v17 (F := Ideal) (m ((c.tc : Thread nD τ).loc main_arg0)) (m ((c.tc : Thread nD τ).loc main_arg1))
          (m ((c.tc : Thread nD τ).loc main_arg2))
      ∧ r.2.mem ((c.tc : Thread nD τ).loc main_v18) = val_main_v18 (F := Ideal) (m ((c.tc : Thread nD τ).loc main_arg0)) (m ((c.tc : Thread nD τ).loc main_arg1))
          (m ((c.tc : Thread nD τ).loc main_arg2))
      ∧ r.2.mem ((c.tc : Thread nD τ).loc main_v19) = val_main_v19 (F := Ideal) (m ((c.tc : Thread nD τ).loc main_arg0)) (m ((c.tc : Thread nD τ).loc main_arg1))
          (m ((c.tc : Thread nD τ).loc main_arg2))
      ∧ r.2.mem ((c.tc : Thread nD τ).loc main_v42) = val_main_v42 (F := Ideal) (m ((c.tc : Thread nD τ).loc main_arg0)) (m ((c.tc : Thread nD τ).loc main_arg1))
          (m ((c.tc : Thread nD τ).loc main_arg2))
      ∧ r.2.mem ((c.tc : Thread nD τ).loc main_v43) = val_main_v43 (F := Ideal) (m ((c.tc : Thread nD τ).loc main_arg0)) (m ((c.tc : Thread nD τ).loc main_arg1))
          (m ((c.tc : Thread nD τ).loc main_arg2))
      ∧ r.2.mem ((c.tc : Thread nD τ).loc main_v44) = val_main_v44 (F := Ideal) (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, h2, h3, h4, h5, h6, h7, h8, h9, ha⟩ := h c
    exact ⟨h0.trans (val_main_v37_eq _ _ _),
      h1.trans (val_main_v15_eq _ _ _),
      h2.trans (val_main_v39_eq _ _ _),
      h3.trans (val_main_v41_eq _ _ _),
      h4.trans (val_main_v17_eq _ _ _),
      h5.trans (val_main_v18_eq _ _ _),
      h6.trans (val_main_v19_eq _ _ _),
      h7.trans (val_main_v42_eq _ _ _),
      h8.trans (val_main_v43_eq _ _ _),
      h9.trans (val_main_v44_eq _ _ _), ha⟩) (Cert.ProjBRefIdeal.Value.run m ρ)

end Cert.ProjBRefIdeal.Named

namespace Cert.ProjBIdeal.Val

open Idealize.ShloMosaic Idealize.ShloMosaic.TcCoe Idealize.SL.Sem

/-- A function of three arguments, at equal arguments. -/
theorem same_args {α β γ δ : Type} (f : α → β → γ → δ) {a a' : α} {b b' : β} {d d' : γ} (ha : a = a') (hb : b = b')
    (hd : d = d') : f a b d = f a' b' d' := by
  rw [ha, hb, hd]

set_option maxHeartbeats 4000000 in
/-- The kernel and the reference end with the same result arrays. -/
theorem same_results : Cert.algebraic_ProjBIdeal_ProjBRefIdeal := by
  pair_intro
  · run_from Cert.ProjBIdeal.Gen.run_main m g
  · refine (θ_run _ _ _).mono (fun r h c => ?_) (Cert.ProjBRefIdeal.Named.run m' g')
    obtain ⟨a0, a1, a2⟩ := hagree c
    obtain ⟨h0, h1, h2, h3, h4, h5, h6, h7, h8, h9, ha⟩ := h c
    exact ⟨h0.trans ((same_args (Cert.ProjBRefIdeal.Read.val_main_v37 (F := Ideal)) a0 a1 a2).trans (final3 m c).symm),
      h1.trans ((same_args (Cert.ProjBRefIdeal.Read.val_main_v15 (F := Ideal)) a0 a1 a2).trans (final4 m c).symm),
      h2.trans ((same_args (Cert.ProjBRefIdeal.Read.val_main_v39 (F := Ideal)) a0 a1 a2).trans (final5 m c).symm),
      h3.trans ((same_args (Cert.ProjBRefIdeal.Read.val_main_v41 (F := Ideal)) a0 a1 a2).trans (final6 m c).symm),
      h4.trans ((same_args (Cert.ProjBRefIdeal.Read.val_main_v17 (F := Ideal)) a0 a1 a2).trans (final7 m c).symm),
      h5.trans ((same_args (Cert.ProjBRefIdeal.Read.val_main_v18 (F := Ideal)) a0 a1 a2).trans (final8 m c).symm),
      h6.trans ((same_args (Cert.ProjBRefIdeal.Read.val_main_v19 (F := Ideal)) a0 a1 a2).trans (final9 m c).symm),
      h7.trans ((same_args (Cert.ProjBRefIdeal.Read.val_main_v42 (F := Ideal)) a0 a1 a2).trans (final10 m c).symm),
      h8.trans ((same_args (Cert.ProjBRefIdeal.Read.val_main_v43 (F := Ideal)) a0 a1 a2).trans (final11 m c).symm),
      h9.trans ((same_args (Cert.ProjBRefIdeal.Read.val_main_v44 (F := Ideal)) a0 a1 a2).trans (final12 m c).symm),
      ha⟩

end Cert.ProjBIdeal.Val

end
-- ==== Proof.V.ProjCVal.lean ====
module

public import proofs.«01_k».proof.Proof.Gen.ProjCIdeal.Value
public import proofs.«01_k».proof.Proof.Gen.ProjCRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.ProjCIdeal.Val

open Cert.ProjCIdeal Cert.ProjCIdeal.Gen Cert.ProjCRefIdeal.Read
open Idealize.ShloMosaic Idealize.ShloMosaic.TcCoe Idealize.SL.Sem
open Idealize.ShloMosaic.Pipeline (Dat)

variable (m : (ℓ : Loc nD τ sig) → Buf (Elt Ideal) ℓ)

/-- Where each window's block lies at a grid point: the rows go by the point, the gain and the weights stay. -/
theorem at_point : ∀ t : Fin cfg0.N, win0_0.index t = ![t.val, 0] ∧ win0_1.index t = ![0, 0]
    ∧ win0_2.index t = ![0, 0] ∧ win0_3.index t = ![t.val, 0] ∧ win0_4.index t = ![t.val, 0]
    ∧ win0_5.index t = ![t.val, 0] ∧ win0_6.index t = ![t.val, 0]
    ∧ win0_7.index t = ![t.val, 0] ∧ win0_8.index t = ![t.val, 0] ∧ win0_9.index t = ![t.val, 0]
    ∧ win0_10.index t = ![t.val, 0] :=
  (by decide +kernel : ∀ t : Fin grid0.N, _)

/-! ## The two rearrangements of the rows of a block -/

/-- The row a row of the block is taken from, when four tokens go into one row. -/
theorem word4 : ∀ r : Fin 256, IntOp.addi (Scalar.muli (IntOp.andi (BitVec.ofNat 32 r.val) 63#32) 4#32)
    (IntOp.shrsi .vector (BitVec.ofNat 32 r.val) 6#32) = BitVec.ofNat 32 (r.val % 64 * 4 + r.val / 64) := by decide +kernel

/-- The row a row of the block is taken from, when sixteen tokens go into one row. -/
theorem word16 : ∀ r : Fin 256, IntOp.addi (Scalar.muli (IntOp.andi (BitVec.ofNat 32 r.val) 15#32) 16#32)
    (IntOp.shrsi .vector (BitVec.ofNat 32 r.val) 4#32) = BitVec.ofNat 32 (r.val % 16 * 16 + r.val / 16) := by decide +kernel

/-- A comparison of two small numbers, as a number. -/
theorem bit (l s : ℕ) (hl : l < 256) (hs : s < 256) :
    FloatOps.sitofp (F := Ideal) .f32 (BitVec.setWidth 32 (IntOp.cmpi CmpIPredicate.eq (BitVec.ofNat 32 l) (BitVec.ofNat 32 s)))
    = if l = s then (1 : EReal) else 0 := by
  by_cases h : l = s
  · subst h
    rw [if_pos rfl]
    have e : IntOp.cmpi CmpIPredicate.eq (BitVec.ofNat 32 l) (BitVec.ofNat 32 l) = 1#1 := by simp [IntOp.cmpi]
    rw [e]
    show (((BitVec.setWidth 32 (1#1)).toInt : ℝ) : EReal) = 1
    norm_num
  · rw [if_neg h]
    have e : IntOp.cmpi CmpIPredicate.eq (BitVec.ofNat 32 l) (BitVec.ofNat 32 s) = 0#1 := by
      have hne : BitVec.ofNat 32 l ≠ BitVec.ofNat 32 s := fun he => h (by
        have := congrArg BitVec.toNat he
        rw [BitVec.toNat_ofNat, BitVec.toNat_ofNat, Nat.mod_eq_of_lt (by omega), Nat.mod_eq_of_lt (by omega)] at this
        exact this)
      unfold IntOp.cmpi
      show BitVec.ofBool (BitVec.ofNat 32 l == BitVec.ofNat 32 s) = 0#1
      rw [beq_eq_false_iff_ne.2 hne]; rfl
    rw [e]
    show (((BitVec.setWidth 32 (0#1)).toInt : ℝ) : EReal) = 0
    norm_num

/-- A matrix with one entry 1 in each row, times a matrix: the row of that entry. -/
theorem pick (s : ℕ) (hs : s < 256) (f : Fin 256 → EReal) :
    (∑ l : Fin 256, FloatOps.sitofp (F := Ideal) .f32 (BitVec.setWidth 32
      (IntOp.cmpi CmpIPredicate.eq (BitVec.ofNat 32 l.val) (BitVec.ofNat 32 s))) * f l) = f ⟨s, hs⟩ := by
  rw [Finset.sum_eq_single_of_mem (⟨s, hs⟩ : Fin 256) (Finset.mem_univ _)]
  · rw [bit s s hs hs, if_pos rfl]; exact one_mul _
  · intro l _ hne
    rw [bit l.val s l.isLt hs, if_neg (fun h => hne (Fin.ext h))]; exact zero_mul _

/-- The rows rearranged, four tokens to a row. -/
theorem rows4 (v : FVec Ideal S256x1024 .bf16) (r : Fin 256) (k : Fin 1024) :
    k0_pay7 (F := Ideal) v (iota Kind.tc S256x1 32 [0] iota_S256x1_d0_w32) k0_pay6 6#32 (ix2 r k)
    = v (ix2 ⟨r.val % 64 * 4 + r.val / 64, by omega⟩ k) := by
  pointwise [k0_pay7, k0_pay6]
  have e : IntOp.addi (IntOp.muli (IntOp.andi (BitVec.ofNat 32 r.val) 63#32) 4#32)
      (IntOp.shrsi ArithUnit.vector (BitVec.ofNat 32 r.val) 6#32) = BitVec.ofNat 32 (r.val % 64 * 4 + r.val / 64) := word4 r
  rw [e]
  exact pick _ (by omega) fun l => v (ix2 l k)

/-- The rows rearranged, sixteen tokens to a row. -/
theorem rows16 (v : FVec Ideal S256x1024 .bf16) (r : Fin 256) (k : Fin 1024) :
    k0_pay18 (F := Ideal) v (ix2 r k) = v (ix2 ⟨r.val % 16 * 16 + r.val / 16, by omega⟩ k) := by
  pointwise [k0_pay18]
  have e : IntOp.addi (IntOp.muli (IntOp.andi (BitVec.ofNat 32 r.val) 15#32) 16#32)
      (IntOp.shrsi ArithUnit.vector (BitVec.ofNat 32 r.val) 4#32) = BitVec.ofNat 32 (r.val % 16 * 16 + r.val / 16) := word16 r
  rw [e]
  exact pick _ (by omega) fun l => v (ix2 l k)

/-! ## The operands of the products at a grid point -/

/-- The normalized rows of the point's block are the reference's. -/
theorem z_at (c : Dev nD) (t : Fin cfg0.N) (r : Fin 256) (k : Fin 1024) (R : Fin 16384) (hR : R.val = t.val * 256 + r.val) :
    (show EReal from k0_pay3 (F := Ideal) (iblk m c 0 t) (iblk m c 1 t) (ix2 r k))
    = (show EReal from val_main_v12 (F := Ideal) (m ((c : Thread nD τ).loc main_arg0)) (m ((c : Thread nD τ).loc main_arg1)) (ix2 R k)) := by
  pointwise [k0_pay3, val_main_v12, val_main_v11, val_main_v10,
    val_main_v9, val_main_v8, val_main_v7, val_main_v6, val_main_v5, val_main_v4, val_main_v3, val_main_v2,
    val_main_v1, val_main_v0, val_main_cst, val_main_cst_0, val_main_cst_1]
  blk_point [iblk, V, at_point t]

/-- A strip of 512 columns of the weights. -/
theorem w512 (c : Dev nD) (t : Fin cfg0.N) (off : ℕ) (inb) (k : Fin 1024) (j : Fin 512) (q : Fin 4864) (hq : q.val = off + j.val) :
    (show EReal from View.ld (iblk m c 2 t) (Rect.unit ![0, off] ![1024, 512] inb) (ix2 k j))
    = (show EReal from m ((c : Thread nD τ).loc main_arg2) (ix2 k q)) := by
  refine Eq.trans (View.ld_unit_apply_of (iblk m c 2 t) ![0, off] ![1024, 512] inb (ix2 k j) (ix2 k q) ?_) ?_
  · intro a
    match a with
    | 0 => exact (Nat.zero_add _).symm
    | 1 => exact hq
  · blk_point [iblk, V, at_point t]

/-- A strip of 256 columns of the weights. -/
theorem w256 (c : Dev nD) (t : Fin cfg0.N) (off : ℕ) (inb) (k : Fin 1024) (j : Fin 256) (q : Fin 4864) (hq : q.val = off + j.val) :
    (show EReal from View.ld (iblk m c 2 t) (Rect.unit ![0, off] ![1024, 256] inb) (ix2 k j))
    = (show EReal from m ((c : Thread nD τ).loc main_arg2) (ix2 k q)) := by
  refine Eq.trans (View.ld_unit_apply_of (iblk m c 2 t) ![0, off] ![1024, 256] inb (ix2 k j) (ix2 k q) ?_) ?_
  · intro a
    match a with
    | 0 => exact (Nat.zero_add _).symm
    | 1 => exact hq
  · blk_point [iblk, V, at_point t]

/-! ## The reference's results as entries of its one product -/

section Reference
variable (x0 : FVec Ideal S16384x1024 .f32) (x1 : FVec Ideal S1024 .f32) (x2 : FVec Ideal S1024x4864 .f32)

/-- The reference's product of the normalized rows and all the weights. -/
theorem ref_dot (R : Fin 16384) (q : Fin 4864) : (show EReal from val_main_v13 (F := Ideal) x0 x1 x2 (ix2 R q))
    = ∑ k : Fin 1024, (show EReal from val_main_v12 (F := Ideal) x0 x1 (ix2 R k)) * (show EReal from x2 (ix2 k q)) := by
  pointwise [val_main_v13]

/-- The queries of the branch of stride 1. -/
theorem ref3 (y : S16384x1024.Idx) (R : Fin 16384) (q : Fin 4864) (hR : R.val = (y 0).val) (hq : q.val = 0 + (y 1).val) :
    (show EReal from val_main_v20 (F := Ideal) x0 x1 x2 y)
    = (show EReal from val_main_v13 (F := Ideal) x0 x1 x2 (ix2 R q)) * Ideal.ofBits .f32 0x3E000000#32 := by
  pointwise [val_main_v20, val_main_v19, val_main_v18, val_main_v17, val_main_v14, val_main_cst_2]
  exact congrArg (fun z : EReal => z * Ideal.ofBits .f32 0x3E000000#32) (congrArg (val_main_v13 (F := Ideal) x0 x1 x2)
    ((ix2_inj ..).2 ⟨Fin.ext (by first | exact hR.symm | (simp only; omega)), Fin.ext (by first | exact hq.symm | (simp only; omega))⟩))

/-- The queries of the branch of stride 4. -/
theorem ref4 (y : S4096x4096.Idx) (R : Fin 16384) (q : Fin 4864) (hR : R.val = (y 0).val * 4 + (y 1).val / 1024) (hq : q.val = 1024 + (y 1).val % 1024) :
    (show EReal from val_main_v25 (F := Ideal) x0 x1 x2 y)
    = (show EReal from val_main_v13 (F := Ideal) x0 x1 x2 (ix2 R q)) * Ideal.ofBits .f32 0x3E000000#32 := by
  pointwise [val_main_v25, val_main_v24, val_main_v23, val_main_v22, val_main_v21, val_main_v14, val_main_cst_3]
  exact congrArg (fun z : EReal => z * Ideal.ofBits .f32 0x3E000000#32) (congrArg (val_main_v13 (F := Ideal) x0 x1 x2)
    ((ix2_inj ..).2 ⟨Fin.ext (by first | exact hR.symm | (simp only; omega)), Fin.ext (by first | exact hq.symm | (simp only; omega))⟩))

/-- The queries of the branch of stride 16. -/
theorem ref5 (y : S1024x16384.Idx) (R : Fin 16384) (q : Fin 4864) (hR : R.val = (y 0).val * 16 + (y 1).val / 1024) (hq : q.val = 2048 + (y 1).val % 1024) :
    (show EReal from val_main_v30 (F := Ideal) x0 x1 x2 y)
    = (show EReal from val_main_v13 (F := Ideal) x0 x1 x2 (ix2 R q)) * Ideal.ofBits .f32 0x3E000000#32 := by
  pointwise [val_main_v30, val_main_v29, val_main_v28, val_main_v27, val_main_v26, val_main_v14, val_main_cst_4]
  exact congrArg (fun z : EReal => z * Ideal.ofBits .f32 0x3E000000#32) (congrArg (val_main_v13 (F := Ideal) x0 x1 x2)
    ((ix2_inj ..).2 ⟨Fin.ext (by first | exact hR.symm | (simp only; omega)), Fin.ext (by first | exact hq.symm | (simp only; omega))⟩))

/-- The keys and values of the branch of stride 1. -/
theorem ref6 (y : S16384x256.Idx) (R : Fin 16384) (q : Fin 4864) (hR : R.val = (y 0).val) (hq : q.val = 3072 + (y 1).val) :
    (show EReal from val_main_v32 (F := Ideal) x0 x1 x2 y)
    = (show EReal from val_main_v13 (F := Ideal) x0 x1 x2 (ix2 R q)) := by
  pointwise [val_main_v32, val_main_v31, val_main_v15]
  blk_ext

/-- The keys and values of the branch of stride 4. -/
theorem ref7 (y : S4096x1024.Idx) (R : Fin 16384) (q : Fin 4864) (hR : R.val = (y 0).val * 4 + (y 1).val / 256) (hq : q.val = 3328 + (y 1).val % 256) :
    (show EReal from val_main_v35 (F := Ideal) x0 x1 x2 y)
    = (show EReal from val_main_v13 (F := Ideal) x0 x1 x2 (ix2 R q)) := by
  pointwise [val_main_v35, val_main_v34, val_main_v33, val_main_v15]
  blk_ext

/-- The keys and values of the branch of stride 16. -/
theorem ref8 (y : S1024x4096.Idx) (R : Fin 16384) (q : Fin 4864) (hR : R.val = (y 0).val * 16 + (y 1).val / 256) (hq : q.val = 3584 + (y 1).val % 256) :
    (show EReal from val_main_v38 (F := Ideal) x0 x1 x2 y)
    = (show EReal from val_main_v13 (F := Ideal) x0 x1 x2 (ix2 R q)) := by
  pointwise [val_main_v38, val_main_v37, val_main_v36, val_main_v15]
  blk_ext

/-- The keys and values of all branches. -/
theorem ref9 (y : S16384x768.Idx) (R : Fin 16384) (q : Fin 4864) (hR : R.val = (y 0).val) (hq : q.val = 3072 + (y 1).val) :
    (show EReal from val_main_v15 (F := Ideal) x0 x1 x2 y)
    = (show EReal from val_main_v13 (F := Ideal) x0 x1 x2 (ix2 R q)) := by
  pointwise [val_main_v15]
  blk_ext

/-- The gate. -/
theorem ref10 (y : S16384x1024.Idx) (R : Fin 16384) (q : Fin 4864) (hR : R.val = (y 0).val) (hq : q.val = 3840 + (y 1).val) :
    (show EReal from val_main_v16 (F := Ideal) x0 x1 x2 y)
    = (show EReal from val_main_v13 (F := Ideal) x0 x1 x2 (ix2 R q)) := by
  pointwise [val_main_v16]
  blk_ext

end Reference

/-! ## The kernel's products -/

/-- A row of the point's block times a column of a strip of 512 columns is the reference's entry. -/
theorem dot512 (c : Dev nD) (t : Fin cfg0.N) (off : ℕ) (inb) (r : Fin 256) (j : Fin 512) (R : Fin 16384) (q : Fin 4864)
    (hR : R.val = t.val * 256 + r.val) (hq : q.val = off + j.val) :
    (∑ k : Fin 1024, (show EReal from (k0_pay3 (F := Ideal) (iblk m c 0 t) (iblk m c 1 t)) (ix2 r k)) * (show EReal from (View.ld (iblk m c 2 t) (Rect.unit ![0, off] ![1024, 512] inb)) (ix2 k j)))
    = (show EReal from val_main_v13 (F := Ideal) (m ((c : Thread nD τ).loc main_arg0)) (m ((c : Thread nD τ).loc main_arg1))
      (m ((c : Thread nD τ).loc main_arg2)) (ix2 R q)) := by
  rw [ref_dot]
  refine Finset.sum_congr rfl fun k _ => ?_
  rw [z_at m c t r k R hR, w512 m c t off inb k j q hq]

/-- A row of the point's block times a column of a strip of 256 columns is the reference's entry. -/
theorem dot256 (c : Dev nD) (t : Fin cfg0.N) (off : ℕ) (inb) (r : Fin 256) (j : Fin 256) (R : Fin 16384) (q : Fin 4864)
    (hR : R.val = t.val * 256 + r.val) (hq : q.val = off + j.val) :
    (∑ k : Fin 1024, (show EReal from (k0_pay3 (F := Ideal) (iblk m c 0 t) (iblk m c 1 t)) (ix2 r k)) * (show EReal from (View.ld (iblk m c 2 t) (Rect.unit ![0, off] ![1024, 256] inb)) (ix2 k j)))
    = (show EReal from val_main_v13 (F := Ideal) (m ((c : Thread nD τ).loc main_arg0)) (m ((c : Thread nD τ).loc main_arg1))
      (m ((c : Thread nD τ).loc main_arg2)) (ix2 R q)) := by
  rw [ref_dot]
  refine Finset.sum_congr rfl fun k _ => ?_
  rw [z_at m c t r k R hR, w256 m c t off inb k j q hq]

/-- One entry of the product `4`. -/
theorem entry4 (x0 : FVec Ideal S256x1024 .f32) (x1 : FVec Ideal S1x1024 .f32) (w : FVec Ideal S1024x512 .bf16) (r : Fin 256) (j : Fin 512) :
    (show EReal from k0_pay4 (F := Ideal) x0 x1 w (ix2 r j))
    = (∑ k : Fin 1024, (show EReal from k0_pay3 (F := Ideal) x0 x1 (ix2 r k)) * (show EReal from w (ix2 k j))) * Ideal.ofBits .f32 0x3E000000#32 := by
  pointwise [k0_pay4]

/-- The product `4` at a grid point, as the reference's entry. -/
theorem cell4 (c : Dev nD) (t : Fin cfg0.N) (off : ℕ) (inb) (r : Fin 256) (j : Fin 512) (R : Fin 16384) (q : Fin 4864)
    (hR : R.val = t.val * 256 + r.val) (hq : q.val = off + j.val) :
    (show EReal from k0_pay4 (F := Ideal) (iblk m c 0 t) (iblk m c 1 t) (View.ld (iblk m c 2 t) (Rect.unit ![0, off] ![1024, 512] inb)) (ix2 r j))
    = (show EReal from val_main_v13 (F := Ideal) (m ((c : Thread nD τ).loc main_arg0)) (m ((c : Thread nD τ).loc main_arg1))
      (m ((c : Thread nD τ).loc main_arg2)) (ix2 R q)) * Ideal.ofBits .f32 0x3E000000#32 := by
  rw [entry4]
  exact congrArg (fun z : EReal => z * Ideal.ofBits .f32 0x3E000000#32) (dot512 m c t off inb r j R q hR hq)

/-- One entry of the product `5`. -/
theorem entry5 (x0 : FVec Ideal S256x1024 .f32) (x1 : FVec Ideal S1x1024 .f32) (w : FVec Ideal S1024x512 .bf16) (r : Fin 256) (j : Fin 512) :
    (show EReal from k0_pay5 (F := Ideal) x0 x1 w (ix2 r j))
    = (∑ k : Fin 1024, (show EReal from k0_pay3 (F := Ideal) x0 x1 (ix2 r k)) * (show EReal from w (ix2 k j))) * Ideal.ofBits .f32 0x3E000000#32 := by
  pointwise [k0_pay5]

/-- The product `5` at a grid point, as the reference's entry. -/
theorem cell5 (c : Dev nD) (t : Fin cfg0.N) (off : ℕ) (inb) (r : Fin 256) (j : Fin 512) (R : Fin 16384) (q : Fin 4864)
    (hR : R.val = t.val * 256 + r.val) (hq : q.val = off + j.val) :
    (show EReal from k0_pay5 (F := Ideal) (iblk m c 0 t) (iblk m c 1 t) (View.ld (iblk m c 2 t) (Rect.unit ![0, off] ![1024, 512] inb)) (ix2 r j))
    = (show EReal from val_main_v13 (F := Ideal) (m ((c : Thread nD τ).loc main_arg0)) (m ((c : Thread nD τ).loc main_arg1))
      (m ((c : Thread nD τ).loc main_arg2)) (ix2 R q)) * Ideal.ofBits .f32 0x3E000000#32 := by
  rw [entry5]
  exact congrArg (fun z : EReal => z * Ideal.ofBits .f32 0x3E000000#32) (dot512 m c t off inb r j R q hR hq)

/-- One entry of the product `8`. -/
theorem entry8 (v : FVec Ideal S256x1024 .bf16) (w : FVec Ideal S1024x512 .bf16) (r : Fin 256) (j : Fin 512) :
    (show EReal from k0_pay8 (F := Ideal) v (iota Kind.tc S256x1 32 [0] iota_S256x1_d0_w32) k0_pay6 6#32 w (ix2 r j))
    = (∑ k : Fin 1024, (show EReal from v (ix2 ⟨r.val % 64 * 4 + r.val / 64, by omega⟩ k)) * (show EReal from w (ix2 k j))) * Ideal.ofBits .f32 0x3E000000#32 := by
  pointwise [k0_pay8]
  exact congrArg (fun z : EReal => z * Ideal.ofBits .f32 0x3E000000#32)
    (Finset.sum_congr rfl fun k _ => congrArg (fun z : EReal => z * w (ix2 k j)) (rows4 v r k))

/-- The product `8` at a grid point, as the reference's entry. -/
theorem cell8 (c : Dev nD) (t : Fin cfg0.N) (off : ℕ) (inb) (r : Fin 256) (j : Fin 512) (R : Fin 16384) (q : Fin 4864)
    (hR : R.val = t.val * 256 + (r.val % 64 * 4 + r.val / 64)) (hq : q.val = off + j.val) :
    (show EReal from k0_pay8 (F := Ideal) (k0_pay3 (F := Ideal) (iblk m c 0 t) (iblk m c 1 t)) (iota Kind.tc S256x1 32 [0] iota_S256x1_d0_w32) k0_pay6 6#32 (View.ld (iblk m c 2 t) (Rect.unit ![0, off] ![1024, 512] inb)) (ix2 r j))
    = (show EReal from val_main_v13 (F := Ideal) (m ((c : Thread nD τ).loc main_arg0)) (m ((c : Thread nD τ).loc main_arg1))
      (m ((c : Thread nD τ).loc main_arg2)) (ix2 R q)) * Ideal.ofBits .f32 0x3E000000#32 := by
  rw [entry8]
  exact congrArg (fun z : EReal => z * Ideal.ofBits .f32 0x3E000000#32) (dot512 m c t off inb ⟨r.val % 64 * 4 + r.val / 64, by omega⟩ j R q hR hq)

/-- One entry of the product `13`. -/
theorem entry13 (v : FVec Ideal S256x1024 .bf16) (w : FVec Ideal S1024x512 .bf16) (r : Fin 256) (j : Fin 512) :
    (show EReal from k0_pay13 (F := Ideal) v (iota Kind.tc S256x1 32 [0] iota_S256x1_d0_w32) k0_pay6 6#32 w (ix2 r j))
    = (∑ k : Fin 1024, (show EReal from v (ix2 ⟨r.val % 64 * 4 + r.val / 64, by omega⟩ k)) * (show EReal from w (ix2 k j))) * Ideal.ofBits .f32 0x3E000000#32 := by
  pointwise [k0_pay13]
  exact congrArg (fun z : EReal => z * Ideal.ofBits .f32 0x3E000000#32)
    (Finset.sum_congr rfl fun k _ => congrArg (fun z : EReal => z * w (ix2 k j)) (rows4 v r k))

/-- The product `13` at a grid point, as the reference's entry. -/
theorem cell13 (c : Dev nD) (t : Fin cfg0.N) (off : ℕ) (inb) (r : Fin 256) (j : Fin 512) (R : Fin 16384) (q : Fin 4864)
    (hR : R.val = t.val * 256 + (r.val % 64 * 4 + r.val / 64)) (hq : q.val = off + j.val) :
    (show EReal from k0_pay13 (F := Ideal) (k0_pay3 (F := Ideal) (iblk m c 0 t) (iblk m c 1 t)) (iota Kind.tc S256x1 32 [0] iota_S256x1_d0_w32) k0_pay6 6#32 (View.ld (iblk m c 2 t) (Rect.unit ![0, off] ![1024, 512] inb)) (ix2 r j))
    = (show EReal from val_main_v13 (F := Ideal) (m ((c : Thread nD τ).loc main_arg0)) (m ((c : Thread nD τ).loc main_arg1))
      (m ((c : Thread nD τ).loc main_arg2)) (ix2 R q)) * Ideal.ofBits .f32 0x3E000000#32 := by
  rw [entry13]
  exact congrArg (fun z : EReal => z * Ideal.ofBits .f32 0x3E000000#32) (dot512 m c t off inb ⟨r.val % 64 * 4 + r.val / 64, by omega⟩ j R q hR hq)

/-- One entry of the product `19`. -/
theorem entry19 (v : FVec Ideal S256x1024 .bf16) (w : FVec Ideal S1024x512 .bf16) (r : Fin 256) (j : Fin 512) :
    (show EReal from k0_pay19 (F := Ideal) v w (ix2 r j))
    = (∑ k : Fin 1024, (show EReal from v (ix2 ⟨r.val % 16 * 16 + r.val / 16, by omega⟩ k)) * (show EReal from w (ix2 k j))) * Ideal.ofBits .f32 0x3E000000#32 := by
  pointwise [k0_pay19]
  exact congrArg (fun z : EReal => z * Ideal.ofBits .f32 0x3E000000#32)
    (Finset.sum_congr rfl fun k _ => congrArg (fun z : EReal => z * w (ix2 k j)) (rows16 v r k))

/-- The product `19` at a grid point, as the reference's entry. -/
theorem cell19 (c : Dev nD) (t : Fin cfg0.N) (off : ℕ) (inb) (r : Fin 256) (j : Fin 512) (R : Fin 16384) (q : Fin 4864)
    (hR : R.val = t.val * 256 + (r.val % 16 * 16 + r.val / 16)) (hq : q.val = off + j.val) :
    (show EReal from k0_pay19 (F := Ideal) (k0_pay3 (F := Ideal) (iblk m c 0 t) (iblk m c 1 t)) (View.ld (iblk m c 2 t) (Rect.unit ![0, off] ![1024, 512] inb)) (ix2 r j))
    = (show EReal from val_main_v13 (F := Ideal) (m ((c : Thread nD τ).loc main_arg0)) (m ((c : Thread nD τ).loc main_arg1))
      (m ((c : Thread nD τ).loc main_arg2)) (ix2 R q)) * Ideal.ofBits .f32 0x3E000000#32 := by
  rw [entry19]
  exact congrArg (fun z : EReal => z * Ideal.ofBits .f32 0x3E000000#32) (dot512 m c t off inb ⟨r.val % 16 * 16 + r.val / 16, by omega⟩ j R q hR hq)

/-- One entry of the product `36`. -/
theorem entry36 (v : FVec Ideal S256x1024 .bf16) (w : FVec Ideal S1024x512 .bf16) (r : Fin 256) (j : Fin 512) :
    (show EReal from k0_pay36 (F := Ideal) (k0_pay18 v) w (ix2 r j))
    = (∑ k : Fin 1024, (show EReal from v (ix2 ⟨r.val % 16 * 16 + r.val / 16, by omega⟩ k)) * (show EReal from w (ix2 k j))) * Ideal.ofBits .f32 0x3E000000#32 := by
  pointwise [k0_pay36]
  exact congrArg (fun z : EReal => z * Ideal.ofBits .f32 0x3E000000#32)
    (Finset.sum_congr rfl fun k _ => congrArg (fun z : EReal => z * w (ix2 k j)) (rows16 v r k))

/-- The product `36` at a grid point, as the reference's entry. -/
theorem cell36 (c : Dev nD) (t : Fin cfg0.N) (off : ℕ) (inb) (r : Fin 256) (j : Fin 512) (R : Fin 16384) (q : Fin 4864)
    (hR : R.val = t.val * 256 + (r.val % 16 * 16 + r.val / 16)) (hq : q.val = off + j.val) :
    (show EReal from k0_pay36 (F := Ideal) (k0_pay18 (k0_pay3 (F := Ideal) (iblk m c 0 t) (iblk m c 1 t))) (View.ld (iblk m c 2 t) (Rect.unit ![0, off] ![1024, 512] inb)) (ix2 r j))
    = (show EReal from val_main_v13 (F := Ideal) (m ((c : Thread nD τ).loc main_arg0)) (m ((c : Thread nD τ).loc main_arg1))
      (m ((c : Thread nD τ).loc main_arg2)) (ix2 R q)) * Ideal.ofBits .f32 0x3E000000#32 := by
  rw [entry36]
  exact congrArg (fun z : EReal => z * Ideal.ofBits .f32 0x3E000000#32) (dot512 m c t off inb ⟨r.val % 16 * 16 + r.val / 16, by omega⟩ j R q hR hq)

/-- One entry of the product `53`. -/
theorem entry53 (v : FVec Ideal S256x1024 .bf16) (w : FVec Ideal S1024x256 .bf16) (r : Fin 256) (j : Fin 256) :
    (show EReal from k0_pay53 (F := Ideal) v w (ix2 r j))
    = (∑ k : Fin 1024, (show EReal from v (ix2 r k)) * (show EReal from w (ix2 k j))) := by
  pointwise [k0_pay53]

/-- The product `53` at a grid point, as the reference's entry. -/
theorem cell53 (c : Dev nD) (t : Fin cfg0.N) (off : ℕ) (inb) (r : Fin 256) (j : Fin 256) (R : Fin 16384) (q : Fin 4864)
    (hR : R.val = t.val * 256 + r.val) (hq : q.val = off + j.val) :
    (show EReal from k0_pay53 (F := Ideal) (k0_pay3 (F := Ideal) (iblk m c 0 t) (iblk m c 1 t)) (View.ld (iblk m c 2 t) (Rect.unit ![0, off] ![1024, 256] inb)) (ix2 r j))
    = (show EReal from val_main_v13 (F := Ideal) (m ((c : Thread nD τ).loc main_arg0)) (m ((c : Thread nD τ).loc main_arg1))
      (m ((c : Thread nD τ).loc main_arg2)) (ix2 R q)) := by
  rw [entry53]
  exact dot256 m c t off inb r j R q hR hq

/-- One entry of the product `54`. -/
theorem entry54 (v : FVec Ideal S256x1024 .bf16) (w : FVec Ideal S1024x256 .bf16) (r : Fin 256) (j : Fin 256) :
    (show EReal from k0_pay54 (F := Ideal) (k0_pay7 v (iota Kind.tc S256x1 32 [0] iota_S256x1_d0_w32) k0_pay6 6#32) w (ix2 r j))
    = (∑ k : Fin 1024, (show EReal from v (ix2 ⟨r.val % 64 * 4 + r.val / 64, by omega⟩ k)) * (show EReal from w (ix2 k j))) := by
  pointwise [k0_pay54]
  exact Finset.sum_congr rfl fun k _ => congrArg (fun z : EReal => z * w (ix2 k j)) (rows4 v r k)

/-- The product `54` at a grid point, as the reference's entry. -/
theorem cell54 (c : Dev nD) (t : Fin cfg0.N) (off : ℕ) (inb) (r : Fin 256) (j : Fin 256) (R : Fin 16384) (q : Fin 4864)
    (hR : R.val = t.val * 256 + (r.val % 64 * 4 + r.val / 64)) (hq : q.val = off + j.val) :
    (show EReal from k0_pay54 (F := Ideal) (k0_pay7 (k0_pay3 (F := Ideal) (iblk m c 0 t) (iblk m c 1 t)) (iota Kind.tc S256x1 32 [0] iota_S256x1_d0_w32) k0_pay6 6#32) (View.ld (iblk m c 2 t) (Rect.unit ![0, off] ![1024, 256] inb)) (ix2 r j))
    = (show EReal from val_main_v13 (F := Ideal) (m ((c : Thread nD τ).loc main_arg0)) (m ((c : Thread nD τ).loc main_arg1))
      (m ((c : Thread nD τ).loc main_arg2)) (ix2 R q)) := by
  rw [entry54]
  exact dot256 m c t off inb ⟨r.val % 64 * 4 + r.val / 64, by omega⟩ j R q hR hq

/-- One entry of the product `59`. -/
theorem entry59 (v : FVec Ideal S256x1024 .bf16) (w : FVec Ideal S1024x256 .bf16) (r : Fin 256) (j : Fin 256) :
    (show EReal from k0_pay59 (F := Ideal) (k0_pay18 v) w (ix2 r j))
    = (∑ k : Fin 1024, (show EReal from v (ix2 ⟨r.val % 16 * 16 + r.val / 16, by omega⟩ k)) * (show EReal from w (ix2 k j))) := by
  pointwise [k0_pay59]
  exact Finset.sum_congr rfl fun k _ => congrArg (fun z : EReal => z * w (ix2 k j)) (rows16 v r k)

/-- The product `59` at a grid point, as the reference's entry. -/
theorem cell59 (c : Dev nD) (t : Fin cfg0.N) (off : ℕ) (inb) (r : Fin 256) (j : Fin 256) (R : Fin 16384) (q : Fin 4864)
    (hR : R.val = t.val * 256 + (r.val % 16 * 16 + r.val / 16)) (hq : q.val = off + j.val) :
    (show EReal from k0_pay59 (F := Ideal) (k0_pay18 (k0_pay3 (F := Ideal) (iblk m c 0 t) (iblk m c 1 t))) (View.ld (iblk m c 2 t) (Rect.unit ![0, off] ![1024, 256] inb)) (ix2 r j))
    = (show EReal from val_main_v13 (F := Ideal) (m ((c : Thread nD τ).loc main_arg0)) (m ((c : Thread nD τ).loc main_arg1))
      (m ((c : Thread nD τ).loc main_arg2)) (ix2 R q)) := by
  rw [entry59]
  exact dot256 m c t off inb ⟨r.val % 16 * 16 + r.val / 16, by omega⟩ j R q hR hq

/-- One entry of the product `76`. -/
theorem entry76 (v : FVec Ideal S256x1024 .bf16) (w : FVec Ideal S1024x512 .bf16) (r : Fin 256) (j : Fin 512) :
    (show EReal from k0_pay76 (F := Ideal) v w (ix2 r j))
    = (∑ k : Fin 1024, (show EReal from v (ix2 r k)) * (show EReal from w (ix2 k j))) := by
  pointwise [k0_pay76]

/-- The product `76` at a grid point, as the reference's entry. -/
theorem cell76 (c : Dev nD) (t : Fin cfg0.N) (off : ℕ) (inb) (r : Fin 256) (j : Fin 512) (R : Fin 16384) (q : Fin 4864)
    (hR : R.val = t.val * 256 + r.val) (hq : q.val = off + j.val) :
    (show EReal from k0_pay76 (F := Ideal) (k0_pay3 (F := Ideal) (iblk m c 0 t) (iblk m c 1 t)) (View.ld (iblk m c 2 t) (Rect.unit ![0, off] ![1024, 512] inb)) (ix2 r j))
    = (show EReal from val_main_v13 (F := Ideal) (m ((c : Thread nD τ).loc main_arg0)) (m ((c : Thread nD τ).loc main_arg1))
      (m ((c : Thread nD τ).loc main_arg2)) (ix2 R q)) := by
  rw [entry76]
  exact dot512 m c t off inb r j R q hR hq

/-- One entry of the product `77`. -/
theorem entry77 (v : FVec Ideal S256x1024 .bf16) (w : FVec Ideal S1024x256 .bf16) (r : Fin 256) (j : Fin 256) :
    (show EReal from k0_pay77 (F := Ideal) v w (ix2 r j))
    = (∑ k : Fin 1024, (show EReal from v (ix2 r k)) * (show EReal from w (ix2 k j))) := by
  pointwise [k0_pay77]

/-- The product `77` at a grid point, as the reference's entry. -/
theorem cell77 (c : Dev nD) (t : Fin cfg0.N) (off : ℕ) (inb) (r : Fin 256) (j : Fin 256) (R : Fin 16384) (q : Fin 4864)
    (hR : R.val = t.val * 256 + r.val) (hq : q.val = off + j.val) :
    (show EReal from k0_pay77 (F := Ideal) (k0_pay3 (F := Ideal) (iblk m c 0 t) (iblk m c 1 t)) (View.ld (iblk m c 2 t) (Rect.unit ![0, off] ![1024, 256] inb)) (ix2 r j))
    = (show EReal from val_main_v13 (F := Ideal) (m ((c : Thread nD τ).loc main_arg0)) (m ((c : Thread nD τ).loc main_arg1))
      (m ((c : Thread nD τ).loc main_arg2)) (ix2 R q)) := by
  rw [entry77]
  exact dot256 m c t off inb r j R q hR hq

/-- One entry of the product `1`. -/
theorem entry1 (v : FVec Ideal S256x1024 .bf16) (w : FVec Ideal S1024x512 .bf16) (r : Fin 256) (j : Fin 512) :
    (show EReal from k0_pay1 (F := Ideal) v w (ix2 r j))
    = (∑ k : Fin 1024, (show EReal from v (ix2 r k)) * (show EReal from w (ix2 k j))) := by
  pointwise [k0_pay1]

/-- The product `1` at a grid point, as the reference's entry. -/
theorem cell1 (c : Dev nD) (t : Fin cfg0.N) (off : ℕ) (inb) (r : Fin 256) (j : Fin 512) (R : Fin 16384) (q : Fin 4864)
    (hR : R.val = t.val * 256 + r.val) (hq : q.val = off + j.val) :
    (show EReal from k0_pay1 (F := Ideal) (k0_pay3 (F := Ideal) (iblk m c 0 t) (iblk m c 1 t)) (View.ld (iblk m c 2 t) (Rect.unit ![0, off] ![1024, 512] inb)) (ix2 r j))
    = (show EReal from val_main_v13 (F := Ideal) (m ((c : Thread nD τ).loc main_arg0)) (m ((c : Thread nD τ).loc main_arg1))
      (m ((c : Thread nD τ).loc main_arg2)) (ix2 R q)) := by
  rw [entry1]
  exact dot512 m c t off inb r j R q hR hq

/-- One entry of the product `2`. -/
theorem entry2 (v : FVec Ideal S256x1024 .bf16) (w : FVec Ideal S1024x512 .bf16) (r : Fin 256) (j : Fin 512) :
    (show EReal from k0_pay2 (F := Ideal) v w (ix2 r j))
    = (∑ k : Fin 1024, (show EReal from v (ix2 r k)) * (show EReal from w (ix2 k j))) := by
  pointwise [k0_pay2]

/-- The product `2` at a grid point, as the reference's entry. -/
theorem cell2 (c : Dev nD) (t : Fin cfg0.N) (off : ℕ) (inb) (r : Fin 256) (j : Fin 512) (R : Fin 16384) (q : Fin 4864)
    (hR : R.val = t.val * 256 + r.val) (hq : q.val = off + j.val) :
    (show EReal from k0_pay2 (F := Ideal) (k0_pay3 (F := Ideal) (iblk m c 0 t) (iblk m c 1 t)) (View.ld (iblk m c 2 t) (Rect.unit ![0, off] ![1024, 512] inb)) (ix2 r j))
    = (show EReal from val_main_v13 (F := Ideal) (m ((c : Thread nD τ).loc main_arg0)) (m ((c : Thread nD τ).loc main_arg1))
      (m ((c : Thread nD τ).loc main_arg2)) (ix2 R q)) := by
  rw [entry2]
  exact dot512 m c t off inb r j R q hR hq

/-! ## The slices stored -/

theorem slice9 (v15 : FVec Ideal S256x1024 .bf16) (v30 : IVec S256x1 32) (v34 : IVec S256x1 32) (c6_i32 : BitVec 32) (v47 : Vec Ideal S1024x512 .bf16) (x : S64x512.Idx) (r : Fin 256) (j : Fin 512)
    (hr : r.val = 0 + (x 0).val) (hj : j.val = (x 1).val) :
    (show EReal from k0_pay9 (F := Ideal) v15 v30 v34 c6_i32 v47 x) = (show EReal from (k0_pay8 (F := Ideal) v15 v30 v34 c6_i32 v47) (ix2 r j)) := by
  pointwise [k0_pay9]
  refine congrArg (k0_pay8 (F := Ideal) v15 v30 v34 c6_i32 v47) ((ix2_inj ..).2 ⟨Fin.ext (by simp only; omega), Fin.ext (by simp only; omega)⟩)

theorem slice10 (v15 : FVec Ideal S256x1024 .bf16) (v30 : IVec S256x1 32) (v34 : IVec S256x1 32) (c6_i32 : BitVec 32) (v47 : Vec Ideal S1024x512 .bf16) (x : S64x512.Idx) (r : Fin 256) (j : Fin 512)
    (hr : r.val = 64 + (x 0).val) (hj : j.val = (x 1).val) :
    (show EReal from k0_pay10 (F := Ideal) v15 v30 v34 c6_i32 v47 x) = (show EReal from (k0_pay8 (F := Ideal) v15 v30 v34 c6_i32 v47) (ix2 r j)) := by
  pointwise [k0_pay10]
  refine congrArg (k0_pay8 (F := Ideal) v15 v30 v34 c6_i32 v47) ((ix2_inj ..).2 ⟨Fin.ext (by simp only; omega), Fin.ext (by simp only; omega)⟩)

theorem slice11 (v15 : FVec Ideal S256x1024 .bf16) (v30 : IVec S256x1 32) (v34 : IVec S256x1 32) (c6_i32 : BitVec 32) (v47 : Vec Ideal S1024x512 .bf16) (x : S64x512.Idx) (r : Fin 256) (j : Fin 512)
    (hr : r.val = 128 + (x 0).val) (hj : j.val = (x 1).val) :
    (show EReal from k0_pay11 (F := Ideal) v15 v30 v34 c6_i32 v47 x) = (show EReal from (k0_pay8 (F := Ideal) v15 v30 v34 c6_i32 v47) (ix2 r j)) := by
  pointwise [k0_pay11]
  refine congrArg (k0_pay8 (F := Ideal) v15 v30 v34 c6_i32 v47) ((ix2_inj ..).2 ⟨Fin.ext (by simp only; omega), Fin.ext (by simp only; omega)⟩)

theorem slice12 (v15 : FVec Ideal S256x1024 .bf16) (v30 : IVec S256x1 32) (v34 : IVec S256x1 32) (c6_i32 : BitVec 32) (v47 : Vec Ideal S1024x512 .bf16) (x : S64x512.Idx) (r : Fin 256) (j : Fin 512)
    (hr : r.val = 192 + (x 0).val) (hj : j.val = (x 1).val) :
    (show EReal from k0_pay12 (F := Ideal) v15 v30 v34 c6_i32 v47 x) = (show EReal from (k0_pay8 (F := Ideal) v15 v30 v34 c6_i32 v47) (ix2 r j)) := by
  pointwise [k0_pay12]
  refine congrArg (k0_pay8 (F := Ideal) v15 v30 v34 c6_i32 v47) ((ix2_inj ..).2 ⟨Fin.ext (by simp only; omega), Fin.ext (by simp only; omega)⟩)

theorem slice14 (v15 : FVec Ideal S256x1024 .bf16) (v30 : IVec S256x1 32) (v34 : IVec S256x1 32) (c6_i32 : BitVec 32) (v61 : Vec Ideal S1024x512 .bf16) (x : S64x512.Idx) (r : Fin 256) (j : Fin 512)
    (hr : r.val = 0 + (x 0).val) (hj : j.val = (x 1).val) :
    (show EReal from k0_pay14 (F := Ideal) v15 v30 v34 c6_i32 v61 x) = (show EReal from (k0_pay13 (F := Ideal) v15 v30 v34 c6_i32 v61) (ix2 r j)) := by
  pointwise [k0_pay14]
  refine congrArg (k0_pay13 (F := Ideal) v15 v30 v34 c6_i32 v61) ((ix2_inj ..).2 ⟨Fin.ext (by simp only; omega), Fin.ext (by simp only; omega)⟩)

theorem slice15 (v15 : FVec Ideal S256x1024 .bf16) (v30 : IVec S256x1 32) (v34 : IVec S256x1 32) (c6_i32 : BitVec 32) (v61 : Vec Ideal S1024x512 .bf16) (x : S64x512.Idx) (r : Fin 256) (j : Fin 512)
    (hr : r.val = 64 + (x 0).val) (hj : j.val = (x 1).val) :
    (show EReal from k0_pay15 (F := Ideal) v15 v30 v34 c6_i32 v61 x) = (show EReal from (k0_pay13 (F := Ideal) v15 v30 v34 c6_i32 v61) (ix2 r j)) := by
  pointwise [k0_pay15]
  refine congrArg (k0_pay13 (F := Ideal) v15 v30 v34 c6_i32 v61) ((ix2_inj ..).2 ⟨Fin.ext (by simp only; omega), Fin.ext (by simp only; omega)⟩)

theorem slice16 (v66 : FVec Ideal S256x512 .bf16) (x : S64x512.Idx) (r : Fin 256) (j : Fin 512)
    (hr : r.val = 128 + (x 0).val) (hj : j.val = (x 1).val) :
    (show EReal from k0_pay16 (F := Ideal) v66 x) = (show EReal from v66 (ix2 r j)) := by
  pointwise [k0_pay16]
  refine congrArg v66 ((ix2_inj ..).2 ⟨Fin.ext (by simp only; omega), Fin.ext (by simp only; omega)⟩)

theorem slice17 (v66 : FVec Ideal S256x512 .bf16) (x : S64x512.Idx) (r : Fin 256) (j : Fin 512)
    (hr : r.val = 192 + (x 0).val) (hj : j.val = (x 1).val) :
    (show EReal from k0_pay17 (F := Ideal) v66 x) = (show EReal from v66 (ix2 r j)) := by
  pointwise [k0_pay17]
  refine congrArg v66 ((ix2_inj ..).2 ⟨Fin.ext (by simp only; omega), Fin.ext (by simp only; omega)⟩)

theorem slice20 (v15 : FVec Ideal S256x1024 .bf16) (v92 : Vec Ideal S1024x512 .bf16) (x : S16x512.Idx) (r : Fin 256) (j : Fin 512)
    (hr : r.val = 0 + (x 0).val) (hj : j.val = (x 1).val) :
    (show EReal from k0_pay20 (F := Ideal) v15 v92 x) = (show EReal from (k0_pay19 (F := Ideal) v15 v92) (ix2 r j)) := by
  pointwise [k0_pay20]
  refine congrArg (k0_pay19 (F := Ideal) v15 v92) ((ix2_inj ..).2 ⟨Fin.ext (by simp only; omega), Fin.ext (by simp only; omega)⟩)

theorem slice21 (v15 : FVec Ideal S256x1024 .bf16) (v92 : Vec Ideal S1024x512 .bf16) (x : S16x512.Idx) (r : Fin 256) (j : Fin 512)
    (hr : r.val = 16 + (x 0).val) (hj : j.val = (x 1).val) :
    (show EReal from k0_pay21 (F := Ideal) v15 v92 x) = (show EReal from (k0_pay19 (F := Ideal) v15 v92) (ix2 r j)) := by
  pointwise [k0_pay21]
  refine congrArg (k0_pay19 (F := Ideal) v15 v92) ((ix2_inj ..).2 ⟨Fin.ext (by simp only; omega), Fin.ext (by simp only; omega)⟩)

theorem slice22 (v15 : FVec Ideal S256x1024 .bf16) (v92 : Vec Ideal S1024x512 .bf16) (x : S16x512.Idx) (r : Fin 256) (j : Fin 512)
    (hr : r.val = 32 + (x 0).val) (hj : j.val = (x 1).val) :
    (show EReal from k0_pay22 (F := Ideal) v15 v92 x) = (show EReal from (k0_pay19 (F := Ideal) v15 v92) (ix2 r j)) := by
  pointwise [k0_pay22]
  refine congrArg (k0_pay19 (F := Ideal) v15 v92) ((ix2_inj ..).2 ⟨Fin.ext (by simp only; omega), Fin.ext (by simp only; omega)⟩)

theorem slice23 (v15 : FVec Ideal S256x1024 .bf16) (v92 : Vec Ideal S1024x512 .bf16) (x : S16x512.Idx) (r : Fin 256) (j : Fin 512)
    (hr : r.val = 48 + (x 0).val) (hj : j.val = (x 1).val) :
    (show EReal from k0_pay23 (F := Ideal) v15 v92 x) = (show EReal from (k0_pay19 (F := Ideal) v15 v92) (ix2 r j)) := by
  pointwise [k0_pay23]
  refine congrArg (k0_pay19 (F := Ideal) v15 v92) ((ix2_inj ..).2 ⟨Fin.ext (by simp only; omega), Fin.ext (by simp only; omega)⟩)

theorem slice24 (v97 : FVec Ideal S256x512 .bf16) (x : S16x512.Idx) (r : Fin 256) (j : Fin 512)
    (hr : r.val = 64 + (x 0).val) (hj : j.val = (x 1).val) :
    (show EReal from k0_pay24 (F := Ideal) v97 x) = (show EReal from v97 (ix2 r j)) := by
  pointwise [k0_pay24]
  refine congrArg v97 ((ix2_inj ..).2 ⟨Fin.ext (by simp only; omega), Fin.ext (by simp only; omega)⟩)

theorem slice25 (v97 : FVec Ideal S256x512 .bf16) (x : S16x512.Idx) (r : Fin 256) (j : Fin 512)
    (hr : r.val = 80 + (x 0).val) (hj : j.val = (x 1).val) :
    (show EReal from k0_pay25 (F := Ideal) v97 x) = (show EReal from v97 (ix2 r j)) := by
  pointwise [k0_pay25]
  refine congrArg v97 ((ix2_inj ..).2 ⟨Fin.ext (by simp only; omega), Fin.ext (by simp only; omega)⟩)

theorem slice26 (v97 : FVec Ideal S256x512 .bf16) (x : S16x512.Idx) (r : Fin 256) (j : Fin 512)
    (hr : r.val = 96 + (x 0).val) (hj : j.val = (x 1).val) :
    (show EReal from k0_pay26 (F := Ideal) v97 x) = (show EReal from v97 (ix2 r j)) := by
  pointwise [k0_pay26]
  refine congrArg v97 ((ix2_inj ..).2 ⟨Fin.ext (by simp only; omega), Fin.ext (by simp only; omega)⟩)

theorem slice27 (v97 : FVec Ideal S256x512 .bf16) (x : S16x512.Idx) (r : Fin 256) (j : Fin 512)
    (hr : r.val = 112 + (x 0).val) (hj : j.val = (x 1).val) :
    (show EReal from k0_pay27 (F := Ideal) v97 x) = (show EReal from v97 (ix2 r j)) := by
  pointwise [k0_pay27]
  refine congrArg v97 ((ix2_inj ..).2 ⟨Fin.ext (by simp only; omega), Fin.ext (by simp only; omega)⟩)

theorem slice28 (v97 : FVec Ideal S256x512 .bf16) (x : S16x512.Idx) (r : Fin 256) (j : Fin 512)
    (hr : r.val = 128 + (x 0).val) (hj : j.val = (x 1).val) :
    (show EReal from k0_pay28 (F := Ideal) v97 x) = (show EReal from v97 (ix2 r j)) := by
  pointwise [k0_pay28]
  refine congrArg v97 ((ix2_inj ..).2 ⟨Fin.ext (by simp only; omega), Fin.ext (by simp only; omega)⟩)

theorem slice29 (v97 : FVec Ideal S256x512 .bf16) (x : S16x512.Idx) (r : Fin 256) (j : Fin 512)
    (hr : r.val = 144 + (x 0).val) (hj : j.val = (x 1).val) :
    (show EReal from k0_pay29 (F := Ideal) v97 x) = (show EReal from v97 (ix2 r j)) := by
  pointwise [k0_pay29]
  refine congrArg v97 ((ix2_inj ..).2 ⟨Fin.ext (by simp only; omega), Fin.ext (by simp only; omega)⟩)

theorem slice30 (v97 : FVec Ideal S256x512 .bf16) (x : S16x512.Idx) (r : Fin 256) (j : Fin 512)
    (hr : r.val = 160 + (x 0).val) (hj : j.val = (x 1).val) :
    (show EReal from k0_pay30 (F := Ideal) v97 x) = (show EReal from v97 (ix2 r j)) := by
  pointwise [k0_pay30]
  refine congrArg v97 ((ix2_inj ..).2 ⟨Fin.ext (by simp only; omega), Fin.ext (by simp only; omega)⟩)

theorem slice31 (v97 : FVec Ideal S256x512 .bf16) (x : S16x512.Idx) (r : Fin 256) (j : Fin 512)
    (hr : r.val = 176 + (x 0).val) (hj : j.val = (x 1).val) :
    (show EReal from k0_pay31 (F := Ideal) v97 x) = (show EReal from v97 (ix2 r j)) := by
  pointwise [k0_pay31]
  refine congrArg v97 ((ix2_inj ..).2 ⟨Fin.ext (by simp only; omega), Fin.ext (by simp only; omega)⟩)

theorem slice32 (v97 : FVec Ideal S256x512 .bf16) (x : S16x512.Idx) (r : Fin 256) (j : Fin 512)
    (hr : r.val = 192 + (x 0).val) (hj : j.val = (x 1).val) :
    (show EReal from k0_pay32 (F := Ideal) v97 x) = (show EReal from v97 (ix2 r j)) := by
  pointwise [k0_pay32]
  refine congrArg v97 ((ix2_inj ..).2 ⟨Fin.ext (by simp only; omega), Fin.ext (by simp only; omega)⟩)

theorem slice33 (v97 : FVec Ideal S256x512 .bf16) (x : S16x512.Idx) (r : Fin 256) (j : Fin 512)
    (hr : r.val = 208 + (x 0).val) (hj : j.val = (x 1).val) :
    (show EReal from k0_pay33 (F := Ideal) v97 x) = (show EReal from v97 (ix2 r j)) := by
  pointwise [k0_pay33]
  refine congrArg v97 ((ix2_inj ..).2 ⟨Fin.ext (by simp only; omega), Fin.ext (by simp only; omega)⟩)

theorem slice34 (v97 : FVec Ideal S256x512 .bf16) (x : S16x512.Idx) (r : Fin 256) (j : Fin 512)
    (hr : r.val = 224 + (x 0).val) (hj : j.val = (x 1).val) :
    (show EReal from k0_pay34 (F := Ideal) v97 x) = (show EReal from v97 (ix2 r j)) := by
  pointwise [k0_pay34]
  refine congrArg v97 ((ix2_inj ..).2 ⟨Fin.ext (by simp only; omega), Fin.ext (by simp only; omega)⟩)

theorem slice35 (v97 : FVec Ideal S256x512 .bf16) (x : S16x512.Idx) (r : Fin 256) (j : Fin 512)
    (hr : r.val = 240 + (x 0).val) (hj : j.val = (x 1).val) :
    (show EReal from k0_pay35 (F := Ideal) v97 x) = (show EReal from v97 (ix2 r j)) := by
  pointwise [k0_pay35]
  refine congrArg v97 ((ix2_inj ..).2 ⟨Fin.ext (by simp only; omega), Fin.ext (by simp only; omega)⟩)

theorem slice37 (v91 : FVec Ideal S256x1024 .bf16) (v130 : Vec Ideal S1024x512 .bf16) (x : S16x512.Idx) (r : Fin 256) (j : Fin 512)
    (hr : r.val = 0 + (x 0).val) (hj : j.val = (x 1).val) :
    (show EReal from k0_pay37 (F := Ideal) v91 v130 x) = (show EReal from (k0_pay36 (F := Ideal) v91 v130) (ix2 r j)) := by
  pointwise [k0_pay37]
  refine congrArg (k0_pay36 (F := Ideal) v91 v130) ((ix2_inj ..).2 ⟨Fin.ext (by simp only; omega), Fin.ext (by simp only; omega)⟩)

theorem slice38 (v91 : FVec Ideal S256x1024 .bf16) (v130 : Vec Ideal S1024x512 .bf16) (x : S16x512.Idx) (r : Fin 256) (j : Fin 512)
    (hr : r.val = 16 + (x 0).val) (hj : j.val = (x 1).val) :
    (show EReal from k0_pay38 (F := Ideal) v91 v130 x) = (show EReal from (k0_pay36 (F := Ideal) v91 v130) (ix2 r j)) := by
  pointwise [k0_pay38]
  refine congrArg (k0_pay36 (F := Ideal) v91 v130) ((ix2_inj ..).2 ⟨Fin.ext (by simp only; omega), Fin.ext (by simp only; omega)⟩)

theorem slice39 (v91 : FVec Ideal S256x1024 .bf16) (v130 : Vec Ideal S1024x512 .bf16) (x : S16x512.Idx) (r : Fin 256) (j : Fin 512)
    (hr : r.val = 32 + (x 0).val) (hj : j.val = (x 1).val) :
    (show EReal from k0_pay39 (F := Ideal) v91 v130 x) = (show EReal from (k0_pay36 (F := Ideal) v91 v130) (ix2 r j)) := by
  pointwise [k0_pay39]
  refine congrArg (k0_pay36 (F := Ideal) v91 v130) ((ix2_inj ..).2 ⟨Fin.ext (by simp only; omega), Fin.ext (by simp only; omega)⟩)

theorem slice40 (v91 : FVec Ideal S256x1024 .bf16) (v130 : Vec Ideal S1024x512 .bf16) (x : S16x512.Idx) (r : Fin 256) (j : Fin 512)
    (hr : r.val = 48 + (x 0).val) (hj : j.val = (x 1).val) :
    (show EReal from k0_pay40 (F := Ideal) v91 v130 x) = (show EReal from (k0_pay36 (F := Ideal) v91 v130) (ix2 r j)) := by
  pointwise [k0_pay40]
  refine congrArg (k0_pay36 (F := Ideal) v91 v130) ((ix2_inj ..).2 ⟨Fin.ext (by simp only; omega), Fin.ext (by simp only; omega)⟩)

theorem slice41 (v91 : FVec Ideal S256x1024 .bf16) (v130 : Vec Ideal S1024x512 .bf16) (x : S16x512.Idx) (r : Fin 256) (j : Fin 512)
    (hr : r.val = 64 + (x 0).val) (hj : j.val = (x 1).val) :
    (show EReal from k0_pay41 (F := Ideal) v91 v130 x) = (show EReal from (k0_pay36 (F := Ideal) v91 v130) (ix2 r j)) := by
  pointwise [k0_pay41]
  refine congrArg (k0_pay36 (F := Ideal) v91 v130) ((ix2_inj ..).2 ⟨Fin.ext (by simp only; omega), Fin.ext (by simp only; omega)⟩)

theorem slice42 (v91 : FVec Ideal S256x1024 .bf16) (v130 : Vec Ideal S1024x512 .bf16) (x : S16x512.Idx) (r : Fin 256) (j : Fin 512)
    (hr : r.val = 80 + (x 0).val) (hj : j.val = (x 1).val) :
    (show EReal from k0_pay42 (F := Ideal) v91 v130 x) = (show EReal from (k0_pay36 (F := Ideal) v91 v130) (ix2 r j)) := by
  pointwise [k0_pay42]
  refine congrArg (k0_pay36 (F := Ideal) v91 v130) ((ix2_inj ..).2 ⟨Fin.ext (by simp only; omega), Fin.ext (by simp only; omega)⟩)

theorem slice43 (v91 : FVec Ideal S256x1024 .bf16) (v130 : Vec Ideal S1024x512 .bf16) (x : S16x512.Idx) (r : Fin 256) (j : Fin 512)
    (hr : r.val = 96 + (x 0).val) (hj : j.val = (x 1).val) :
    (show EReal from k0_pay43 (F := Ideal) v91 v130 x) = (show EReal from (k0_pay36 (F := Ideal) v91 v130) (ix2 r j)) := by
  pointwise [k0_pay43]
  refine congrArg (k0_pay36 (F := Ideal) v91 v130) ((ix2_inj ..).2 ⟨Fin.ext (by simp only; omega), Fin.ext (by simp only; omega)⟩)

theorem slice44 (v91 : FVec Ideal S256x1024 .bf16) (v130 : Vec Ideal S1024x512 .bf16) (x : S16x512.Idx) (r : Fin 256) (j : Fin 512)
    (hr : r.val = 112 + (x 0).val) (hj : j.val = (x 1).val) :
    (show EReal from k0_pay44 (F := Ideal) v91 v130 x) = (show EReal from (k0_pay36 (F := Ideal) v91 v130) (ix2 r j)) := by
  pointwise [k0_pay44]
  refine congrArg (k0_pay36 (F := Ideal) v91 v130) ((ix2_inj ..).2 ⟨Fin.ext (by simp only; omega), Fin.ext (by simp only; omega)⟩)

theorem slice45 (v91 : FVec Ideal S256x1024 .bf16) (v130 : Vec Ideal S1024x512 .bf16) (x : S16x512.Idx) (r : Fin 256) (j : Fin 512)
    (hr : r.val = 128 + (x 0).val) (hj : j.val = (x 1).val) :
    (show EReal from k0_pay45 (F := Ideal) v91 v130 x) = (show EReal from (k0_pay36 (F := Ideal) v91 v130) (ix2 r j)) := by
  pointwise [k0_pay45]
  refine congrArg (k0_pay36 (F := Ideal) v91 v130) ((ix2_inj ..).2 ⟨Fin.ext (by simp only; omega), Fin.ext (by simp only; omega)⟩)

theorem slice46 (v91 : FVec Ideal S256x1024 .bf16) (v130 : Vec Ideal S1024x512 .bf16) (x : S16x512.Idx) (r : Fin 256) (j : Fin 512)
    (hr : r.val = 144 + (x 0).val) (hj : j.val = (x 1).val) :
    (show EReal from k0_pay46 (F := Ideal) v91 v130 x) = (show EReal from (k0_pay36 (F := Ideal) v91 v130) (ix2 r j)) := by
  pointwise [k0_pay46]
  refine congrArg (k0_pay36 (F := Ideal) v91 v130) ((ix2_inj ..).2 ⟨Fin.ext (by simp only; omega), Fin.ext (by simp only; omega)⟩)

theorem slice47 (v135 : FVec Ideal S256x512 .bf16) (x : S16x512.Idx) (r : Fin 256) (j : Fin 512)
    (hr : r.val = 160 + (x 0).val) (hj : j.val = (x 1).val) :
    (show EReal from k0_pay47 (F := Ideal) v135 x) = (show EReal from v135 (ix2 r j)) := by
  pointwise [k0_pay47]
  refine congrArg v135 ((ix2_inj ..).2 ⟨Fin.ext (by simp only; omega), Fin.ext (by simp only; omega)⟩)

theorem slice48 (v135 : FVec Ideal S256x512 .bf16) (x : S16x512.Idx) (r : Fin 256) (j : Fin 512)
    (hr : r.val = 176 + (x 0).val) (hj : j.val = (x 1).val) :
    (show EReal from k0_pay48 (F := Ideal) v135 x) = (show EReal from v135 (ix2 r j)) := by
  pointwise [k0_pay48]
  refine congrArg v135 ((ix2_inj ..).2 ⟨Fin.ext (by simp only; omega), Fin.ext (by simp only; omega)⟩)

theorem slice49 (v135 : FVec Ideal S256x512 .bf16) (x : S16x512.Idx) (r : Fin 256) (j : Fin 512)
    (hr : r.val = 192 + (x 0).val) (hj : j.val = (x 1).val) :
    (show EReal from k0_pay49 (F := Ideal) v135 x) = (show EReal from v135 (ix2 r j)) := by
  pointwise [k0_pay49]
  refine congrArg v135 ((ix2_inj ..).2 ⟨Fin.ext (by simp only; omega), Fin.ext (by simp only; omega)⟩)

theorem slice50 (v135 : FVec Ideal S256x512 .bf16) (x : S16x512.Idx) (r : Fin 256) (j : Fin 512)
    (hr : r.val = 208 + (x 0).val) (hj : j.val = (x 1).val) :
    (show EReal from k0_pay50 (F := Ideal) v135 x) = (show EReal from v135 (ix2 r j)) := by
  pointwise [k0_pay50]
  refine congrArg v135 ((ix2_inj ..).2 ⟨Fin.ext (by simp only; omega), Fin.ext (by simp only; omega)⟩)

theorem slice51 (v135 : FVec Ideal S256x512 .bf16) (x : S16x512.Idx) (r : Fin 256) (j : Fin 512)
    (hr : r.val = 224 + (x 0).val) (hj : j.val = (x 1).val) :
    (show EReal from k0_pay51 (F := Ideal) v135 x) = (show EReal from v135 (ix2 r j)) := by
  pointwise [k0_pay51]
  refine congrArg v135 ((ix2_inj ..).2 ⟨Fin.ext (by simp only; omega), Fin.ext (by simp only; omega)⟩)

theorem slice52 (v135 : FVec Ideal S256x512 .bf16) (x : S16x512.Idx) (r : Fin 256) (j : Fin 512)
    (hr : r.val = 240 + (x 0).val) (hj : j.val = (x 1).val) :
    (show EReal from k0_pay52 (F := Ideal) v135 x) = (show EReal from v135 (ix2 r j)) := by
  pointwise [k0_pay52]
  refine congrArg v135 ((ix2_inj ..).2 ⟨Fin.ext (by simp only; omega), Fin.ext (by simp only; omega)⟩)

theorem slice55 (v46 : FVec Ideal S256x1024 .bf16) (v173 : Vec Ideal S1024x256 .bf16) (x : S64x256.Idx) (r : Fin 256) (j : Fin 256)
    (hr : r.val = 0 + (x 0).val) (hj : j.val = (x 1).val) :
    (show EReal from k0_pay55 (F := Ideal) v46 v173 x) = (show EReal from (k0_pay54 (F := Ideal) v46 v173) (ix2 r j)) := by
  pointwise [k0_pay55]
  refine congrArg (k0_pay54 (F := Ideal) v46 v173) ((ix2_inj ..).2 ⟨Fin.ext (by simp only; omega), Fin.ext (by simp only; omega)⟩)

theorem slice56 (v46 : FVec Ideal S256x1024 .bf16) (v173 : Vec Ideal S1024x256 .bf16) (x : S64x256.Idx) (r : Fin 256) (j : Fin 256)
    (hr : r.val = 64 + (x 0).val) (hj : j.val = (x 1).val) :
    (show EReal from k0_pay56 (F := Ideal) v46 v173 x) = (show EReal from (k0_pay54 (F := Ideal) v46 v173) (ix2 r j)) := by
  pointwise [k0_pay56]
  refine congrArg (k0_pay54 (F := Ideal) v46 v173) ((ix2_inj ..).2 ⟨Fin.ext (by simp only; omega), Fin.ext (by simp only; omega)⟩)

theorem slice57 (v176 : FVec Ideal S256x256 .bf16) (x : S64x256.Idx) (r : Fin 256) (j : Fin 256)
    (hr : r.val = 128 + (x 0).val) (hj : j.val = (x 1).val) :
    (show EReal from k0_pay57 (F := Ideal) v176 x) = (show EReal from v176 (ix2 r j)) := by
  pointwise [k0_pay57]
  refine congrArg v176 ((ix2_inj ..).2 ⟨Fin.ext (by simp only; omega), Fin.ext (by simp only; omega)⟩)

theorem slice58 (v176 : FVec Ideal S256x256 .bf16) (x : S64x256.Idx) (r : Fin 256) (j : Fin 256)
    (hr : r.val = 192 + (x 0).val) (hj : j.val = (x 1).val) :
    (show EReal from k0_pay58 (F := Ideal) v176 x) = (show EReal from v176 (ix2 r j)) := by
  pointwise [k0_pay58]
  refine congrArg v176 ((ix2_inj ..).2 ⟨Fin.ext (by simp only; omega), Fin.ext (by simp only; omega)⟩)

theorem slice60 (v91 : FVec Ideal S256x1024 .bf16) (v185 : Vec Ideal S1024x256 .bf16) (x : S16x256.Idx) (r : Fin 256) (j : Fin 256)
    (hr : r.val = 0 + (x 0).val) (hj : j.val = (x 1).val) :
    (show EReal from k0_pay60 (F := Ideal) v91 v185 x) = (show EReal from (k0_pay59 (F := Ideal) v91 v185) (ix2 r j)) := by
  pointwise [k0_pay60]
  refine congrArg (k0_pay59 (F := Ideal) v91 v185) ((ix2_inj ..).2 ⟨Fin.ext (by simp only; omega), Fin.ext (by simp only; omega)⟩)

theorem slice61 (v91 : FVec Ideal S256x1024 .bf16) (v185 : Vec Ideal S1024x256 .bf16) (x : S16x256.Idx) (r : Fin 256) (j : Fin 256)
    (hr : r.val = 16 + (x 0).val) (hj : j.val = (x 1).val) :
    (show EReal from k0_pay61 (F := Ideal) v91 v185 x) = (show EReal from (k0_pay59 (F := Ideal) v91 v185) (ix2 r j)) := by
  pointwise [k0_pay61]
  refine congrArg (k0_pay59 (F := Ideal) v91 v185) ((ix2_inj ..).2 ⟨Fin.ext (by simp only; omega), Fin.ext (by simp only; omega)⟩)

theorem slice62 (v91 : FVec Ideal S256x1024 .bf16) (v185 : Vec Ideal S1024x256 .bf16) (x : S16x256.Idx) (r : Fin 256) (j : Fin 256)
    (hr : r.val = 32 + (x 0).val) (hj : j.val = (x 1).val) :
    (show EReal from k0_pay62 (F := Ideal) v91 v185 x) = (show EReal from (k0_pay59 (F := Ideal) v91 v185) (ix2 r j)) := by
  pointwise [k0_pay62]
  refine congrArg (k0_pay59 (F := Ideal) v91 v185) ((ix2_inj ..).2 ⟨Fin.ext (by simp only; omega), Fin.ext (by simp only; omega)⟩)

theorem slice63 (v91 : FVec Ideal S256x1024 .bf16) (v185 : Vec Ideal S1024x256 .bf16) (x : S16x256.Idx) (r : Fin 256) (j : Fin 256)
    (hr : r.val = 48 + (x 0).val) (hj : j.val = (x 1).val) :
    (show EReal from k0_pay63 (F := Ideal) v91 v185 x) = (show EReal from (k0_pay59 (F := Ideal) v91 v185) (ix2 r j)) := by
  pointwise [k0_pay63]
  refine congrArg (k0_pay59 (F := Ideal) v91 v185) ((ix2_inj ..).2 ⟨Fin.ext (by simp only; omega), Fin.ext (by simp only; omega)⟩)

theorem slice64 (v91 : FVec Ideal S256x1024 .bf16) (v185 : Vec Ideal S1024x256 .bf16) (x : S16x256.Idx) (r : Fin 256) (j : Fin 256)
    (hr : r.val = 64 + (x 0).val) (hj : j.val = (x 1).val) :
    (show EReal from k0_pay64 (F := Ideal) v91 v185 x) = (show EReal from (k0_pay59 (F := Ideal) v91 v185) (ix2 r j)) := by
  pointwise [k0_pay64]
  refine congrArg (k0_pay59 (F := Ideal) v91 v185) ((ix2_inj ..).2 ⟨Fin.ext (by simp only; omega), Fin.ext (by simp only; omega)⟩)

theorem slice65 (v91 : FVec Ideal S256x1024 .bf16) (v185 : Vec Ideal S1024x256 .bf16) (x : S16x256.Idx) (r : Fin 256) (j : Fin 256)
    (hr : r.val = 80 + (x 0).val) (hj : j.val = (x 1).val) :
    (show EReal from k0_pay65 (F := Ideal) v91 v185 x) = (show EReal from (k0_pay59 (F := Ideal) v91 v185) (ix2 r j)) := by
  pointwise [k0_pay65]
  refine congrArg (k0_pay59 (F := Ideal) v91 v185) ((ix2_inj ..).2 ⟨Fin.ext (by simp only; omega), Fin.ext (by simp only; omega)⟩)

theorem slice66 (v91 : FVec Ideal S256x1024 .bf16) (v185 : Vec Ideal S1024x256 .bf16) (x : S16x256.Idx) (r : Fin 256) (j : Fin 256)
    (hr : r.val = 96 + (x 0).val) (hj : j.val = (x 1).val) :
    (show EReal from k0_pay66 (F := Ideal) v91 v185 x) = (show EReal from (k0_pay59 (F := Ideal) v91 v185) (ix2 r j)) := by
  pointwise [k0_pay66]
  refine congrArg (k0_pay59 (F := Ideal) v91 v185) ((ix2_inj ..).2 ⟨Fin.ext (by simp only; omega), Fin.ext (by simp only; omega)⟩)

theorem slice67 (v91 : FVec Ideal S256x1024 .bf16) (v185 : Vec Ideal S1024x256 .bf16) (x : S16x256.Idx) (r : Fin 256) (j : Fin 256)
    (hr : r.val = 112 + (x 0).val) (hj : j.val = (x 1).val) :
    (show EReal from k0_pay67 (F := Ideal) v91 v185 x) = (show EReal from (k0_pay59 (F := Ideal) v91 v185) (ix2 r j)) := by
  pointwise [k0_pay67]
  refine congrArg (k0_pay59 (F := Ideal) v91 v185) ((ix2_inj ..).2 ⟨Fin.ext (by simp only; omega), Fin.ext (by simp only; omega)⟩)

theorem slice68 (v91 : FVec Ideal S256x1024 .bf16) (v185 : Vec Ideal S1024x256 .bf16) (x : S16x256.Idx) (r : Fin 256) (j : Fin 256)
    (hr : r.val = 128 + (x 0).val) (hj : j.val = (x 1).val) :
    (show EReal from k0_pay68 (F := Ideal) v91 v185 x) = (show EReal from (k0_pay59 (F := Ideal) v91 v185) (ix2 r j)) := by
  pointwise [k0_pay68]
  refine congrArg (k0_pay59 (F := Ideal) v91 v185) ((ix2_inj ..).2 ⟨Fin.ext (by simp only; omega), Fin.ext (by simp only; omega)⟩)

theorem slice69 (v188 : FVec Ideal S256x256 .bf16) (x : S16x256.Idx) (r : Fin 256) (j : Fin 256)
    (hr : r.val = 144 + (x 0).val) (hj : j.val = (x 1).val) :
    (show EReal from k0_pay69 (F := Ideal) v188 x) = (show EReal from v188 (ix2 r j)) := by
  pointwise [k0_pay69]
  refine congrArg v188 ((ix2_inj ..).2 ⟨Fin.ext (by simp only; omega), Fin.ext (by simp only; omega)⟩)

theorem slice70 (v188 : FVec Ideal S256x256 .bf16) (x : S16x256.Idx) (r : Fin 256) (j : Fin 256)
    (hr : r.val = 160 + (x 0).val) (hj : j.val = (x 1).val) :
    (show EReal from k0_pay70 (F := Ideal) v188 x) = (show EReal from v188 (ix2 r j)) := by
  pointwise [k0_pay70]
  refine congrArg v188 ((ix2_inj ..).2 ⟨Fin.ext (by simp only; omega), Fin.ext (by simp only; omega)⟩)

theorem slice71 (v188 : FVec Ideal S256x256 .bf16) (x : S16x256.Idx) (r : Fin 256) (j : Fin 256)
    (hr : r.val = 176 + (x 0).val) (hj : j.val = (x 1).val) :
    (show EReal from k0_pay71 (F := Ideal) v188 x) = (show EReal from v188 (ix2 r j)) := by
  pointwise [k0_pay71]
  refine congrArg v188 ((ix2_inj ..).2 ⟨Fin.ext (by simp only; omega), Fin.ext (by simp only; omega)⟩)

theorem slice72 (v188 : FVec Ideal S256x256 .bf16) (x : S16x256.Idx) (r : Fin 256) (j : Fin 256)
    (hr : r.val = 192 + (x 0).val) (hj : j.val = (x 1).val) :
    (show EReal from k0_pay72 (F := Ideal) v188 x) = (show EReal from v188 (ix2 r j)) := by
  pointwise [k0_pay72]
  refine congrArg v188 ((ix2_inj ..).2 ⟨Fin.ext (by simp only; omega), Fin.ext (by simp only; omega)⟩)

theorem slice73 (v188 : FVec Ideal S256x256 .bf16) (x : S16x256.Idx) (r : Fin 256) (j : Fin 256)
    (hr : r.val = 208 + (x 0).val) (hj : j.val = (x 1).val) :
    (show EReal from k0_pay73 (F := Ideal) v188 x) = (show EReal from v188 (ix2 r j)) := by
  pointwise [k0_pay73]
  refine congrArg v188 ((ix2_inj ..).2 ⟨Fin.ext (by simp only; omega), Fin.ext (by simp only; omega)⟩)

theorem slice74 (v188 : FVec Ideal S256x256 .bf16) (x : S16x256.Idx) (r : Fin 256) (j : Fin 256)
    (hr : r.val = 224 + (x 0).val) (hj : j.val = (x 1).val) :
    (show EReal from k0_pay74 (F := Ideal) v188 x) = (show EReal from v188 (ix2 r j)) := by
  pointwise [k0_pay74]
  refine congrArg v188 ((ix2_inj ..).2 ⟨Fin.ext (by simp only; omega), Fin.ext (by simp only; omega)⟩)

theorem slice75 (v188 : FVec Ideal S256x256 .bf16) (x : S16x256.Idx) (r : Fin 256) (j : Fin 256)
    (hr : r.val = 240 + (x 0).val) (hj : j.val = (x 1).val) :
    (show EReal from k0_pay75 (F := Ideal) v188 x) = (show EReal from v188 (ix2 r j)) := by
  pointwise [k0_pay75]
  refine congrArg v188 ((ix2_inj ..).2 ⟨Fin.ext (by simp only; omega), Fin.ext (by simp only; omega)⟩)

/-! ## The results -/

/-- Window 3 (the queries of the branch of stride 1): what the body leaves in its block is the reference's there. -/
theorem point3 (c : Dev nD) (t : Fin cfg0.N) (y) : (dats m 0 c).after 3 t y
    = val_main_v20 (F := Ideal) (m ((c : Thread nD τ).loc main_arg0)) (m ((c : Thread nD τ).loc main_arg1))
        (m ((c : Thread nD τ).loc main_arg2)) (((cfg0.win 3).blk t).view.emb y) := by
  have ht : t.val < 64 := lt_of_lt_of_eq t.isLt N_0
  have y0 : (y 0).val < 256 := (y 0).isLt
  have y1 : (y 1).val < 1024 := (y 1).isLt
  refine Eq.trans ?_ (ref3 _ _ _ _ ⟨t.val * 256 + (y 0).val, by omega⟩
    ⟨0 + (y 1).val, by omega⟩ ?_ ?_).symm
  · rw [after0_3]; unfold Gen.outsAt0; frame_out
    canon_tiles x h
    · exact (congrArg _ (eq_ix2 x)).trans
        (cell5 m c t _ _ _ _ _ _ (by simp only; omega) (by simp only; omega))
    · exact (congrArg _ (eq_ix2 x)).trans
        (cell4 m c t _ _ _ _ _ _ (by simp only; omega) (by simp only; omega))
  all_goals (blk_simp [at_point t] <;> (try dsimp only) <;> try omega)

/-- Its whole array after the run. -/
theorem final3 (c : Dev nD) : (dats m 0 c).arrAt 3 cfg0.N
    = val_main_v20 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  exact point3 m c t y

/-- Window 4 (the queries of the branch of stride 4): what the body leaves in its block is the reference's there. -/
theorem point4 (c : Dev nD) (t : Fin cfg0.N) (y) : (dats m 0 c).after 4 t y
    = val_main_v25 (F := Ideal) (m ((c : Thread nD τ).loc main_arg0)) (m ((c : Thread nD τ).loc main_arg1))
        (m ((c : Thread nD τ).loc main_arg2)) (((cfg0.win 4).blk t).view.emb y) := by
  have ht : t.val < 64 := lt_of_lt_of_eq t.isLt N_0
  have y0 : (y 0).val < 64 := (y 0).isLt
  have y1 : (y 1).val < 4096 := (y 1).isLt
  refine Eq.trans ?_ (ref4 _ _ _ _ ⟨t.val * 256 + ((y 0).val * 4 + (y 1).val / 1024), by omega⟩
    ⟨1024 + (y 1).val % 1024, by omega⟩ ?_ ?_).symm
  · rw [after0_4]; unfold Gen.outsAt0; frame_out
    canon_tiles x h
    · exact (slice17 _ x ⟨192 + (x 0).val, by omega⟩ ⟨(x 1).val, by omega⟩ rfl rfl).trans
        (cell13 m c t _ _ _ _ _ _ (by simp only; omega) (by simp only; omega))
    · exact (slice16 _ x ⟨128 + (x 0).val, by omega⟩ ⟨(x 1).val, by omega⟩ rfl rfl).trans
        (cell13 m c t _ _ _ _ _ _ (by simp only; omega) (by simp only; omega))
    · exact (slice15 _ _ _ _ _ x ⟨64 + (x 0).val, by omega⟩ ⟨(x 1).val, by omega⟩ rfl rfl).trans
        (cell13 m c t _ _ _ _ _ _ (by simp only; omega) (by simp only; omega))
    · exact (slice14 _ _ _ _ _ x ⟨0 + (x 0).val, by omega⟩ ⟨(x 1).val, by omega⟩ rfl rfl).trans
        (cell13 m c t _ _ _ _ _ _ (by simp only; omega) (by simp only; omega))
    · exact (slice12 _ _ _ _ _ x ⟨192 + (x 0).val, by omega⟩ ⟨(x 1).val, by omega⟩ rfl rfl).trans
        (cell8 m c t _ _ _ _ _ _ (by simp only; omega) (by simp only; omega))
    · exact (slice11 _ _ _ _ _ x ⟨128 + (x 0).val, by omega⟩ ⟨(x 1).val, by omega⟩ rfl rfl).trans
        (cell8 m c t _ _ _ _ _ _ (by simp only; omega) (by simp only; omega))
    · exact (slice10 _ _ _ _ _ x ⟨64 + (x 0).val, by omega⟩ ⟨(x 1).val, by omega⟩ rfl rfl).trans
        (cell8 m c t _ _ _ _ _ _ (by simp only; omega) (by simp only; omega))
    · exact (slice9 _ _ _ _ _ x ⟨0 + (x 0).val, by omega⟩ ⟨(x 1).val, by omega⟩ rfl rfl).trans
        (cell8 m c t _ _ _ _ _ _ (by simp only; omega) (by simp only; omega))
  all_goals (blk_simp [at_point t] <;> (try dsimp only) <;> try omega)

/-- Its whole array after the run. -/
theorem final4 (c : Dev nD) : (dats m 0 c).arrAt 4 cfg0.N
    = val_main_v25 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  exact point4 m c t y

/-- Window 5 (the queries of the branch of stride 16): what the body leaves in its block is the reference's there. -/
theorem point5 (c : Dev nD) (t : Fin cfg0.N) (y) : (dats m 0 c).after 5 t y
    = val_main_v30 (F := Ideal) (m ((c : Thread nD τ).loc main_arg0)) (m ((c : Thread nD τ).loc main_arg1))
        (m ((c : Thread nD τ).loc main_arg2)) (((cfg0.win 5).blk t).view.emb y) := by
  have ht : t.val < 64 := lt_of_lt_of_eq t.isLt N_0
  have y0 : (y 0).val < 16 := (y 0).isLt
  have y1 : (y 1).val < 16384 := (y 1).isLt
  refine Eq.trans ?_ (ref5 _ _ _ _ ⟨t.val * 256 + ((y 0).val * 16 + (y 1).val / 1024), by omega⟩
    ⟨2048 + (y 1).val % 1024, by omega⟩ ?_ ?_).symm
  · rw [after0_5]; unfold Gen.outsAt0; frame_out
    canon_tiles x h
    · exact (slice52 _ x ⟨240 + (x 0).val, by omega⟩ ⟨(x 1).val, by omega⟩ rfl rfl).trans
        (cell36 m c t _ _ _ _ _ _ (by simp only; omega) (by simp only; omega))
    · exact (slice51 _ x ⟨224 + (x 0).val, by omega⟩ ⟨(x 1).val, by omega⟩ rfl rfl).trans
        (cell36 m c t _ _ _ _ _ _ (by simp only; omega) (by simp only; omega))
    · exact (slice50 _ x ⟨208 + (x 0).val, by omega⟩ ⟨(x 1).val, by omega⟩ rfl rfl).trans
        (cell36 m c t _ _ _ _ _ _ (by simp only; omega) (by simp only; omega))
    · exact (slice49 _ x ⟨192 + (x 0).val, by omega⟩ ⟨(x 1).val, by omega⟩ rfl rfl).trans
        (cell36 m c t _ _ _ _ _ _ (by simp only; omega) (by simp only; omega))
    · exact (slice48 _ x ⟨176 + (x 0).val, by omega⟩ ⟨(x 1).val, by omega⟩ rfl rfl).trans
        (cell36 m c t _ _ _ _ _ _ (by simp only; omega) (by simp only; omega))
    · exact (slice47 _ x ⟨160 + (x 0).val, by omega⟩ ⟨(x 1).val, by omega⟩ rfl rfl).trans
        (cell36 m c t _ _ _ _ _ _ (by simp only; omega) (by simp only; omega))
    · exact (slice46 _ _ x ⟨144 + (x 0).val, by omega⟩ ⟨(x 1).val, by omega⟩ rfl rfl).trans
        (cell36 m c t _ _ _ _ _ _ (by simp only; omega) (by simp only; omega))
    · exact (slice45 _ _ x ⟨128 + (x 0).val, by omega⟩ ⟨(x 1).val, by omega⟩ rfl rfl).trans
        (cell36 m c t _ _ _ _ _ _ (by simp only; omega) (by simp only; omega))
    · exact (slice44 _ _ x ⟨112 + (x 0).val, by omega⟩ ⟨(x 1).val, by omega⟩ rfl rfl).trans
        (cell36 m c t _ _ _ _ _ _ (by simp only; omega) (by simp only; omega))
    · exact (slice43 _ _ x ⟨96 + (x 0).val, by omega⟩ ⟨(x 1).val, by omega⟩ rfl rfl).trans
        (cell36 m c t _ _ _ _ _ _ (by simp only; omega) (by simp only; omega))
    · exact (slice42 _ _ x ⟨80 + (x 0).val, by omega⟩ ⟨(x 1).val, by omega⟩ rfl rfl).trans
        (cell36 m c t _ _ _ _ _ _ (by simp only; omega) (by simp only; omega))
    · exact (slice41 _ _ x ⟨64 + (x 0).val, by omega⟩ ⟨(x 1).val, by omega⟩ rfl rfl).trans
        (cell36 m c t _ _ _ _ _ _ (by simp only; omega) (by simp only; omega))
    · exact (slice40 _ _ x ⟨48 + (x 0).val, by omega⟩ ⟨(x 1).val, by omega⟩ rfl rfl).trans
        (cell36 m c t _ _ _ _ _ _ (by simp only; omega) (by simp only; omega))
    · exact (slice39 _ _ x ⟨32 + (x 0).val, by omega⟩ ⟨(x 1).val, by omega⟩ rfl rfl).trans
        (cell36 m c t _ _ _ _ _ _ (by simp only; omega) (by simp only; omega))
    · exact (slice38 _ _ x ⟨16 + (x 0).val, by omega⟩ ⟨(x 1).val, by omega⟩ rfl rfl).trans
        (cell36 m c t _ _ _ _ _ _ (by simp only; omega) (by simp only; omega))
    · exact (slice37 _ _ x ⟨0 + (x 0).val, by omega⟩ ⟨(x 1).val, by omega⟩ rfl rfl).trans
        (cell36 m c t _ _ _ _ _ _ (by simp only; omega) (by simp only; omega))
    · exact (slice35 _ x ⟨240 + (x 0).val, by omega⟩ ⟨(x 1).val, by omega⟩ rfl rfl).trans
        (cell19 m c t _ _ _ _ _ _ (by simp only; omega) (by simp only; omega))
    · exact (slice34 _ x ⟨224 + (x 0).val, by omega⟩ ⟨(x 1).val, by omega⟩ rfl rfl).trans
        (cell19 m c t _ _ _ _ _ _ (by simp only; omega) (by simp only; omega))
    · exact (slice33 _ x ⟨208 + (x 0).val, by omega⟩ ⟨(x 1).val, by omega⟩ rfl rfl).trans
        (cell19 m c t _ _ _ _ _ _ (by simp only; omega) (by simp only; omega))
    · exact (slice32 _ x ⟨192 + (x 0).val, by omega⟩ ⟨(x 1).val, by omega⟩ rfl rfl).trans
        (cell19 m c t _ _ _ _ _ _ (by simp only; omega) (by simp only; omega))
    · exact (slice31 _ x ⟨176 + (x 0).val, by omega⟩ ⟨(x 1).val, by omega⟩ rfl rfl).trans
        (cell19 m c t _ _ _ _ _ _ (by simp only; omega) (by simp only; omega))
    · exact (slice30 _ x ⟨160 + (x 0).val, by omega⟩ ⟨(x 1).val, by omega⟩ rfl rfl).trans
        (cell19 m c t _ _ _ _ _ _ (by simp only; omega) (by simp only; omega))
    · exact (slice29 _ x ⟨144 + (x 0).val, by omega⟩ ⟨(x 1).val, by omega⟩ rfl rfl).trans
        (cell19 m c t _ _ _ _ _ _ (by simp only; omega) (by simp only; omega))
    · exact (slice28 _ x ⟨128 + (x 0).val, by omega⟩ ⟨(x 1).val, by omega⟩ rfl rfl).trans
        (cell19 m c t _ _ _ _ _ _ (by simp only; omega) (by simp only; omega))
    · exact (slice27 _ x ⟨112 + (x 0).val, by omega⟩ ⟨(x 1).val, by omega⟩ rfl rfl).trans
        (cell19 m c t _ _ _ _ _ _ (by simp only; omega) (by simp only; omega))
    · exact (slice26 _ x ⟨96 + (x 0).val, by omega⟩ ⟨(x 1).val, by omega⟩ rfl rfl).trans
        (cell19 m c t _ _ _ _ _ _ (by simp only; omega) (by simp only; omega))
    · exact (slice25 _ x ⟨80 + (x 0).val, by omega⟩ ⟨(x 1).val, by omega⟩ rfl rfl).trans
        (cell19 m c t _ _ _ _ _ _ (by simp only; omega) (by simp only; omega))
    · exact (slice24 _ x ⟨64 + (x 0).val, by omega⟩ ⟨(x 1).val, by omega⟩ rfl rfl).trans
        (cell19 m c t _ _ _ _ _ _ (by simp only; omega) (by simp only; omega))
    · exact (slice23 _ _ x ⟨48 + (x 0).val, by omega⟩ ⟨(x 1).val, by omega⟩ rfl rfl).trans
        (cell19 m c t _ _ _ _ _ _ (by simp only; omega) (by simp only; omega))
    · exact (slice22 _ _ x ⟨32 + (x 0).val, by omega⟩ ⟨(x 1).val, by omega⟩ rfl rfl).trans
        (cell19 m c t _ _ _ _ _ _ (by simp only; omega) (by simp only; omega))
    · exact (slice21 _ _ x ⟨16 + (x 0).val, by omega⟩ ⟨(x 1).val, by omega⟩ rfl rfl).trans
        (cell19 m c t _ _ _ _ _ _ (by simp only; omega) (by simp only; omega))
    · exact (slice20 _ _ x ⟨0 + (x 0).val, by omega⟩ ⟨(x 1).val, by omega⟩ rfl rfl).trans
        (cell19 m c t _ _ _ _ _ _ (by simp only; omega) (by simp only; omega))
  all_goals (blk_simp [at_point t] <;> (try dsimp only) <;> try omega)

/-- Its whole array after the run. -/
theorem final5 (c : Dev nD) : (dats m 0 c).arrAt 5 cfg0.N
    = val_main_v30 (F := Ideal) (m ((c : Thread nD τ).loc main_arg0)) (m ((c : Thread nD τ).loc main_arg1))
        (m ((c : Thread nD τ).loc main_arg2)) := by
  refine (dats m 0 c).arrAt_eq_of_covers 5 _ (by decide +kernel) fun t _ y => ?_
  blk_simp
  exact point5 m c t y

/-- Window 6 (the keys and values of the branch of stride 1): what the body leaves in its block is the reference's there. -/
theorem point6 (c : Dev nD) (t : Fin cfg0.N) (y) : (dats m 0 c).after 6 t y
    = val_main_v32 (F := Ideal) (m ((c : Thread nD τ).loc main_arg0)) (m ((c : Thread nD τ).loc main_arg1))
        (m ((c : Thread nD τ).loc main_arg2)) (((cfg0.win 6).blk t).view.emb y) := by
  have ht : t.val < 64 := lt_of_lt_of_eq t.isLt N_0
  have y0 : (y 0).val < 256 := (y 0).isLt
  have y1 : (y 1).val < 256 := (y 1).isLt
  refine Eq.trans ?_ (ref6 _ _ _ _ ⟨t.val * 256 + (y 0).val, by omega⟩
    ⟨3072 + (y 1).val, by omega⟩ ?_ ?_).symm
  · rw [after0_6]; unfold Gen.outsAt0; frame_out
    exact (congrArg _ (eq_ix2 y)).trans (cell53 m c t 3072 _ _ _ _ _ (by first | rfl | omega) (by first | rfl | omega))
  all_goals (blk_simp [at_point t] <;> (try dsimp only) <;> try omega)

/-- Its whole array after the run. -/
theorem final6 (c : Dev nD) : (dats m 0 c).arrAt 6 cfg0.N
    = val_main_v32 (F := Ideal) (m ((c : Thread nD τ).loc main_arg0)) (m ((c : Thread nD τ).loc main_arg1))
        (m ((c : Thread nD τ).loc main_arg2)) := by
  refine (dats m 0 c).arrAt_eq_of_covers 6 _ (by decide +kernel) fun t _ y => ?_
  blk_simp
  exact point6 m c t y

/-- Window 7 (the keys and values of the branch of stride 4): what the body leaves in its block is the reference's there. -/
theorem point7 (c : Dev nD) (t : Fin cfg0.N) (y) : (dats m 0 c).after 7 t y
    = val_main_v35 (F := Ideal) (m ((c : Thread nD τ).loc main_arg0)) (m ((c : Thread nD τ).loc main_arg1))
        (m ((c : Thread nD τ).loc main_arg2)) (((cfg0.win 7).blk t).view.emb y) := by
  have ht : t.val < 64 := lt_of_lt_of_eq t.isLt N_0
  have y0 : (y 0).val < 64 := (y 0).isLt
  have y1 : (y 1).val < 1024 := (y 1).isLt
  refine Eq.trans ?_ (ref7 _ _ _ _ ⟨t.val * 256 + ((y 0).val * 4 + (y 1).val / 256), by omega⟩
    ⟨3328 + (y 1).val % 256, by omega⟩ ?_ ?_).symm
  · rw [after0_7]; unfold Gen.outsAt0; frame_out
    canon_tiles x h
    · exact (slice58 _ x ⟨192 + (x 0).val, by omega⟩ ⟨(x 1).val, by omega⟩ rfl rfl).trans
        (cell54 m c t _ _ _ _ _ _ (by simp only; omega) (by simp only; omega))
    · exact (slice57 _ x ⟨128 + (x 0).val, by omega⟩ ⟨(x 1).val, by omega⟩ rfl rfl).trans
        (cell54 m c t _ _ _ _ _ _ (by simp only; omega) (by simp only; omega))
    · exact (slice56 _ _ x ⟨64 + (x 0).val, by omega⟩ ⟨(x 1).val, by omega⟩ rfl rfl).trans
        (cell54 m c t _ _ _ _ _ _ (by simp only; omega) (by simp only; omega))
    · exact (slice55 _ _ x ⟨0 + (x 0).val, by omega⟩ ⟨(x 1).val, by omega⟩ rfl rfl).trans
        (cell54 m c t _ _ _ _ _ _ (by simp only; omega) (by simp only; omega))
  all_goals (blk_simp [at_point t] <;> (try dsimp only) <;> try omega)

/-- Its whole array after the run. -/
theorem final7 (c : Dev nD) : (dats m 0 c).arrAt 7 cfg0.N
    = val_main_v35 (F := Ideal) (m ((c : Thread nD τ).loc main_arg0)) (m ((c : Thread nD τ).loc main_arg1))
        (m ((c : Thread nD τ).loc main_arg2)) := by
  refine (dats m 0 c).arrAt_eq_of_covers 7 _ (by decide +kernel) fun t _ y => ?_
  blk_simp
  exact point7 m c t y

/-- Window 8 (the keys and values of the branch of stride 16): what the body leaves in its block is the reference's there. -/
theorem point8 (c : Dev nD) (t : Fin cfg0.N) (y) : (dats m 0 c).after 8 t y
    = val_main_v38 (F := Ideal) (m ((c : Thread nD τ).loc main_arg0)) (m ((c : Thread nD τ).loc main_arg1))
        (m ((c : Thread nD τ).loc main_arg2)) (((cfg0.win 8).blk t).view.emb y) := by
  have ht : t.val < 64 := lt_of_lt_of_eq t.isLt N_0
  have y0 : (y 0).val < 16 := (y 0).isLt
  have y1 : (y 1).val < 4096 := (y 1).isLt
  refine Eq.trans ?_ (ref8 _ _ _ _ ⟨t.val * 256 + ((y 0).val * 16 + (y 1).val / 256), by omega⟩
    ⟨3584 + (y 1).val % 256, by omega⟩ ?_ ?_).symm
  · rw [after0_8]; unfold Gen.outsAt0; frame_out
    canon_tiles x h
    · exact (slice75 _ x ⟨240 + (x 0).val, by omega⟩ ⟨(x 1).val, by omega⟩ rfl rfl).trans
        (cell59 m c t _ _ _ _ _ _ (by simp only; omega) (by simp only; omega))
    · exact (slice74 _ x ⟨224 + (x 0).val, by omega⟩ ⟨(x 1).val, by omega⟩ rfl rfl).trans
        (cell59 m c t _ _ _ _ _ _ (by simp only; omega) (by simp only; omega))
    · exact (slice73 _ x ⟨208 + (x 0).val, by omega⟩ ⟨(x 1).val, by omega⟩ rfl rfl).trans
        (cell59 m c t _ _ _ _ _ _ (by simp only; omega) (by simp only; omega))
    · exact (slice72 _ x ⟨192 + (x 0).val, by omega⟩ ⟨(x 1).val, by omega⟩ rfl rfl).trans
        (cell59 m c t _ _ _ _ _ _ (by simp only; omega) (by simp only; omega))
    · exact (slice71 _ x ⟨176 + (x 0).val, by omega⟩ ⟨(x 1).val, by omega⟩ rfl rfl).trans
        (cell59 m c t _ _ _ _ _ _ (by simp only; omega) (by simp only; omega))
    · exact (slice70 _ x ⟨160 + (x 0).val, by omega⟩ ⟨(x 1).val, by omega⟩ rfl rfl).trans
        (cell59 m c t _ _ _ _ _ _ (by simp only; omega) (by simp only; omega))
    · exact (slice69 _ x ⟨144 + (x 0).val, by omega⟩ ⟨(x 1).val, by omega⟩ rfl rfl).trans
        (cell59 m c t _ _ _ _ _ _ (by simp only; omega) (by simp only; omega))
    · exact (slice68 _ _ x ⟨128 + (x 0).val, by omega⟩ ⟨(x 1).val, by omega⟩ rfl rfl).trans
        (cell59 m c t _ _ _ _ _ _ (by simp only; omega) (by simp only; omega))
    · exact (slice67 _ _ x ⟨112 + (x 0).val, by omega⟩ ⟨(x 1).val, by omega⟩ rfl rfl).trans
        (cell59 m c t _ _ _ _ _ _ (by simp only; omega) (by simp only; omega))
    · exact (slice66 _ _ x ⟨96 + (x 0).val, by omega⟩ ⟨(x 1).val, by omega⟩ rfl rfl).trans
        (cell59 m c t _ _ _ _ _ _ (by simp only; omega) (by simp only; omega))
    · exact (slice65 _ _ x ⟨80 + (x 0).val, by omega⟩ ⟨(x 1).val, by omega⟩ rfl rfl).trans
        (cell59 m c t _ _ _ _ _ _ (by simp only; omega) (by simp only; omega))
    · exact (slice64 _ _ x ⟨64 + (x 0).val, by omega⟩ ⟨(x 1).val, by omega⟩ rfl rfl).trans
        (cell59 m c t _ _ _ _ _ _ (by simp only; omega) (by simp only; omega))
    · exact (slice63 _ _ x ⟨48 + (x 0).val, by omega⟩ ⟨(x 1).val, by omega⟩ rfl rfl).trans
        (cell59 m c t _ _ _ _ _ _ (by simp only; omega) (by simp only; omega))
    · exact (slice62 _ _ x ⟨32 + (x 0).val, by omega⟩ ⟨(x 1).val, by omega⟩ rfl rfl).trans
        (cell59 m c t _ _ _ _ _ _ (by simp only; omega) (by simp only; omega))
    · exact (slice61 _ _ x ⟨16 + (x 0).val, by omega⟩ ⟨(x 1).val, by omega⟩ rfl rfl).trans
        (cell59 m c t _ _ _ _ _ _ (by simp only; omega) (by simp only; omega))
    · exact (slice60 _ _ x ⟨0 + (x 0).val, by omega⟩ ⟨(x 1).val, by omega⟩ rfl rfl).trans
        (cell59 m c t _ _ _ _ _ _ (by simp only; omega) (by simp only; omega))
  all_goals (blk_simp [at_point t] <;> (try dsimp only) <;> try omega)

/-- Its whole array after the run. -/
theorem final8 (c : Dev nD) : (dats m 0 c).arrAt 8 cfg0.N
    = val_main_v38 (F := Ideal) (m ((c : Thread nD τ).loc main_arg0)) (m ((c : Thread nD τ).loc main_arg1))
        (m ((c : Thread nD τ).loc main_arg2)) := by
  refine (dats m 0 c).arrAt_eq_of_covers 8 _ (by decide +kernel) fun t _ y => ?_
  blk_simp
  exact point8 m c t y

/-- The two strips cover the block of window 9. -/
theorem cover9 (w1 : FVec Ideal S256x256 .f32) (w2 : FVec Ideal S256x512 .f32) (y : S256x768.Idx) :
    ∃ p ∈ ([⟨Rect.unit ![0, 512] ![256, 256] inb_S256x768_S256x256_0_512, w1⟩,
      ⟨Rect.unit ![0, 0] ![256, 512] inb_S256x768_S256x512_0_0, w2⟩] : List (View.Piece (Elt Ideal) S256x768 .f32)), y ∈ p.1.set := by
  have y0 : (y 0).val < 256 := (y 0).isLt
  have y1 : (y 1).val < 768 := (y 1).isLt
  by_cases hy : (y 1).val < 512
  · refine ⟨⟨Rect.unit ![0, 0] ![256, 512] inb_S256x768_S256x512_0_0, w2⟩, List.mem_cons_of_mem _ List.mem_cons_self, ?_⟩
    show y ∈ (Rect.unit (s := S256x768) ![0, 0] ![256, 512] inb_S256x768_S256x512_0_0).set
    refine (Rect.mem_set_unit (inb := inb_S256x768_S256x512_0_0)).mpr fun a => ?_
    match a with
    | 0 => exact ⟨Nat.zero_le _, by show (y 0).val < 0 + 256; omega⟩
    | 1 => exact ⟨Nat.zero_le _, by show (y 1).val < 0 + 512; omega⟩
  · refine ⟨⟨Rect.unit ![0, 512] ![256, 256] inb_S256x768_S256x256_0_512, w1⟩, List.mem_cons_self, ?_⟩
    show y ∈ (Rect.unit (s := S256x768) ![0, 512] ![256, 256] inb_S256x768_S256x256_0_512).set
    refine (Rect.mem_set_unit (inb := inb_S256x768_S256x256_0_512)).mpr fun a => ?_
    match a with
    | 0 => exact ⟨Nat.zero_le _, by show (y 0).val < 0 + 256; omega⟩
    | 1 => exact ⟨by show 512 ≤ (y 1).val; omega, by show (y 1).val < 512 + 256; omega⟩

/-- Window 9 (the keys and values of all branches): what the body leaves in its block is the reference's there. -/
theorem point9 (c : Dev nD) (t : Fin cfg0.N) (y) : (dats m 0 c).after 9 t y
    = val_main_v15 (F := Ideal) (m ((c : Thread nD τ).loc main_arg0)) (m ((c : Thread nD τ).loc main_arg1))
        (m ((c : Thread nD τ).loc main_arg2)) (((cfg0.win 9).blk t).view.emb y) := by
  have ht : t.val < 64 := lt_of_lt_of_eq t.isLt N_0
  have y0 : (y 0).val < 256 := (y 0).isLt
  have y1 : (y 1).val < 768 := (y 1).isLt
  refine Eq.trans ?_ (ref9 _ _ _ _ ⟨t.val * 256 + (y 0).val, by omega⟩
    ⟨3072 + (y 1).val, by omega⟩ ?_ ?_).symm
  · rw [after0_9]; unfold Gen.outsAt0; frame_out
    canon_tiles x h using cover9 _ _ y
    · exact (congrArg _ (eq_ix2 x)).trans
        (cell77 m c t _ _ _ _ _ _ (by simp only; omega) (by simp only; omega))
    · exact (congrArg _ (eq_ix2 x)).trans
        (cell76 m c t _ _ _ _ _ _ (by simp only; omega) (by simp only; omega))
  all_goals (blk_simp [at_point t] <;> (try dsimp only) <;> try omega)

/-- Its whole array after the run. -/
theorem final9 (c : Dev nD) : (dats m 0 c).arrAt 9 cfg0.N
    = val_main_v15 (F := Ideal) (m ((c : Thread nD τ).loc main_arg0)) (m ((c : Thread nD τ).loc main_arg1))
        (m ((c : Thread nD τ).loc main_arg2)) := by
  refine (dats m 0 c).arrAt_eq_of_covers 9 _ (by decide +kernel) fun t _ y => ?_
  blk_simp
  exact point9 m c t y

/-- Window 10 (the gate): what the body leaves in its block is the reference's there. -/
theorem point10 (c : Dev nD) (t : Fin cfg0.N) (y) : (dats m 0 c).after 10 t y
    = val_main_v16 (F := Ideal) (m ((c : Thread nD τ).loc main_arg0)) (m ((c : Thread nD τ).loc main_arg1))
        (m ((c : Thread nD τ).loc main_arg2)) (((cfg0.win 10).blk t).view.emb y) := by
  have ht : t.val < 64 := lt_of_lt_of_eq t.isLt N_0
  have y0 : (y 0).val < 256 := (y 0).isLt
  have y1 : (y 1).val < 1024 := (y 1).isLt
  refine Eq.trans ?_ (ref10 _ _ _ _ ⟨t.val * 256 + (y 0).val, by omega⟩
    ⟨3840 + (y 1).val, by omega⟩ ?_ ?_).symm
  · rw [after0_10]; unfold Gen.outsAt0; frame_out
    canon_tiles x h
    · exact (congrArg _ (eq_ix2 x)).trans
        (cell2 m c t _ _ _ _ _ _ (by simp only; omega) (by simp only; omega))
    · exact (congrArg _ (eq_ix2 x)).trans
        (cell1 m c t _ _ _ _ _ _ (by simp only; omega) (by simp only; omega))
  all_goals (blk_simp [at_point t] <;> (try dsimp only) <;> try omega)

/-- Its whole array after the run. -/
theorem final10 (c : Dev nD) : (dats m 0 c).arrAt 10 cfg0.N
    = val_main_v16 (F := Ideal) (m ((c : Thread nD τ).loc main_arg0)) (m ((c : Thread nD τ).loc main_arg1))
        (m ((c : Thread nD τ).loc main_arg2)) := by
  refine (dats m 0 c).arrAt_eq_of_covers 10 _ (by decide +kernel) fun t _ y => ?_
  blk_simp
  exact point10 m c t y

end Cert.ProjCIdeal.Val

end
-- ==== Proof.V.ProjCAlg.lean ====
module

public import proofs.«01_k».proof.Defs
public import proofs.«01_k».proof.Proof.V.ProjCVal
public import proofs.«01_k».proof.Proof.Gen.ProjCRefIdeal.Run

@[expose] public section

set_option maxRecDepth 16384

noncomputable section

namespace Cert.ProjCRefIdeal.Named

open Cert.ProjCRefIdeal Cert.ProjCRefIdeal.Read
open Idealize.ShloMosaic Idealize.ShloMosaic.TcCoe Idealize.SL.Sem

/-- The reference's run, each result named by its stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = val_main_v20 (F := Ideal) (m ((c.tc : Thread nD τ).loc main_arg0)) (m ((c.tc : Thread nD τ).loc main_arg1))
          (m ((c.tc : Thread nD τ).loc main_arg2))
      ∧ r.2.mem ((c.tc : Thread nD τ).loc main_v25) = val_main_v25 (F := Ideal) (m ((c.tc : Thread nD τ).loc main_arg0)) (m ((c.tc : Thread nD τ).loc main_arg1))
          (m ((c.tc : Thread nD τ).loc main_arg2))
      ∧ r.2.mem ((c.tc : Thread nD τ).loc main_v30) = val_main_v30 (F := Ideal) (m ((c.tc : Thread nD τ).loc main_arg0)) (m ((c.tc : Thread nD τ).loc main_arg1))
          (m ((c.tc : Thread nD τ).loc main_arg2))
      ∧ r.2.mem ((c.tc : Thread nD τ).loc main_v32) = val_main_v32 (F := Ideal) (m ((c.tc : Thread nD τ).loc main_arg0)) (m ((c.tc : Thread nD τ).loc main_arg1))
          (m ((c.tc : Thread nD τ).loc main_arg2))
      ∧ r.2.mem ((c.tc : Thread nD τ).loc main_v35) = val_main_v35 (F := Ideal) (m ((c.tc : Thread nD τ).loc main_arg0)) (m ((c.tc : Thread nD τ).loc main_arg1))
          (m ((c.tc : Thread nD τ).loc main_arg2))
      ∧ r.2.mem ((c.tc : Thread nD τ).loc main_v38) = val_main_v38 (F := Ideal) (m ((c.tc : Thread nD τ).loc main_arg0)) (m ((c.tc : Thread nD τ).loc main_arg1))
          (m ((c.tc : Thread nD τ).loc main_arg2))
      ∧ r.2.mem ((c.tc : Thread nD τ).loc main_v15) = val_main_v15 (F := Ideal) (m ((c.tc : Thread nD τ).loc main_arg0)) (m ((c.tc : Thread nD τ).loc main_arg1))
          (m ((c.tc : Thread nD τ).loc main_arg2))
      ∧ r.2.mem ((c.tc : Thread nD τ).loc main_v16) = val_main_v16 (F := Ideal) (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, h2, h3, h4, h5, h6, h7, ha⟩ := h c
    exact ⟨h0.trans (val_main_v20_eq _ _ _),
      h1.trans (val_main_v25_eq _ _ _),
      h2.trans (val_main_v30_eq _ _ _),
      h3.trans (val_main_v32_eq _ _ _),
      h4.trans (val_main_v35_eq _ _ _),
      h5.trans (val_main_v38_eq _ _ _),
      h6.trans (val_main_v15_eq _ _ _),
      h7.trans (val_main_v16_eq _ _ _), ha⟩) (Cert.ProjCRefIdeal.Value.run m ρ)

end Cert.ProjCRefIdeal.Named

namespace Cert.ProjCIdeal.Val

open Idealize.ShloMosaic Idealize.ShloMosaic.TcCoe Idealize.SL.Sem

/-- A function of three arguments, at equal arguments. -/
theorem same_args {α β γ δ : Type} (f : α → β → γ → δ) {a a' : α} {b b' : β} {d d' : γ} (ha : a = a') (hb : b = b')
    (hd : d = d') : f a b d = f a' b' d' := by
  rw [ha, hb, hd]

set_option maxHeartbeats 4000000 in
/-- The kernel and the reference end with the same result arrays. -/
theorem same_results : Cert.algebraic_ProjCIdeal_ProjCRefIdeal := by
  pair_intro
  · run_from Cert.ProjCIdeal.Gen.run_main m g
  · refine (θ_run _ _ _).mono (fun r h c => ?_) (Cert.ProjCRefIdeal.Named.run m' g')
    obtain ⟨a0, a1, a2⟩ := hagree c
    obtain ⟨h0, h1, h2, h3, h4, h5, h6, h7, ha⟩ := h c
    exact ⟨h0.trans ((same_args (Cert.ProjCRefIdeal.Read.val_main_v20 (F := Ideal)) a0 a1 a2).trans (final3 m c).symm),
      h1.trans ((same_args (Cert.ProjCRefIdeal.Read.val_main_v25 (F := Ideal)) a0 a1 a2).trans (final4 m c).symm),
      h2.trans ((same_args (Cert.ProjCRefIdeal.Read.val_main_v30 (F := Ideal)) a0 a1 a2).trans (final5 m c).symm),
      h3.trans ((same_args (Cert.ProjCRefIdeal.Read.val_main_v32 (F := Ideal)) a0 a1 a2).trans (final6 m c).symm),
      h4.trans ((same_args (Cert.ProjCRefIdeal.Read.val_main_v35 (F := Ideal)) a0 a1 a2).trans (final7 m c).symm),
      h5.trans ((same_args (Cert.ProjCRefIdeal.Read.val_main_v38 (F := Ideal)) a0 a1 a2).trans (final8 m c).symm),
      h6.trans ((same_args (Cert.ProjCRefIdeal.Read.val_main_v15 (F := Ideal)) a0 a1 a2).trans (final9 m c).symm),
      h7.trans ((same_args (Cert.ProjCRefIdeal.Read.val_main_v16 (F := Ideal)) a0 a1 a2).trans (final10 m c).symm),
      ha⟩

end Cert.ProjCIdeal.Val

end
-- ==== Proof.V.MergeRef.lean ====
module

public import proofs.«01_k».proof.Proof.Gen.MergeRefIdeal.Read
public import proofs.«01_k».proof.Proof.V.Band
public import Idealize.ShloMosaic.Lib.Pointwise
public import Idealize.ShloMosaic.Lib.Pipeline.ValueKit

@[expose] public section

set_option maxRecDepth 16384

noncomputable section

namespace Cert.MergeRefIdeal.Val

open Cert.MergeRefIdeal Cert.MergeRefIdeal.Gen Cert.MergeRefIdeal.Read Cert.Row
open Idealize.ShloMosaic Idealize.ShloMosaic.TcCoe Idealize.ShloMosaic.Pointwise

variable (x0 x1 x2 x3 x4 x5 : FVec Ideal S16384x1024 .f32)

/-- The three logarithms, one above another. -/
theorem stack_at (k : Fin 3) (r : Fin 16384) (l : Fin 1024) : val_main_v3 (F := Ideal) x3 x4 x5 (ix3 k r l)
    = if k.val < 1 then x3 (ix2 r l) else if k.val - 1 < 1 then x4 (ix2 r l) else x5 (ix2 r l) := by
  pointwise [val_main_v3, val_main_v0, val_main_v1, val_main_v2]
  rfl

/-- The three outputs, one above another. -/
theorem outs_at (k : Fin 3) (r : Fin 16384) (l : Fin 1024) : val_main_v18 (F := Ideal) x0 x1 x2 (ix3 k r l)
    = if k.val < 1 then x0 (ix2 r l) else if k.val - 1 < 1 then x1 (ix2 r l) else x2 (ix2 r l) := by
  pointwise [val_main_v18, val_main_v15, val_main_v16, val_main_v17]
  rfl

/-- The largest of three numbers, folded from the least element. -/
theorem fold_three (f : Fin 3 → EReal) : Finset.univ.fold max (⊥ : EReal) f = max (max (f 0) (f 1)) (f 2) := by
  rw [show (Finset.univ : Finset (Fin 3)) = {0, 1, 2} by decide,
    Finset.fold_insert (by decide), Finset.fold_insert (by decide), Finset.fold_singleton]
  rw [max_bot_right, max_assoc]

/-- The largest of the three logarithms. -/
theorem top_at (r : Fin 16384) (l : Fin 1024) : val_main_v6 (F := Ideal) x3 x4 x5 (ix2 r l)
    = max (max (x3 (ix2 r l)) (x4 (ix2 r l))) (x5 (ix2 r l)) := by
  have h : val_main_v4 (F := Ideal) x3 x4 x5 (ix2 r l)
      = Finset.univ.fold max (⊥ : EReal) (fun k : Fin 3 => val_main_v3 (F := Ideal) x3 x4 x5 (ix3 k r l)) := by
    rw [← least]
    unfold val_main_v4
    generalize val_main_v3 (F := Ideal) x3 x4 x5 = y
    refine (Host.reduce_eq_fold_single (FloatOps.maximumf (F := Ideal) (φ := .f32)) y (val_main_cst (F := Ideal))
      reducesTo_S3x16384x1024_S16384x1024_d0 (by decide) h_S_ (ix2 r l)).trans ?_
    have e : y ∘ Shape.Reduces.lift (by decide : S3x16384x1024.Reduces [0] S16384x1024) (ix2 r l)
        = fun k : Fin 3 => y (ix3 k r l) := by
      funext k
      refine congrArg y (funext fun ax => Fin.ext ?_)
      match ax with
      | ⟨0, _⟩ => rfl
      | ⟨1, _⟩ => rfl
      | ⟨2, _⟩ => rfl
    rw [e]
    rfl
  rw [fold_three, stack_at, stack_at, stack_at] at h
  rw [val_main_v6_apply, h, val_main_v5_apply, val_main_cst_0_apply]
  show max (Ideal.ofBits .f32 0xFF800000#32) _ = _
  rw [least, max_bot_left]
  rfl

/-- The exponential of a logarithm less the largest. -/
theorem weight_at (k : Fin 3) (r : Fin 16384) (l : Fin 1024) : val_main_v10 (F := Ideal) x3 x4 x5 (ix3 k r l)
    = Ideal.exp ((if k.val < 1 then x3 (ix2 r l) else if k.val - 1 < 1 then x4 (ix2 r l) else x5 (ix2 r l))
        - max (max (x3 (ix2 r l)) (x4 (ix2 r l))) (x5 (ix2 r l))) := by
  rw [← top_at, ← stack_at]
  pointwise [val_main_v10, val_main_v9, val_main_v8, val_main_v7]

/-- The weighted sum of the three outputs. -/
theorem merged_at (r : Fin 16384) (l : Fin 1024) : val_main_v20 (F := Ideal) x0 x1 x2 x3 x4 x5 (ix2 r l)
    = let M := max (max (x3 (ix2 r l)) (x4 (ix2 r l))) (x5 (ix2 r l))
      let s := Ideal.exp (x3 (ix2 r l) - M) + Ideal.exp (x4 (ix2 r l) - M) + Ideal.exp (x5 (ix2 r l) - M)
      Ideal.div (Ideal.exp (x3 (ix2 r l) - M)) s * x0 (ix2 r l) + Ideal.div (Ideal.exp (x4 (ix2 r l) - M)) s * x1 (ix2 r l)
        + Ideal.div (Ideal.exp (x5 (ix2 r l) - M)) s * x2 (ix2 r l) := by
  pointwise [val_main_v20, val_main_cst_2, val_main_v19, val_main_v14, val_main_v13, val_main_v12, val_main_v11, val_main_cst_1]
  simp only [Fin.sum_univ_three, zero_add, weight_at, outs_at]
  rfl

end Cert.MergeRefIdeal.Val

end
-- ==== Proof.V.MergeVal.lean ====
module

public import proofs.«01_k».proof.Proof.Gen.MergeIdeal.Value
public import proofs.«01_k».proof.Proof.V.MergeRef
public import Idealize.ShloMosaic.Lib.Pipeline.ValueKit
public import Idealize.ShloMosaic.Lib.Pointwise
public import Idealize.ShloMosaic.Lib.Claim

@[expose] public section

set_option maxRecDepth 16384

noncomputable section

namespace Cert.MergeIdeal.Val

open Cert.MergeIdeal Cert.MergeIdeal.Gen Cert.MergeRefIdeal.Read
open Idealize.ShloMosaic Idealize.ShloMosaic.TcCoe Idealize.SL.Sem
open Idealize.ShloMosaic.Pipeline (Dat)

variable (m : (ℓ : Loc nD τ sig) → Buf (Elt Ideal) ℓ)

/-- Where each window's block lies at a grid point: the rows go by the point, the gain and the weights stay. -/
theorem at_point : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0]
    ∧ win0_8.index t = ![0, 0] ∧ win0_9.index t = ![0, 0] ∧ win0_10.index t = ![t.val, 0] :=
  (by decide +kernel : ∀ t : Fin grid0.N, _)

set_option maxHeartbeats 2000000 in
/-- What the body leaves in its block is the reference's rows there. -/
theorem point (c : Dev nD) (t : Fin cfg0.N) (y) :
    out0_10 (iblk m c 0 t) (iblk m c 1 t) (iblk m c 2 t) (iblk m c 3 t) (iblk m c 4 t) (iblk m c 5 t) (iblk m c 6 t)
      (iblk m c 7 t) (iblk m c 8 t) (iblk m c 9 t) y
    = val_main_v37 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9))
        (((cfg0.win 10).blk t).view.emb y) := by
  unfold out0_10
  frame_out
  pointwise [k0_pay1, k0_pay2, k0_pay3, val_main_call0_v0, val_main_call0_v1, val_main_call0_cst, val_main_call0_v2,
    val_main_call0_v3, val_main_call0_cst_0, val_main_call0_v4, val_main_call0_v5, val_main_v21, val_main_v22, val_main_v23,
    val_main_v24, val_main_v25, val_main_v26, val_main_v27, val_main_v28, val_main_v29, val_main_v30, val_main_v31,
    val_main_v32, val_main_v33, val_main_v34, val_main_v35, val_main_v36, val_main_v37, val_main_cst_3, val_main_cst_4,
    val_main_cst_5, Cert.MergeRefIdeal.Val.merged_at]
  simp only [Ideal.logistic]
  blk_point [iblk, V, at_point t]

/-- The whole array after the run. -/
theorem final (c : Dev nD) : (dats m 0 c).arrAt 10 cfg0.N
    = val_main_v37 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  refine (dats m 0 c).arrAt_eq_of_covers 10 _ (by decide +kernel) fun t _ y => ?_
  blk_simp
  rw [after0_10]
  exact point m c t y

end Cert.MergeIdeal.Val

end
-- ==== Proof.V.MergeAlg.lean ====
module

public import proofs.«01_k».proof.Defs
public import proofs.«01_k».proof.Proof.V.MergeVal
public import proofs.«01_k».proof.Proof.Gen.MergeRefIdeal.Run

@[expose] public section

set_option maxRecDepth 16384

noncomputable section

namespace Cert.MergeIdeal.Val

open Idealize.ShloMosaic Idealize.ShloMosaic.TcCoe Idealize.SL.Sem

/-- The kernel and the reference end with the same result arrays. -/
theorem same_results : Cert.algebraic_MergeIdeal_MergeRefIdeal := by
  pair_intro
  · run_from Cert.MergeIdeal.Gen.run_main m g
  · run_from Cert.MergeRefIdeal.Value.run m' g'
    obtain ⟨a0, a1, a2, a3, a4, a5, a6, a7, a8, a9⟩ := hagree c
    rw [Cert.MergeRefIdeal.Read.val_main_v37_eq, a0, a1, a2, a3, a4, a5, a6, a7, a8, a9]
    exact (final m c).symm

end Cert.MergeIdeal.Val

end
-- ==== Proof.K.C1Off.lean ====
module

public import proofs.«01_k».proof.Proof.Gen.BandC1Ideal.Frame
public import proofs.«01_k».proof.Proof.Gen.BandC1Ideal.Skeleton

@[expose] public section

set_option maxRecDepth 16384

noncomputable section

namespace Cert.BandC1Ideal.Hand

open Cert.BandC1Ideal Cert.BandC1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Where the windows and the bias pages lie -/

/-- The bias page a sub-block of the first query block reads: page 1 for the first sub-block, page 0 after it. -/
theorem off3_first : ∀ a : Fin 16, a.val = 0 → ∀ r : Fin 4, ∀ i : grid0.Coords, i 3 = a →
    k0_off3 i (BitVec.ofNat 32 (128 * r.val)) = ![if r.val = 0 then 1 else 0, 0, 0] := by
  have h : ∀ a : Fin 16, a.val = 0 → ∀ r : Fin 4,
      (let v65 : BitVec 32 := Scalar.addi (Scalar.muli (BitVec.ofNat 32 a.val) 512#32) (BitVec.ofNat 32 (128 * r.val))
       (Scalar.indexCast (Scalar.shrsi (Scalar.maxsi (Scalar.subi 128#32 v65) 0#32) 7#32)).toNat)
        = if r.val = 0 then 1 else 0 := by decide +kernel
  intro a ha r i hi
  have := h a ha r
  subst hi
  unfold k0_off3
  simp only at this ⊢
  rw [this]

/-- Every later query block reads page 0. -/
theorem off3_later : ∀ a : Fin 16, a.val ≠ 0 → ∀ r : Fin 4, ∀ i : grid0.Coords, i 3 = a →
    k0_off3 i (BitVec.ofNat 32 (128 * r.val)) = ![0, 0, 0] := by
  have h : ∀ a : Fin 16, a.val ≠ 0 → ∀ r : Fin 4,
      (let v65 : BitVec 32 := Scalar.addi (Scalar.muli (BitVec.ofNat 32 a.val) 512#32) (BitVec.ofNat 32 (128 * r.val))
       (Scalar.indexCast (Scalar.shrsi (Scalar.maxsi (Scalar.subi 128#32 v65) 0#32) 7#32)).toNat)
        = 0 := by decide +kernel
  intro a ha r i hi
  have := h a ha r
  subst hi
  unfold k0_off3
  simp only at this ⊢
  rw [this]

/-- The first key row a sub-block loads: 128 rows before its first query, clipped at row 0. -/
theorem off2_eq (i : grid0.Coords) (r : Fin 4) :
    k0_off2 i (BitVec.ofNat 32 (128 * r.val)) = ![0, 512 * (i 3).val + 128 * r.val - 128, 0] := by
  have h : ∀ a : Fin 16, ∀ r : Fin 4,
      (let v65 : BitVec 32 := Scalar.addi (Scalar.muli (BitVec.ofNat 32 a.val) 512#32) (BitVec.ofNat 32 (128 * r.val))
       (Scalar.indexCast (Scalar.maxsi (Scalar.subi v65 128#32) 0#32)).toNat)
        = 512 * a.val + 128 * r.val - 128 := by decide +kernel
  have := h (i 3) r
  unfold k0_off2
  simp only at this ⊢
  rw [this]

/-- The body's branch is taken exactly at the first query block. -/
theorem cond1_iff (i : grid0.Coords) : k0_cond1 i = 1#1 ↔ (i 3).val = 0 := by
  have h : ∀ a : Fin 16, (let v1 : BitVec 32 := Scalar.extui (Scalar.cmpi .eq (BitVec.ofNat 32 a.val) 0#32)
        Scalar.cmpi .ne v1 0#32 = 1#1) ↔ a.val = 0 := by
    decide +kernel
  exact h (i 3)

end Cert.BandC1Ideal.Hand

end
-- ==== Proof.K.C1Out.lean ====
module

public import proofs.«01_k».proof.Proof.K.C1Off

@[expose] public section

set_option maxRecDepth 16384

noncomputable section

namespace Cert.BandC1Ideal.Hand

open Cert.BandC1Ideal Cert.BandC1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## What the body computes, as functions of what it loads -/

/-- The eight entries of a head group lie in the table of heads. -/
theorem inb_word (i : grid0.Coords) (g : Fin 8) : ∀ a, (k0_off1 i (BitVec.ofNat 32 g.val)) a + S1.size a ≤ S16.size a := by
  have h : ∀ a : Fin 2, ∀ g : Fin 8, (Scalar.indexCast (Scalar.addi (Scalar.muli (BitVec.ofNat 32 a.val) 8#32) (BitVec.ofNat 32 g.val))).toNat + 1 ≤ 16 := by
    decide +kernel
  intro a
  match a with
  | ⟨0, _⟩ => exact h (i 2) g

/-- Head `g`'s word of a table of one number per head, in the point's head group. -/
def word (x : Vec F S16 .f32) (i : grid0.Coords) (g : Fin 8) : Elt F .f32 :=
  View.ld x (Rect.unit (s := S16) (k0_off1 i (BitVec.ofNat 32 g.val)) S1.size (inb_word i g))
    (Shape.Idx.first (numel1_S1.symm ▸ Nat.one_pos))

/-- The key position within the window, lane by lane. -/
abbrev lanes : IVec S1x256 32 := iota .tc S1x256 32 [1] iota_S1x256_d1_w32

/-- The bias page of the ordinary window, from the head group's slopes. -/
def page0 (x0 : Vec F S16 .f32) (i : grid0.Coords) : FVec F S1x1024x256 .f32 :=
  k0_pay10 k0_pay5 lanes k0_pay6 (k0_pay7 (word x0 i 0) (word x0 i 1) (word x0 i 2) (word x0 i 3) (word x0 i 4)) k0_pay8
    (word x0 i 5) (word x0 i 6) (word x0 i 7)

/-- The bias page of the window clipped at the sequence's start. -/
def page1 (x0 : Vec F S16 .f32) (i : grid0.Coords) : FVec F S1x1024x256 .f32 :=
  k0_pay12 lanes (k0_pay9 k0_pay6 (k0_pay7 (word x0 i 0) (word x0 i 1) (word x0 i 2) (word x0 i 3) (word x0 i 4)) k0_pay8
    (word x0 i 5) (word x0 i 6) (word x0 i 7)) (k0_pay11 k0_pay5)

/-- The two stores that fill the bias scratch, the later one first. -/
def biasPieces (x0 : Vec F S16 .f32) (i : grid0.Coords) : List (View.Piece (Elt F) S2x1024x256 .f32) :=
  [⟨Rect.unit ![1, 0, 0] S1x1024x256.size inb_S2x1024x256_S1x1024x256_1_0_0, page1 x0 i⟩,
   ⟨Rect.unit ![0, 0, 0] S1x1024x256.size inb_S2x1024x256_S1x1024x256_0_0_0, page0 x0 i⟩]

/-- The bias scratch once both pages are filled. -/
def bias (x0 : Vec F S16 .f32) (i : grid0.Coords) : Vec F S2x1024x256 .f32 := View.canon (biasPieces x0 i)

theorem inb_q (sb : Fin 4) (g : Fin 8) : ∀ a, (![0, 128 * sb.val, 64 * g.val] : Fin 3 → Nat) a + S1x128x64.size a ≤ S1x512x512.size a := by
  revert sb g; decide

/-- Sub-block `sb`, head `g` of a block of queries or of results. -/
abbrev rq (sb : Fin 4) (g : Fin 8) : Rect S1x512x512 := Rect.unit ![0, 128 * sb.val, 64 * g.val] S1x128x64.size (inb_q sb g)

/-- The bias page that sub-block `sb` reads. -/
abbrev rb (i : grid0.Coords) (sb : Fin 4) : Rect S2x1024x256 :=
  Rect.unit (k0_off3 i (BitVec.ofNat 32 (128 * sb.val))) S1x1024x256.size (k0_off3_inb i sb)

/-- The keys and values that sub-block `sb` reads. -/
abbrev rk (i : grid0.Coords) (sb : Fin 4) : Rect S1x8192x128 :=
  Rect.unit (k0_off2 i (BitVec.ofNat 32 (128 * sb.val))) S1x256x128.size (k0_off2_inb i sb)

/-- Sub-block `sb`'s attention output, the group's heads stacked. -/
def attn (x1 : Vec F S1x512x512 .bf16) (x2 : Vec F S1x8192x128 .bf16) (bl : Fin 4 → Vec F S1x1024x256 .f32) (i : grid0.Coords)
    (sb : Fin 4) : FVec F S1024x64 .f32 :=
  k0_pay24 (k0_pay13 (View.ld x2 (rk i sb))) (k0_pay14 (View.ld x1 (rq sb 0))) (k0_pay15 (View.ld x1 (rq sb 1)))
    (k0_pay16 (View.ld x1 (rq sb 2))) (k0_pay17 (View.ld x1 (rq sb 3))) (k0_pay18 (View.ld x1 (rq sb 4)))
    (k0_pay19 (View.ld x1 (rq sb 5))) (View.ld x1 (rq sb 6)) (View.ld x1 (rq sb 7)) (bl sb)

/-- The logarithms of sub-block `sb`'s row totals, the group's heads stacked. -/
def logs (x1 : Vec F S1x512x512 .bf16) (x2 : Vec F S1x8192x128 .bf16) (bl : Fin 4 → Vec F S1x1024x256 .f32) (i : grid0.Coords)
    (sb : Fin 4) : FVec F S1024x1 .f32 :=
  k0_pay25 (k0_pay13 (View.ld x2 (rk i sb))) (k0_pay14 (View.ld x1 (rq sb 0))) (k0_pay15 (View.ld x1 (rq sb 1)))
    (k0_pay16 (View.ld x1 (rq sb 2))) (k0_pay17 (View.ld x1 (rq sb 3))) (k0_pay18 (View.ld x1 (rq sb 4)))
    (k0_pay19 (View.ld x1 (rq sb 5))) (View.ld x1 (rq sb 6)) (View.ld x1 (rq sb 7)) (bl sb)

theorem slices_head (g : Fin 8) : S1024x64.Slices ![128 * g.val, 0] S128x64 := by
  revert g; decide

theorem slices_log (g : Fin 8) : S1024x1.Slices ![128 * g.val, 0] S128x1 := by
  revert g; decide

/-- Head `g`'s rows of the stacked output, stored as one block. -/
def headRows (o : FVec F S1024x64 .f32) (g : Fin 8) : FVec F S1x128x64 .f32 :=
  shapeCast S1x128x64 (extractStridedSlice S128x64 ![128 * g.val, 0] o (slices_head g)) shapeCasts_S128x64_S1x128x64

/-- Head `g`'s logarithms, each spread over the head's width, stored as one block. -/
def logRows (l : FVec F S1024x1 .f32) (g : Fin 8) : FVec F S1x128x64 .f32 :=
  shapeCast S1x128x64 (broadcastTo S128x64 (shapeCast S128x1 (extractStridedSlice S128x1 ![128 * g.val, 0] l (slices_log g))
    shapeCasts_S128x1_S128x1) broadcasts_S128x1_S128x64) shapeCasts_S128x64_S1x128x64

/-- All the stores into a result's block, given the block of each sub-block and head, the latest first. -/
def pieces (v : Fin 4 → Fin 8 → FVec F S1x128x64 .f32) : List (View.Piece (Elt F) S1x512x512 .f32) :=
  [⟨rq 3 7, v 3 7⟩, ⟨rq 3 6, v 3 6⟩, ⟨rq 3 5, v 3 5⟩, ⟨rq 3 4, v 3 4⟩, ⟨rq 3 3, v 3 3⟩, ⟨rq 3 2, v 3 2⟩, ⟨rq 3 1, v 3 1⟩, ⟨rq 3 0, v 3 0⟩,
   ⟨rq 2 7, v 2 7⟩, ⟨rq 2 6, v 2 6⟩, ⟨rq 2 5, v 2 5⟩, ⟨rq 2 4, v 2 4⟩, ⟨rq 2 3, v 2 3⟩, ⟨rq 2 2, v 2 2⟩, ⟨rq 2 1, v 2 1⟩, ⟨rq 2 0, v 2 0⟩,
   ⟨rq 1 7, v 1 7⟩, ⟨rq 1 6, v 1 6⟩, ⟨rq 1 5, v 1 5⟩, ⟨rq 1 4, v 1 4⟩, ⟨rq 1 3, v 1 3⟩, ⟨rq 1 2, v 1 2⟩, ⟨rq 1 1, v 1 1⟩, ⟨rq 1 0, v 1 0⟩,
   ⟨rq 0 7, v 0 7⟩, ⟨rq 0 6, v 0 6⟩, ⟨rq 0 5, v 0 5⟩, ⟨rq 0 4, v 0 4⟩, ⟨rq 0 3, v 0 3⟩, ⟨rq 0 2, v 0 2⟩, ⟨rq 0 1, v 0 1⟩, ⟨rq 0 0, v 0 0⟩]

/-- The output block after the body. -/
def out (x1 : Vec F S1x512x512 .bf16) (x2 : Vec F S1x8192x128 .bf16) (bl : Fin 4 → Vec F S1x1024x256 .f32) (i : grid0.Coords) :
    Vec F S1x512x512 .f32 :=
  View.canon (pieces fun sb => headRows (attn x1 x2 bl i sb))

/-- The block of logarithms after the body. -/
def lse (x1 : Vec F S1x512x512 .bf16) (x2 : Vec F S1x8192x128 .bf16) (bl : Fin 4 → Vec F S1x1024x256 .f32) (i : grid0.Coords) :
    Vec F S1x512x512 .f32 :=
  View.canon (pieces fun sb => logRows (logs x1 x2 bl i sb))

theorem cover_out (v : Fin 4 → Fin 8 → FVec F S1x128x64 .f32) (y : S1x512x512.Idx) : ∃ p ∈ pieces v, y ∈ p.1.set :=
  View.cover_of_tiled (pieces v) S1x128x64.size (by rfl) y

theorem cover_bias (x0 : Vec F S16 .f32) (i : grid0.Coords) (y : S2x1024x256.Idx) : ∃ p ∈ biasPieces x0 i, y ∈ p.1.set :=
  View.cover_of_tiled (biasPieces x0 i) S1x1024x256.size (by rfl) y

end Cert.BandC1Ideal.Hand

end
-- ==== Proof.K.C1RunA.lean ====
module

public import proofs.«01_k».proof.Proof.K.C1Out

@[expose] public section

set_option maxRecDepth 16384

noncomputable section

namespace Cert.BandC1Ideal.Hand

open Cert.BandC1Ideal Cert.BandC1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3200000 in
/-- The body at the first query block of a head group fills the bias scratch, then the two result blocks from it. -/
theorem runA (c : Dev nD) (i : grid0.Coords) (arg4 : Memref sig .tc .smem S16 .f32) (harg4 : arg4.IsWhole) (arg5 : Memref sig .tc .vmem S1x512x512 .bf16) (harg5 : arg5.IsWhole) (arg6 : Memref sig .tc .vmem S1x8192x128 .bf16) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S2x1024x256 .f32) (harg9 : arg9.IsWhole) (hc0 : k0_cond1 i = 1#1)
    (x0 : Vec F S16 .f32) (x1 : Vec F S1x512x512 .bf16) (x2 : Vec F S1x8192x128 .bf16) (E : Set ℕ) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg4 fullShare x0 ∗ owns (c : Thread nD τ) arg5 fullShare x1 ∗ owns (c : Thread nD τ) arg6 fullShare x2 ∗ owns (c : Thread nD τ) arg7 fullShare (out x1 x2 (fun sb => View.ld (bias x0 i) (rb i sb)) i) ∗ owns (c : Thread nD τ) arg8 fullShare (lse x1 x2 (fun sb => View.ld (bias x0 i) (rb i sb)) i) ∗ owns (c : Thread nD τ) arg9 fullShare (bias x0 i)) -∗ K ⟨⟩))
      ⊢ wp frame (wpE (defs₀ (F := F)) Variants.none c none) E (cc0_banded_attn i arg4 harg4 arg5 harg5 arg6 harg6 arg7 harg7 arg8 harg8 arg9 harg9) K := by
  have hi := (cond1_iff i).mp hc0
  letI : ClosedOff (k0_off3 i (BitVec.ofNat 32 0)) := ⟨![1, 0, 0], off3_first (i 3) hi 0 i rfl⟩
  letI : ClosedOff (k0_off3 i (BitVec.ofNat 32 128)) := ⟨![0, 0, 0], off3_first (i 3) hi 1 i rfl⟩
  letI : ClosedOff (k0_off3 i (BitVec.ofNat 32 256)) := ⟨![0, 0, 0], off3_first (i 3) hi 2 i rfl⟩
  letI : ClosedOff (k0_off3 i (BitVec.ofNat 32 384)) := ⟨![0, 0, 0], off3_first (i 3) hi 3 i rfl⟩
  simp only [cc0_banded_attn_eq_skeleton]; unfold cc0_banded_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  subst hf0 hf1 hf2
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ (pieces fun sb => headRows (attn _ _ (fun sb => arg9.view.readCov (biasPieces _ i) (rb i sb)) i sb)) (cover_out _)).trans ?_
    exact congrArg (fun b => out _ _ b i) (funext fun sb => View.readCov_eq_canon_ld _ _ _ (cover_bias _ i))
  isplitl [H4]
  · iexists _; isplitr
    swap; · iexact H4
    ipureintro
    refine (View.read_writes_eq_canon _ _ (pieces fun sb => logRows (logs _ _ (fun sb => arg9.view.readCov (biasPieces _ i) (rb i sb)) i sb)) (cover_out _)).trans ?_
    exact congrArg (fun b => lse _ _ b i) (funext fun sb => View.readCov_eq_canon_ld _ _ _ (cover_bias _ i))
  iexists _; isplitr
  swap; · iexact HS0
  ipureintro
  exact View.read_writes_eq_canon _ _ (biasPieces _ i) (cover_bias _ i)

end Cert.BandC1Ideal.Hand

end
-- ==== Proof.K.C1RunB.lean ====
module

public import proofs.«01_k».proof.Proof.K.C1Out

@[expose] public section

set_option maxRecDepth 16384

noncomputable section

namespace Cert.BandC1Ideal.Hand

open Cert.BandC1Ideal Cert.BandC1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3200000 in
/-- The body at a later query block reads the bias scratch as it finds it. -/
theorem runB (c : Dev nD) (i : grid0.Coords) (arg4 : Memref sig .tc .smem S16 .f32) (harg4 : arg4.IsWhole) (arg5 : Memref sig .tc .vmem S1x512x512 .bf16) (harg5 : arg5.IsWhole) (arg6 : Memref sig .tc .vmem S1x8192x128 .bf16) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S2x1024x256 .f32) (harg9 : arg9.IsWhole) (hc0 : ¬ k0_cond1 i = 1#1)
    (x0 : Vec F S16 .f32) (x1 : Vec F S1x512x512 .bf16) (x2 : Vec F S1x8192x128 .bf16) (b : Vec F S2x1024x256 .f32) (E : Set ℕ) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ owns (c : Thread nD τ) arg9 fullShare b
        ∗ (iprop(owns (c : Thread nD τ) arg4 fullShare x0 ∗ owns (c : Thread nD τ) arg5 fullShare x1 ∗ owns (c : Thread nD τ) arg6 fullShare x2 ∗ owns (c : Thread nD τ) arg7 fullShare (out x1 x2 (fun sb => View.ld b (rb i sb)) i) ∗ owns (c : Thread nD τ) arg8 fullShare (lse x1 x2 (fun sb => View.ld b (rb i sb)) i) ∗ owns (c : Thread nD τ) arg9 fullShare b) -∗ K ⟨⟩))
      ⊢ wp frame (wpE (defs₀ (F := F)) Variants.none c none) E (cc0_banded_attn i arg4 harg4 arg5 harg5 arg6 harg6 arg7 harg7 arg8 harg8 arg9 harg9) K := by
  have hi := fun h => hc0 ((cond1_iff i).mpr h)
  letI : ClosedOff (k0_off3 i (BitVec.ofNat 32 0)) := ⟨![0, 0, 0], off3_later (i 3) hi 0 i rfl⟩
  letI : ClosedOff (k0_off3 i (BitVec.ofNat 32 128)) := ⟨![0, 0, 0], off3_later (i 3) hi 1 i rfl⟩
  letI : ClosedOff (k0_off3 i (BitVec.ofNat 32 256)) := ⟨![0, 0, 0], off3_later (i 3) hi 2 i rfl⟩
  letI : ClosedOff (k0_off3 i (BitVec.ofNat 32 384)) := ⟨![0, 0, 0], off3_later (i 3) hi 3 i rfl⟩
  simp only [cc0_banded_attn_eq_skeleton]; unfold cc0_banded_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
  subst hf0 hf1 hf2 hfs0
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ (pieces fun sb => headRows (attn _ _ (fun sb => View.ld (arg9.view.read (Elt F) fs0) (rb i sb)) i sb)) (cover_out _)
  isplitl [H4]
  · iexists _; isplitr
    swap; · iexact H4
    ipureintro
    exact View.read_writes_eq_canon _ _ (pieces fun sb => logRows (logs _ _ (fun sb => View.ld (arg9.view.read (Elt F) fs0) (rb i sb)) i sb)) (cover_out _)
  iexists _; isplitr
  swap; · iexact HS0
  ipureintro
  rfl

end Cert.BandC1Ideal.Hand

end
-- ==== Proof.K.C1Frame.lean ====
module

public import proofs.«01_k».proof.Proof.K.C1RunA
public import proofs.«01_k».proof.Proof.K.C1RunB
public import Idealize.ShloMosaic.Lib.Claim
public import Idealize.ShloMosaic.Lib.WordCmp

@[expose] public section

set_option maxRecDepth 16384

noncomputable section

namespace Cert.BandC1Ideal.Hand

open Cert.BandC1Ideal Cert.BandC1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The staging buffers the body is called with at a point, and the bias scratch. -/
abbrev ms0 (t : Fin cfg0.N) : Memref sig .tc .smem S16 .f32 := win0_0.stage (cfg0.slots t 0)
abbrev ms1 (t : Fin cfg0.N) : Memref sig .tc .vmem S1x512x512 .bf16 := win0_1.stage (cfg0.slots t 1)
abbrev ms2 (t : Fin cfg0.N) : Memref sig .tc .vmem S1x8192x128 .bf16 := win0_2.stage (cfg0.slots t 2)
abbrev ms3 (t : Fin cfg0.N) : Memref sig .tc .vmem S1x512x512 .f32 := win0_3.stage (cfg0.slots t 3)
abbrev ms4 (t : Fin cfg0.N) : Memref sig .tc .vmem S1x512x512 .f32 := win0_4.stage (cfg0.slots t 4)
abbrev scr : Memref sig .tc .vmem S2x1024x256 .f32 := Memref.whole cc0_scratch0

theorem points : cfg0.N = 64 := N_0

/-- The bias is filled at the points that are multiples of 16. -/
theorem fills (t : Fin cfg0.N) : k0_cond1 (grid0.coords t) = 1#1 ↔ t.val % 16 = 0 := by
  have e3 : (grid0.coords t 3).val = t.val / 1 % 16 := Pipeline.Grid.coords_val t 3 (by decide) rfl
  rw [cond1_iff, e3, Nat.div_one]

/-- The point that filled the bias scratch as it stands when `n` points are done. -/
def filler (n : ℕ) : Fin cfg0.N := ⟨16 * (n / 16 % 4), by have := points; omega⟩

theorem filler_self (t : Fin cfg0.N) (h : t.val % 16 = 0) : filler t.val = t := by
  have := points; have := t.isLt; apply Fin.ext; simp only [filler]; omega

theorem filler_succ (n : ℕ) (h : (n + 1) % 16 ≠ 0) : filler (n + 1) = filler n := by
  apply Fin.ext; simp only [filler]; omega

/-- What the bias scratch holds when `n` points are done, unless a new head group begins there. -/
def held (c : Dev nD) (n : ℕ) : Vec F S2x1024x256 .f32 := bias (iblk m c 0 (filler n)) (grid0.coords (filler n))

/-- The scratch between points: anything where a new head group begins, the group's bias inside it. -/
def carried (c : Dev nD) (n : ℕ) : sProp 𝕄 :=
  if n % 16 = 0 then iprop(∃ d, owns (c : Thread nD τ) scr fullShare d) else owns (c : Thread nD τ) scr fullShare (held m c n)

/-- What the body writes of the attention's result at a point. -/
def written (c : Dev nD) (t : Fin cfg0.N) : Vec F S1x512x512 .f32 :=
  out (iblk m c 1 t) (iblk m c 2 t) (fun sb => View.ld (held m c t.val) (rb (grid0.coords t) sb)) (grid0.coords t)

/-- What the body writes of the logarithms at a point. -/
def writtenLog (c : Dev nD) (t : Fin cfg0.N) : Vec F S1x512x512 .f32 :=
  lse (iblk m c 1 t) (iblk m c 2 t) (fun sb => View.ld (held m c t.val) (rb (grid0.coords t) sb)) (grid0.coords t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => written m c t
    | ⟨4, _⟩ => writtenLog m c t
  Φ p := iprop(carried m c p.val ∗ (∃ r, prngReg c r))
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = written m c t := by dsimp only [dats]
theorem after4 (c : Dev nD) (t : Fin cfg0.N) : (dats m 0 c).after 4 t = writtenLog m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- After a point, the bias of its group is what the next point finds. -/
theorem carried_succ (c : Dev nD) (n : ℕ) : owns (c : Thread nD τ) scr fullShare (held m c n) ⊢ carried m c (n + 1) := by
  unfold carried
  by_cases h : (n + 1) % 16 = 0
  · rw [if_pos h]; iintro H; iexists _; iexact H
  · rw [if_neg h]
    have : held m c (n + 1) = held m c n := by unfold held; rw [filler_succ n h]
    rw [this]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl, after0, after1, after2, after3, after4]
  rw [show (dats m 0 c).Φ t.castSucc = iprop(carried m c t.val ∗ (∃ r, prngReg c r)) from rfl,
    show (dats m 0 c).Φ t.succ = iprop(carried m c (t.val + 1) ∗ (∃ r, prngReg c r)) from rfl]
  by_cases h0 : t.val % 16 = 0
  · rw [show carried m c t.val = iprop(∃ d, owns (c : Thread nD τ) scr fullShare d) from if_pos h0]
    have hw : written m c t = out (iblk m c 1 t) (iblk m c 2 t) (fun sb => View.ld (bias (iblk m c 0 t) (grid0.coords t)) (rb (grid0.coords t) sb)) (grid0.coords t) := by
      unfold written held; rw [filler_self t h0]
    have hl : writtenLog m c t = lse (iblk m c 1 t) (iblk m c 2 t) (fun sb => View.ld (bias (iblk m c 0 t) (grid0.coords t)) (rb (grid0.coords t) sb)) (grid0.coords t) := by
      unfold writtenLog held; rw [filler_self t h0]
    have hh : held m c t.val = bias (iblk m c 0 t) (grid0.coords t) := by unfold held; rw [filler_self t h0]
    rw [hw, hl]
    iintro ⟨⟨HS0, Hg⟩, Ho, ⟨%d0, H0⟩, ⟨%d1, H1⟩, ⟨%d2, H2⟩, ⟨%d3, H3⟩, ⟨%d4, H4⟩⟩
    iapply (runA c (grid0.coords t) _ _ _ _ _ _ _ _ _ _ _ _ ((fills t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · iapply (carried_succ m c t.val); rw [hh]; iexact HS0
      iexact Hg
    isplitl [Ho]; · iexact Ho
    isplitl [H0]; · iexact H0
    isplitl [H1]; · iexact H1
    isplitl [H2]; · iexact H2
    isplitl [H3]; · iexact H3
    iexact H4
  · rw [show carried m c t.val = owns (c : Thread nD τ) scr fullShare (held m c t.val) from if_neg h0]
    iintro ⟨⟨HS0, Hg⟩, Ho, ⟨%d0, H0⟩, ⟨%d1, H1⟩, ⟨%d2, H2⟩, ⟨%d3, H3⟩, ⟨%d4, H4⟩⟩
    iapply (runB c (grid0.coords t) _ _ _ _ _ _ _ _ _ _ _ _ (fun h => h0 ((fills t).mp h)) (iblk m c 0 t) (iblk m c 1 t) (iblk m c 2 t) (held m c t.val) Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · iapply (carried_succ m c t.val); iexact HS0
      iexact Hg
    isplitl [Ho]; · iexact Ho
    isplitl [H0]; · iexact H0
    isplitl [H1]; · iexact H1
    isplitl [H2]; · iexact H2
    isplitl [H3]; · iexact H3
    iexact H4

theorem body_row (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  exact triple_restated (sound_body m c t) rfl .rfl fun _ => .rfl

theorem atRest (c : Dev nD) : (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

theorem enters (c : Dev nD) : (Pipeline.ΦA spec0 c : sProp 𝕄) ⊢ (dats m 0 c).Φ 0 := by
  rw [atRest, show (dats m 0 c).Φ 0 = iprop(carried m c 0 ∗ (∃ r, prngReg c r)) from rfl,
    show carried m c 0 = iprop(∃ d, owns (c : Thread nD τ) scr fullShare d) from if_pos rfl]

theorem leaves (c : Dev nD) : (dats m 0 c).Φ (Fin.last cfg0.N) ⊢ (Pipeline.ΦA spec0 c : sProp 𝕄) := by
  rw [atRest, show (dats m 0 c).Φ (Fin.last cfg0.N) = iprop(carried m c cfg0.N ∗ (∃ r, prngReg c r)) from rfl,
    show carried m c cfg0.N = iprop(∃ d, owns (c : Thread nD τ) scr fullShare d) from if_pos (by rw [points])]

set_option backward.isDefEq.respectTransparency.types false in
/-- The launch: every execution ends with the arrays at what the points wrote and every counter at zero. -/
theorem launched : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hin := enters m) (hout := leaves m)

theorem run_main : θ_run defs (onTc (τ := τ) (main (F := F))) (s₀ m ρ) (Pipeline.FramePost cfgs (dats m) 0 (V m)) :=
  (θ_run defs _ _).mono (fun _ h => h.1) (launched m ρ)

/-- The frame: the arguments end as they were and every counter is at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (launched m ρ))

end Cert.BandC1Ideal.Hand

end
-- ==== Proof.P.C1Frame.lean ====
module

public import proofs.«01_k».proof.Proof.K.C1Frame
public import proofs.«01_k».proof.Proof.Gen.BandC1

@[expose] public section

set_option maxRecDepth 16384

noncomputable section

namespace Cert.BandC1.Hand

open Cert.BandC1 Cert.BandC1.Gen
open Idealize.ShloMosaic Idealize.ShloMosaic.TcCoe Idealize.SL.Sem

variable {F : FTy → Type} [FloatOps F]

/-- Every named number read as the number written. -/
@[reducible] def plain : Named F := ⟨fun _ _ {φ} bits => Scalar.ofBits φ bits⟩

/-- The body is the idealized one, its named number read as written. -/
theorem bodies_eq : letI : Named F := plain; defs₀ (F := F) = Cert.BandC1Ideal.defs₀ (F := F) := by
  unfold defs₀ Cert.BandC1Ideal.defs₀
  refine congrArg Defs.onTc (funext fun l => funext fun x => ?_)
  match l, x with
  | ⟨0, _⟩, (t, s) => rfl

theorem defs_eq : letI : Named F := plain; defs (F := F) = Cert.BandC1Ideal.defs (F := F) := by
  unfold defs Cert.BandC1Ideal.defs
  exact congrArg (Pipeline.defs (pcfgs (F := F))) bodies_eq

/-- The frame: the arguments end as they were and every counter is at zero. -/
theorem frame_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  letI : Named F := plain
  (congrArg (fun D => θ_run D (onTc (τ := τ) (main (F := F))) ⟨m, fun _ => 0, ρ⟩ _) defs_eq).mpr
    (Cert.BandC1Ideal.Hand.frame_all (F := F) m ρ)

end Cert.BandC1.Hand

end
-- ==== Proof.K.C4Off.lean ====
module

public import proofs.«01_k».proof.Proof.Gen.BandC4Ideal.Frame
public import proofs.«01_k».proof.Proof.Gen.BandC4Ideal.Skeleton

@[expose] public section

set_option maxRecDepth 16384

noncomputable section

namespace Cert.BandC4Ideal.Hand

open Cert.BandC4Ideal Cert.BandC4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Where the windows and the bias pages lie -/

/-- The bias page a sub-block of the first query block reads: page 1 for the first sub-block, page 0 after it. -/
theorem off3_first : ∀ a : Fin 4, a.val = 0 → ∀ r : Fin 4, ∀ i : grid0.Coords, i 3 = a →
    k0_off3 i (BitVec.ofNat 32 (128 * r.val)) = ![if r.val = 0 then 1 else 0, 0, 0] := by
  have h : ∀ a : Fin 4, a.val = 0 → ∀ r : Fin 4,
      (let v65 : BitVec 32 := Scalar.addi (Scalar.muli (BitVec.ofNat 32 a.val) 512#32) (BitVec.ofNat 32 (128 * r.val))
       (Scalar.indexCast (Scalar.shrsi (Scalar.maxsi (Scalar.subi 128#32 v65) 0#32) 7#32)).toNat)
        = if r.val = 0 then 1 else 0 := by decide +kernel
  intro a ha r i hi
  have := h a ha r
  subst hi
  unfold k0_off3
  simp only at this ⊢
  rw [this]

/-- Every later query block reads page 0. -/
theorem off3_later : ∀ a : Fin 4, a.val ≠ 0 → ∀ r : Fin 4, ∀ i : grid0.Coords, i 3 = a →
    k0_off3 i (BitVec.ofNat 32 (128 * r.val)) = ![0, 0, 0] := by
  have h : ∀ a : Fin 4, a.val ≠ 0 → ∀ r : Fin 4,
      (let v65 : BitVec 32 := Scalar.addi (Scalar.muli (BitVec.ofNat 32 a.val) 512#32) (BitVec.ofNat 32 (128 * r.val))
       (Scalar.indexCast (Scalar.shrsi (Scalar.maxsi (Scalar.subi 128#32 v65) 0#32) 7#32)).toNat)
        = 0 := by decide +kernel
  intro a ha r i hi
  have := h a ha r
  subst hi
  unfold k0_off3
  simp only at this ⊢
  rw [this]

/-- The first key row a sub-block loads: 128 rows before its first query, clipped at row 0. -/
theorem off2_eq (i : grid0.Coords) (r : Fin 4) :
    k0_off2 i (BitVec.ofNat 32 (128 * r.val)) = ![0, 512 * (i 3).val + 128 * r.val - 128, 0] := by
  have h : ∀ a : Fin 4, ∀ r : Fin 4,
      (let v65 : BitVec 32 := Scalar.addi (Scalar.muli (BitVec.ofNat 32 a.val) 512#32) (BitVec.ofNat 32 (128 * r.val))
       (Scalar.indexCast (Scalar.maxsi (Scalar.subi v65 128#32) 0#32)).toNat)
        = 512 * a.val + 128 * r.val - 128 := by decide +kernel
  have := h (i 3) r
  unfold k0_off2
  simp only at this ⊢
  rw [this]

/-- The body's branch is taken exactly at the first query block. -/
theorem cond1_iff (i : grid0.Coords) : k0_cond1 i = 1#1 ↔ (i 3).val = 0 := by
  have h : ∀ a : Fin 4, (let v1 : BitVec 32 := Scalar.extui (Scalar.cmpi .eq (BitVec.ofNat 32 a.val) 0#32)
        Scalar.cmpi .ne v1 0#32 = 1#1) ↔ a.val = 0 := by
    decide +kernel
  exact h (i 3)

end Cert.BandC4Ideal.Hand

end
-- ==== Proof.K.C4Out.lean ====
module

public import proofs.«01_k».proof.Proof.K.C4Off
public import proofs.«01_k».proof.Proof.K.C1Out

@[expose] public section

set_option maxRecDepth 16384

noncomputable section

namespace Cert.BandC4Ideal.Hand

open Cert.BandC4Ideal Cert.BandC4Ideal.Gen
open Cert.BandC1Ideal.Hand (inb_q rq headRows logRows pieces cover_out)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## What the body computes, as functions of what it loads -/

/-- The eight entries of a head group lie in the table of heads. -/
theorem inb_word (i : grid0.Coords) (g : Fin 8) : ∀ a, (k0_off1 i (BitVec.ofNat 32 g.val)) a + S1.size a ≤ S16.size a := by
  have h : ∀ a : Fin 2, ∀ g : Fin 8, (Scalar.indexCast (Scalar.addi (Scalar.muli (BitVec.ofNat 32 a.val) 8#32) (BitVec.ofNat 32 g.val))).toNat + 1 ≤ 16 := by
    decide +kernel
  intro a
  match a with
  | ⟨0, _⟩ => exact h (i 2) g

/-- Head `g`'s word of a table of one number per head, in the point's head group. -/
def word (x : Vec F S16 .f32) (i : grid0.Coords) (g : Fin 8) : Elt F .f32 :=
  View.ld x (Rect.unit (s := S16) (k0_off1 i (BitVec.ofNat 32 g.val)) S1.size (inb_word i g))
    (Shape.Idx.first (numel1_S1.symm ▸ Nat.one_pos))

/-- The key position within the window, lane by lane. -/
abbrev lanes : IVec S1x256 32 := iota .tc S1x256 32 [1] iota_S1x256_d1_w32

/-- The bias page of the ordinary window, from the head group's slopes. -/
def page0 (x0 : Vec F S16 .f32) (i : grid0.Coords) : FVec F S1x1024x256 .f32 :=
  k0_pay10 k0_pay5 lanes k0_pay6 (k0_pay7 (word x0 i 0) (word x0 i 1) (word x0 i 2) (word x0 i 3) (word x0 i 4)) k0_pay8
    (word x0 i 5) (word x0 i 6) (word x0 i 7)

/-- The bias page of the window clipped at the sequence's start. -/
def page1 (x0 : Vec F S16 .f32) (i : grid0.Coords) : FVec F S1x1024x256 .f32 :=
  k0_pay12 lanes (k0_pay9 k0_pay6 (k0_pay7 (word x0 i 0) (word x0 i 1) (word x0 i 2) (word x0 i 3) (word x0 i 4)) k0_pay8
    (word x0 i 5) (word x0 i 6) (word x0 i 7)) (k0_pay11 k0_pay5)

/-- The two stores that fill the bias scratch, the later one first. -/
def biasPieces (x0 : Vec F S16 .f32) (i : grid0.Coords) : List (View.Piece (Elt F) S2x1024x256 .f32) :=
  [⟨Rect.unit ![1, 0, 0] S1x1024x256.size inb_S2x1024x256_S1x1024x256_1_0_0, page1 x0 i⟩,
   ⟨Rect.unit ![0, 0, 0] S1x1024x256.size inb_S2x1024x256_S1x1024x256_0_0_0, page0 x0 i⟩]

/-- The bias scratch once both pages are filled. -/
def bias (x0 : Vec F S16 .f32) (i : grid0.Coords) : Vec F S2x1024x256 .f32 := View.canon (biasPieces x0 i)

/-- The bias page that sub-block `sb` reads. -/
abbrev rb (i : grid0.Coords) (sb : Fin 4) : Rect S2x1024x256 :=
  Rect.unit (k0_off3 i (BitVec.ofNat 32 (128 * sb.val))) S1x1024x256.size (k0_off3_inb i sb)

/-- The keys and values that sub-block `sb` reads. -/
abbrev rk (i : grid0.Coords) (sb : Fin 4) : Rect S1x2048x128 :=
  Rect.unit (k0_off2 i (BitVec.ofNat 32 (128 * sb.val))) S1x256x128.size (k0_off2_inb i sb)

/-- Sub-block `sb`'s attention output, the group's heads stacked. -/
def attn (x1 : Vec F S1x512x512 .bf16) (x2 : Vec F S1x2048x128 .bf16) (bl : Fin 4 → Vec F S1x1024x256 .f32) (i : grid0.Coords)
    (sb : Fin 4) : FVec F S1024x64 .f32 :=
  k0_pay24 (k0_pay13 (View.ld x2 (rk i sb))) (k0_pay14 (View.ld x1 (rq sb 0))) (k0_pay15 (View.ld x1 (rq sb 1)))
    (k0_pay16 (View.ld x1 (rq sb 2))) (k0_pay17 (View.ld x1 (rq sb 3))) (k0_pay18 (View.ld x1 (rq sb 4)))
    (k0_pay19 (View.ld x1 (rq sb 5))) (View.ld x1 (rq sb 6)) (View.ld x1 (rq sb 7)) (bl sb)

/-- The logarithms of sub-block `sb`'s row totals, the group's heads stacked. -/
def logs (x1 : Vec F S1x512x512 .bf16) (x2 : Vec F S1x2048x128 .bf16) (bl : Fin 4 → Vec F S1x1024x256 .f32) (i : grid0.Coords)
    (sb : Fin 4) : FVec F S1024x1 .f32 :=
  k0_pay25 (k0_pay13 (View.ld x2 (rk i sb))) (k0_pay14 (View.ld x1 (rq sb 0))) (k0_pay15 (View.ld x1 (rq sb 1)))
    (k0_pay16 (View.ld x1 (rq sb 2))) (k0_pay17 (View.ld x1 (rq sb 3))) (k0_pay18 (View.ld x1 (rq sb 4)))
    (k0_pay19 (View.ld x1 (rq sb 5))) (View.ld x1 (rq sb 6)) (View.ld x1 (rq sb 7)) (bl sb)

/-- The output block after the body. -/
def out (x1 : Vec F S1x512x512 .bf16) (x2 : Vec F S1x2048x128 .bf16) (bl : Fin 4 → Vec F S1x1024x256 .f32) (i : grid0.Coords) :
    Vec F S1x512x512 .f32 :=
  View.canon (pieces fun sb => headRows (attn x1 x2 bl i sb))

/-- The block of logarithms after the body. -/
def lse (x1 : Vec F S1x512x512 .bf16) (x2 : Vec F S1x2048x128 .bf16) (bl : Fin 4 → Vec F S1x1024x256 .f32) (i : grid0.Coords) :
    Vec F S1x512x512 .f32 :=
  View.canon (pieces fun sb => logRows (logs x1 x2 bl i sb))

theorem cover_bias (x0 : Vec F S16 .f32) (i : grid0.Coords) (y : S2x1024x256.Idx) : ∃ p ∈ biasPieces x0 i, y ∈ p.1.set :=
  View.cover_of_tiled (biasPieces x0 i) S1x1024x256.size (by rfl) y

end Cert.BandC4Ideal.Hand

end
-- ==== Proof.K.C4RunA.lean ====
module

public import proofs.«01_k».proof.Proof.K.C4Out

@[expose] public section

set_option maxRecDepth 16384

noncomputable section

namespace Cert.BandC4Ideal.Hand

open Cert.BandC4Ideal Cert.BandC4Ideal.Gen
open Cert.BandC1Ideal.Hand (inb_q rq headRows logRows pieces cover_out)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3200000 in
/-- The body at the first query block of a head group fills the bias scratch, then the two result blocks from it. -/
theorem runA (c : Dev nD) (i : grid0.Coords) (arg4 : Memref sig .tc .smem S16 .f32) (harg4 : arg4.IsWhole) (arg5 : Memref sig .tc .vmem S1x512x512 .bf16) (harg5 : arg5.IsWhole) (arg6 : Memref sig .tc .vmem S1x2048x128 .bf16) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S2x1024x256 .f32) (harg9 : arg9.IsWhole) (hc0 : k0_cond1 i = 1#1)
    (x0 : Vec F S16 .f32) (x1 : Vec F S1x512x512 .bf16) (x2 : Vec F S1x2048x128 .bf16) (E : Set ℕ) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg4 fullShare x0 ∗ owns (c : Thread nD τ) arg5 fullShare x1 ∗ owns (c : Thread nD τ) arg6 fullShare x2 ∗ owns (c : Thread nD τ) arg7 fullShare (out x1 x2 (fun sb => View.ld (bias x0 i) (rb i sb)) i) ∗ owns (c : Thread nD τ) arg8 fullShare (lse x1 x2 (fun sb => View.ld (bias x0 i) (rb i sb)) i) ∗ owns (c : Thread nD τ) arg9 fullShare (bias x0 i)) -∗ K ⟨⟩))
      ⊢ wp frame (wpE (defs₀ (F := F)) Variants.none c none) E (cc0_banded_attn i arg4 harg4 arg5 harg5 arg6 harg6 arg7 harg7 arg8 harg8 arg9 harg9) K := by
  have hi := (cond1_iff i).mp hc0
  letI : ClosedOff (k0_off3 i (BitVec.ofNat 32 0)) := ⟨![1, 0, 0], off3_first (i 3) hi 0 i rfl⟩
  letI : ClosedOff (k0_off3 i (BitVec.ofNat 32 128)) := ⟨![0, 0, 0], off3_first (i 3) hi 1 i rfl⟩
  letI : ClosedOff (k0_off3 i (BitVec.ofNat 32 256)) := ⟨![0, 0, 0], off3_first (i 3) hi 2 i rfl⟩
  letI : ClosedOff (k0_off3 i (BitVec.ofNat 32 384)) := ⟨![0, 0, 0], off3_first (i 3) hi 3 i rfl⟩
  simp only [cc0_banded_attn_eq_skeleton]; unfold cc0_banded_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  subst hf0 hf1 hf2
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ (pieces fun sb => headRows (attn _ _ (fun sb => arg9.view.readCov (biasPieces _ i) (rb i sb)) i sb)) (cover_out _)).trans ?_
    exact congrArg (fun b => out _ _ b i) (funext fun sb => View.readCov_eq_canon_ld _ _ _ (cover_bias _ i))
  isplitl [H4]
  · iexists _; isplitr
    swap; · iexact H4
    ipureintro
    refine (View.read_writes_eq_canon _ _ (pieces fun sb => logRows (logs _ _ (fun sb => arg9.view.readCov (biasPieces _ i) (rb i sb)) i sb)) (cover_out _)).trans ?_
    exact congrArg (fun b => lse _ _ b i) (funext fun sb => View.readCov_eq_canon_ld _ _ _ (cover_bias _ i))
  iexists _; isplitr
  swap; · iexact HS0
  ipureintro
  exact View.read_writes_eq_canon _ _ (biasPieces _ i) (cover_bias _ i)

end Cert.BandC4Ideal.Hand

end
-- ==== Proof.K.C4RunB.lean ====
module

public import proofs.«01_k».proof.Proof.K.C4Out

@[expose] public section

set_option maxRecDepth 16384

noncomputable section

namespace Cert.BandC4Ideal.Hand

open Cert.BandC4Ideal Cert.BandC4Ideal.Gen
open Cert.BandC1Ideal.Hand (inb_q rq headRows logRows pieces cover_out)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3200000 in
/-- The body at a later query block reads the bias scratch as it finds it. -/
theorem runB (c : Dev nD) (i : grid0.Coords) (arg4 : Memref sig .tc .smem S16 .f32) (harg4 : arg4.IsWhole) (arg5 : Memref sig .tc .vmem S1x512x512 .bf16) (harg5 : arg5.IsWhole) (arg6 : Memref sig .tc .vmem S1x2048x128 .bf16) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S2x1024x256 .f32) (harg9 : arg9.IsWhole) (hc0 : ¬ k0_cond1 i = 1#1)
    (x0 : Vec F S16 .f32) (x1 : Vec F S1x512x512 .bf16) (x2 : Vec F S1x2048x128 .bf16) (b : Vec F S2x1024x256 .f32) (E : Set ℕ) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ owns (c : Thread nD τ) arg9 fullShare b
        ∗ (iprop(owns (c : Thread nD τ) arg4 fullShare x0 ∗ owns (c : Thread nD τ) arg5 fullShare x1 ∗ owns (c : Thread nD τ) arg6 fullShare x2 ∗ owns (c : Thread nD τ) arg7 fullShare (out x1 x2 (fun sb => View.ld b (rb i sb)) i) ∗ owns (c : Thread nD τ) arg8 fullShare (lse x1 x2 (fun sb => View.ld b (rb i sb)) i) ∗ owns (c : Thread nD τ) arg9 fullShare b) -∗ K ⟨⟩))
      ⊢ wp frame (wpE (defs₀ (F := F)) Variants.none c none) E (cc0_banded_attn i arg4 harg4 arg5 harg5 arg6 harg6 arg7 harg7 arg8 harg8 arg9 harg9) K := by
  have hi := fun h => hc0 ((cond1_iff i).mpr h)
  letI : ClosedOff (k0_off3 i (BitVec.ofNat 32 0)) := ⟨![0, 0, 0], off3_later (i 3) hi 0 i rfl⟩
  letI : ClosedOff (k0_off3 i (BitVec.ofNat 32 128)) := ⟨![0, 0, 0], off3_later (i 3) hi 1 i rfl⟩
  letI : ClosedOff (k0_off3 i (BitVec.ofNat 32 256)) := ⟨![0, 0, 0], off3_later (i 3) hi 2 i rfl⟩
  letI : ClosedOff (k0_off3 i (BitVec.ofNat 32 384)) := ⟨![0, 0, 0], off3_later (i 3) hi 3 i rfl⟩
  simp only [cc0_banded_attn_eq_skeleton]; unfold cc0_banded_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
  subst hf0 hf1 hf2 hfs0
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ (pieces fun sb => headRows (attn _ _ (fun sb => View.ld (arg9.view.read (Elt F) fs0) (rb i sb)) i sb)) (cover_out _)
  isplitl [H4]
  · iexists _; isplitr
    swap; · iexact H4
    ipureintro
    exact View.read_writes_eq_canon _ _ (pieces fun sb => logRows (logs _ _ (fun sb => View.ld (arg9.view.read (Elt F) fs0) (rb i sb)) i sb)) (cover_out _)
  iexists _; isplitr
  swap; · iexact HS0
  ipureintro
  rfl

end Cert.BandC4Ideal.Hand

end
-- ==== Proof.K.C4Frame.lean ====
module

public import proofs.«01_k».proof.Proof.K.C4RunA
public import proofs.«01_k».proof.Proof.K.C4RunB
public import Idealize.ShloMosaic.Lib.Claim
public import Idealize.ShloMosaic.Lib.WordCmp

@[expose] public section

set_option maxRecDepth 16384

noncomputable section

namespace Cert.BandC4Ideal.Hand

open Cert.BandC4Ideal Cert.BandC4Ideal.Gen
open Cert.BandC1Ideal.Hand (inb_q rq headRows logRows pieces cover_out)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The staging buffers the body is called with at a point, and the bias scratch. -/
abbrev ms0 (t : Fin cfg0.N) : Memref sig .tc .smem S16 .f32 := win0_0.stage (cfg0.slots t 0)
abbrev ms1 (t : Fin cfg0.N) : Memref sig .tc .vmem S1x512x512 .bf16 := win0_1.stage (cfg0.slots t 1)
abbrev ms2 (t : Fin cfg0.N) : Memref sig .tc .vmem S1x2048x128 .bf16 := win0_2.stage (cfg0.slots t 2)
abbrev ms3 (t : Fin cfg0.N) : Memref sig .tc .vmem S1x512x512 .f32 := win0_3.stage (cfg0.slots t 3)
abbrev ms4 (t : Fin cfg0.N) : Memref sig .tc .vmem S1x512x512 .f32 := win0_4.stage (cfg0.slots t 4)
abbrev scr : Memref sig .tc .vmem S2x1024x256 .f32 := Memref.whole cc0_scratch0

theorem points : cfg0.N = 64 := N_0

/-- The bias is filled at the points that are multiples of 4. -/
theorem fills (t : Fin cfg0.N) : k0_cond1 (grid0.coords t) = 1#1 ↔ t.val % 4 = 0 := by
  have e3 : (grid0.coords t 3).val = t.val / 1 % 4 := Pipeline.Grid.coords_val t 3 (by decide) rfl
  rw [cond1_iff, e3, Nat.div_one]

/-- The point that filled the bias scratch as it stands when `n` points are done. -/
def filler (n : ℕ) : Fin cfg0.N := ⟨4 * (n / 4 % 16), by have := points; omega⟩

theorem filler_self (t : Fin cfg0.N) (h : t.val % 4 = 0) : filler t.val = t := by
  have := points; have := t.isLt; apply Fin.ext; simp only [filler]; omega

theorem filler_succ (n : ℕ) (h : (n + 1) % 4 ≠ 0) : filler (n + 1) = filler n := by
  apply Fin.ext; simp only [filler]; omega

/-- What the bias scratch holds when `n` points are done, unless a new head group begins there. -/
def held (c : Dev nD) (n : ℕ) : Vec F S2x1024x256 .f32 := bias (iblk m c 0 (filler n)) (grid0.coords (filler n))

/-- The scratch between points: anything where a new head group begins, the group's bias inside it. -/
def carried (c : Dev nD) (n : ℕ) : sProp 𝕄 :=
  if n % 4 = 0 then iprop(∃ d, owns (c : Thread nD τ) scr fullShare d) else owns (c : Thread nD τ) scr fullShare (held m c n)

/-- What the body writes of the attention's result at a point. -/
def written (c : Dev nD) (t : Fin cfg0.N) : Vec F S1x512x512 .f32 :=
  out (iblk m c 1 t) (iblk m c 2 t) (fun sb => View.ld (held m c t.val) (rb (grid0.coords t) sb)) (grid0.coords t)

/-- What the body writes of the logarithms at a point. -/
def writtenLog (c : Dev nD) (t : Fin cfg0.N) : Vec F S1x512x512 .f32 :=
  lse (iblk m c 1 t) (iblk m c 2 t) (fun sb => View.ld (held m c t.val) (rb (grid0.coords t) sb)) (grid0.coords t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => written m c t
    | ⟨4, _⟩ => writtenLog m c t
  Φ p := iprop(carried m c p.val ∗ (∃ r, prngReg c r))
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = written m c t := by dsimp only [dats]
theorem after4 (c : Dev nD) (t : Fin cfg0.N) : (dats m 0 c).after 4 t = writtenLog m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- After a point, the bias of its group is what the next point finds. -/
theorem carried_succ (c : Dev nD) (n : ℕ) : owns (c : Thread nD τ) scr fullShare (held m c n) ⊢ carried m c (n + 1) := by
  unfold carried
  by_cases h : (n + 1) % 4 = 0
  · rw [if_pos h]; iintro H; iexists _; iexact H
  · rw [if_neg h]
    have : held m c (n + 1) = held m c n := by unfold held; rw [filler_succ n h]
    rw [this]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl, after0, after1, after2, after3, after4]
  rw [show (dats m 0 c).Φ t.castSucc = iprop(carried m c t.val ∗ (∃ r, prngReg c r)) from rfl,
    show (dats m 0 c).Φ t.succ = iprop(carried m c (t.val + 1) ∗ (∃ r, prngReg c r)) from rfl]
  by_cases h0 : t.val % 4 = 0
  · rw [show carried m c t.val = iprop(∃ d, owns (c : Thread nD τ) scr fullShare d) from if_pos h0]
    have hw : written m c t = out (iblk m c 1 t) (iblk m c 2 t) (fun sb => View.ld (bias (iblk m c 0 t) (grid0.coords t)) (rb (grid0.coords t) sb)) (grid0.coords t) := by
      unfold written held; rw [filler_self t h0]
    have hl : writtenLog m c t = lse (iblk m c 1 t) (iblk m c 2 t) (fun sb => View.ld (bias (iblk m c 0 t) (grid0.coords t)) (rb (grid0.coords t) sb)) (grid0.coords t) := by
      unfold writtenLog held; rw [filler_self t h0]
    have hh : held m c t.val = bias (iblk m c 0 t) (grid0.coords t) := by unfold held; rw [filler_self t h0]
    rw [hw, hl]
    iintro ⟨⟨HS0, Hg⟩, Ho, ⟨%d0, H0⟩, ⟨%d1, H1⟩, ⟨%d2, H2⟩, ⟨%d3, H3⟩, ⟨%d4, H4⟩⟩
    iapply (runA c (grid0.coords t) _ _ _ _ _ _ _ _ _ _ _ _ ((fills t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · iapply (carried_succ m c t.val); rw [hh]; iexact HS0
      iexact Hg
    isplitl [Ho]; · iexact Ho
    isplitl [H0]; · iexact H0
    isplitl [H1]; · iexact H1
    isplitl [H2]; · iexact H2
    isplitl [H3]; · iexact H3
    iexact H4
  · rw [show carried m c t.val = owns (c : Thread nD τ) scr fullShare (held m c t.val) from if_neg h0]
    iintro ⟨⟨HS0, Hg⟩, Ho, ⟨%d0, H0⟩, ⟨%d1, H1⟩, ⟨%d2, H2⟩, ⟨%d3, H3⟩, ⟨%d4, H4⟩⟩
    iapply (runB c (grid0.coords t) _ _ _ _ _ _ _ _ _ _ _ _ (fun h => h0 ((fills t).mp h)) (iblk m c 0 t) (iblk m c 1 t) (iblk m c 2 t) (held m c t.val) Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · iapply (carried_succ m c t.val); iexact HS0
      iexact Hg
    isplitl [Ho]; · iexact Ho
    isplitl [H0]; · iexact H0
    isplitl [H1]; · iexact H1
    isplitl [H2]; · iexact H2
    isplitl [H3]; · iexact H3
    iexact H4

theorem body_row (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  exact triple_restated (sound_body m c t) rfl .rfl fun _ => .rfl

theorem atRest (c : Dev nD) : (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

theorem enters (c : Dev nD) : (Pipeline.ΦA spec0 c : sProp 𝕄) ⊢ (dats m 0 c).Φ 0 := by
  rw [atRest, show (dats m 0 c).Φ 0 = iprop(carried m c 0 ∗ (∃ r, prngReg c r)) from rfl,
    show carried m c 0 = iprop(∃ d, owns (c : Thread nD τ) scr fullShare d) from if_pos rfl]

theorem leaves (c : Dev nD) : (dats m 0 c).Φ (Fin.last cfg0.N) ⊢ (Pipeline.ΦA spec0 c : sProp 𝕄) := by
  rw [atRest, show (dats m 0 c).Φ (Fin.last cfg0.N) = iprop(carried m c cfg0.N ∗ (∃ r, prngReg c r)) from rfl,
    show carried m c cfg0.N = iprop(∃ d, owns (c : Thread nD τ) scr fullShare d) from if_pos (by rw [points])]

set_option backward.isDefEq.respectTransparency.types false in
/-- The launch: every execution ends with the arrays at what the points wrote and every counter at zero. -/
theorem launched : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hin := enters m) (hout := leaves m)

theorem run_main : θ_run defs (onTc (τ := τ) (main (F := F))) (s₀ m ρ) (Pipeline.FramePost cfgs (dats m) 0 (V m)) :=
  (θ_run defs _ _).mono (fun _ h => h.1) (launched m ρ)

/-- The frame: the arguments end as they were and every counter is at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (launched m ρ))

end Cert.BandC4Ideal.Hand

end
-- ==== Proof.P.C4Frame.lean ====
module

public import proofs.«01_k».proof.Proof.K.C4Frame
public import proofs.«01_k».proof.Proof.Gen.BandC4

@[expose] public section

set_option maxRecDepth 16384

noncomputable section

namespace Cert.BandC4.Hand

open Cert.BandC4 Cert.BandC4.Gen
open Idealize.ShloMosaic Idealize.ShloMosaic.TcCoe Idealize.SL.Sem

variable {F : FTy → Type} [FloatOps F]

/-- Every named number read as the number written. -/
@[reducible] def plain : Named F := ⟨fun _ _ {φ} bits => Scalar.ofBits φ bits⟩

/-- The body is the idealized one, its named number read as written. -/
theorem bodies_eq : letI : Named F := plain; defs₀ (F := F) = Cert.BandC4Ideal.defs₀ (F := F) := by
  unfold defs₀ Cert.BandC4Ideal.defs₀
  refine congrArg Defs.onTc (funext fun l => funext fun x => ?_)
  match l, x with
  | ⟨0, _⟩, (t, s) => rfl

theorem defs_eq : letI : Named F := plain; defs (F := F) = Cert.BandC4Ideal.defs (F := F) := by
  unfold defs Cert.BandC4Ideal.defs
  exact congrArg (Pipeline.defs (pcfgs (F := F))) bodies_eq

/-- The frame: the arguments end as they were and every counter is at zero. -/
theorem frame_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  letI : Named F := plain
  (congrArg (fun D => θ_run D (onTc (τ := τ) (main (F := F))) ⟨m, fun _ => 0, ρ⟩ _) defs_eq).mpr
    (Cert.BandC4Ideal.Hand.frame_all (F := F) m ρ)

end Cert.BandC4.Hand

end
-- ==== Proof.K.C16Off.lean ====
module

public import proofs.«01_k».proof.Proof.Gen.BandC16Ideal.Frame
public import proofs.«01_k».proof.Proof.Gen.BandC16Ideal.Skeleton

@[expose] public section

set_option maxRecDepth 16384

noncomputable section

namespace Cert.BandC16Ideal.Hand

open Cert.BandC16Ideal Cert.BandC16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Where the windows and the bias pages lie -/

/-- The bias page a sub-block of the first query block reads: page 1 for the first sub-block, page 0 after it. -/
theorem off3_first : ∀ a : Fin 1, a.val = 0 → ∀ r : Fin 4, ∀ i : grid0.Coords, i 3 = a →
    k0_off3 i (BitVec.ofNat 32 (128 * r.val)) = ![if r.val = 0 then 1 else 0, 0, 0] := by
  have h : ∀ a : Fin 1, a.val = 0 → ∀ r : Fin 4,
      (let v65 : BitVec 32 := Scalar.addi (Scalar.muli (BitVec.ofNat 32 a.val) 512#32) (BitVec.ofNat 32 (128 * r.val))
       (Scalar.indexCast (Scalar.shrsi (Scalar.maxsi (Scalar.subi 128#32 v65) 0#32) 7#32)).toNat)
        = if r.val = 0 then 1 else 0 := by decide +kernel
  intro a ha r i hi
  have := h a ha r
  subst hi
  unfold k0_off3
  simp only at this ⊢
  rw [this]

/-- The first key row a sub-block loads: 128 rows before its first query, clipped at row 0. -/
theorem off2_eq (i : grid0.Coords) (r : Fin 4) :
    k0_off2 i (BitVec.ofNat 32 (128 * r.val)) = ![0, 512 * (i 3).val + 128 * r.val - 128, 0] := by
  have h : ∀ a : Fin 1, ∀ r : Fin 4,
      (let v65 : BitVec 32 := Scalar.addi (Scalar.muli (BitVec.ofNat 32 a.val) 512#32) (BitVec.ofNat 32 (128 * r.val))
       (Scalar.indexCast (Scalar.maxsi (Scalar.subi v65 128#32) 0#32)).toNat)
        = 512 * a.val + 128 * r.val - 128 := by decide +kernel
  have := h (i 3) r
  unfold k0_off2
  simp only at this ⊢
  rw [this]

/-- The body's branch is taken exactly at the first query block. -/
theorem cond1_iff (i : grid0.Coords) : k0_cond1 i = 1#1 ↔ (i 3).val = 0 := by
  have h : ∀ a : Fin 1, (let v1 : BitVec 32 := Scalar.extui (Scalar.cmpi .eq (BitVec.ofNat 32 a.val) 0#32)
        Scalar.cmpi .ne v1 0#32 = 1#1) ↔ a.val = 0 := by
    decide +kernel
  exact h (i 3)

end Cert.BandC16Ideal.Hand

end
-- ==== Proof.K.C16Out.lean ====
module

public import proofs.«01_k».proof.Proof.K.C16Off
public import proofs.«01_k».proof.Proof.K.C1Out

@[expose] public section

set_option maxRecDepth 16384

noncomputable section

namespace Cert.BandC16Ideal.Hand

open Cert.BandC16Ideal Cert.BandC16Ideal.Gen
open Cert.BandC1Ideal.Hand (inb_q rq headRows logRows pieces cover_out)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## What the body computes, as functions of what it loads -/

/-- The eight entries of a head group lie in the table of heads. -/
theorem inb_word (i : grid0.Coords) (g : Fin 8) : ∀ a, (k0_off1 i (BitVec.ofNat 32 g.val)) a + S1.size a ≤ S16.size a := by
  have h : ∀ a : Fin 2, ∀ g : Fin 8, (Scalar.indexCast (Scalar.addi (Scalar.muli (BitVec.ofNat 32 a.val) 8#32) (BitVec.ofNat 32 g.val))).toNat + 1 ≤ 16 := by
    decide +kernel
  intro a
  match a with
  | ⟨0, _⟩ => exact h (i 2) g

/-- Head `g`'s word of a table of one number per head, in the point's head group. -/
def word (x : Vec F S16 .f32) (i : grid0.Coords) (g : Fin 8) : Elt F .f32 :=
  View.ld x (Rect.unit (s := S16) (k0_off1 i (BitVec.ofNat 32 g.val)) S1.size (inb_word i g))
    (Shape.Idx.first (numel1_S1.symm ▸ Nat.one_pos))

/-- The key position within the window, lane by lane. -/
abbrev lanes : IVec S1x256 32 := iota .tc S1x256 32 [1] iota_S1x256_d1_w32

/-- The bias page of the ordinary window, from the head group's slopes. -/
def page0 (x0 : Vec F S16 .f32) (i : grid0.Coords) : FVec F S1x1024x256 .f32 :=
  k0_pay10 k0_pay5 lanes k0_pay6 (k0_pay7 (word x0 i 0) (word x0 i 1) (word x0 i 2) (word x0 i 3) (word x0 i 4)) k0_pay8
    (word x0 i 5) (word x0 i 6) (word x0 i 7)

/-- The bias page of the window clipped at the sequence's start. -/
def page1 (x0 : Vec F S16 .f32) (i : grid0.Coords) : FVec F S1x1024x256 .f32 :=
  k0_pay12 lanes (k0_pay9 k0_pay6 (k0_pay7 (word x0 i 0) (word x0 i 1) (word x0 i 2) (word x0 i 3) (word x0 i 4)) k0_pay8
    (word x0 i 5) (word x0 i 6) (word x0 i 7)) (k0_pay11 k0_pay5)

/-- The two stores that fill the bias scratch, the later one first. -/
def biasPieces (x0 : Vec F S16 .f32) (i : grid0.Coords) : List (View.Piece (Elt F) S2x1024x256 .f32) :=
  [⟨Rect.unit ![1, 0, 0] S1x1024x256.size inb_S2x1024x256_S1x1024x256_1_0_0, page1 x0 i⟩,
   ⟨Rect.unit ![0, 0, 0] S1x1024x256.size inb_S2x1024x256_S1x1024x256_0_0_0, page0 x0 i⟩]

/-- The bias scratch once both pages are filled. -/
def bias (x0 : Vec F S16 .f32) (i : grid0.Coords) : Vec F S2x1024x256 .f32 := View.canon (biasPieces x0 i)

/-- The bias page that sub-block `sb` reads. -/
abbrev rb (i : grid0.Coords) (sb : Fin 4) : Rect S2x1024x256 :=
  Rect.unit (k0_off3 i (BitVec.ofNat 32 (128 * sb.val))) S1x1024x256.size (k0_off3_inb i sb)

/-- The keys and values that sub-block `sb` reads. -/
abbrev rk (i : grid0.Coords) (sb : Fin 4) : Rect S1x512x128 :=
  Rect.unit (k0_off2 i (BitVec.ofNat 32 (128 * sb.val))) S1x256x128.size (k0_off2_inb i sb)

/-- Sub-block `sb`'s attention output, the group's heads stacked. -/
def attn (x1 : Vec F S1x512x512 .bf16) (x2 : Vec F S1x512x128 .bf16) (bl : Fin 4 → Vec F S1x1024x256 .f32) (i : grid0.Coords)
    (sb : Fin 4) : FVec F S1024x64 .f32 :=
  k0_pay24 (k0_pay13 (View.ld x2 (rk i sb))) (k0_pay14 (View.ld x1 (rq sb 0))) (k0_pay15 (View.ld x1 (rq sb 1)))
    (k0_pay16 (View.ld x1 (rq sb 2))) (k0_pay17 (View.ld x1 (rq sb 3))) (k0_pay18 (View.ld x1 (rq sb 4)))
    (k0_pay19 (View.ld x1 (rq sb 5))) (View.ld x1 (rq sb 6)) (View.ld x1 (rq sb 7)) (bl sb)

/-- The logarithms of sub-block `sb`'s row totals, the group's heads stacked. -/
def logs (x1 : Vec F S1x512x512 .bf16) (x2 : Vec F S1x512x128 .bf16) (bl : Fin 4 → Vec F S1x1024x256 .f32) (i : grid0.Coords)
    (sb : Fin 4) : FVec F S1024x1 .f32 :=
  k0_pay25 (k0_pay13 (View.ld x2 (rk i sb))) (k0_pay14 (View.ld x1 (rq sb 0))) (k0_pay15 (View.ld x1 (rq sb 1)))
    (k0_pay16 (View.ld x1 (rq sb 2))) (k0_pay17 (View.ld x1 (rq sb 3))) (k0_pay18 (View.ld x1 (rq sb 4)))
    (k0_pay19 (View.ld x1 (rq sb 5))) (View.ld x1 (rq sb 6)) (View.ld x1 (rq sb 7)) (bl sb)

/-- The output block after the body. -/
def out (x1 : Vec F S1x512x512 .bf16) (x2 : Vec F S1x512x128 .bf16) (bl : Fin 4 → Vec F S1x1024x256 .f32) (i : grid0.Coords) :
    Vec F S1x512x512 .f32 :=
  View.canon (pieces fun sb => headRows (attn x1 x2 bl i sb))

/-- The block of logarithms after the body. -/
def lse (x1 : Vec F S1x512x512 .bf16) (x2 : Vec F S1x512x128 .bf16) (bl : Fin 4 → Vec F S1x1024x256 .f32) (i : grid0.Coords) :
    Vec F S1x512x512 .f32 :=
  View.canon (pieces fun sb => logRows (logs x1 x2 bl i sb))

theorem cover_bias (x0 : Vec F S16 .f32) (i : grid0.Coords) (y : S2x1024x256.Idx) : ∃ p ∈ biasPieces x0 i, y ∈ p.1.set :=
  View.cover_of_tiled (biasPieces x0 i) S1x1024x256.size (by rfl) y

end Cert.BandC16Ideal.Hand

end
-- ==== Proof.K.C16RunA.lean ====
module

public import proofs.«01_k».proof.Proof.K.C16Out

@[expose] public section

set_option maxRecDepth 16384

noncomputable section

namespace Cert.BandC16Ideal.Hand

open Cert.BandC16Ideal Cert.BandC16Ideal.Gen
open Cert.BandC1Ideal.Hand (inb_q rq headRows logRows pieces cover_out)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3200000 in
/-- The body at the first query block of a head group fills the bias scratch, then the two result blocks from it. -/
theorem runA (c : Dev nD) (i : grid0.Coords) (arg4 : Memref sig .tc .smem S16 .f32) (harg4 : arg4.IsWhole) (arg5 : Memref sig .tc .vmem S1x512x512 .bf16) (harg5 : arg5.IsWhole) (arg6 : Memref sig .tc .vmem S1x512x128 .bf16) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S2x1024x256 .f32) (harg9 : arg9.IsWhole) (hc0 : k0_cond1 i = 1#1)
    (x0 : Vec F S16 .f32) (x1 : Vec F S1x512x512 .bf16) (x2 : Vec F S1x512x128 .bf16) (E : Set ℕ) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg4 fullShare x0 ∗ owns (c : Thread nD τ) arg5 fullShare x1 ∗ owns (c : Thread nD τ) arg6 fullShare x2 ∗ owns (c : Thread nD τ) arg7 fullShare (out x1 x2 (fun sb => View.ld (bias x0 i) (rb i sb)) i) ∗ owns (c : Thread nD τ) arg8 fullShare (lse x1 x2 (fun sb => View.ld (bias x0 i) (rb i sb)) i) ∗ owns (c : Thread nD τ) arg9 fullShare (bias x0 i)) -∗ K ⟨⟩))
      ⊢ wp frame (wpE (defs₀ (F := F)) Variants.none c none) E (cc0_banded_attn i arg4 harg4 arg5 harg5 arg6 harg6 arg7 harg7 arg8 harg8 arg9 harg9) K := by
  have hi := (cond1_iff i).mp hc0
  letI : ClosedOff (k0_off3 i (BitVec.ofNat 32 0)) := ⟨![1, 0, 0], off3_first (i 3) hi 0 i rfl⟩
  letI : ClosedOff (k0_off3 i (BitVec.ofNat 32 128)) := ⟨![0, 0, 0], off3_first (i 3) hi 1 i rfl⟩
  letI : ClosedOff (k0_off3 i (BitVec.ofNat 32 256)) := ⟨![0, 0, 0], off3_first (i 3) hi 2 i rfl⟩
  letI : ClosedOff (k0_off3 i (BitVec.ofNat 32 384)) := ⟨![0, 0, 0], off3_first (i 3) hi 3 i rfl⟩
  simp only [cc0_banded_attn_eq_skeleton]; unfold cc0_banded_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  subst hf0 hf1 hf2
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ (pieces fun sb => headRows (attn _ _ (fun sb => arg9.view.readCov (biasPieces _ i) (rb i sb)) i sb)) (cover_out _)).trans ?_
    exact congrArg (fun b => out _ _ b i) (funext fun sb => View.readCov_eq_canon_ld _ _ _ (cover_bias _ i))
  isplitl [H4]
  · iexists _; isplitr
    swap; · iexact H4
    ipureintro
    refine (View.read_writes_eq_canon _ _ (pieces fun sb => logRows (logs _ _ (fun sb => arg9.view.readCov (biasPieces _ i) (rb i sb)) i sb)) (cover_out _)).trans ?_
    exact congrArg (fun b => lse _ _ b i) (funext fun sb => View.readCov_eq_canon_ld _ _ _ (cover_bias _ i))
  iexists _; isplitr
  swap; · iexact HS0
  ipureintro
  exact View.read_writes_eq_canon _ _ (biasPieces _ i) (cover_bias _ i)

end Cert.BandC16Ideal.Hand

end
-- ==== Proof.K.C16Frame.lean ====
module

public import proofs.«01_k».proof.Proof.K.C16RunA
public import Idealize.ShloMosaic.Lib.Claim
public import Idealize.ShloMosaic.Lib.WordCmp

@[expose] public section

set_option maxRecDepth 16384

noncomputable section

namespace Cert.BandC16Ideal.Hand

open Cert.BandC16Ideal Cert.BandC16Ideal.Gen
open Cert.BandC1Ideal.Hand (inb_q rq headRows logRows pieces cover_out)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The staging buffers the body is called with at a point, and the bias scratch. -/
abbrev ms0 (t : Fin cfg0.N) : Memref sig .tc .smem S16 .f32 := win0_0.stage (cfg0.slots t 0)
abbrev ms1 (t : Fin cfg0.N) : Memref sig .tc .vmem S1x512x512 .bf16 := win0_1.stage (cfg0.slots t 1)
abbrev ms2 (t : Fin cfg0.N) : Memref sig .tc .vmem S1x512x128 .bf16 := win0_2.stage (cfg0.slots t 2)
abbrev ms3 (t : Fin cfg0.N) : Memref sig .tc .vmem S1x512x512 .f32 := win0_3.stage (cfg0.slots t 3)
abbrev ms4 (t : Fin cfg0.N) : Memref sig .tc .vmem S1x512x512 .f32 := win0_4.stage (cfg0.slots t 4)
abbrev scr : Memref sig .tc .vmem S2x1024x256 .f32 := Memref.whole cc0_scratch0

theorem points : cfg0.N = 64 := N_0

/-- Every point fills the bias: a head group has one query tile. -/
theorem fills (t : Fin cfg0.N) : k0_cond1 (grid0.coords t) = 1#1 := (cond1_iff _).mpr (by
  have h : (grid0.coords t 3).val < 1 := (grid0.coords t 3).isLt
  omega)

/-- What the bias scratch holds at a point, once filled. -/
def held (c : Dev nD) (t : Fin cfg0.N) : Vec F S2x1024x256 .f32 := bias (iblk m c 0 t) (grid0.coords t)

/-- What the body writes of the attention's result at a point. -/
def written (c : Dev nD) (t : Fin cfg0.N) : Vec F S1x512x512 .f32 :=
  out (iblk m c 1 t) (iblk m c 2 t) (fun sb => View.ld (held m c t) (rb (grid0.coords t) sb)) (grid0.coords t)

/-- What the body writes of the logarithms at a point. -/
def writtenLog (c : Dev nD) (t : Fin cfg0.N) : Vec F S1x512x512 .f32 :=
  lse (iblk m c 1 t) (iblk m c 2 t) (fun sb => View.ld (held m c t) (rb (grid0.coords t) sb)) (grid0.coords t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => written m c t
    | ⟨4, _⟩ => writtenLog m c t
  Φ _ := iprop((∃ d, owns (c : Thread nD τ) scr fullShare d) ∗ (∃ r, prngReg c r))
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = written m c t := by dsimp only [dats]
theorem after4 (c : Dev nD) (t : Fin cfg0.N) : (dats m 0 c).after 4 t = writtenLog m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl, after0, after1, after2, after3, after4]
  rw [show (dats m 0 c).Φ t.castSucc = iprop((∃ d, owns (c : Thread nD τ) scr fullShare d) ∗ (∃ r, prngReg c r)) from rfl,
    show (dats m 0 c).Φ t.succ = iprop((∃ d, owns (c : Thread nD τ) scr fullShare d) ∗ (∃ r, prngReg c r)) from rfl]
  iintro ⟨⟨HS0, Hg⟩, Ho, ⟨%d0, H0⟩, ⟨%d1, H1⟩, ⟨%d2, H2⟩, ⟨%d3, H3⟩, ⟨%d4, H4⟩⟩
  iapply (runA c (grid0.coords t) _ _ _ _ _ _ _ _ _ _ _ _ (fills t) (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [HS0]; · iexact HS0
  iintro ⟨H0, H1, H2, H3, H4, HS0⟩
  isplitl [HS0 Hg]
  · isplitl [HS0]
    · iexists _; iexact HS0
    iexact Hg
  isplitl [Ho]; · iexact Ho
  isplitl [H0]; · iexact H0
  isplitl [H1]; · iexact H1
  isplitl [H2]; · iexact H2
  isplitl [H3]; · iexact H3
  iexact H4

theorem body_row (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  exact triple_restated (sound_body m c t) rfl .rfl fun _ => .rfl

theorem atRest (c : Dev nD) : (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

theorem enters (c : Dev nD) : (Pipeline.ΦA spec0 c : sProp 𝕄) ⊢ (dats m 0 c).Φ 0 := by
  rw [atRest, show (dats m 0 c).Φ 0 = iprop((∃ d, owns (c : Thread nD τ) scr fullShare d) ∗ (∃ r, prngReg c r)) from rfl]

theorem leaves (c : Dev nD) : (dats m 0 c).Φ (Fin.last cfg0.N) ⊢ (Pipeline.ΦA spec0 c : sProp 𝕄) := by
  rw [atRest, show (dats m 0 c).Φ (Fin.last cfg0.N) = iprop((∃ d, owns (c : Thread nD τ) scr fullShare d) ∗ (∃ r, prngReg c r)) from rfl]

set_option backward.isDefEq.respectTransparency.types false in
/-- The launch: every execution ends with the arrays at what the points wrote and every counter at zero. -/
theorem launched : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hin := enters m) (hout := leaves m)

theorem run_main : θ_run defs (onTc (τ := τ) (main (F := F))) (s₀ m ρ) (Pipeline.FramePost cfgs (dats m) 0 (V m)) :=
  (θ_run defs _ _).mono (fun _ h => h.1) (launched m ρ)

/-- The frame: the arguments end as they were and every counter is at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (launched m ρ))

end Cert.BandC16Ideal.Hand

end
-- ==== Proof.P.C16Frame.lean ====
module

public import proofs.«01_k».proof.Proof.K.C16Frame
public import proofs.«01_k».proof.Proof.Gen.BandC16

@[expose] public section

set_option maxRecDepth 16384

noncomputable section

namespace Cert.BandC16.Hand

open Cert.BandC16 Cert.BandC16.Gen
open Idealize.ShloMosaic Idealize.ShloMosaic.TcCoe Idealize.SL.Sem

variable {F : FTy → Type} [FloatOps F]

/-- Every named number read as the number written. -/
@[reducible] def plain : Named F := ⟨fun _ _ {φ} bits => Scalar.ofBits φ bits⟩

/-- The body is the idealized one, its named number read as written. -/
theorem bodies_eq : letI : Named F := plain; defs₀ (F := F) = Cert.BandC16Ideal.defs₀ (F := F) := by
  unfold defs₀ Cert.BandC16Ideal.defs₀
  refine congrArg Defs.onTc (funext fun l => funext fun x => ?_)
  match l, x with
  | ⟨0, _⟩, (t, s) => rfl

theorem defs_eq : letI : Named F := plain; defs (F := F) = Cert.BandC16Ideal.defs (F := F) := by
  unfold defs Cert.BandC16Ideal.defs
  exact congrArg (Pipeline.defs (pcfgs (F := F))) bodies_eq

/-- The frame: the arguments end as they were and every counter is at zero. -/
theorem frame_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  letI : Named F := plain
  (congrArg (fun D => θ_run D (onTc (τ := τ) (main (F := F))) ⟨m, fun _ => 0, ρ⟩ _) defs_eq).mpr
    (Cert.BandC16Ideal.Hand.frame_all (F := F) m ρ)

end Cert.BandC16.Hand

end
-- ==== Proof.V.Dil.lean ====
module

public import proofs.«01_k».proof.Proof.V.BTile

@[expose] public section

set_option maxRecDepth 16384

noncomputable section

namespace Cert.Dil

open Idealize.ShloMosaic Idealize.ShloMosaic.Pointwise Cert.Row
open Cert.BandedIdeal.Val (low_bits head_select stacked rowScore)

/-! ## A row of attention without a sink, and the logarithm of its total -/

section rows

variable {ι κ : Type} [Fintype ι] [Fintype κ]

/-- The exponentials' sum over the admitted positions. -/
def total (ok : ι → Prop) [DecidablePred ok] (S : ι → ℝ) : ℝ := ∑ l, if ok l then Real.exp (S l) else 0

/-- The values weighted by the exponentials of the admitted positions' scores, over the total. -/
def att (ok : ι → Prop) [DecidablePred ok] (S V : ι → ℝ) : ℝ := (∑ l, if ok l then Real.exp (S l) * V l else 0) / total ok S

variable (ok : ι → Prop) [DecidablePred ok] (S V : ι → ℝ)

theorem total_pos (h : ∃ l, ok l) : 0 < total ok S := by
  obtain ⟨l, hl⟩ := h
  refine Finset.sum_pos' (fun l _ => ?_) ⟨l, Finset.mem_univ l, ?_⟩
  · split
    · exact (Real.exp_pos _).le
    · exact le_rfl
  · rw [if_pos hl]; exact Real.exp_pos _

/-- The total of scores taken relative to a number. -/
theorem total_shift (μ : ℝ) : total ok (fun l => S l - μ) = total ok S * Real.exp (-μ) := by
  unfold total
  rw [Finset.sum_mul]
  refine Finset.sum_congr rfl fun l _ => ?_
  split
  · show Real.exp (S l - μ) = _
    rw [sub_eq_add_neg, Real.exp_add]
  · simp

theorem att_shift (μ : ℝ) :
    (∑ l, (if ok l then Real.exp (S l - μ) else 0) * V l) / total ok (fun l => S l - μ) = att ok S V := by
  have e : (∑ l, (if ok l then Real.exp (S l - μ) else 0) * V l) = (∑ l, if ok l then Real.exp (S l) * V l else 0) * Real.exp (-μ) := by
    rw [Finset.sum_mul]
    refine Finset.sum_congr rfl fun l _ => ?_
    split
    · rw [sub_eq_add_neg, Real.exp_add]; ring
    · simp
  rw [e, total_shift, mul_div_mul_right _ _ (Real.exp_pos _).ne']; rfl

theorem log_shift (h : ∃ l, ok l) (μ : ℝ) : μ + Real.log (total ok (fun l => S l - μ)) = Real.log (total ok S) := by
  rw [total_shift, Real.log_mul (total_pos ok S h).ne' (Real.exp_pos _).ne', Real.log_exp]; ring

/-- The largest of scores below infinity, one of them real, is a real number. -/
theorem top_real (f : ι → EReal) (hf : ∀ l, f l ≠ ⊤) (h : ∃ l, f l ≠ ⊥) :
    ∃ μ : ℝ, Finset.univ.fold max (⊥ : EReal) f = μ := by
  obtain ⟨l, hl⟩ := h
  have h1 : Finset.univ.fold max (⊥ : EReal) f ≠ ⊥ :=
    ne_of_gt ((Finset.lt_fold_max _).mpr (Or.inr ⟨l, Finset.mem_univ l, bot_lt_iff_ne_bot.mpr hl⟩))
  have h2 : Finset.univ.fold max (⊥ : EReal) f ≠ ⊤ :=
    ne_of_lt ((Finset.fold_max_lt _).mpr ⟨bot_lt_top, fun l _ => lt_of_le_of_ne le_top (hf l)⟩)
  exact ⟨_, (EReal.coe_toReal h2 h1).symm⟩

theorem log_real (x : ℝ) (hx : 0 < x) : Ideal.log (x : EReal) = (Real.log x : EReal) := by
  rw [Ideal.log_coe, if_neg (not_le.mpr hx)]

/-- A row whose excluded scores are the least element, as the kernel computes it. -/
theorem open_row (h : ∃ l, ok l) (f : ι → EReal) (hf : ∀ l, f l = if ok l then ((S l : ℝ) : EReal) else ⊥) :
    Ideal.div (∑ l, Ideal.exp (f l - Finset.univ.fold max (⊥ : EReal) f) * ((V l : ℝ) : EReal))
        (∑ l, Ideal.exp (f l - Finset.univ.fold max (⊥ : EReal) f)) = (att ok S V : ℝ)
    ∧ Finset.univ.fold max (⊥ : EReal) f + Ideal.log (∑ l, Ideal.exp (f l - Finset.univ.fold max (⊥ : EReal) f))
        = (Real.log (total ok S) : ℝ) := by
  obtain ⟨μ, hμ⟩ := top_real f (fun l => by rw [hf]; split <;> simp) (by
    obtain ⟨l, hl⟩ := h
    exact ⟨l, by rw [hf, if_pos hl]; exact EReal.coe_ne_bot _⟩)
  rw [hμ]
  have he (l : ι) : Ideal.exp (f l - (μ : EReal)) = ((if ok l then Real.exp (S l - μ) else 0 : ℝ) : EReal) := by
    rw [hf]; split
    · rw [← EReal.coe_sub, Ideal.exp_coe]
    · rw [EReal.bot_sub, Ideal.exp_bot, EReal.coe_zero]
  have hp := total_pos ok (fun l => S l - μ) h
  simp only [he, ← EReal.coe_mul]
  rw [← coe_sum, ← coe_sum]
  change Ideal.div _ ((total ok (fun l => S l - μ) : ℝ) : EReal) = _ ∧ _ + Ideal.log ((total ok (fun l => S l - μ) : ℝ) : EReal) = _
  refine ⟨?_, ?_⟩
  · rw [Ideal.div_coe hp.ne', ← EReal.coe_mul, ← att_shift ok S V μ, mul_one_div]
  · rw [log_real _ hp, ← EReal.coe_add, log_shift ok S h]

/-- A row whose excluded scores are some real number and whose excluded weights are put to zero, as the reference
    computes it. -/
theorem closed_row (h : ∃ l, ok l) (f e : ι → EReal) (D one : EReal) (hf : ∀ l, ∃ x : ℝ, f l = x ∧ (ok l → x = S l))
    (he : ∀ l, e l = if ok l then Ideal.exp (f l - Finset.univ.fold max (⊥ : EReal) f) else 0) (hD : D = ∑ l, e l) :
    (∑ l, ((V l : ℝ) : EReal) * Ideal.div (e l) (if 0 < D then D else one)) = (att ok S V : ℝ)
    ∧ Finset.univ.fold max (⊥ : EReal) f + Ideal.log (if 0 < D then D else one) = (Real.log (total ok S) : ℝ) := by
  obtain ⟨μ, hμ⟩ := top_real f (fun l => by obtain ⟨x, hx, -⟩ := hf l; rw [hx]; exact EReal.coe_ne_top x) (by
    obtain ⟨l, hl⟩ := h
    obtain ⟨x, hx, -⟩ := hf l
    exact ⟨l, by rw [hx]; exact EReal.coe_ne_bot x⟩)
  have he' (l : ι) : e l = ((if ok l then Real.exp (S l - μ) else 0 : ℝ) : EReal) := by
    rw [he, hμ]; split
    · next h =>
      obtain ⟨x, hx, hS⟩ := hf l
      rw [hx, hS h, ← EReal.coe_sub, Ideal.exp_coe]
    · rw [EReal.coe_zero]
  have hp := total_pos ok (fun l => S l - μ) h
  simp only [he'] at hD ⊢
  rw [← coe_sum] at hD
  change D = ((total ok (fun l => S l - μ) : ℝ) : EReal) at hD
  rw [hD, if_pos (EReal.coe_pos.mpr hp), hμ]
  refine ⟨?_, ?_⟩
  · simp only [Ideal.div_coe hp.ne', ← EReal.coe_mul]
    rw [← coe_sum, ← att_shift ok S V μ, Finset.sum_div]
    refine congrArg _ (Finset.sum_congr rfl fun l _ => ?_)
    ring
  · rw [log_real _ hp, ← EReal.coe_add, log_shift ok S h]

/-- Over a window that holds every admitted position the sums are those over all positions. -/
theorem sum_window (w : κ → ι) (hw : Function.Injective w) (hok : ∀ l, ok l → ∃ c, w c = l) (g : ι → ℝ) :
    (∑ c, if ok (w c) then g (w c) else 0) = ∑ l, if ok l then g l else 0 := by
  refine Finset.sum_of_injOn w (hw.injOn) (fun _ _ => Finset.mem_coe.mpr (Finset.mem_univ _)) ?_ (fun _ _ => rfl)
  intro l _ hl
  refine if_neg fun h => hl ?_
  obtain ⟨c, hc⟩ := hok l h
  exact ⟨c, Finset.mem_coe.mpr (Finset.mem_univ c), hc⟩

theorem total_window (w : κ → ι) (hw : Function.Injective w) (hok : ∀ l, ok l → ∃ c, w c = l) :
    total (fun c => ok (w c)) (fun c => S (w c)) = total ok S := sum_window ok w hw hok fun l => Real.exp (S l)

theorem att_window (w : κ → ι) (hw : Function.Injective w) (hok : ∀ l, ok l → ∃ c, w c = l) :
    att (fun c => ok (w c)) (fun c => S (w c)) (fun c => V (w c)) = att ok S V := by
  unfold att
  rw [total_window ok S w hw hok, sum_window ok w hw hok fun l => Real.exp (S l) * V l]

end rows

/-! ## Distances of a residue class's positions as words, counted in the whole sequence -/

theorem gap_int (st : ℕ) (hs : st ≤ 16) (A B : ℕ) (hA : A < 2 ^ 20) (hB : B < 2 ^ 20) :
    (IntOp.muli (IntOp.subi (BitVec.ofNat 32 A) (BitVec.ofNat 32 B)) (BitVec.ofNat 32 st)).toInt = ((A : ℤ) - B) * st := by
  have h := Cert.Row.gap_int A B hA hB
  have h2 : (BitVec.ofNat 32 st).toInt = st := by
    rw [BitVec.toInt_ofNat']; exact Int.bmod_eq_of_le (by omega) (by omega)
  unfold IntOp.muli
  rw [BitVec.toInt_mul, h, h2]
  have h1 : ((A : ℤ) - B) * st ≤ 2 ^ 20 * 16 := mul_le_mul (by omega) (by omega) (by omega) (by omega)
  have h3 : -(((A : ℤ) - B) * st) ≤ 2 ^ 20 * 16 := by
    rw [← neg_mul]; exact mul_le_mul (by omega) (by omega) (by omega) (by omega)
  exact Int.bmod_eq_of_le (by omega) (by omega)

theorem gap_real (st : ℕ) (hs : st ≤ 16) (A B : ℕ) (hA : A < 2 ^ 20) (hB : B < 2 ^ 20) :
    FloatOps.sitofp (F := Ideal) .f32 (IntOp.muli (IntOp.subi (BitVec.ofNat 32 A) (BitVec.ofNat 32 B)) (BitVec.ofNat 32 st))
      = ((((A : ℝ) - B) * st : ℝ) : EReal) := by
  show (((IntOp.muli (IntOp.subi (BitVec.ofNat 32 A) (BitVec.ofNat 32 B)) (BitVec.ofNat 32 st)).toInt : ℝ) : EReal) = _
  rw [gap_int st hs A B hA hB]
  push_cast
  rfl

/-- The band's test: the key is not after the query and at most 128 strides before it. -/
theorem band_select {α : Type} (st : ℕ) (h0 : 0 < st) (hs : st ≤ 16) (A B : ℕ) (hA : A < 2 ^ 20) (hB : B < 2 ^ 20) (x y : α) :
    Scalar.select (IntOp.andi
        (IntOp.cmpi .sge (IntOp.muli (IntOp.subi (BitVec.ofNat 32 A) (BitVec.ofNat 32 B)) (BitVec.ofNat 32 st)) 0#32)
        (IntOp.cmpi .sle (IntOp.muli (IntOp.subi (BitVec.ofNat 32 A) (BitVec.ofNat 32 B)) (BitVec.ofNat 32 st)) (BitVec.ofNat 32 (128 * st)))) x y
      = if B ≤ A ∧ A ≤ B + 128 then x else y := by
  unfold Scalar.select IntOp.cmpi
  refine if_congr ?_ rfl rfl
  have hb : (BitVec.ofNat 32 (128 * st)).toInt = 128 * (st : ℤ) := by
    rw [BitVec.toInt_ofNat', Int.bmod_eq_of_le (by omega) (by omega)]; push_cast; rfl
  rw [bit_and, BitVec.sle_iff_toInt_le, BitVec.sle_iff_toInt_le, gap_int st hs A B hA hB, hb]
  have hz : (0#32 : BitVec 32).toInt = 0 := by decide
  rw [hz]
  have hp : (0 : ℤ) < st := by omega
  constructor
  · rintro ⟨h1, h2⟩
    have h1' := nonneg_of_mul_nonneg_left h1 hp
    have h2' := le_of_mul_le_mul_right h2 hp
    omega
  · rintro ⟨h1, h2⟩
    exact ⟨mul_nonneg (by omega) hp.le, mul_le_mul_of_nonneg_right (by omega) hp.le⟩

/-- One element of a bias page: minus the slope times the distance in the band, minus infinity outside it. -/
def pageAt (st k : ℕ) (v : Fin 8 → EReal) (r : Fin 1024) (c : Fin 256) : EReal :=
  if c.val ≤ k + r.val % 128 ∧ k + r.val % 128 ≤ c.val + 128 then
    0 - v ⟨r.val / 128, by omega⟩ * (((((k + r.val % 128 : ℕ) : ℝ) - c.val) * st : ℝ) : EReal)
  else ⊥

theorem pageAt_congr {st k k' : ℕ} (v : Fin 8 → EReal) {r r' : Fin 1024} {c c' : Fin 256} (hk : k = k') (hr : r = r') (hc : c = c') :
    pageAt st k v r c = pageAt st k' v r' c' := by
  rw [hk, hr, hc]

/-- The body's distance of a query row from a lane, the queries `k` rows after the window's first key. -/
theorem dist_word (k : ℕ) (r : Fin 1024) :
    IntOp.addi (BitVec.ofNat 32 k) (IntOp.andi (BitVec.ofNat 32 r.val) 127#32) = BitVec.ofNat 32 (k + r.val % 128) := by
  rw [low_bits]
  unfold IntOp.addi
  rw [BitVec.ofNat_add]

theorem page_of (st : ℕ) (h0 : 0 < st) (hs16 : st ≤ 16) (k : ℕ) (hk : k < 1024) (v : Fin 8 → EReal) (r : Fin 1024) (c : Fin 256) (s mask : EReal)
    (hs : s = v ⟨r.val / 128, by omega⟩) (hm : mask = ⊥) :
    Scalar.select (IntOp.andi
      (IntOp.cmpi .sge (IntOp.muli (IntOp.subi (IntOp.addi (BitVec.ofNat 32 k) (IntOp.andi (BitVec.ofNat 32 r.val) 127#32)) (BitVec.ofNat 32 c.val)) (BitVec.ofNat 32 st)) 0#32)
      (IntOp.cmpi .sle (IntOp.muli (IntOp.subi (IntOp.addi (BitVec.ofNat 32 k) (IntOp.andi (BitVec.ofNat 32 r.val) 127#32)) (BitVec.ofNat 32 c.val)) (BitVec.ofNat 32 st)) (BitVec.ofNat 32 (128 * st))))
      (0 - s * FloatOps.sitofp (F := Ideal) .f32
        (IntOp.muli (IntOp.subi (IntOp.addi (BitVec.ofNat 32 k) (IntOp.andi (BitVec.ofNat 32 r.val) 127#32)) (BitVec.ofNat 32 c.val)) (BitVec.ofNat 32 st)))
      mask = pageAt st k v r c := by
  rw [dist_word, band_select st h0 hs16 _ _ (by omega) (by omega), gap_real st hs16 _ _ (by omega) (by omega), hs, hm]
  rfl

/-! ## The layer of one residue class over the reals -/

variable {sp : ℕ} (st : ℕ) (Q : Fin sp → Fin 1024 → ℝ) (KV : Fin sp → Fin 256 → ℝ) (SL : Fin 16 → ℝ)

/-- The score of key `l` for query `T` of head `8 a + b`: the product, less the slope times the distance. -/
def score (a : Fin 2) (b : Fin 8) (T l : Fin sp) : ℝ :=
  (∑ x : Fin 64, Q T ⟨a.val * 512 + b.val * 64 + x.val, by omega⟩ * KV l ⟨a.val * 128 + x.val, by omega⟩)
    - SL ⟨a.val * 8 + b.val, by omega⟩ * (((T.val : ℝ) - l.val) * st)

/-- Value `d` of key `l`. -/
def value (a : Fin 2) (d : Fin 64) (l : Fin sp) : ℝ := KV l ⟨a.val * 128 + 64 + d.val, by omega⟩

/-- The keys a query admits. -/
abbrev near (T : Fin sp) (l : Fin sp) : Prop := l.val ≤ T.val ∧ T.val ≤ l.val + 128

theorem near_self (T : Fin sp) : ∃ l, near T l := ⟨T, le_rfl, by omega⟩

/-- One element of the attention's result. -/
def layer (a : Fin 2) (b : Fin 8) (T : Fin sp) (d : Fin 64) : ℝ := att (near T) (score st Q KV SL a b T) (value KV a d)

/-- The logarithm of a row's total. -/
def layerLog (a : Fin 2) (b : Fin 8) (T : Fin sp) : ℝ := Real.log (total (near T) (score st Q KV SL a b T))

/-- A row of the body's tile, whose query lies `k + w` after the window's first key `f`, computes the layer's row and its
    logarithm, the window holding the band. -/
theorem row_layer (q : Fin 8 → Vec Ideal Cert.BandedIdeal.S1x128x64 .bf16) (kv : Vec Ideal Cert.BandedIdeal.S1x256x128 .bf16)
    (bl : Vec Ideal Cert.BandedIdeal.S1x1024x256 .f32) (v : Fin 8 → EReal) (r : Fin 1024) (d : Fin 64) (a : Fin 2) (T : Fin sp) (f k : ℕ)
    (hf : f + 256 ≤ sp) (hT : T.val = f + (k + r.val % 128)) (hk : k = 128 ∨ (k = 0 ∧ f = 0))
    (hq : ∀ x : Fin 64, q ⟨r.val / 128, by omega⟩ (ix3 0 ⟨r.val % 128, by omega⟩ x)
      = (Q T ⟨a.val * 512 + r.val / 128 * 64 + x.val, by omega⟩ : EReal))
    (hkv : ∀ (c : Fin 256) (x : Fin 128), kv (ix3 0 c x) = (KV ⟨f + c.val, by omega⟩ ⟨a.val * 128 + x.val, by omega⟩ : EReal))
    (hbl : ∀ c : Fin 256, bl (ix3 0 r c) = pageAt st k v r c)
    (hv : v ⟨r.val / 128, by omega⟩ = (SL ⟨a.val * 8 + r.val / 128, by omega⟩ : EReal)) :
    Ideal.div (∑ c, Ideal.exp (rowScore q r kv bl c - Finset.univ.fold max (⊥ : EReal) (rowScore q r kv bl)) * kv (ix3 0 c ⟨64 + d.val, by omega⟩))
        (∑ c, Ideal.exp (rowScore q r kv bl c - Finset.univ.fold max (⊥ : EReal) (rowScore q r kv bl)))
      = ((layer st Q KV SL a ⟨r.val / 128, by omega⟩ T d : ℝ) : EReal)
    ∧ Finset.univ.fold max (⊥ : EReal) (rowScore q r kv bl)
        + Ideal.log (∑ c, Ideal.exp (rowScore q r kv bl c - Finset.univ.fold max (⊥ : EReal) (rowScore q r kv bl)))
      = ((layerLog st Q KV SL a ⟨r.val / 128, by omega⟩ T : ℝ) : EReal) := by
  have hwv (c : Fin 256) : kv (ix3 0 c ⟨64 + d.val, by omega⟩) = ((value KV a d ⟨f + c.val, by omega⟩ : ℝ) : EReal) := by
    rw [hkv, value]
    exact congrArg (fun e => ((KV ⟨f + c.val, by omega⟩ e : ℝ) : EReal)) (Fin.ext (Nat.add_assoc _ _ _).symm)
  simp only [hwv]
  have hinj : Function.Injective (fun c : Fin 256 => (⟨f + c.val, by omega⟩ : Fin sp)) :=
    fun c c' h => Fin.ext (by have := congrArg Fin.val h; simp only at this; omega)
  have hin : ∀ l : Fin sp, near T l → ∃ c : Fin 256, (⟨f + c.val, by omega⟩ : Fin sp) = l :=
    fun l hl => ⟨⟨l.val - f, by have := hl.1; have := hl.2; omega⟩, Fin.ext (by have := hl.1; have := hl.2; show f + (l.val - f) = l.val; omega)⟩
  unfold layer layerLog
  rw [← att_window (near T) (score st Q KV SL a ⟨r.val / 128, by omega⟩ T) (value KV a d) _ hinj hin,
    ← total_window (near T) (score st Q KV SL a ⟨r.val / 128, by omega⟩ T) _ hinj hin]
  obtain ⟨c0, hc0⟩ := hin T ⟨le_rfl, by omega⟩
  refine open_row _ _ _ ⟨c0, by rw [hc0]; exact ⟨le_rfl, by omega⟩⟩ (rowScore q r kv bl) fun c => ?_
  have hsum : (∑ y : Fin 64, q ⟨r.val / 128, by omega⟩ (ix3 0 ⟨r.val % 128, by omega⟩ y) * kv (ix3 0 c ⟨y.val, by omega⟩))
      = ((∑ y : Fin 64, Q T ⟨a.val * 512 + r.val / 128 * 64 + y.val, by omega⟩
          * KV ⟨f + c.val, by omega⟩ ⟨a.val * 128 + y.val, by omega⟩ : ℝ) : EReal) := by
    rw [coe_sum]
    exact Finset.sum_congr rfl fun y _ => by rw [hq, hkv, EReal.coe_mul]
  unfold rowScore
  rw [hsum, hbl]
  unfold pageAt
  by_cases hin : c.val ≤ k + r.val % 128 ∧ k + r.val % 128 ≤ c.val + 128
  · rw [if_pos hin, if_pos (show (f + c.val ≤ T.val ∧ T.val ≤ f + c.val + 128) by omega), hv, ← EReal.coe_mul, zero_sub,
      ← EReal.coe_neg, ← EReal.coe_add]
    refine congrArg _ ?_
    simp only [score]
    rw [hT]
    push_cast
    ring
  · rw [if_neg hin, if_neg (show ¬ (f + c.val ≤ T.val ∧ T.val ≤ f + c.val + 128) by omega), EReal.add_bot]

/-- A row of the reference: scores and weights as it computes them make the layer's row and its logarithm. -/
theorem class_of (a : Fin 2) (b : Fin 8) (T : Fin sp) (d : Fin 64) (q : Fin 1024 → EReal) (kv : Fin sp → Fin 256 → EReal)
    (sl : Fin 16 → EReal) (sc wt : Fin sp → EReal) (D one : EReal)
    (hq : ∀ j, q j = (Q T j : EReal)) (hkv : ∀ l j, kv l j = (KV l j : EReal)) (hsl : ∀ h, sl h = (SL h : EReal))
    (hsc : ∀ l, sc l = if near T l then
        (∑ x : Fin 64, kv l ⟨a.val * 128 + x.val, by omega⟩ * q ⟨a.val * 512 + b.val * 64 + x.val, by omega⟩)
          - sl ⟨a.val * 8 + b.val, by omega⟩ * ((((T.val : ℝ) - l.val) * st : ℝ) : EReal)
      else Ideal.ofBits .f32 0xF149F2CA#32)
    (hwt : ∀ l, wt l = if near T l then Ideal.exp (sc l - Finset.univ.fold max (⊥ : EReal) sc) else 0) (hD : D = ∑ l, wt l) :
    (∑ l, kv l ⟨a.val * 128 + 64 + d.val, by omega⟩ * Ideal.div (wt l) (if 0 < D then D else one))
      = ((layer st Q KV SL a b T d : ℝ) : EReal)
    ∧ Finset.univ.fold max (⊥ : EReal) sc + Ideal.log (if 0 < D then D else one) = ((layerLog st Q KV SL a b T : ℝ) : EReal) := by
  have hv (l : Fin sp) : kv l ⟨a.val * 128 + 64 + d.val, by omega⟩ = ((value KV a d l : ℝ) : EReal) := hkv _ _
  simp only [hv]
  refine closed_row (near T) (score st Q KV SL a b T) _ (near_self T) sc wt _ _ (fun l => ?_) hwt hD
  rw [hsc]
  split
  · refine ⟨score st Q KV SL a b T l, ?_, fun _ => rfl⟩
    simp only [hkv, hq, hsl]
    have hs : (∑ x : Fin 64, (KV l ⟨a.val * 128 + x.val, by omega⟩ : EReal) * (Q T ⟨a.val * 512 + b.val * 64 + x.val, by omega⟩ : EReal))
        = ((∑ x : Fin 64, Q T ⟨a.val * 512 + b.val * 64 + x.val, by omega⟩ * KV l ⟨a.val * 128 + x.val, by omega⟩ : ℝ) : EReal) := by
      rw [coe_sum]
      exact Finset.sum_congr rfl fun x _ => by rw [EReal.coe_mul, mul_comm]
    rw [hs, score, EReal.coe_sub _ (_ * _), EReal.coe_mul (SL _)]
  · next h =>
    obtain ⟨x, hx⟩ := large_neg
    exact ⟨x, hx, fun h' => absurd h' h⟩

end Cert.Dil

end
-- ==== Proof.V.C1Tile.lean ====
module

public import proofs.«01_k».proof.Proof.K.C1Out
public import proofs.«01_k».proof.Proof.V.Dil

@[expose] public section

set_option maxRecDepth 16384

noncomputable section

namespace Cert.BandC1Ideal.Val

open Cert.BandC1Ideal Cert.BandC1Ideal.Gen Cert.BandC1Ideal.Hand Cert.Row Cert.Dil
open Cert.BandedIdeal.Val (head_select stacked rowScore)
open Idealize.ShloMosaic Idealize.ShloMosaic.TcCoe Idealize.ShloMosaic.Pointwise

/-! ## The pages of the bias -/

/-- Head `g`'s word is the table's, at the group's eight entries. -/
theorem word_at (x : Vec Ideal S16 .f32) (i : grid0.Coords) (g : Fin 8) :
    word x i g = x (ix1 ⟨(i 2).val * 8 + g.val, by have h : (i 2).val < 2 := (i 2).isLt; omega⟩) := by
  have h : ∀ a : Fin 2, ∀ g : Fin 8, (let w : BitVec 32 := Scalar.addi (Scalar.muli (BitVec.ofNat 32 a.val) 8#32) (BitVec.ofNat 32 g.val)
       (Scalar.indexCast w).toNat) = a.val * 8 + g.val := by decide +kernel
  unfold word
  refine View.ld_unit_apply_of x _ _ _ _ _ fun a => ?_
  match a with
  | ⟨0, _⟩ => exact (h (i 2) g).symm

/-- The mask's name stands for minus infinity. -/
theorem mask_least : Named.named (F := Ideal) (φ := .f32) κ "mask" 0xF149F2CA#32 = (⊥ : EReal) :=
  IdealRules.named_const.ideal_named_scalar _ _ _ _ rfl

theorem page0_at (x : Vec Ideal S16 .f32) (i : grid0.Coords) (r : Fin 1024) (c : Fin 256) :
    page0 x i (ix3 0 r c) = pageAt 1 128 (word x i) r c := by
  rw [← page_of 1 (by decide) (by decide) 128 (by omega) (word x i) r c _ _ (head_select (word x i) r) mask_least]
  pointwise [page0, k0_pay10, k0_pay9, k0_pay8, k0_pay7, k0_pay6, k0_pay5, lanes]

theorem page1_at (x : Vec Ideal S16 .f32) (i : grid0.Coords) (r : Fin 1024) (c : Fin 256) :
    page1 x i (ix3 0 r c) = pageAt 1 0 (word x i) r c := by
  rw [← page_of 1 (by decide) (by decide) 0 (by omega) (word x i) r c _ _ (head_select (word x i) r) mask_least]
  pointwise [page1, k0_pay12, k0_pay11, k0_pay9, k0_pay8, k0_pay7, k0_pay6, k0_pay5, lanes]

/-- Two pages stored one beside the other, the second page's store the later one. -/
abbrev twoPages (P0 P1 : FVec Ideal S1x1024x256 .f32) : List (View.Piece (Elt Ideal) S2x1024x256 .f32) :=
  [⟨Rect.unit ![1, 0, 0] S1x1024x256.size inb_S2x1024x256_S1x1024x256_1_0_0, P1⟩,
   ⟨Rect.unit ![0, 0, 0] S1x1024x256.size inb_S2x1024x256_S1x1024x256_0_0_0, P0⟩]

/-- Two stored pages, at any of their places: page 0 serves the ordinary windows, page 1 the clipped
    one. -/
theorem pages_at (st : ℕ) (v : Fin 8 → EReal) (P0 P1 : FVec Ideal S1x1024x256 .f32)
    (h0 : ∀ r c, P0 (ix3 0 r c) = pageAt st 128 v r c) (h1 : ∀ r c, P1 (ix3 0 r c) = pageAt st 0 v r c)
    (p : Fin 2) (r : Fin 1024) (c : Fin 256) :
    View.canon (twoPages P0 P1) (ix3 p r c)
      = pageAt st (if p.val = 0 then 128 else 0) v r c := by
  refine View.canon_apply_of_pieces (fun y : S2x1024x256.Idx => pageAt st (if (y 0).val = 0 then 128 else 0) v (y 1) (y 2)) _ ?_
    (ix3 p r c) (View.cover_of_tiled (twoPages P0 P1) S1x1024x256.size (by rfl) _)
  have at_page (k : ℕ) (hin : ∀ a, (![k, 0, 0] : Fin 3 → ℕ) a + S1x1024x256.size a ≤ S2x1024x256.size a)
      (P : FVec Ideal S1x1024x256 .f32) (hP : ∀ r c, P (ix3 0 r c) = pageAt st (if k = 0 then 128 else 0) v r c) (y : S1x1024x256.Idx) :
      P y = pageAt st (if ((Rect.unit (s := S2x1024x256) ![k, 0, 0] S1x1024x256.size hin).emb y 0).val = 0 then 128 else 0) v
        ((Rect.unit (s := S2x1024x256) ![k, 0, 0] S1x1024x256.size hin).emb y 1)
        ((Rect.unit (s := S2x1024x256) ![k, 0, 0] S1x1024x256.size hin).emb y 2) := by
    obtain ⟨a, r, c, rfl⟩ : ∃ (a : Fin 1) (r : Fin 1024) (c : Fin 256), y = ix3 a r c :=
      ⟨y 0, y 1, y 2, by funext ax; match ax with | ⟨0, _⟩ => rfl | ⟨1, _⟩ => rfl | ⟨2, _⟩ => rfl⟩
    obtain rfl : a = 0 := Subsingleton.elim _ _
    refine (hP r c).trans (pageAt_congr _ ?_ (Fin.ext ?_) (Fin.ext ?_))
    · exact congrArg (fun n : ℕ => if n = 0 then 128 else 0)
        (Rect.idx_unit_val (s := S2x1024x256) ![k, 0, 0] S1x1024x256.size hin (ix3 0 r c) 0).symm
    · exact ((Rect.idx_unit_val (s := S2x1024x256) ![k, 0, 0] S1x1024x256.size hin (ix3 0 r c) 1).trans (Nat.zero_add _)).symm
    · exact ((Rect.idx_unit_val (s := S2x1024x256) ![k, 0, 0] S1x1024x256.size hin (ix3 0 r c) 2).trans (Nat.zero_add _)).symm
  intro q hq y
  rcases List.mem_cons.mp hq with rfl | hq
  · exact at_page 1 inb_S2x1024x256_S1x1024x256_1_0_0 P1 h1 y
  · obtain rfl := List.mem_singleton.mp hq
    exact at_page 0 inb_S2x1024x256_S1x1024x256_0_0_0 P0 h0 y

/-- The filled scratch at any of its places. -/
theorem bias_at (x : Vec Ideal S16 .f32) (i : grid0.Coords) (p : Fin 2) (r : Fin 1024) (c : Fin 256) :
    bias x i (ix3 p r c) = pageAt 1 (if p.val = 0 then 128 else 0) (word x i) r c :=
  pages_at 1 (word x i) _ _ (page0_at x i) (page1_at x i) p r c

/-- Reading a page of the scratch. -/
theorem read_page (b : Vec Ideal S2x1024x256 .f32) (off : Fin 3 → ℕ) (hin : ∀ a, off a + S1x1024x256.size a ≤ S2x1024x256.size a)
    (p : Fin 2) (ho : off = ![p.val, 0, 0]) (r : Fin 1024) (e : Fin 256) :
    View.ld b (Rect.unit off S1x1024x256.size hin) (ix3 0 r e) = b (ix3 p r e) := by
  subst ho
  refine View.ld_unit_apply_of _ _ _ _ _ (ix3 p r e) fun a => ?_
  match a with
  | ⟨0, _⟩ => rfl
  | ⟨1, _⟩ => exact (Nat.zero_add _).symm
  | ⟨2, _⟩ => exact (Nat.zero_add _).symm

/-! ## One row of the attention tile -/

variable (q : Fin 8 → Vec Ideal S1x128x64 .bf16) (r : Fin 1024) (kv : Vec Ideal S1x256x128 .bf16) (bl : Vec Ideal S1x1024x256 .f32)

/-- One element of the attention tile: the values under the exponentials, over the total. -/
theorem tile_at (d : Fin 64) :
    k0_pay24 (k0_pay13 kv) (k0_pay14 (q 0)) (k0_pay15 (q 1)) (k0_pay16 (q 2)) (k0_pay17 (q 3)) (k0_pay18 (q 4)) (k0_pay19 (q 5)) (q 6) (q 7) bl (ix2 r d)
    = Ideal.div
        (∑ c, Ideal.exp (rowScore q r kv bl c - Finset.univ.fold max (⊥ : EReal) (rowScore q r kv bl)) * kv (ix3 0 c ⟨64 + d.val, by omega⟩))
        (∑ c, Ideal.exp (rowScore q r kv bl c - Finset.univ.fold max (⊥ : EReal) (rowScore q r kv bl))) := by
  have e : rowScore q r kv bl = fun c => rowScore q r kv bl c := rfl
  rw [e, ← least]
  have st := fun x => (stacked q r x).symm
  simp only [rowScore, st]
  pointwise [k0_pay24, k0_pay23, k0_pay22, k0_pay21, k0_pay20, k0_pay13, k0_pay14, k0_pay15, k0_pay16, k0_pay17, k0_pay18, k0_pay19]

/-- The logarithm of a row's total, the row's largest score added back. -/
theorem log_at :
    k0_pay25 (k0_pay13 kv) (k0_pay14 (q 0)) (k0_pay15 (q 1)) (k0_pay16 (q 2)) (k0_pay17 (q 3)) (k0_pay18 (q 4)) (k0_pay19 (q 5)) (q 6) (q 7) bl (ix2 r 0)
    = Finset.univ.fold max (⊥ : EReal) (rowScore q r kv bl)
      + Ideal.log (∑ c, Ideal.exp (rowScore q r kv bl c - Finset.univ.fold max (⊥ : EReal) (rowScore q r kv bl))) := by
  have e : rowScore q r kv bl = fun c => rowScore q r kv bl c := rfl
  rw [e, ← least]
  have st := fun x => (stacked q r x).symm
  simp only [rowScore, st]
  pointwise [k0_pay25, k0_pay23, k0_pay22, k0_pay21, k0_pay20, k0_pay13, k0_pay14, k0_pay15, k0_pay16, k0_pay17, k0_pay18, k0_pay19]

/-! ## The stored blocks -/

theorem stored (v : Fin 4 → Fin 8 → FVec Ideal S1x128x64 .f32) : ∀ p ∈ pieces v, ∃ sb g, p = ⟨rq sb g, v sb g⟩ := by
  intro p hp
  simp only [pieces, List.mem_cons, List.not_mem_nil, or_false] at hp
  rcases hp with h | h | h | h | h | h | h | h | h | h | h | h | h | h | h | h | h | h | h | h | h | h | h | h | h | h | h | h | h | h | h | h
    <;> exact ⟨_, _, h⟩

theorem headRows_at (o : FVec Ideal S1024x64 .f32) (g : Fin 8) (w : Fin 128) (d : Fin 64) :
    headRows o g (ix3 0 w d) = o (ix2 ⟨128 * g.val + w.val, by omega⟩ d) := by
  pointwise [headRows]

theorem logRows_at (o : FVec Ideal S1024x1 .f32) (g : Fin 8) (w : Fin 128) (d : Fin 64) :
    logRows o g (ix3 0 w d) = o (ix2 ⟨128 * g.val + w.val, by omega⟩ 0) := by
  pointwise [logRows]

/-- A block the body stores, at any of its places: sub-block by row, head by column. -/
theorem block_at (v : Fin 4 → Fin 8 → FVec Ideal S1x128x64 .f32) (R j : Fin 512) :
    View.canon (pieces v) (ix3 0 R j) = v ⟨R.val / 128, by omega⟩ ⟨j.val / 64, by omega⟩ (ix3 0 ⟨R.val % 128, by omega⟩ ⟨j.val % 64, by omega⟩) := by
  refine View.canon_apply_of_pieces (fun y : S1x512x512.Idx =>
      have h1 : (y 1).val < 512 := (y 1).isLt
      have h2 : (y 2).val < 512 := (y 2).isLt
      v ⟨(y 1).val / 128, by omega⟩ ⟨(y 2).val / 64, by omega⟩ (ix3 0 ⟨(y 1).val % 128, by omega⟩ ⟨(y 2).val % 64, by omega⟩)) _ ?_
    (ix3 0 R j) (cover_out v _)
  intro p hp y
  obtain ⟨sb, g, rfl⟩ := stored v p hp
  obtain ⟨a, w, d, rfl⟩ : ∃ (a : Fin 1) (w : Fin 128) (d : Fin 64), y = ix3 a w d :=
    ⟨y 0, y 1, y 2, by funext ax; match ax with | ⟨0, _⟩ => rfl | ⟨1, _⟩ => rfl | ⟨2, _⟩ => rfl⟩
  obtain rfl : a = 0 := Subsingleton.elim _ _
  have e1 : (((rq sb g).emb (ix3 0 w d) 1 : Fin _) : ℕ) = 128 * sb.val + w.val :=
    Rect.idx_unit_val (s := S1x512x512) ![0, 128 * sb.val, 64 * g.val] S1x128x64.size (inb_q sb g) (ix3 0 w d) 1
  have e2 : (((rq sb g).emb (ix3 0 w d) 2 : Fin _) : ℕ) = 64 * g.val + d.val :=
    Rect.idx_unit_val (s := S1x512x512) ![0, 128 * sb.val, 64 * g.val] S1x128x64.size (inb_q sb g) (ix3 0 w d) 2
  have hs : (⟨(((rq sb g).emb (ix3 0 w d) 1 : Fin _) : ℕ) / 128, by rw [e1]; omega⟩ : Fin 4) = sb := Fin.ext (by
    show _ / 128 = _; rw [e1]; omega)
  have hg : (⟨(((rq sb g).emb (ix3 0 w d) 2 : Fin _) : ℕ) / 64, by rw [e2]; omega⟩ : Fin 8) = g := Fin.ext (by
    show _ / 64 = _; rw [e2]; omega)
  show v sb g _ = v ⟨(((rq sb g).emb (ix3 0 w d) 1 : Fin _) : ℕ) / 128, _⟩ ⟨(((rq sb g).emb (ix3 0 w d) 2 : Fin _) : ℕ) / 64, _⟩ _
  rw [hs, hg]
  refine congrArg (v sb g) (funext fun ax => Fin.ext ?_)
  match ax with
  | ⟨0, _⟩ => rfl
  | ⟨1, _⟩ =>
    show w.val = (((rq sb g).emb (ix3 0 w d) 1 : Fin _) : ℕ) % 128
    rw [e1]; omega
  | ⟨2, _⟩ =>
    show d.val = (((rq sb g).emb (ix3 0 w d) 2 : Fin _) : ℕ) % 64
    rw [e2]; omega

/-! ## A stored block holds the layer's results -/

/-- What a grid point of query tile `i` stores, of the attention and of the logarithms, is the layer's. -/
theorem block_layer {sp : ℕ} (st : ℕ) (Q : Fin sp → Fin 1024 → ℝ) (KV : Fin sp → Fin 256 → ℝ) (SL : Fin 16 → ℝ) (a : Fin 2) (i : ℕ)
    (hi : i * 512 + 512 ≤ sp) (x1 : Vec Ideal S1x512x512 .bf16) (kw : Fin 4 → Vec Ideal S1x256x128 .bf16)
    (bl : Fin 4 → Vec Ideal S1x1024x256 .f32) (v : Fin 8 → EReal)
    (hq : ∀ R j : Fin 512, x1 (ix3 0 R j) = (Q ⟨i * 512 + R.val, by omega⟩ ⟨a.val * 512 + j.val, by omega⟩ : EReal))
    (hkv : ∀ (sb : Fin 4) (e : Fin 256) (x : Fin 128), kw sb (ix3 0 e x)
      = (KV ⟨512 * i + 128 * sb.val - 128 + e.val, by omega⟩ ⟨a.val * 128 + x.val, by omega⟩ : EReal))
    (hbl : ∀ (sb : Fin 4) r e, bl sb (ix3 0 r e) = pageAt st (if i = 0 ∧ sb.val = 0 then 0 else 128) v r e)
    (hv : ∀ g : Fin 8, v g = (SL ⟨a.val * 8 + g.val, by omega⟩ : EReal)) (R j : Fin 512) :
    View.canon (pieces fun sb => headRows (k0_pay24 (k0_pay13 (kw sb)) (k0_pay14 (View.ld x1 (rq sb 0))) (k0_pay15 (View.ld x1 (rq sb 1)))
        (k0_pay16 (View.ld x1 (rq sb 2))) (k0_pay17 (View.ld x1 (rq sb 3))) (k0_pay18 (View.ld x1 (rq sb 4)))
        (k0_pay19 (View.ld x1 (rq sb 5))) (View.ld x1 (rq sb 6)) (View.ld x1 (rq sb 7)) (bl sb))) (ix3 0 R j)
      = ((layer st Q KV SL a ⟨j.val / 64, by omega⟩ ⟨i * 512 + R.val, by omega⟩ ⟨j.val % 64, by omega⟩ : ℝ) : EReal)
    ∧ View.canon (pieces fun sb => logRows (k0_pay25 (k0_pay13 (kw sb)) (k0_pay14 (View.ld x1 (rq sb 0))) (k0_pay15 (View.ld x1 (rq sb 1)))
        (k0_pay16 (View.ld x1 (rq sb 2))) (k0_pay17 (View.ld x1 (rq sb 3))) (k0_pay18 (View.ld x1 (rq sb 4)))
        (k0_pay19 (View.ld x1 (rq sb 5))) (View.ld x1 (rq sb 6)) (View.ld x1 (rq sb 7)) (bl sb))) (ix3 0 R j)
      = ((layerLog st Q KV SL a ⟨j.val / 64, by omega⟩ ⟨i * 512 + R.val, by omega⟩ : ℝ) : EReal) := by
  rw [block_at, block_at]
  obtain ⟨sb, hsb⟩ : ∃ sb : Fin 4, sb = ⟨R.val / 128, by omega⟩ := ⟨_, rfl⟩
  obtain ⟨r, hr⟩ : ∃ r : Fin 1024, r = ⟨128 * (j.val / 64) + R.val % 128, by omega⟩ := ⟨_, rfl⟩
  have hsv : sb.val = R.val / 128 := congrArg Fin.val hsb
  have hrv : r.val = 128 * (j.val / 64) + R.val % 128 := congrArg Fin.val hr
  have e1 : (⟨r.val / 128, by omega⟩ : Fin 8) = ⟨j.val / 64, by omega⟩ := Fin.ext (by show r.val / 128 = j.val / 64; omega)
  have row := row_layer st Q KV SL (fun g => View.ld x1 (rq sb g)) (kw sb) (bl sb) v r ⟨j.val % 64, by omega⟩ a ⟨i * 512 + R.val, by omega⟩
    (512 * i + 128 * sb.val - 128) (if i = 0 ∧ sb.val = 0 then 0 else 128) (by omega)
    (by show i * 512 + R.val = _; split <;> omega)
    (by split
        · exact Or.inr ⟨rfl, by omega⟩
        · exact Or.inl rfl)
    (fun x => by
      refine (View.ld_unit_apply_of _ _ _ _ _ (ix3 0 ⟨128 * sb.val + r.val % 128, by omega⟩ ⟨64 * (r.val / 128) + x.val, by omega⟩) fun a => ?_).trans ?_
      · match a with
        | ⟨0, _⟩ => rfl
        | ⟨1, _⟩ => rfl
        | ⟨2, _⟩ => rfl
      · rw [hq]
        have hT : (⟨i * 512 + (128 * sb.val + r.val % 128), by omega⟩ : Fin sp) = ⟨i * 512 + R.val, by omega⟩ :=
          Fin.ext (by show i * 512 + (128 * sb.val + r.val % 128) = i * 512 + R.val; omega)
        have hj : (⟨a.val * 512 + (64 * (r.val / 128) + x.val), by omega⟩ : Fin 1024) = ⟨a.val * 512 + r.val / 128 * 64 + x.val, by omega⟩ :=
          Fin.ext (by show a.val * 512 + (64 * (r.val / 128) + x.val) = a.val * 512 + r.val / 128 * 64 + x.val; omega)
        exact congrArg₂ (fun T e => ((Q T e : ℝ) : EReal)) hT hj)
    (fun c x => hkv sb c x) (fun c => hbl sb r c) (hv _)
  rw [e1] at row
  subst hsb
  constructor
  · refine (headRows_at _ _ _ _).trans ?_
    simp only [← hr]
    exact (tile_at (fun g => View.ld x1 (rq ⟨R.val / 128, by omega⟩ g)) r _ _ _).trans row.1
  · refine (logRows_at _ _ _ _).trans ?_
    simp only [← hr]
    exact (log_at (fun g => View.ld x1 (rq ⟨R.val / 128, by omega⟩ g)) r _ _).trans row.2

/-- Column `j` of head group `k` is column `k * 512 + j` of a class. -/
theorem group_column {sp : ℕ} (st : ℕ) (Q : Fin sp → Fin 1024 → ℝ) (KV : Fin sp → Fin 256 → ℝ) (SL : Fin 16 → ℝ) (k : Fin 2) (j : Fin 512)
    (T : Fin sp) :
    layer st Q KV SL k ⟨j.val / 64, by omega⟩ T ⟨j.val % 64, by omega⟩
      = layer st Q KV SL ⟨(k.val * 512 + j.val) / 512, by omega⟩ ⟨(k.val * 512 + j.val) / 64 % 8, by omega⟩ T
          ⟨(k.val * 512 + j.val) % 64, by omega⟩
    ∧ layerLog st Q KV SL k ⟨j.val / 64, by omega⟩ T
      = layerLog st Q KV SL ⟨(k.val * 512 + j.val) / 512, by omega⟩ ⟨(k.val * 512 + j.val) / 64 % 8, by omega⟩ T := by
  have e1 : (⟨j.val / 64, by omega⟩ : Fin 8) = ⟨(k.val * 512 + j.val) / 64 % 8, by omega⟩ :=
    Fin.ext (by show j.val / 64 = (k.val * 512 + j.val) / 64 % 8; omega)
  have e2 : k = ⟨(k.val * 512 + j.val) / 512, by omega⟩ :=
    Fin.ext (by show k.val = (k.val * 512 + j.val) / 512; omega)
  have e4 : (⟨j.val % 64, by omega⟩ : Fin 64) = ⟨(k.val * 512 + j.val) % 64, by omega⟩ :=
    Fin.ext (by show j.val % 64 = (k.val * 512 + j.val) % 64; omega)
  rw [← e1, ← e2, ← e4]
  exact ⟨rfl, rfl⟩

end Cert.BandC1Ideal.Val

end
-- ==== Proof.V.C1Ref.lean ====
module

public import proofs.«01_k».proof.Proof.Gen.BandC1RefIdeal.Read
public import proofs.«01_k».proof.Proof.V.Dil
public import Idealize.ShloMosaic.Lib.Pointwise
public import Idealize.ShloMosaic.Lib.Pipeline.ValueKit

@[expose] public section

set_option maxRecDepth 16384

noncomputable section

namespace Cert.BandC1RefIdeal.Val

open Cert.BandC1RefIdeal Cert.BandC1RefIdeal.Gen Cert.BandC1RefIdeal.Read Cert.Dil
open Cert.Row (least)
open Idealize.ShloMosaic Idealize.ShloMosaic.TcCoe Idealize.ShloMosaic.Pointwise

variable (x0 : FVec Ideal S2x8192x1024 .bf16) (x1 : FVec Ideal S2x8192x256 .bf16) (x2 : FVec Ideal S16 .f32)

/-! ## The residue classes -/

theorem queries_at (n : Fin 2) (T : Fin 8192) (j : Fin 1024) : val_main_v3 (F := Ideal) x0 (ix3 n T j) = x0 (ix3 n T j) := by
  pointwise [val_main_v3, val_main_v2, val_main_v1, val_main_v0]

theorem keys_at (n : Fin 2) (T : Fin 8192) (j : Fin 256) : val_main_v7 (F := Ideal) x1 (ix3 n T j) = x1 (ix3 n T j) := by
  pointwise [val_main_v7, val_main_v6, val_main_v5, val_main_v4]

theorem result_class (n : Fin 2) (T : Fin 8192) (j : Fin 1024) :
    val_main_v64 (F := Ideal) x0 x1 x2 (ix3 n T j) = val_main_v61 (F := Ideal) x0 x1 x2 (ix3 n T j) := by
  unfold val_main_v64 val_main_v63 val_main_v62
  generalize val_main_v61 (F := Ideal) x0 x1 x2 = y
  pointwise []

theorem log_class (n : Fin 2) (T : Fin 8192) (j : Fin 1024) :
    val_main_v68 (F := Ideal) x0 x1 x2 (ix3 n T j) = val_main_v65 (F := Ideal) x0 x1 x2 (ix3 n T j) := by
  unfold val_main_v68 val_main_v67 val_main_v66
  generalize val_main_v65 (F := Ideal) x0 x1 x2 = y
  pointwise []

/-! ## One residue class -/

/-- The masked scores: in the band the product less slope times distance, outside it the mask's number. -/
theorem scores_at (n a : Fin 2) (b : Fin 8) (T l : Fin 8192) :
    val_main_v39 (F := Ideal) x0 x1 x2 (ix5 n a b T l)
    = if l.val ≤ T.val ∧ T.val ≤ l.val + 128 then
        (∑ x : Fin 64, val_main_v7 (F := Ideal) x1 (ix3 n l ⟨a.val * 128 + x.val, by omega⟩)
            * val_main_v3 (F := Ideal) x0 (ix3 n T ⟨a.val * 512 + b.val * 64 + x.val, by omega⟩))
          - x2 (ix1 ⟨a.val * 8 + b.val, by omega⟩) * ((((T.val : ℝ) - l.val) * (1 : ℕ) : ℝ) : EReal)
      else Ideal.ofBits .f32 0xF149F2CA#32 := by
  rw [← gap_real 1 (by decide) T.val l.val (by omega) (by omega), ← band_select 1 (by decide) (by decide) T.val l.val (by omega) (by omega)]
  pointwise [val_main_v39, val_main_call0_v0, val_main_call0_v1, val_main_call0_v2, val_main_cst, val_main_v8, val_main_v9, val_main_v10,
    val_main_v11, val_main_v14, val_main_v15, val_main_v16, val_main_v17, val_main_v18, val_main_v19, val_main_c, val_main_v20,
    val_main_v21, val_main_c_0, val_main_v22, val_main_v23, val_main_c_1, val_main_v24, val_main_v25, val_main_v26, val_main_v27,
    val_main_v28, val_main_v29, val_main_v30, val_main_v31, val_main_v32, val_main_v33, val_main_v34, val_main_v35, val_main_v36,
    val_main_v37, val_main_v38]
  rfl

theorem rowmax_at (n a : Fin 2) (b : Fin 8) (T : Fin 8192) : val_main_v40 (F := Ideal) x0 x1 x2 (ix4 n a b T)
    = Finset.univ.fold max (⊥ : EReal) (fun l : Fin 8192 => val_main_v39 (F := Ideal) x0 x1 x2 (ix5 n a b T l)) := by
  rw [← least]
  unfold val_main_v40
  generalize val_main_v39 (F := Ideal) x0 x1 x2 = y
  refine (Host.reduce_eq_fold_single (FloatOps.maximumf (F := Ideal) (φ := .f32)) y (val_main_cst_2 (F := Ideal))
    reducesTo_S2x2x8x8192x8192_S2x2x8x8192_d4 (by decide) h_S_ (ix4 n a b T)).trans ?_
  have e : y ∘ Shape.Reduces.lift (by decide : S2x2x8x8192x8192.Reduces [4] S2x2x8x8192) (ix4 n a b T)
      = fun l : Fin 8192 => y (ix5 n a b T l) := by
    funext l
    refine congrArg y (funext fun ax => Fin.ext ?_)
    match ax with
    | ⟨0, _⟩ => rfl
    | ⟨1, _⟩ => rfl
    | ⟨2, _⟩ => rfl
    | ⟨3, _⟩ => rfl
    | ⟨4, _⟩ => rfl
  rw [e]
  rfl

/-- The largest score of a row. -/
theorem top_at (n a : Fin 2) (b : Fin 8) (T : Fin 8192) : val_main_v41 (F := Ideal) x0 x1 x2 (ix5 n a b T 0)
    = Finset.univ.fold max (⊥ : EReal) (fun l : Fin 8192 => val_main_v39 (F := Ideal) x0 x1 x2 (ix5 n a b T l)) := by
  rw [← rowmax_at]
  unfold val_main_v41
  generalize val_main_v40 (F := Ideal) x0 x1 x2 = y
  pointwise []

/-- The weights: exponentials in the band, zero outside it. -/
theorem weights_at (n a : Fin 2) (b : Fin 8) (T l : Fin 8192) : val_main_v45 (F := Ideal) x0 x1 x2 (ix5 n a b T l)
    = if l.val ≤ T.val ∧ T.val ≤ l.val + 128 then
        Ideal.exp (val_main_v39 (F := Ideal) x0 x1 x2 (ix5 n a b T l) - val_main_v41 (F := Ideal) x0 x1 x2 (ix5 n a b T 0))
      else 0 := by
  rw [← band_select 1 (by decide) (by decide) T.val l.val (by omega) (by omega),
    show (0 : EReal) = id (constant (F := Ideal) S_ .f32 0#32) ix0 from Ideal.ofBits_zero_f32.symm]
  pointwise [val_main_v45, val_main_call1_v0, val_main_call1_v1, val_main_call1_v2, val_main_cst_3, val_main_v14, val_main_v15,
    val_main_v16, val_main_v17, val_main_v18, val_main_v19, val_main_c, val_main_v20, val_main_v21, val_main_c_0, val_main_v22,
    val_main_v23, val_main_c_1, val_main_v24, val_main_v25, val_main_v26, val_main_v44, val_main_v43, val_main_v42]

theorem total_at (n a : Fin 2) (b : Fin 8) (T : Fin 8192) : val_main_v47 (F := Ideal) x0 x1 x2 (ix5 n a b T 0)
    = ∑ l : Fin 8192, val_main_v45 (F := Ideal) x0 x1 x2 (ix5 n a b T l) := by
  unfold val_main_v47 val_main_v46
  generalize val_main_v45 (F := Ideal) x0 x1 x2 = z
  pointwise [val_main_cst_4]

/-- The row's total, put to one if it is not positive. -/
theorem safe_at (n a : Fin 2) (b : Fin 8) (T : Fin 8192) : val_main_v50 (F := Ideal) x0 x1 x2 (ix5 n a b T 0)
    = if 0 < val_main_v47 (F := Ideal) x0 x1 x2 (ix5 n a b T 0) then val_main_v47 (F := Ideal) x0 x1 x2 (ix5 n a b T 0)
      else id (constant (F := Ideal) S_ .f32 0x3F800000#32) ix0 := by
  unfold val_main_v50 val_main_v49
  generalize val_main_v47 (F := Ideal) x0 x1 x2 = z
  pointwise [val_main_v48, val_main_cst_5, val_main_cst_6, val_main_call2_v0, val_main_call2_v1]

/-- The result: the values under the weights, each over the total. -/
theorem result_at (n : Fin 2) (T : Fin 8192) (j : Fin 1024) : val_main_v61 (F := Ideal) x0 x1 x2 (ix3 n T j)
    = ∑ l : Fin 8192, val_main_v7 (F := Ideal) x1 (ix3 n l ⟨j.val / 512 * 128 + 64 + j.val % 64, by omega⟩)
        * Ideal.div (val_main_v45 (F := Ideal) x0 x1 x2 (ix5 n ⟨j.val / 512, by omega⟩ ⟨j.val / 64 % 8, by omega⟩ T l))
          (val_main_v50 (F := Ideal) x0 x1 x2 (ix5 n ⟨j.val / 512, by omega⟩ ⟨j.val / 64 % 8, by omega⟩ T 0)) := by
  unfold val_main_v61 val_main_v58 val_main_v57 val_main_v52 val_main_v51 val_main_v13 val_main_v12 val_main_v9
  generalize val_main_v45 (F := Ideal) x0 x1 x2 = w
  generalize val_main_v50 (F := Ideal) x0 x1 x2 = z
  generalize val_main_v7 (F := Ideal) x1 = v
  pointwise []

/-- A column of one number per row, spread over the heads' widths. -/
theorem spread_at (n : Fin 2) (T : Fin 8192) (j : Fin 1024) : val_main_v65 (F := Ideal) x0 x1 x2 (ix3 n T j)
    = val_main_v55 (F := Ideal) x0 x1 x2 (ix4 n ⟨j.val / 512, by omega⟩ ⟨j.val / 64 % 8, by omega⟩ T) := by
  unfold val_main_v65 val_main_v60 val_main_v59 val_main_v56
  generalize val_main_v55 (F := Ideal) x0 x1 x2 = w
  pointwise []

theorem column_at (n a : Fin 2) (b : Fin 8) (T : Fin 8192) : val_main_v55 (F := Ideal) x0 x1 x2 (ix4 n a b T)
    = val_main_v54 (F := Ideal) x0 x1 x2 (ix5 n a b T 0) := by
  rw [val_main_v55_apply]
  generalize val_main_v54 (F := Ideal) x0 x1 x2 = w
  refine congrArg w (funext fun ax => Fin.ext ?_)
  match ax with
  | ⟨0, _⟩ => show (((n.val * 2 + a.val) * 8 + b.val) * 8192 + T.val) / 131072 = n.val; omega
  | ⟨1, _⟩ => show (((n.val * 2 + a.val) * 8 + b.val) * 8192 + T.val) / 65536 % 2 = a.val; omega
  | ⟨2, _⟩ => show (((n.val * 2 + a.val) * 8 + b.val) * 8192 + T.val) / 8192 % 8 = b.val; omega
  | ⟨3, _⟩ => show (((n.val * 2 + a.val) * 8 + b.val) * 8192 + T.val) / 1 % 8192 = T.val; omega
  | ⟨4, _⟩ => rfl

theorem log_at (n : Fin 2) (T : Fin 8192) (j : Fin 1024) : val_main_v65 (F := Ideal) x0 x1 x2 (ix3 n T j)
    = val_main_v41 (F := Ideal) x0 x1 x2 (ix5 n ⟨j.val / 512, by omega⟩ ⟨j.val / 64 % 8, by omega⟩ T 0)
      + Ideal.log (val_main_v50 (F := Ideal) x0 x1 x2 (ix5 n ⟨j.val / 512, by omega⟩ ⟨j.val / 64 % 8, by omega⟩ T 0)) := by
  rw [spread_at, column_at, val_main_v54_apply, val_main_v53_apply]
  rfl

/-- Over real arguments each element of a residue class's results is the layer's. -/
theorem class_at (n : Fin 2) (Q : Fin 8192 → Fin 1024 → ℝ) (KV : Fin 8192 → Fin 256 → ℝ) (SL : Fin 16 → ℝ)
    (hQ : ∀ T j, val_main_v3 (F := Ideal) x0 (ix3 n T j) = (Q T j : EReal))
    (hKV : ∀ T j, val_main_v7 (F := Ideal) x1 (ix3 n T j) = (KV T j : EReal))
    (hSL : ∀ h, x2 (ix1 h) = (SL h : EReal)) (T : Fin 8192) (j : Fin 1024) :
    val_main_v61 (F := Ideal) x0 x1 x2 (ix3 n T j)
      = ((layer 1 Q KV SL ⟨j.val / 512, by omega⟩ ⟨j.val / 64 % 8, by omega⟩ T ⟨j.val % 64, by omega⟩ : ℝ) : EReal)
    ∧ val_main_v65 (F := Ideal) x0 x1 x2 (ix3 n T j)
      = ((layerLog 1 Q KV SL ⟨j.val / 512, by omega⟩ ⟨j.val / 64 % 8, by omega⟩ T : ℝ) : EReal) := by
  rw [result_at, log_at, safe_at, top_at]
  exact class_of 1 Q KV SL ⟨j.val / 512, by omega⟩ ⟨j.val / 64 % 8, by omega⟩ T ⟨j.val % 64, by omega⟩
    (fun j => val_main_v3 (F := Ideal) x0 (ix3 n T j)) (fun l j => val_main_v7 (F := Ideal) x1 (ix3 n l j)) (fun h => x2 (ix1 h))
    (fun l => val_main_v39 (F := Ideal) x0 x1 x2 (ix5 n ⟨j.val / 512, by omega⟩ ⟨j.val / 64 % 8, by omega⟩ T l))
    (fun l => val_main_v45 (F := Ideal) x0 x1 x2 (ix5 n ⟨j.val / 512, by omega⟩ ⟨j.val / 64 % 8, by omega⟩ T l)) _ _ (hQ T) hKV hSL
    (fun l => scores_at x0 x1 x2 n _ _ T l) (fun l => by rw [weights_at, top_at]) (total_at x0 x1 x2 n _ _ T)

end Cert.BandC1RefIdeal.Val

end
-- ==== Proof.V.C1Val.lean ====
module

public import proofs.«01_k».proof.Proof.K.C1Frame
public import proofs.«01_k».proof.Proof.V.C1Tile
public import proofs.«01_k».proof.Proof.V.C1Ref

@[expose] public section

set_option maxRecDepth 16384

noncomputable section

namespace Cert.BandC1Ideal.Val

open Cert.BandC1Ideal Cert.BandC1Ideal.Gen Cert.BandC1Ideal.Hand Cert.Row Cert.Dil
open Idealize.ShloMosaic Idealize.ShloMosaic.TcCoe Idealize.ShloMosaic.Pointwise Idealize.SL.Sem
open Idealize.ShloMosaic.Pipeline (Dat)

/-! ## Where the grid's points lie -/

theorem coords_at : ∀ t : Fin cfg0.N, (grid0.coords t 2).val = t.val / 16 % 2 ∧ (grid0.coords t 3).val = t.val % 16 :=
  (by decide +kernel : ∀ t : Fin grid0.N, _)

theorem at_point : ∀ t : Fin cfg0.N, win0_0.index t = ![0]
    ∧ win0_1.index t = ![t.val / 32 % 2, t.val % 16, t.val / 16 % 2] ∧ win0_2.index t = ![t.val / 32 % 2, 0, t.val / 16 % 2]
    ∧ win0_3.index t = ![t.val / 32 % 2, t.val % 16, t.val / 16 % 2] ∧ win0_4.index t = ![t.val / 32 % 2, t.val % 16, t.val / 16 % 2] :=
  (by decide +kernel : ∀ t : Fin grid0.N, _)

/-! ## What the body reads at a grid point -/

variable (m : (ℓ : Loc nD τ sig) → Buf (Elt Ideal) ℓ) (c : Dev nD)
variable (Q : Fin 2 → Fin 8192 → Fin 1024 → ℝ) (KV : Fin 2 → Fin 8192 → Fin 256 → ℝ) (SL : Fin 16 → ℝ)

theorem slopes_blk (t : Fin cfg0.N) (h : Fin 16) : iblk m c 0 t (ix1 h) = m ((c : Thread nD τ).loc main_arg2) (ix1 h) := by
  blk_ext [iblk, V, at_point t]

theorem q_blk (t : Fin cfg0.N) (R j : Fin 512) : iblk m c 1 t (ix3 0 R j)
    = m ((c : Thread nD τ).loc main_arg0) (ix3 ⟨t.val / 32 % 2, by omega⟩ ⟨t.val % 16 * 512 + R.val, by omega⟩ ⟨t.val / 16 % 2 * 512 + j.val, by omega⟩) := by
  blk_ext [iblk, V, at_point t]

theorem kv_blk (t : Fin cfg0.N) (l : Fin 8192) (j : Fin 128) : iblk m c 2 t (ix3 0 l j)
    = m ((c : Thread nD τ).loc main_arg1) (ix3 ⟨t.val / 32 % 2, by omega⟩ l ⟨t.val / 16 % 2 * 128 + j.val, by omega⟩) := by
  blk_ext [iblk, V, at_point t]

/-- The bias a sub-block reads, from the scratch filled at the first point of its head group. -/
theorem held_at (t : Fin cfg0.N) (sb : Fin 4) (r : Fin 1024) (e : Fin 256) :
    View.ld (held m c t.val) (rb (grid0.coords t) sb) (ix3 0 r e)
    = pageAt 1 (if t.val % 16 = 0 ∧ sb.val = 0 then 0 else 128) (word (iblk m c 0 (filler t.val)) (grid0.coords (filler t.val))) r e := by
  have h3 := (coords_at t).2
  by_cases h : t.val % 16 = 0 ∧ sb.val = 0
  · rw [if_pos h]
    exact (read_page _ _ _ 1 ((off3_first (grid0.coords t 3) (by omega) sb (grid0.coords t) rfl).trans (by rw [if_pos h.2]; rfl)) r e).trans
      (bias_at _ _ 1 r e)
  · have ho : k0_off3 (grid0.coords t) (BitVec.ofNat 32 (128 * sb.val)) = ![0, 0, 0] := by
      by_cases h0 : t.val % 16 = 0
      · rw [off3_first (grid0.coords t 3) (by omega) sb (grid0.coords t) rfl, if_neg fun hs => h ⟨h0, hs⟩]
      · exact off3_later (grid0.coords t 3) (by omega) sb (grid0.coords t) rfl
    rw [if_neg h]
    exact (read_page _ _ _ 0 ho r e).trans (bias_at _ _ 0 r e)

/-- The keys and values a sub-block reads. -/
theorem window_at (t : Fin cfg0.N) (sb : Fin 4) (e : Fin 256) (x : Fin 128) :
    View.ld (iblk m c 2 t) (rk (grid0.coords t) sb) (ix3 0 e x)
    = iblk m c 2 t (ix3 0 ⟨512 * (t.val % 16) + 128 * sb.val - 128 + e.val, by omega⟩ x) := by
  have ho := off2_eq (grid0.coords t) sb
  rw [(coords_at t).2] at ho
  refine View.ld_unit_apply_of _ _ _ _ _ _ fun a => ?_
  refine Eq.trans ?_ (congrArg (fun k => k + _) (congrFun ho a).symm)
  match a with
  | ⟨0, _⟩ => rfl
  | ⟨1, _⟩ => rfl
  | ⟨2, _⟩ => exact (Nat.zero_add _).symm

variable (hQ : ∀ n T j, m ((c : Thread nD τ).loc main_arg0) (ix3 n T j) = (Q n T j : EReal))
  (hKV : ∀ n T j, m ((c : Thread nD τ).loc main_arg1) (ix3 n T j) = (KV n T j : EReal))
  (hSL : ∀ h, m ((c : Thread nD τ).loc main_arg2) (ix1 h) = (SL h : EReal))

include hQ hKV hSL

/-- What the body leaves in its blocks is the reference's results there. -/
theorem point (t : Fin cfg0.N) (R j : Fin 512) :
    written m c t (ix3 0 R j)
      = Cert.BandC1RefIdeal.Read.val_main_v64 (F := Ideal) (m ((c : Thread nD τ).loc main_arg0)) (m ((c : Thread nD τ).loc main_arg1))
        (m ((c : Thread nD τ).loc main_arg2))
        (ix3 ⟨t.val / 32 % 2, by omega⟩ ⟨t.val % 16 * 512 + R.val, by omega⟩ ⟨t.val / 16 % 2 * 512 + j.val, by omega⟩)
    ∧ writtenLog m c t (ix3 0 R j)
      = Cert.BandC1RefIdeal.Read.val_main_v68 (F := Ideal) (m ((c : Thread nD τ).loc main_arg0)) (m ((c : Thread nD τ).loc main_arg1))
        (m ((c : Thread nD τ).loc main_arg2))
        (ix3 ⟨t.val / 32 % 2, by omega⟩ ⟨t.val % 16 * 512 + R.val, by omega⟩ ⟨t.val / 16 % 2 * 512 + j.val, by omega⟩) := by
  have hf := (coords_at (filler t.val)).1
  have hfv : (filler t.val).val = 16 * (t.val / 16 % 4) := rfl
  have hr := Cert.BandC1RefIdeal.Val.class_at (m ((c : Thread nD τ).loc main_arg0)) (m ((c : Thread nD τ).loc main_arg1))
    (m ((c : Thread nD τ).loc main_arg2)) ⟨t.val / 32 % 2, by omega⟩ (Q ⟨t.val / 32 % 2, by omega⟩) (KV ⟨t.val / 32 % 2, by omega⟩) SL
    (fun T j => (Cert.BandC1RefIdeal.Val.queries_at _ _ T j).trans (hQ _ T j))
    (fun T j => (Cert.BandC1RefIdeal.Val.keys_at _ _ T j).trans (hKV _ T j)) hSL
    ⟨t.val % 16 * 512 + R.val, by omega⟩ ⟨t.val / 16 % 2 * 512 + j.val, by omega⟩
  have hk := block_layer 1 (Q ⟨t.val / 32 % 2, by omega⟩) (KV ⟨t.val / 32 % 2, by omega⟩) SL ⟨t.val / 16 % 2, by omega⟩ (t.val % 16) (by omega)
    (iblk m c 1 t) (fun sb => View.ld (iblk m c 2 t) (rk (grid0.coords t) sb)) (fun sb => View.ld (held m c t.val) (rb (grid0.coords t) sb))
    (word (iblk m c 0 (filler t.val)) (grid0.coords (filler t.val)))
    (fun R j => (q_blk m c t R j).trans (hQ _ _ _)) (fun sb e x => (window_at m c t sb e x).trans ((kv_blk m c t _ _).trans (hKV _ _ _)))
    (held_at m c t)
    (fun g => (word_at _ _ g).trans ((slopes_blk m c _ _).trans ((hSL _).trans (congrArg (fun e => ((SL e : ℝ) : EReal)) (Fin.ext (by
      show (grid0.coords (filler t.val) 2).val * 8 + g.val = t.val / 16 % 2 * 8 + g.val
      omega)))))) R j
  rw [Cert.BandC1RefIdeal.Val.result_class, Cert.BandC1RefIdeal.Val.log_class, hr.1, hr.2]
  have e1 : (⟨j.val / 64, by omega⟩ : Fin 8) = ⟨(t.val / 16 % 2 * 512 + j.val) / 64 % 8, by omega⟩ :=
    Fin.ext (by show j.val / 64 = (t.val / 16 % 2 * 512 + j.val) / 64 % 8; omega)
  have e2 : (⟨t.val / 16 % 2, by omega⟩ : Fin 2) = ⟨(t.val / 16 % 2 * 512 + j.val) / 512, by omega⟩ :=
    Fin.ext (by show t.val / 16 % 2 = (t.val / 16 % 2 * 512 + j.val) / 512; omega)
  have e4 : (⟨j.val % 64, by omega⟩ : Fin 64) = ⟨(t.val / 16 % 2 * 512 + j.val) % 64, by omega⟩ :=
    Fin.ext (by show j.val % 64 = (t.val / 16 % 2 * 512 + j.val) % 64; omega)
  rw [← e1, ← e2, ← e4]
  exact hk

/-- The whole array of results after the run. -/
theorem final3 : (dats m 0 c).arrAt 3 cfg0.N
    = Cert.BandC1RefIdeal.Read.val_main_v64 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after3]
  obtain ⟨a, R, j, rfl⟩ : ∃ (a : Fin 1) (R : Fin 512) (j : Fin 512), y = ix3 a R j :=
    ⟨y 0, y 1, y 2, by funext ax; match ax with | ⟨0, _⟩ => rfl | ⟨1, _⟩ => rfl | ⟨2, _⟩ => rfl⟩
  obtain rfl : a = 0 := Subsingleton.elim _ _
  refine (point m c Q KV SL hQ hKV hSL t R j).1.trans (congrArg _ (Eq.symm ?_))
  blk_ext [at_point t]

/-- The whole array of logarithms after the run. -/
theorem final4 : (dats m 0 c).arrAt 4 cfg0.N
    = Cert.BandC1RefIdeal.Read.val_main_v68 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after4]
  obtain ⟨a, R, j, rfl⟩ : ∃ (a : Fin 1) (R : Fin 512) (j : Fin 512), y = ix3 a R j :=
    ⟨y 0, y 1, y 2, by funext ax; match ax with | ⟨0, _⟩ => rfl | ⟨1, _⟩ => rfl | ⟨2, _⟩ => rfl⟩
  obtain rfl : a = 0 := Subsingleton.elim _ _
  refine (point m c Q KV SL hQ hKV hSL t R j).2.trans (congrArg _ (Eq.symm ?_))
  blk_ext [at_point t]

end Cert.BandC1Ideal.Val

end
-- ==== Proof.V.C1Alg.lean ====
module

public import proofs.«01_k».proof.Defs
public import proofs.«01_k».proof.Proof.V.C1Val
public import proofs.«01_k».proof.Proof.V.BAlg
public import proofs.«01_k».proof.Proof.V.ProjCAlg
public import proofs.«01_k».proof.Proof.Gen.BandC1RefIdeal.Run
public import proofs.«01_k».proof.Proof.Gen.Pre_finite_c1
public import Idealize.ShloMosaic.Lib.Claim
public import Idealize.ShloMosaic.Lib.ReduceAll

@[expose] public section

set_option maxRecDepth 16384

noncomputable section

namespace Cert.BandC1RefIdeal.Named

open Cert.BandC1RefIdeal Cert.BandC1RefIdeal.Read
open Idealize.ShloMosaic Idealize.ShloMosaic.TcCoe Idealize.SL.Sem

/-- The reference's run, each result named by its stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = val_main_v64 (F := Ideal) (m ((c.tc : Thread nD τ).loc main_arg0)) (m ((c.tc : Thread nD τ).loc main_arg1))
          (m ((c.tc : Thread nD τ).loc main_arg2))
      ∧ r.2.mem ((c.tc : Thread nD τ).loc main_v68) = val_main_v68 (F := Ideal) (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, ha⟩ := h c
    exact ⟨h0.trans (val_main_v64_eq _ _), h1.trans (val_main_v68_eq _ _), ha⟩) (Cert.BandC1RefIdeal.Value.run m ρ)

end Cert.BandC1RefIdeal.Named

namespace Cert.BandC1Ideal.Val

open Idealize.ShloMosaic Idealize.ShloMosaic.TcCoe Idealize.ShloMosaic.Pointwise Idealize.SL.Sem
open Cert.BandedIdeal.Val (real_of_abs)
open Cert.ProjCIdeal.Val (same_args)

/-- Reading the precondition: every element is a real number. -/
theorem all_real (x0 : FVec Ideal Cert.Pre_finite_c1.S2x8192x1024 .bf16) (x1 : FVec Ideal Cert.Pre_finite_c1.S2x8192x256 .bf16)
    (x2 : FVec Ideal Cert.Pre_finite_c1.S16 .f32) (h : Cert.Pre_finite_c1.fn (F := Ideal) x0 x1 x2 = fun _ => 1#1) :
    (∀ i, ∃ x : ℝ, x0 i = (x : EReal)) ∧ (∀ i, ∃ x : ℝ, x1 i = (x : EReal)) ∧ (∀ i, ∃ x : ℝ, x2 i = (x : EReal)) := by
  obtain ⟨hA, h2⟩ := IntOp.andi_eq_one.1 (congrFun h fun a => a.elim0)
  obtain ⟨h0, h1⟩ := IntOp.andi_eq_one.1 hA
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i)⟩

set_option maxHeartbeats 4000000 in
/-- The kernel and the reference end with the same result arrays, the arguments being finite. -/
theorem same_results : Cert.algebraic_BandC1Ideal_BandC1RefIdeal_pre_finite_c1 := by
  pair_intro
  · run_from Cert.BandC1Ideal.Hand.run_main m g
  · refine (θ_run _ _ _).mono (fun r h c => ?_) (Cert.BandC1RefIdeal.Named.run m' g')
    obtain ⟨a0, a1, a2⟩ := hagree c
    obtain ⟨r0, r1, r2⟩ := all_real _ _ _ (hpre c)
    choose Q hQ using r0
    choose KV hKV using r1
    choose SL hSL using r2
    obtain ⟨h0, h1, ha⟩ := h c
    have f3 := final3 m c (fun n T j => Q (ix3 n T j)) (fun n T j => KV (ix3 n T j)) (fun h => SL (ix1 h))
      (fun _ _ _ => hQ _) (fun _ _ _ => hKV _) (fun _ => hSL _)
    have f4 := final4 m c (fun n T j => Q (ix3 n T j)) (fun n T j => KV (ix3 n T j)) (fun h => SL (ix1 h))
      (fun _ _ _ => hQ _) (fun _ _ _ => hKV _) (fun _ => hSL _)
    exact ⟨h0.trans ((same_args (Cert.BandC1RefIdeal.Read.val_main_v64 (F := Ideal)) a0 a1 a2).trans f3.symm),
      h1.trans ((same_args (Cert.BandC1RefIdeal.Read.val_main_v68 (F := Ideal)) a0 a1 a2).trans f4.symm), ha⟩

end Cert.BandC1Ideal.Val

end
-- ==== Proof.V.C4Tile.lean ====
module

public import proofs.«01_k».proof.Proof.K.C4Out
public import proofs.«01_k».proof.Proof.V.C1Tile

@[expose] public section

set_option maxRecDepth 16384

noncomputable section

namespace Cert.BandC4Ideal.Val

open Cert.BandC4Ideal Cert.BandC4Ideal.Gen Cert.BandC4Ideal.Hand Cert.Row Cert.Dil
open Cert.BandedIdeal.Val (head_select)
open Cert.BandC1Ideal.Val (pages_at)
open Idealize.ShloMosaic Idealize.ShloMosaic.TcCoe Idealize.ShloMosaic.Pointwise

/-! ## The pages of the bias -/

/-- Head `g`'s word is the table's, at the group's eight entries. -/
theorem word_at (x : Vec Ideal S16 .f32) (i : grid0.Coords) (g : Fin 8) :
    word x i g = x (ix1 ⟨(i 2).val * 8 + g.val, by have h : (i 2).val < 2 := (i 2).isLt; omega⟩) := by
  have h : ∀ a : Fin 2, ∀ g : Fin 8, (let w : BitVec 32 := Scalar.addi (Scalar.muli (BitVec.ofNat 32 a.val) 8#32) (BitVec.ofNat 32 g.val)
       (Scalar.indexCast w).toNat) = a.val * 8 + g.val := by decide +kernel
  unfold word
  refine View.ld_unit_apply_of x _ _ _ _ _ fun a => ?_
  match a with
  | ⟨0, _⟩ => exact (h (i 2) g).symm

/-- The mask's name stands for minus infinity. -/
theorem mask_least : Named.named (F := Ideal) (φ := .f32) κ "mask" 0xF149F2CA#32 = (⊥ : EReal) :=
  IdealRules.named_const.ideal_named_scalar _ _ _ _ rfl

theorem page0_at (x : Vec Ideal S16 .f32) (i : grid0.Coords) (r : Fin 1024) (c : Fin 256) :
    page0 x i (ix3 0 r c) = pageAt 4 128 (word x i) r c := by
  rw [← page_of 4 (by decide) (by decide) 128 (by omega) (word x i) r c _ _ (head_select (word x i) r) mask_least]
  pointwise [page0, k0_pay10, k0_pay9, k0_pay8, k0_pay7, k0_pay6, k0_pay5, lanes]

theorem page1_at (x : Vec Ideal S16 .f32) (i : grid0.Coords) (r : Fin 1024) (c : Fin 256) :
    page1 x i (ix3 0 r c) = pageAt 4 0 (word x i) r c := by
  rw [← page_of 4 (by decide) (by decide) 0 (by omega) (word x i) r c _ _ (head_select (word x i) r) mask_least]
  pointwise [page1, k0_pay12, k0_pay11, k0_pay9, k0_pay8, k0_pay7, k0_pay6, k0_pay5, lanes]

/-- The filled scratch at any of its places. -/
theorem bias_at (x : Vec Ideal S16 .f32) (i : grid0.Coords) (p : Fin 2) (r : Fin 1024) (c : Fin 256) :
    bias x i (ix3 p r c) = pageAt 4 (if p.val = 0 then 128 else 0) (word x i) r c :=
  pages_at 4 (word x i) _ _ (page0_at x i) (page1_at x i) p r c

end Cert.BandC4Ideal.Val

end
-- ==== Proof.V.C4Ref.lean ====
module

public import proofs.«01_k».proof.Proof.Gen.BandC4RefIdeal.Read
public import proofs.«01_k».proof.Proof.V.Dil
public import Idealize.ShloMosaic.Lib.Pointwise
public import Idealize.ShloMosaic.Lib.Pipeline.ValueKit

@[expose] public section

set_option maxRecDepth 16384

noncomputable section

namespace Cert.BandC4RefIdeal.Val

open Cert.BandC4RefIdeal Cert.BandC4RefIdeal.Gen Cert.BandC4RefIdeal.Read Cert.Dil
open Cert.Row (least)
open Idealize.ShloMosaic Idealize.ShloMosaic.TcCoe Idealize.ShloMosaic.Pointwise

variable (x0 : FVec Ideal S2x2048x4096 .bf16) (x1 : FVec Ideal S2x2048x1024 .bf16) (x2 : FVec Ideal S16 .f32)

/-! ## The residue classes -/

theorem queries_at (n : Fin 2) (r : Fin 4) (T : Fin 2048) (j : Fin 1024) : val_main_v3 (F := Ideal) x0 (ix3 ⟨n.val * 4 + r.val, by omega⟩ T j)
    = x0 (ix3 n T ⟨r.val * 1024 + j.val, by omega⟩) := by
  pointwise [val_main_v3, val_main_v2, val_main_v1, val_main_v0]

theorem keys_at (n : Fin 2) (r : Fin 4) (T : Fin 2048) (j : Fin 256) : val_main_v7 (F := Ideal) x1 (ix3 ⟨n.val * 4 + r.val, by omega⟩ T j)
    = x1 (ix3 n T ⟨r.val * 256 + j.val, by omega⟩) := by
  pointwise [val_main_v7, val_main_v6, val_main_v5, val_main_v4]

theorem result_class (n : Fin 2) (r : Fin 4) (T : Fin 2048) (j : Fin 1024) :
    val_main_v64 (F := Ideal) x0 x1 x2 (ix3 n T ⟨r.val * 1024 + j.val, by omega⟩)
      = val_main_v61 (F := Ideal) x0 x1 x2 (ix3 ⟨n.val * 4 + r.val, by omega⟩ T j) := by
  unfold val_main_v64 val_main_v63 val_main_v62
  generalize val_main_v61 (F := Ideal) x0 x1 x2 = y
  pointwise []

theorem log_class (n : Fin 2) (r : Fin 4) (T : Fin 2048) (j : Fin 1024) :
    val_main_v68 (F := Ideal) x0 x1 x2 (ix3 n T ⟨r.val * 1024 + j.val, by omega⟩)
      = val_main_v65 (F := Ideal) x0 x1 x2 (ix3 ⟨n.val * 4 + r.val, by omega⟩ T j) := by
  unfold val_main_v68 val_main_v67 val_main_v66
  generalize val_main_v65 (F := Ideal) x0 x1 x2 = y
  pointwise []

/-! ## One residue class -/

/-- The masked scores: in the band the product less slope times distance, outside it the mask's number. -/
theorem scores_at (n : Fin 8) (a : Fin 2) (b : Fin 8) (T l : Fin 2048) :
    val_main_v39 (F := Ideal) x0 x1 x2 (ix5 n a b T l)
    = if l.val ≤ T.val ∧ T.val ≤ l.val + 128 then
        (∑ x : Fin 64, val_main_v7 (F := Ideal) x1 (ix3 n l ⟨a.val * 128 + x.val, by omega⟩)
            * val_main_v3 (F := Ideal) x0 (ix3 n T ⟨a.val * 512 + b.val * 64 + x.val, by omega⟩))
          - x2 (ix1 ⟨a.val * 8 + b.val, by omega⟩) * ((((T.val : ℝ) - l.val) * (4 : ℕ) : ℝ) : EReal)
      else Ideal.ofBits .f32 0xF149F2CA#32 := by
  rw [← gap_real 4 (by decide) T.val l.val (by omega) (by omega), ← band_select 4 (by decide) (by decide) T.val l.val (by omega) (by omega)]
  pointwise [val_main_v39, val_main_call0_v0, val_main_call0_v1, val_main_call0_v2, val_main_cst, val_main_v8, val_main_v9, val_main_v10,
    val_main_v11, val_main_v14, val_main_v15, val_main_v16, val_main_v17, val_main_v18, val_main_v19, val_main_c, val_main_v20,
    val_main_v21, val_main_c_0, val_main_v22, val_main_v23, val_main_c_1, val_main_v24, val_main_v25, val_main_v26, val_main_v27,
    val_main_v28, val_main_v29, val_main_v30, val_main_v31, val_main_v32, val_main_v33, val_main_v34, val_main_v35, val_main_v36,
    val_main_v37, val_main_v38]
  rfl

theorem rowmax_at (n : Fin 8) (a : Fin 2) (b : Fin 8) (T : Fin 2048) : val_main_v40 (F := Ideal) x0 x1 x2 (ix4 n a b T)
    = Finset.univ.fold max (⊥ : EReal) (fun l : Fin 2048 => val_main_v39 (F := Ideal) x0 x1 x2 (ix5 n a b T l)) := by
  rw [← least]
  unfold val_main_v40
  generalize val_main_v39 (F := Ideal) x0 x1 x2 = y
  refine (Host.reduce_eq_fold_single (FloatOps.maximumf (F := Ideal) (φ := .f32)) y (val_main_cst_2 (F := Ideal))
    reducesTo_S8x2x8x2048x2048_S8x2x8x2048_d4 (by decide) h_S_ (ix4 n a b T)).trans ?_
  have e : y ∘ Shape.Reduces.lift (by decide : S8x2x8x2048x2048.Reduces [4] S8x2x8x2048) (ix4 n a b T)
      = fun l : Fin 2048 => y (ix5 n a b T l) := by
    funext l
    refine congrArg y (funext fun ax => Fin.ext ?_)
    match ax with
    | ⟨0, _⟩ => rfl
    | ⟨1, _⟩ => rfl
    | ⟨2, _⟩ => rfl
    | ⟨3, _⟩ => rfl
    | ⟨4, _⟩ => rfl
  rw [e]
  rfl

/-- The largest score of a row. -/
theorem top_at (n : Fin 8) (a : Fin 2) (b : Fin 8) (T : Fin 2048) : val_main_v41 (F := Ideal) x0 x1 x2 (ix5 n a b T 0)
    = Finset.univ.fold max (⊥ : EReal) (fun l : Fin 2048 => val_main_v39 (F := Ideal) x0 x1 x2 (ix5 n a b T l)) := by
  rw [← rowmax_at]
  unfold val_main_v41
  generalize val_main_v40 (F := Ideal) x0 x1 x2 = y
  pointwise []

/-- The weights: exponentials in the band, zero outside it. -/
theorem weights_at (n : Fin 8) (a : Fin 2) (b : Fin 8) (T l : Fin 2048) : val_main_v45 (F := Ideal) x0 x1 x2 (ix5 n a b T l)
    = if l.val ≤ T.val ∧ T.val ≤ l.val + 128 then
        Ideal.exp (val_main_v39 (F := Ideal) x0 x1 x2 (ix5 n a b T l) - val_main_v41 (F := Ideal) x0 x1 x2 (ix5 n a b T 0))
      else 0 := by
  rw [← band_select 4 (by decide) (by decide) T.val l.val (by omega) (by omega),
    show (0 : EReal) = id (constant (F := Ideal) S_ .f32 0#32) ix0 from Ideal.ofBits_zero_f32.symm]
  pointwise [val_main_v45, val_main_call1_v0, val_main_call1_v1, val_main_call1_v2, val_main_cst_3, val_main_v14, val_main_v15,
    val_main_v16, val_main_v17, val_main_v18, val_main_v19, val_main_c, val_main_v20, val_main_v21, val_main_c_0, val_main_v22,
    val_main_v23, val_main_c_1, val_main_v24, val_main_v25, val_main_v26, val_main_v44, val_main_v43, val_main_v42]

theorem total_at (n : Fin 8) (a : Fin 2) (b : Fin 8) (T : Fin 2048) : val_main_v47 (F := Ideal) x0 x1 x2 (ix5 n a b T 0)
    = ∑ l : Fin 2048, val_main_v45 (F := Ideal) x0 x1 x2 (ix5 n a b T l) := by
  unfold val_main_v47 val_main_v46
  generalize val_main_v45 (F := Ideal) x0 x1 x2 = z
  pointwise [val_main_cst_4]

/-- The row's total, put to one if it is not positive. -/
theorem safe_at (n : Fin 8) (a : Fin 2) (b : Fin 8) (T : Fin 2048) : val_main_v50 (F := Ideal) x0 x1 x2 (ix5 n a b T 0)
    = if 0 < val_main_v47 (F := Ideal) x0 x1 x2 (ix5 n a b T 0) then val_main_v47 (F := Ideal) x0 x1 x2 (ix5 n a b T 0)
      else id (constant (F := Ideal) S_ .f32 0x3F800000#32) ix0 := by
  unfold val_main_v50 val_main_v49
  generalize val_main_v47 (F := Ideal) x0 x1 x2 = z
  pointwise [val_main_v48, val_main_cst_5, val_main_cst_6, val_main_call2_v0, val_main_call2_v1]

/-- The result: the values under the weights, each over the total. -/
theorem result_at (n : Fin 8) (T : Fin 2048) (j : Fin 1024) : val_main_v61 (F := Ideal) x0 x1 x2 (ix3 n T j)
    = ∑ l : Fin 2048, val_main_v7 (F := Ideal) x1 (ix3 n l ⟨j.val / 512 * 128 + 64 + j.val % 64, by omega⟩)
        * Ideal.div (val_main_v45 (F := Ideal) x0 x1 x2 (ix5 n ⟨j.val / 512, by omega⟩ ⟨j.val / 64 % 8, by omega⟩ T l))
          (val_main_v50 (F := Ideal) x0 x1 x2 (ix5 n ⟨j.val / 512, by omega⟩ ⟨j.val / 64 % 8, by omega⟩ T 0)) := by
  unfold val_main_v61 val_main_v58 val_main_v57 val_main_v52 val_main_v51 val_main_v13 val_main_v12 val_main_v9
  generalize val_main_v45 (F := Ideal) x0 x1 x2 = w
  generalize val_main_v50 (F := Ideal) x0 x1 x2 = z
  generalize val_main_v7 (F := Ideal) x1 = v
  pointwise []

/-- A column of one number per row, spread over the heads' widths. -/
theorem spread_at (n : Fin 8) (T : Fin 2048) (j : Fin 1024) : val_main_v65 (F := Ideal) x0 x1 x2 (ix3 n T j)
    = val_main_v55 (F := Ideal) x0 x1 x2 (ix4 n ⟨j.val / 512, by omega⟩ ⟨j.val / 64 % 8, by omega⟩ T) := by
  unfold val_main_v65 val_main_v60 val_main_v59 val_main_v56
  generalize val_main_v55 (F := Ideal) x0 x1 x2 = w
  pointwise []

theorem column_at (n : Fin 8) (a : Fin 2) (b : Fin 8) (T : Fin 2048) : val_main_v55 (F := Ideal) x0 x1 x2 (ix4 n a b T)
    = val_main_v54 (F := Ideal) x0 x1 x2 (ix5 n a b T 0) := by
  rw [val_main_v55_apply]
  generalize val_main_v54 (F := Ideal) x0 x1 x2 = w
  refine congrArg w (funext fun ax => Fin.ext ?_)
  match ax with
  | ⟨0, _⟩ => show (((n.val * 2 + a.val) * 8 + b.val) * 2048 + T.val) / 32768 = n.val; omega
  | ⟨1, _⟩ => show (((n.val * 2 + a.val) * 8 + b.val) * 2048 + T.val) / 16384 % 2 = a.val; omega
  | ⟨2, _⟩ => show (((n.val * 2 + a.val) * 8 + b.val) * 2048 + T.val) / 2048 % 8 = b.val; omega
  | ⟨3, _⟩ => show (((n.val * 2 + a.val) * 8 + b.val) * 2048 + T.val) / 1 % 2048 = T.val; omega
  | ⟨4, _⟩ => rfl

theorem log_at (n : Fin 8) (T : Fin 2048) (j : Fin 1024) : val_main_v65 (F := Ideal) x0 x1 x2 (ix3 n T j)
    = val_main_v41 (F := Ideal) x0 x1 x2 (ix5 n ⟨j.val / 512, by omega⟩ ⟨j.val / 64 % 8, by omega⟩ T 0)
      + Ideal.log (val_main_v50 (F := Ideal) x0 x1 x2 (ix5 n ⟨j.val / 512, by omega⟩ ⟨j.val / 64 % 8, by omega⟩ T 0)) := by
  rw [spread_at, column_at, val_main_v54_apply, val_main_v53_apply]
  rfl

/-- Over real arguments each element of a residue class's results is the layer's. -/
theorem class_at (n : Fin 8) (Q : Fin 2048 → Fin 1024 → ℝ) (KV : Fin 2048 → Fin 256 → ℝ) (SL : Fin 16 → ℝ)
    (hQ : ∀ T j, val_main_v3 (F := Ideal) x0 (ix3 n T j) = (Q T j : EReal))
    (hKV : ∀ T j, val_main_v7 (F := Ideal) x1 (ix3 n T j) = (KV T j : EReal))
    (hSL : ∀ h, x2 (ix1 h) = (SL h : EReal)) (T : Fin 2048) (j : Fin 1024) :
    val_main_v61 (F := Ideal) x0 x1 x2 (ix3 n T j)
      = ((layer 4 Q KV SL ⟨j.val / 512, by omega⟩ ⟨j.val / 64 % 8, by omega⟩ T ⟨j.val % 64, by omega⟩ : ℝ) : EReal)
    ∧ val_main_v65 (F := Ideal) x0 x1 x2 (ix3 n T j)
      = ((layerLog 4 Q KV SL ⟨j.val / 512, by omega⟩ ⟨j.val / 64 % 8, by omega⟩ T : ℝ) : EReal) := by
  rw [result_at, log_at, safe_at, top_at]
  exact class_of 4 Q KV SL ⟨j.val / 512, by omega⟩ ⟨j.val / 64 % 8, by omega⟩ T ⟨j.val % 64, by omega⟩
    (fun j => val_main_v3 (F := Ideal) x0 (ix3 n T j)) (fun l j => val_main_v7 (F := Ideal) x1 (ix3 n l j)) (fun h => x2 (ix1 h))
    (fun l => val_main_v39 (F := Ideal) x0 x1 x2 (ix5 n ⟨j.val / 512, by omega⟩ ⟨j.val / 64 % 8, by omega⟩ T l))
    (fun l => val_main_v45 (F := Ideal) x0 x1 x2 (ix5 n ⟨j.val / 512, by omega⟩ ⟨j.val / 64 % 8, by omega⟩ T l)) _ _ (hQ T) hKV hSL
    (fun l => scores_at x0 x1 x2 n _ _ T l) (fun l => by rw [weights_at, top_at]) (total_at x0 x1 x2 n _ _ T)

end Cert.BandC4RefIdeal.Val

end
-- ==== Proof.V.C4Val.lean ====
module

public import proofs.«01_k».proof.Proof.K.C4Frame
public import proofs.«01_k».proof.Proof.V.C4Tile
public import proofs.«01_k».proof.Proof.V.C4Ref

@[expose] public section

set_option maxRecDepth 16384

noncomputable section

namespace Cert.BandC4Ideal.Val

open Cert.BandC4Ideal Cert.BandC4Ideal.Gen Cert.BandC4Ideal.Hand Cert.Row Cert.Dil
open Cert.BandC1Ideal.Hand (rq)
open Cert.BandC1Ideal.Val (read_page block_layer group_column)
open Idealize.ShloMosaic Idealize.ShloMosaic.TcCoe Idealize.ShloMosaic.Pointwise Idealize.SL.Sem
open Idealize.ShloMosaic.Pipeline (Dat)

/-! ## Where the grid's points lie -/

theorem coords_at : ∀ t : Fin cfg0.N, (grid0.coords t 2).val = t.val / 4 % 2 ∧ (grid0.coords t 3).val = t.val % 4 :=
  (by decide +kernel : ∀ t : Fin grid0.N, _)

theorem at_point : ∀ t : Fin cfg0.N, win0_0.index t = ![0]
    ∧ win0_1.index t = ![t.val / 32 % 2, t.val % 4, t.val / 4 % 8] ∧ win0_2.index t = ![t.val / 32 % 2, 0, t.val / 4 % 8]
    ∧ win0_3.index t = ![t.val / 32 % 2, t.val % 4, t.val / 4 % 8] ∧ win0_4.index t = ![t.val / 32 % 2, t.val % 4, t.val / 4 % 8] :=
  (by decide +kernel : ∀ t : Fin grid0.N, _)

/-! ## What the body reads at a grid point -/

variable (m : (ℓ : Loc nD τ sig) → Buf (Elt Ideal) ℓ) (c : Dev nD)
variable (Q : Fin 2 → Fin 2048 → Fin 4096 → ℝ) (KV : Fin 2 → Fin 2048 → Fin 1024 → ℝ) (SL : Fin 16 → ℝ)

theorem slopes_blk (t : Fin cfg0.N) (h : Fin 16) : iblk m c 0 t (ix1 h) = m ((c : Thread nD τ).loc main_arg2) (ix1 h) := by
  blk_ext [iblk, V, at_point t]

theorem q_blk (t : Fin cfg0.N) (R j : Fin 512) : iblk m c 1 t (ix3 0 R j)
    = m ((c : Thread nD τ).loc main_arg0) (ix3 ⟨t.val / 32 % 2, by omega⟩ ⟨t.val % 4 * 512 + R.val, by omega⟩ ⟨t.val / 4 % 8 * 512 + j.val, by omega⟩) := by
  blk_ext [iblk, V, at_point t]

theorem kv_blk (t : Fin cfg0.N) (l : Fin 2048) (j : Fin 128) : iblk m c 2 t (ix3 0 l j)
    = m ((c : Thread nD τ).loc main_arg1) (ix3 ⟨t.val / 32 % 2, by omega⟩ l ⟨t.val / 4 % 8 * 128 + j.val, by omega⟩) := by
  blk_ext [iblk, V, at_point t]

/-- The bias a sub-block reads, from the scratch filled at the first point of its head group. -/
theorem held_at (t : Fin cfg0.N) (sb : Fin 4) (r : Fin 1024) (e : Fin 256) :
    View.ld (held m c t.val) (rb (grid0.coords t) sb) (ix3 0 r e)
    = pageAt 4 (if t.val % 4 = 0 ∧ sb.val = 0 then 0 else 128) (word (iblk m c 0 (filler t.val)) (grid0.coords (filler t.val))) r e := by
  have h3 := (coords_at t).2
  by_cases h : t.val % 4 = 0 ∧ sb.val = 0
  · rw [if_pos h]
    exact (read_page _ _ _ 1 ((off3_first (grid0.coords t 3) (by omega) sb (grid0.coords t) rfl).trans (by rw [if_pos h.2]; rfl)) r e).trans
      (bias_at _ _ 1 r e)
  · have ho : k0_off3 (grid0.coords t) (BitVec.ofNat 32 (128 * sb.val)) = ![0, 0, 0] := by
      by_cases h0 : t.val % 4 = 0
      · rw [off3_first (grid0.coords t 3) (by omega) sb (grid0.coords t) rfl, if_neg fun hs => h ⟨h0, hs⟩]
      · exact off3_later (grid0.coords t 3) (by omega) sb (grid0.coords t) rfl
    rw [if_neg h]
    exact (read_page _ _ _ 0 ho r e).trans (bias_at _ _ 0 r e)

/-- The keys and values a sub-block reads. -/
theorem window_at (t : Fin cfg0.N) (sb : Fin 4) (e : Fin 256) (x : Fin 128) :
    View.ld (iblk m c 2 t) (rk (grid0.coords t) sb) (ix3 0 e x)
    = iblk m c 2 t (ix3 0 ⟨512 * (t.val % 4) + 128 * sb.val - 128 + e.val, by omega⟩ x) := by
  have ho := off2_eq (grid0.coords t) sb
  rw [(coords_at t).2] at ho
  refine View.ld_unit_apply_of _ _ _ _ _ _ fun a => ?_
  refine Eq.trans ?_ (congrArg (fun k => k + _) (congrFun ho a).symm)
  match a with
  | ⟨0, _⟩ => rfl
  | ⟨1, _⟩ => rfl
  | ⟨2, _⟩ => exact (Nat.zero_add _).symm

variable (hQ : ∀ n T j, m ((c : Thread nD τ).loc main_arg0) (ix3 n T j) = (Q n T j : EReal))
  (hKV : ∀ n T j, m ((c : Thread nD τ).loc main_arg1) (ix3 n T j) = (KV n T j : EReal))
  (hSL : ∀ h, m ((c : Thread nD τ).loc main_arg2) (ix1 h) = (SL h : EReal))

include hQ hKV hSL

/-- What the body leaves in its blocks is the reference's results there. -/
theorem point (t : Fin cfg0.N) (R j : Fin 512) :
    written m c t (ix3 0 R j)
      = Cert.BandC4RefIdeal.Read.val_main_v64 (F := Ideal) (m ((c : Thread nD τ).loc main_arg0)) (m ((c : Thread nD τ).loc main_arg1))
        (m ((c : Thread nD τ).loc main_arg2))
        (ix3 ⟨t.val / 32 % 2, by omega⟩ ⟨t.val % 4 * 512 + R.val, by omega⟩ ⟨t.val / 4 % 8 * 512 + j.val, by omega⟩)
    ∧ writtenLog m c t (ix3 0 R j)
      = Cert.BandC4RefIdeal.Read.val_main_v68 (F := Ideal) (m ((c : Thread nD τ).loc main_arg0)) (m ((c : Thread nD τ).loc main_arg1))
        (m ((c : Thread nD τ).loc main_arg2))
        (ix3 ⟨t.val / 32 % 2, by omega⟩ ⟨t.val % 4 * 512 + R.val, by omega⟩ ⟨t.val / 4 % 8 * 512 + j.val, by omega⟩) := by
  have hf := (coords_at (filler t.val)).1
  have hfv : (filler t.val).val = 4 * (t.val / 4 % 16) := rfl
  obtain ⟨n, hn⟩ : ∃ n : Fin 2, n = ⟨t.val / 32 % 2, by omega⟩ := ⟨_, rfl⟩
  obtain ⟨r, hr⟩ : ∃ r : Fin 4, r = ⟨t.val / 8 % 4, by omega⟩ := ⟨_, rfl⟩
  obtain ⟨k, hk⟩ : ∃ k : Fin 2, k = ⟨t.val / 4 % 2, by omega⟩ := ⟨_, rfl⟩
  have hrv : r.val = t.val / 8 % 4 := congrArg Fin.val hr
  have hkv : k.val = t.val / 4 % 2 := congrArg Fin.val hk
  have hc := Cert.BandC4RefIdeal.Val.class_at (m ((c : Thread nD τ).loc main_arg0)) (m ((c : Thread nD τ).loc main_arg1))
    (m ((c : Thread nD τ).loc main_arg2)) ⟨n.val * 4 + r.val, by omega⟩ (fun T j => Q n T ⟨r.val * 1024 + j.val, by omega⟩)
    (fun T j => KV n T ⟨r.val * 256 + j.val, by omega⟩) SL
    (fun T j => (Cert.BandC4RefIdeal.Val.queries_at _ _ _ T j).trans (hQ _ T _))
    (fun T j => (Cert.BandC4RefIdeal.Val.keys_at _ _ _ T j).trans (hKV _ T _)) hSL
    ⟨t.val % 4 * 512 + R.val, by omega⟩ ⟨k.val * 512 + j.val, by omega⟩
  have hb := block_layer 4 (fun T j => Q n T ⟨r.val * 1024 + j.val, by omega⟩) (fun T j => KV n T ⟨r.val * 256 + j.val, by omega⟩) SL k
    (t.val % 4) (by omega)
    (iblk m c 1 t) (fun sb => View.ld (iblk m c 2 t) (rk (grid0.coords t) sb)) (fun sb => View.ld (held m c t.val) (rb (grid0.coords t) sb))
    (word (iblk m c 0 (filler t.val)) (grid0.coords (filler t.val)))
    (fun R j => (q_blk m c t R j).trans ((hQ _ _ _).trans (by
      subst hn
      exact congrArg (fun e => ((Q _ _ e : ℝ) : EReal)) (Fin.ext (by
        show t.val / 4 % 8 * 512 + j.val = r.val * 1024 + (k.val * 512 + j.val); omega)))))
    (fun sb e x => (window_at m c t sb e x).trans ((kv_blk m c t _ _).trans ((hKV _ _ _).trans (by
      subst hn
      exact congrArg (fun e => ((KV _ _ e : ℝ) : EReal)) (Fin.ext (by
        show t.val / 4 % 8 * 128 + x.val = r.val * 256 + (k.val * 128 + x.val); omega))))))
    (held_at m c t)
    (fun g => (word_at _ _ g).trans ((slopes_blk m c _ _).trans ((hSL _).trans (congrArg (fun e => ((SL e : ℝ) : EReal)) (Fin.ext (by
      show (grid0.coords (filler t.val) 2).val * 8 + g.val = k.val * 8 + g.val
      omega)))))) R j
  have hj : (⟨t.val / 4 % 8 * 512 + j.val, by omega⟩ : Fin 4096)
      = ⟨r.val * 1024 + (⟨k.val * 512 + j.val, by omega⟩ : Fin 1024).val, by show r.val * 1024 + (k.val * 512 + j.val) < 4096; omega⟩ :=
    Fin.ext (by show t.val / 4 % 8 * 512 + j.val = r.val * 1024 + (k.val * 512 + j.val); omega)
  have hres := (Cert.BandC4RefIdeal.Val.result_class (m ((c : Thread nD τ).loc main_arg0)) (m ((c : Thread nD τ).loc main_arg1))
    (m ((c : Thread nD τ).loc main_arg2)) n r ⟨t.val % 4 * 512 + R.val, by omega⟩ ⟨k.val * 512 + j.val, by omega⟩).symm.trans
    (congrArg₂ (fun a e => Cert.BandC4RefIdeal.Read.val_main_v64 (F := Ideal) (m ((c : Thread nD τ).loc main_arg0)) (m ((c : Thread nD τ).loc main_arg1))
      (m ((c : Thread nD τ).loc main_arg2)) (ix3 a ⟨t.val % 4 * 512 + R.val, by omega⟩ e)) hn hj.symm)
  have hlog := (Cert.BandC4RefIdeal.Val.log_class (m ((c : Thread nD τ).loc main_arg0)) (m ((c : Thread nD τ).loc main_arg1))
    (m ((c : Thread nD τ).loc main_arg2)) n r ⟨t.val % 4 * 512 + R.val, by omega⟩ ⟨k.val * 512 + j.val, by omega⟩).symm.trans
    (congrArg₂ (fun a e => Cert.BandC4RefIdeal.Read.val_main_v68 (F := Ideal) (m ((c : Thread nD τ).loc main_arg0)) (m ((c : Thread nD τ).loc main_arg1))
      (m ((c : Thread nD τ).loc main_arg2)) (ix3 a ⟨t.val % 4 * 512 + R.val, by omega⟩ e)) hn hj.symm)
  have hg := group_column 4 (fun T j => Q n T ⟨r.val * 1024 + j.val, by omega⟩) (fun T j => KV n T ⟨r.val * 256 + j.val, by omega⟩) SL k j
    ⟨t.val % 4 * 512 + R.val, by omega⟩
  exact ⟨hb.1.trans ((congrArg (fun x : ℝ => (x : EReal)) hg.1).trans (hc.1.symm.trans hres)),
    hb.2.trans ((congrArg (fun x : ℝ => (x : EReal)) hg.2).trans (hc.2.symm.trans hlog))⟩

/-- The whole array of results after the run. -/
theorem final3 : (dats m 0 c).arrAt 3 cfg0.N
    = Cert.BandC4RefIdeal.Read.val_main_v64 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after3]
  obtain ⟨a, R, j, rfl⟩ : ∃ (a : Fin 1) (R : Fin 512) (j : Fin 512), y = ix3 a R j :=
    ⟨y 0, y 1, y 2, by funext ax; match ax with | ⟨0, _⟩ => rfl | ⟨1, _⟩ => rfl | ⟨2, _⟩ => rfl⟩
  obtain rfl : a = 0 := Subsingleton.elim _ _
  refine (point m c Q KV SL hQ hKV hSL t R j).1.trans (congrArg _ (Eq.symm ?_))
  blk_ext [at_point t]

/-- The whole array of logarithms after the run. -/
theorem final4 : (dats m 0 c).arrAt 4 cfg0.N
    = Cert.BandC4RefIdeal.Read.val_main_v68 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after4]
  obtain ⟨a, R, j, rfl⟩ : ∃ (a : Fin 1) (R : Fin 512) (j : Fin 512), y = ix3 a R j :=
    ⟨y 0, y 1, y 2, by funext ax; match ax with | ⟨0, _⟩ => rfl | ⟨1, _⟩ => rfl | ⟨2, _⟩ => rfl⟩
  obtain rfl : a = 0 := Subsingleton.elim _ _
  refine (point m c Q KV SL hQ hKV hSL t R j).2.trans (congrArg _ (Eq.symm ?_))
  blk_ext [at_point t]

end Cert.BandC4Ideal.Val

end
-- ==== Proof.V.C4Alg.lean ====
module

public import proofs.«01_k».proof.Defs
public import proofs.«01_k».proof.Proof.V.C4Val
public import proofs.«01_k».proof.Proof.V.BAlg
public import proofs.«01_k».proof.Proof.V.ProjCAlg
public import proofs.«01_k».proof.Proof.Gen.BandC4RefIdeal.Run
public import proofs.«01_k».proof.Proof.Gen.Pre_finite_c4
public import Idealize.ShloMosaic.Lib.Claim
public import Idealize.ShloMosaic.Lib.ReduceAll

@[expose] public section

set_option maxRecDepth 16384

noncomputable section

namespace Cert.BandC4RefIdeal.Named

open Cert.BandC4RefIdeal Cert.BandC4RefIdeal.Read
open Idealize.ShloMosaic Idealize.ShloMosaic.TcCoe Idealize.SL.Sem

/-- The reference's run, each result named by its stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = val_main_v64 (F := Ideal) (m ((c.tc : Thread nD τ).loc main_arg0)) (m ((c.tc : Thread nD τ).loc main_arg1))
          (m ((c.tc : Thread nD τ).loc main_arg2))
      ∧ r.2.mem ((c.tc : Thread nD τ).loc main_v68) = val_main_v68 (F := Ideal) (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, ha⟩ := h c
    exact ⟨h0.trans (val_main_v64_eq _ _), h1.trans (val_main_v68_eq _ _), ha⟩) (Cert.BandC4RefIdeal.Value.run m ρ)

end Cert.BandC4RefIdeal.Named

namespace Cert.BandC4Ideal.Val

open Idealize.ShloMosaic Idealize.ShloMosaic.TcCoe Idealize.ShloMosaic.Pointwise Idealize.SL.Sem
open Cert.BandedIdeal.Val (real_of_abs)
open Cert.ProjCIdeal.Val (same_args)

/-- Reading the precondition: every element is a real number. -/
theorem all_real (x0 : FVec Ideal Cert.Pre_finite_c4.S2x2048x4096 .bf16) (x1 : FVec Ideal Cert.Pre_finite_c4.S2x2048x1024 .bf16)
    (x2 : FVec Ideal Cert.Pre_finite_c4.S16 .f32) (h : Cert.Pre_finite_c4.fn (F := Ideal) x0 x1 x2 = fun _ => 1#1) :
    (∀ i, ∃ x : ℝ, x0 i = (x : EReal)) ∧ (∀ i, ∃ x : ℝ, x1 i = (x : EReal)) ∧ (∀ i, ∃ x : ℝ, x2 i = (x : EReal)) := by
  obtain ⟨hA, h2⟩ := IntOp.andi_eq_one.1 (congrFun h fun a => a.elim0)
  obtain ⟨h0, h1⟩ := IntOp.andi_eq_one.1 hA
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i)⟩

set_option maxHeartbeats 4000000 in
/-- The kernel and the reference end with the same result arrays, the arguments being finite. -/
theorem same_results : Cert.algebraic_BandC4Ideal_BandC4RefIdeal_pre_finite_c4 := by
  pair_intro
  · run_from Cert.BandC4Ideal.Hand.run_main m g
  · refine (θ_run _ _ _).mono (fun r h c => ?_) (Cert.BandC4RefIdeal.Named.run m' g')
    obtain ⟨a0, a1, a2⟩ := hagree c
    obtain ⟨r0, r1, r2⟩ := all_real _ _ _ (hpre c)
    choose Q hQ using r0
    choose KV hKV using r1
    choose SL hSL using r2
    obtain ⟨h0, h1, ha⟩ := h c
    have f3 := final3 m c (fun n T j => Q (ix3 n T j)) (fun n T j => KV (ix3 n T j)) (fun h => SL (ix1 h))
      (fun _ _ _ => hQ _) (fun _ _ _ => hKV _) (fun _ => hSL _)
    have f4 := final4 m c (fun n T j => Q (ix3 n T j)) (fun n T j => KV (ix3 n T j)) (fun h => SL (ix1 h))
      (fun _ _ _ => hQ _) (fun _ _ _ => hKV _) (fun _ => hSL _)
    exact ⟨h0.trans ((same_args (Cert.BandC4RefIdeal.Read.val_main_v64 (F := Ideal)) a0 a1 a2).trans f3.symm),
      h1.trans ((same_args (Cert.BandC4RefIdeal.Read.val_main_v68 (F := Ideal)) a0 a1 a2).trans f4.symm), ha⟩

end Cert.BandC4Ideal.Val

end
-- ==== Proof.V.C16Tile.lean ====
module

public import proofs.«01_k».proof.Proof.K.C16Out
public import proofs.«01_k».proof.Proof.V.C1Tile

@[expose] public section

set_option maxRecDepth 16384

noncomputable section

namespace Cert.BandC16Ideal.Val

open Cert.BandC16Ideal Cert.BandC16Ideal.Gen Cert.BandC16Ideal.Hand Cert.Row Cert.Dil
open Cert.BandedIdeal.Val (head_select)
open Cert.BandC1Ideal.Val (pages_at)
open Idealize.ShloMosaic Idealize.ShloMosaic.TcCoe Idealize.ShloMosaic.Pointwise

/-! ## The pages of the bias -/

/-- Head `g`'s word is the table's, at the group's eight entries. -/
theorem word_at (x : Vec Ideal S16 .f32) (i : grid0.Coords) (g : Fin 8) :
    word x i g = x (ix1 ⟨(i 2).val * 8 + g.val, by have h : (i 2).val < 2 := (i 2).isLt; omega⟩) := by
  have h : ∀ a : Fin 2, ∀ g : Fin 8, (let w : BitVec 32 := Scalar.addi (Scalar.muli (BitVec.ofNat 32 a.val) 8#32) (BitVec.ofNat 32 g.val)
       (Scalar.indexCast w).toNat) = a.val * 8 + g.val := by decide +kernel
  unfold word
  refine View.ld_unit_apply_of x _ _ _ _ _ fun a => ?_
  match a with
  | ⟨0, _⟩ => exact (h (i 2) g).symm

/-- The mask's name stands for minus infinity. -/
theorem mask_least : Named.named (F := Ideal) (φ := .f32) κ "mask" 0xF149F2CA#32 = (⊥ : EReal) :=
  IdealRules.named_const.ideal_named_scalar _ _ _ _ rfl

theorem page0_at (x : Vec Ideal S16 .f32) (i : grid0.Coords) (r : Fin 1024) (c : Fin 256) :
    page0 x i (ix3 0 r c) = pageAt 16 128 (word x i) r c := by
  rw [← page_of 16 (by decide) (by decide) 128 (by omega) (word x i) r c _ _ (head_select (word x i) r) mask_least]
  pointwise [page0, k0_pay10, k0_pay9, k0_pay8, k0_pay7, k0_pay6, k0_pay5, lanes]

theorem page1_at (x : Vec Ideal S16 .f32) (i : grid0.Coords) (r : Fin 1024) (c : Fin 256) :
    page1 x i (ix3 0 r c) = pageAt 16 0 (word x i) r c := by
  rw [← page_of 16 (by decide) (by decide) 0 (by omega) (word x i) r c _ _ (head_select (word x i) r) mask_least]
  pointwise [page1, k0_pay12, k0_pay11, k0_pay9, k0_pay8, k0_pay7, k0_pay6, k0_pay5, lanes]

/-- The filled scratch at any of its places. -/
theorem bias_at (x : Vec Ideal S16 .f32) (i : grid0.Coords) (p : Fin 2) (r : Fin 1024) (c : Fin 256) :
    bias x i (ix3 p r c) = pageAt 16 (if p.val = 0 then 128 else 0) (word x i) r c :=
  pages_at 16 (word x i) _ _ (page0_at x i) (page1_at x i) p r c

end Cert.BandC16Ideal.Val

end
-- ==== Proof.V.C16Ref.lean ====
module

public import proofs.«01_k».proof.Proof.Gen.BandC16RefIdeal.Read
public import proofs.«01_k».proof.Proof.V.Dil
public import Idealize.ShloMosaic.Lib.Pointwise
public import Idealize.ShloMosaic.Lib.Pipeline.ValueKit

@[expose] public section

set_option maxRecDepth 16384

noncomputable section

namespace Cert.BandC16RefIdeal.Val

open Cert.BandC16RefIdeal Cert.BandC16RefIdeal.Gen Cert.BandC16RefIdeal.Read Cert.Dil
open Cert.Row (least)
open Idealize.ShloMosaic Idealize.ShloMosaic.TcCoe Idealize.ShloMosaic.Pointwise

variable (x0 : FVec Ideal S2x512x16384 .bf16) (x1 : FVec Ideal S2x512x4096 .bf16) (x2 : FVec Ideal S16 .f32)

/-! ## The residue classes -/

theorem queries_at (n : Fin 2) (r : Fin 16) (T : Fin 512) (j : Fin 1024) : val_main_v3 (F := Ideal) x0 (ix3 ⟨n.val * 16 + r.val, by omega⟩ T j)
    = x0 (ix3 n T ⟨r.val * 1024 + j.val, by omega⟩) := by
  pointwise [val_main_v3, val_main_v2, val_main_v1, val_main_v0]

theorem keys_at (n : Fin 2) (r : Fin 16) (T : Fin 512) (j : Fin 256) : val_main_v7 (F := Ideal) x1 (ix3 ⟨n.val * 16 + r.val, by omega⟩ T j)
    = x1 (ix3 n T ⟨r.val * 256 + j.val, by omega⟩) := by
  pointwise [val_main_v7, val_main_v6, val_main_v5, val_main_v4]

theorem result_class (n : Fin 2) (r : Fin 16) (T : Fin 512) (j : Fin 1024) :
    val_main_v64 (F := Ideal) x0 x1 x2 (ix3 n T ⟨r.val * 1024 + j.val, by omega⟩)
      = val_main_v61 (F := Ideal) x0 x1 x2 (ix3 ⟨n.val * 16 + r.val, by omega⟩ T j) := by
  unfold val_main_v64 val_main_v63 val_main_v62
  generalize val_main_v61 (F := Ideal) x0 x1 x2 = y
  pointwise []

theorem log_class (n : Fin 2) (r : Fin 16) (T : Fin 512) (j : Fin 1024) :
    val_main_v68 (F := Ideal) x0 x1 x2 (ix3 n T ⟨r.val * 1024 + j.val, by omega⟩)
      = val_main_v65 (F := Ideal) x0 x1 x2 (ix3 ⟨n.val * 16 + r.val, by omega⟩ T j) := by
  unfold val_main_v68 val_main_v67 val_main_v66
  generalize val_main_v65 (F := Ideal) x0 x1 x2 = y
  pointwise []

/-! ## One residue class -/

/-- The masked scores: in the band the product less slope times distance, outside it the mask's number. -/
theorem scores_at (n : Fin 32) (a : Fin 2) (b : Fin 8) (T l : Fin 512) :
    val_main_v39 (F := Ideal) x0 x1 x2 (ix5 n a b T l)
    = if l.val ≤ T.val ∧ T.val ≤ l.val + 128 then
        (∑ x : Fin 64, val_main_v7 (F := Ideal) x1 (ix3 n l ⟨a.val * 128 + x.val, by omega⟩)
            * val_main_v3 (F := Ideal) x0 (ix3 n T ⟨a.val * 512 + b.val * 64 + x.val, by omega⟩))
          - x2 (ix1 ⟨a.val * 8 + b.val, by omega⟩) * ((((T.val : ℝ) - l.val) * (16 : ℕ) : ℝ) : EReal)
      else Ideal.ofBits .f32 0xF149F2CA#32 := by
  rw [← gap_real 16 (by decide) T.val l.val (by omega) (by omega), ← band_select 16 (by decide) (by decide) T.val l.val (by omega) (by omega)]
  pointwise [val_main_v39, val_main_call0_v0, val_main_call0_v1, val_main_call0_v2, val_main_cst, val_main_v8, val_main_v9, val_main_v10,
    val_main_v11, val_main_v14, val_main_v15, val_main_v16, val_main_v17, val_main_v18, val_main_v19, val_main_c, val_main_v20,
    val_main_v21, val_main_c_0, val_main_v22, val_main_v23, val_main_c_1, val_main_v24, val_main_v25, val_main_v26, val_main_v27,
    val_main_v28, val_main_v29, val_main_v30, val_main_v31, val_main_v32, val_main_v33, val_main_v34, val_main_v35, val_main_v36,
    val_main_v37, val_main_v38]
  rfl

theorem rowmax_at (n : Fin 32) (a : Fin 2) (b : Fin 8) (T : Fin 512) : val_main_v40 (F := Ideal) x0 x1 x2 (ix4 n a b T)
    = Finset.univ.fold max (⊥ : EReal) (fun l : Fin 512 => val_main_v39 (F := Ideal) x0 x1 x2 (ix5 n a b T l)) := by
  rw [← least]
  unfold val_main_v40
  generalize val_main_v39 (F := Ideal) x0 x1 x2 = y
  refine (Host.reduce_eq_fold_single (FloatOps.maximumf (F := Ideal) (φ := .f32)) y (val_main_cst_2 (F := Ideal))
    reducesTo_S32x2x8x512x512_S32x2x8x512_d4 (by decide) h_S_ (ix4 n a b T)).trans ?_
  have e : y ∘ Shape.Reduces.lift (by decide : S32x2x8x512x512.Reduces [4] S32x2x8x512) (ix4 n a b T)
      = fun l : Fin 512 => y (ix5 n a b T l) := by
    funext l
    refine congrArg y (funext fun ax => Fin.ext ?_)
    match ax with
    | ⟨0, _⟩ => rfl
    | ⟨1, _⟩ => rfl
    | ⟨2, _⟩ => rfl
    | ⟨3, _⟩ => rfl
    | ⟨4, _⟩ => rfl
  rw [e]
  rfl

/-- The largest score of a row. -/
theorem top_at (n : Fin 32) (a : Fin 2) (b : Fin 8) (T : Fin 512) : val_main_v41 (F := Ideal) x0 x1 x2 (ix5 n a b T 0)
    = Finset.univ.fold max (⊥ : EReal) (fun l : Fin 512 => val_main_v39 (F := Ideal) x0 x1 x2 (ix5 n a b T l)) := by
  rw [← rowmax_at]
  unfold val_main_v41
  generalize val_main_v40 (F := Ideal) x0 x1 x2 = y
  pointwise []

/-- The weights: exponentials in the band, zero outside it. -/
theorem weights_at (n : Fin 32) (a : Fin 2) (b : Fin 8) (T l : Fin 512) : val_main_v45 (F := Ideal) x0 x1 x2 (ix5 n a b T l)
    = if l.val ≤ T.val ∧ T.val ≤ l.val + 128 then
        Ideal.exp (val_main_v39 (F := Ideal) x0 x1 x2 (ix5 n a b T l) - val_main_v41 (F := Ideal) x0 x1 x2 (ix5 n a b T 0))
      else 0 := by
  rw [← band_select 16 (by decide) (by decide) T.val l.val (by omega) (by omega),
    show (0 : EReal) = id (constant (F := Ideal) S_ .f32 0#32) ix0 from Ideal.ofBits_zero_f32.symm]
  pointwise [val_main_v45, val_main_call1_v0, val_main_call1_v1, val_main_call1_v2, val_main_cst_3, val_main_v14, val_main_v15,
    val_main_v16, val_main_v17, val_main_v18, val_main_v19, val_main_c, val_main_v20, val_main_v21, val_main_c_0, val_main_v22,
    val_main_v23, val_main_c_1, val_main_v24, val_main_v25, val_main_v26, val_main_v44, val_main_v43, val_main_v42]

theorem total_at (n : Fin 32) (a : Fin 2) (b : Fin 8) (T : Fin 512) : val_main_v47 (F := Ideal) x0 x1 x2 (ix5 n a b T 0)
    = ∑ l : Fin 512, val_main_v45 (F := Ideal) x0 x1 x2 (ix5 n a b T l) := by
  unfold val_main_v47 val_main_v46
  generalize val_main_v45 (F := Ideal) x0 x1 x2 = z
  pointwise [val_main_cst_4]

/-- The row's total, put to one if it is not positive. -/
theorem safe_at (n : Fin 32) (a : Fin 2) (b : Fin 8) (T : Fin 512) : val_main_v50 (F := Ideal) x0 x1 x2 (ix5 n a b T 0)
    = if 0 < val_main_v47 (F := Ideal) x0 x1 x2 (ix5 n a b T 0) then val_main_v47 (F := Ideal) x0 x1 x2 (ix5 n a b T 0)
      else id (constant (F := Ideal) S_ .f32 0x3F800000#32) ix0 := by
  unfold val_main_v50 val_main_v49
  generalize val_main_v47 (F := Ideal) x0 x1 x2 = z
  pointwise [val_main_v48, val_main_cst_5, val_main_cst_6, val_main_call2_v0, val_main_call2_v1]

/-- The result: the values under the weights, each over the total. -/
theorem result_at (n : Fin 32) (T : Fin 512) (j : Fin 1024) : val_main_v61 (F := Ideal) x0 x1 x2 (ix3 n T j)
    = ∑ l : Fin 512, val_main_v7 (F := Ideal) x1 (ix3 n l ⟨j.val / 512 * 128 + 64 + j.val % 64, by omega⟩)
        * Ideal.div (val_main_v45 (F := Ideal) x0 x1 x2 (ix5 n ⟨j.val / 512, by omega⟩ ⟨j.val / 64 % 8, by omega⟩ T l))
          (val_main_v50 (F := Ideal) x0 x1 x2 (ix5 n ⟨j.val / 512, by omega⟩ ⟨j.val / 64 % 8, by omega⟩ T 0)) := by
  unfold val_main_v61 val_main_v58 val_main_v57 val_main_v52 val_main_v51 val_main_v13 val_main_v12 val_main_v9
  generalize val_main_v45 (F := Ideal) x0 x1 x2 = w
  generalize val_main_v50 (F := Ideal) x0 x1 x2 = z
  generalize val_main_v7 (F := Ideal) x1 = v
  pointwise []

/-- A column of one number per row, spread over the heads' widths. -/
theorem spread_at (n : Fin 32) (T : Fin 512) (j : Fin 1024) : val_main_v65 (F := Ideal) x0 x1 x2 (ix3 n T j)
    = val_main_v55 (F := Ideal) x0 x1 x2 (ix4 n ⟨j.val / 512, by omega⟩ ⟨j.val / 64 % 8, by omega⟩ T) := by
  unfold val_main_v65 val_main_v60 val_main_v59 val_main_v56
  generalize val_main_v55 (F := Ideal) x0 x1 x2 = w
  pointwise []

theorem column_at (n : Fin 32) (a : Fin 2) (b : Fin 8) (T : Fin 512) : val_main_v55 (F := Ideal) x0 x1 x2 (ix4 n a b T)
    = val_main_v54 (F := Ideal) x0 x1 x2 (ix5 n a b T 0) := by
  rw [val_main_v55_apply]
  generalize val_main_v54 (F := Ideal) x0 x1 x2 = w
  refine congrArg w (funext fun ax => Fin.ext ?_)
  match ax with
  | ⟨0, _⟩ => show (((n.val * 2 + a.val) * 8 + b.val) * 512 + T.val) / 8192 = n.val; omega
  | ⟨1, _⟩ => show (((n.val * 2 + a.val) * 8 + b.val) * 512 + T.val) / 4096 % 2 = a.val; omega
  | ⟨2, _⟩ => show (((n.val * 2 + a.val) * 8 + b.val) * 512 + T.val) / 512 % 8 = b.val; omega
  | ⟨3, _⟩ => show (((n.val * 2 + a.val) * 8 + b.val) * 512 + T.val) / 1 % 512 = T.val; omega
  | ⟨4, _⟩ => rfl

theorem log_at (n : Fin 32) (T : Fin 512) (j : Fin 1024) : val_main_v65 (F := Ideal) x0 x1 x2 (ix3 n T j)
    = val_main_v41 (F := Ideal) x0 x1 x2 (ix5 n ⟨j.val / 512, by omega⟩ ⟨j.val / 64 % 8, by omega⟩ T 0)
      + Ideal.log (val_main_v50 (F := Ideal) x0 x1 x2 (ix5 n ⟨j.val / 512, by omega⟩ ⟨j.val / 64 % 8, by omega⟩ T 0)) := by
  rw [spread_at, column_at, val_main_v54_apply, val_main_v53_apply]
  rfl

/-- Over real arguments each element of a residue class's results is the layer's. -/
theorem class_at (n : Fin 32) (Q : Fin 512 → Fin 1024 → ℝ) (KV : Fin 512 → Fin 256 → ℝ) (SL : Fin 16 → ℝ)
    (hQ : ∀ T j, val_main_v3 (F := Ideal) x0 (ix3 n T j) = (Q T j : EReal))
    (hKV : ∀ T j, val_main_v7 (F := Ideal) x1 (ix3 n T j) = (KV T j : EReal))
    (hSL : ∀ h, x2 (ix1 h) = (SL h : EReal)) (T : Fin 512) (j : Fin 1024) :
    val_main_v61 (F := Ideal) x0 x1 x2 (ix3 n T j)
      = ((layer 16 Q KV SL ⟨j.val / 512, by omega⟩ ⟨j.val / 64 % 8, by omega⟩ T ⟨j.val % 64, by omega⟩ : ℝ) : EReal)
    ∧ val_main_v65 (F := Ideal) x0 x1 x2 (ix3 n T j)
      = ((layerLog 16 Q KV SL ⟨j.val / 512, by omega⟩ ⟨j.val / 64 % 8, by omega⟩ T : ℝ) : EReal) := by
  rw [result_at, log_at, safe_at, top_at]
  exact class_of 16 Q KV SL ⟨j.val / 512, by omega⟩ ⟨j.val / 64 % 8, by omega⟩ T ⟨j.val % 64, by omega⟩
    (fun j => val_main_v3 (F := Ideal) x0 (ix3 n T j)) (fun l j => val_main_v7 (F := Ideal) x1 (ix3 n l j)) (fun h => x2 (ix1 h))
    (fun l => val_main_v39 (F := Ideal) x0 x1 x2 (ix5 n ⟨j.val / 512, by omega⟩ ⟨j.val / 64 % 8, by omega⟩ T l))
    (fun l => val_main_v45 (F := Ideal) x0 x1 x2 (ix5 n ⟨j.val / 512, by omega⟩ ⟨j.val / 64 % 8, by omega⟩ T l)) _ _ (hQ T) hKV hSL
    (fun l => scores_at x0 x1 x2 n _ _ T l) (fun l => by rw [weights_at, top_at]) (total_at x0 x1 x2 n _ _ T)

end Cert.BandC16RefIdeal.Val

end
-- ==== Proof.V.C16Val.lean ====
module

public import proofs.«01_k».proof.Proof.K.C16Frame
public import proofs.«01_k».proof.Proof.V.C16Tile
public import proofs.«01_k».proof.Proof.V.C16Ref

@[expose] public section

set_option maxRecDepth 16384

noncomputable section

namespace Cert.BandC16Ideal.Val

open Cert.BandC16Ideal Cert.BandC16Ideal.Gen Cert.BandC16Ideal.Hand Cert.Row Cert.Dil
open Cert.BandC1Ideal.Hand (rq)
open Cert.BandC1Ideal.Val (read_page block_layer group_column)
open Idealize.ShloMosaic Idealize.ShloMosaic.TcCoe Idealize.ShloMosaic.Pointwise Idealize.SL.Sem
open Idealize.ShloMosaic.Pipeline (Dat)

/-! ## Where the grid's points lie -/

theorem coords_at : ∀ t : Fin cfg0.N, (grid0.coords t 2).val = t.val % 2 ∧ (grid0.coords t 3).val = 0 :=
  (by decide +kernel : ∀ t : Fin grid0.N, _)

theorem at_point : ∀ t : Fin cfg0.N, win0_0.index t = ![0]
    ∧ win0_1.index t = ![t.val / 32 % 2, 0, t.val % 32] ∧ win0_2.index t = ![t.val / 32 % 2, 0, t.val % 32]
    ∧ win0_3.index t = ![t.val / 32 % 2, 0, t.val % 32] ∧ win0_4.index t = ![t.val / 32 % 2, 0, t.val % 32] :=
  (by decide +kernel : ∀ t : Fin grid0.N, _)

/-! ## What the body reads at a grid point -/

variable (m : (ℓ : Loc nD τ sig) → Buf (Elt Ideal) ℓ) (c : Dev nD)
variable (Q : Fin 2 → Fin 512 → Fin 16384 → ℝ) (KV : Fin 2 → Fin 512 → Fin 4096 → ℝ) (SL : Fin 16 → ℝ)

theorem slopes_blk (t : Fin cfg0.N) (h : Fin 16) : iblk m c 0 t (ix1 h) = m ((c : Thread nD τ).loc main_arg2) (ix1 h) := by
  blk_ext [iblk, V, at_point t]

theorem q_blk (t : Fin cfg0.N) (R j : Fin 512) : iblk m c 1 t (ix3 0 R j)
    = m ((c : Thread nD τ).loc main_arg0) (ix3 ⟨t.val / 32 % 2, by omega⟩ R ⟨t.val % 32 * 512 + j.val, by omega⟩) := by
  blk_ext [iblk, V, at_point t]

theorem kv_blk (t : Fin cfg0.N) (l : Fin 512) (j : Fin 128) : iblk m c 2 t (ix3 0 l j)
    = m ((c : Thread nD τ).loc main_arg1) (ix3 ⟨t.val / 32 % 2, by omega⟩ l ⟨t.val % 32 * 128 + j.val, by omega⟩) := by
  blk_ext [iblk, V, at_point t]

/-- The bias a sub-block reads, from the scratch filled at the point itself. -/
theorem held_at (t : Fin cfg0.N) (sb : Fin 4) (r : Fin 1024) (e : Fin 256) :
    View.ld (held m c t) (rb (grid0.coords t) sb) (ix3 0 r e)
    = pageAt 16 (if 0 = 0 ∧ sb.val = 0 then 0 else 128) (word (iblk m c 0 t) (grid0.coords t)) r e := by
  have ho := off3_first (grid0.coords t 3) (coords_at t).2 sb (grid0.coords t) rfl
  by_cases h : sb.val = 0
  · rw [if_pos ⟨rfl, h⟩]
    exact (read_page _ _ _ 1 (ho.trans (by rw [if_pos h]; rfl)) r e).trans (bias_at _ _ 1 r e)
  · rw [if_neg fun hs => h hs.2]
    exact (read_page _ _ _ 0 (ho.trans (by rw [if_neg h]; rfl)) r e).trans (bias_at _ _ 0 r e)

/-- The keys and values a sub-block reads. -/
theorem window_at (t : Fin cfg0.N) (sb : Fin 4) (e : Fin 256) (x : Fin 128) :
    View.ld (iblk m c 2 t) (rk (grid0.coords t) sb) (ix3 0 e x)
    = iblk m c 2 t (ix3 0 ⟨512 * 0 + 128 * sb.val - 128 + e.val, by omega⟩ x) := by
  have ho := off2_eq (grid0.coords t) sb
  rw [(coords_at t).2] at ho
  refine View.ld_unit_apply_of _ _ _ _ _ _ fun a => ?_
  refine Eq.trans ?_ (congrArg (fun k => k + _) (congrFun ho a).symm)
  match a with
  | ⟨0, _⟩ => rfl
  | ⟨1, _⟩ => rfl
  | ⟨2, _⟩ => exact (Nat.zero_add _).symm

variable (hQ : ∀ n T j, m ((c : Thread nD τ).loc main_arg0) (ix3 n T j) = (Q n T j : EReal))
  (hKV : ∀ n T j, m ((c : Thread nD τ).loc main_arg1) (ix3 n T j) = (KV n T j : EReal))
  (hSL : ∀ h, m ((c : Thread nD τ).loc main_arg2) (ix1 h) = (SL h : EReal))

include hQ hKV hSL

/-- What the body leaves in its blocks is the reference's results there. -/
theorem point (t : Fin cfg0.N) (R j : Fin 512) :
    written m c t (ix3 0 R j)
      = Cert.BandC16RefIdeal.Read.val_main_v64 (F := Ideal) (m ((c : Thread nD τ).loc main_arg0)) (m ((c : Thread nD τ).loc main_arg1))
        (m ((c : Thread nD τ).loc main_arg2))
        (ix3 ⟨t.val / 32 % 2, by omega⟩ R ⟨t.val % 32 * 512 + j.val, by omega⟩)
    ∧ writtenLog m c t (ix3 0 R j)
      = Cert.BandC16RefIdeal.Read.val_main_v68 (F := Ideal) (m ((c : Thread nD τ).loc main_arg0)) (m ((c : Thread nD τ).loc main_arg1))
        (m ((c : Thread nD τ).loc main_arg2))
        (ix3 ⟨t.val / 32 % 2, by omega⟩ R ⟨t.val % 32 * 512 + j.val, by omega⟩) := by
  have hf := (coords_at t).1
  obtain ⟨n, hn⟩ : ∃ n : Fin 2, n = ⟨t.val / 32 % 2, by omega⟩ := ⟨_, rfl⟩
  obtain ⟨r, hr⟩ : ∃ r : Fin 16, r = ⟨t.val / 2 % 16, by omega⟩ := ⟨_, rfl⟩
  obtain ⟨k, hk⟩ : ∃ k : Fin 2, k = ⟨t.val % 2, by omega⟩ := ⟨_, rfl⟩
  have hrv : r.val = t.val / 2 % 16 := congrArg Fin.val hr
  have hkv : k.val = t.val % 2 := congrArg Fin.val hk
  have hc := Cert.BandC16RefIdeal.Val.class_at (m ((c : Thread nD τ).loc main_arg0)) (m ((c : Thread nD τ).loc main_arg1))
    (m ((c : Thread nD τ).loc main_arg2)) ⟨n.val * 16 + r.val, by omega⟩ (fun T j => Q n T ⟨r.val * 1024 + j.val, by omega⟩)
    (fun T j => KV n T ⟨r.val * 256 + j.val, by omega⟩) SL
    (fun T j => (Cert.BandC16RefIdeal.Val.queries_at _ _ _ T j).trans (hQ _ T _))
    (fun T j => (Cert.BandC16RefIdeal.Val.keys_at _ _ _ T j).trans (hKV _ T _)) hSL
    R ⟨k.val * 512 + j.val, by omega⟩
  have hb := block_layer 16 (fun T j => Q n T ⟨r.val * 1024 + j.val, by omega⟩) (fun T j => KV n T ⟨r.val * 256 + j.val, by omega⟩) SL k
    0 (by omega)
    (iblk m c 1 t) (fun sb => View.ld (iblk m c 2 t) (rk (grid0.coords t) sb)) (fun sb => View.ld (held m c t) (rb (grid0.coords t) sb))
    (word (iblk m c 0 t) (grid0.coords t))
    (fun R j => (q_blk m c t R j).trans ((hQ _ _ _).trans (by
      subst hn
      exact congrArg₂ (fun T e => ((Q _ T e : ℝ) : EReal)) (Fin.ext (by show R.val = 0 * 512 + R.val; omega)) (Fin.ext (by
        show t.val % 32 * 512 + j.val = r.val * 1024 + (k.val * 512 + j.val); omega)))))
    (fun sb e x => (window_at m c t sb e x).trans ((kv_blk m c t _ _).trans ((hKV _ _ _).trans (by
      subst hn
      exact congrArg (fun e => ((KV _ _ e : ℝ) : EReal)) (Fin.ext (by
        show t.val % 32 * 128 + x.val = r.val * 256 + (k.val * 128 + x.val); omega))))))
    (held_at m c t)
    (fun g => (word_at _ _ g).trans ((slopes_blk m c _ _).trans ((hSL _).trans (congrArg (fun e => ((SL e : ℝ) : EReal)) (Fin.ext (by
      show (grid0.coords t 2).val * 8 + g.val = k.val * 8 + g.val
      omega)))))) R j
  have hj : (⟨t.val % 32 * 512 + j.val, by omega⟩ : Fin 16384)
      = ⟨r.val * 1024 + (⟨k.val * 512 + j.val, by omega⟩ : Fin 1024).val, by show r.val * 1024 + (k.val * 512 + j.val) < 16384; omega⟩ :=
    Fin.ext (by show t.val % 32 * 512 + j.val = r.val * 1024 + (k.val * 512 + j.val); omega)
  have hres := (Cert.BandC16RefIdeal.Val.result_class (m ((c : Thread nD τ).loc main_arg0)) (m ((c : Thread nD τ).loc main_arg1))
    (m ((c : Thread nD τ).loc main_arg2)) n r R ⟨k.val * 512 + j.val, by omega⟩).symm.trans
    (congrArg₂ (fun a e => Cert.BandC16RefIdeal.Read.val_main_v64 (F := Ideal) (m ((c : Thread nD τ).loc main_arg0)) (m ((c : Thread nD τ).loc main_arg1))
      (m ((c : Thread nD τ).loc main_arg2)) (ix3 a R e)) hn hj.symm)
  have hlog := (Cert.BandC16RefIdeal.Val.log_class (m ((c : Thread nD τ).loc main_arg0)) (m ((c : Thread nD τ).loc main_arg1))
    (m ((c : Thread nD τ).loc main_arg2)) n r R ⟨k.val * 512 + j.val, by omega⟩).symm.trans
    (congrArg₂ (fun a e => Cert.BandC16RefIdeal.Read.val_main_v68 (F := Ideal) (m ((c : Thread nD τ).loc main_arg0)) (m ((c : Thread nD τ).loc main_arg1))
      (m ((c : Thread nD τ).loc main_arg2)) (ix3 a R e)) hn hj.symm)
  have hg := group_column 16 (fun T j => Q n T ⟨r.val * 1024 + j.val, by omega⟩) (fun T j => KV n T ⟨r.val * 256 + j.val, by omega⟩) SL k j
    R
  have e3 : (⟨0 * 512 + R.val, by omega⟩ : Fin 512) = R := Fin.ext (by show 0 * 512 + R.val = R.val; omega)
  rw [e3] at hb
  exact ⟨hb.1.trans ((congrArg (fun x : ℝ => (x : EReal)) hg.1).trans (hc.1.symm.trans hres)),
    hb.2.trans ((congrArg (fun x : ℝ => (x : EReal)) hg.2).trans (hc.2.symm.trans hlog))⟩

/-- The whole array of results after the run. -/
theorem final3 : (dats m 0 c).arrAt 3 cfg0.N
    = Cert.BandC16RefIdeal.Read.val_main_v64 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after3]
  obtain ⟨a, R, j, rfl⟩ : ∃ (a : Fin 1) (R : Fin 512) (j : Fin 512), y = ix3 a R j :=
    ⟨y 0, y 1, y 2, by funext ax; match ax with | ⟨0, _⟩ => rfl | ⟨1, _⟩ => rfl | ⟨2, _⟩ => rfl⟩
  obtain rfl : a = 0 := Subsingleton.elim _ _
  refine (point m c Q KV SL hQ hKV hSL t R j).1.trans (congrArg _ (Eq.symm ?_))
  blk_ext [at_point t]

/-- The whole array of logarithms after the run. -/
theorem final4 : (dats m 0 c).arrAt 4 cfg0.N
    = Cert.BandC16RefIdeal.Read.val_main_v68 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after4]
  obtain ⟨a, R, j, rfl⟩ : ∃ (a : Fin 1) (R : Fin 512) (j : Fin 512), y = ix3 a R j :=
    ⟨y 0, y 1, y 2, by funext ax; match ax with | ⟨0, _⟩ => rfl | ⟨1, _⟩ => rfl | ⟨2, _⟩ => rfl⟩
  obtain rfl : a = 0 := Subsingleton.elim _ _
  refine (point m c Q KV SL hQ hKV hSL t R j).2.trans (congrArg _ (Eq.symm ?_))
  blk_ext [at_point t]

end Cert.BandC16Ideal.Val

end
-- ==== Proof.V.C16Alg.lean ====
module

public import proofs.«01_k».proof.Defs
public import proofs.«01_k».proof.Proof.V.C16Val
public import proofs.«01_k».proof.Proof.V.BAlg
public import proofs.«01_k».proof.Proof.V.ProjCAlg
public import proofs.«01_k».proof.Proof.Gen.BandC16RefIdeal.Run
public import proofs.«01_k».proof.Proof.Gen.Pre_finite_c16
public import Idealize.ShloMosaic.Lib.Claim
public import Idealize.ShloMosaic.Lib.ReduceAll

@[expose] public section

set_option maxRecDepth 16384

noncomputable section

namespace Cert.BandC16RefIdeal.Named

open Cert.BandC16RefIdeal Cert.BandC16RefIdeal.Read
open Idealize.ShloMosaic Idealize.ShloMosaic.TcCoe Idealize.SL.Sem

/-- The reference's run, each result named by its stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = val_main_v64 (F := Ideal) (m ((c.tc : Thread nD τ).loc main_arg0)) (m ((c.tc : Thread nD τ).loc main_arg1))
          (m ((c.tc : Thread nD τ).loc main_arg2))
      ∧ r.2.mem ((c.tc : Thread nD τ).loc main_v68) = val_main_v68 (F := Ideal) (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, ha⟩ := h c
    exact ⟨h0.trans (val_main_v64_eq _ _), h1.trans (val_main_v68_eq _ _), ha⟩) (Cert.BandC16RefIdeal.Value.run m ρ)

end Cert.BandC16RefIdeal.Named

namespace Cert.BandC16Ideal.Val

open Idealize.ShloMosaic Idealize.ShloMosaic.TcCoe Idealize.ShloMosaic.Pointwise Idealize.SL.Sem
open Cert.BandedIdeal.Val (real_of_abs)
open Cert.ProjCIdeal.Val (same_args)

/-- Reading the precondition: every element is a real number. -/
theorem all_real (x0 : FVec Ideal Cert.Pre_finite_c16.S2x512x16384 .bf16) (x1 : FVec Ideal Cert.Pre_finite_c16.S2x512x4096 .bf16)
    (x2 : FVec Ideal Cert.Pre_finite_c16.S16 .f32) (h : Cert.Pre_finite_c16.fn (F := Ideal) x0 x1 x2 = fun _ => 1#1) :
    (∀ i, ∃ x : ℝ, x0 i = (x : EReal)) ∧ (∀ i, ∃ x : ℝ, x1 i = (x : EReal)) ∧ (∀ i, ∃ x : ℝ, x2 i = (x : EReal)) := by
  obtain ⟨hA, h2⟩ := IntOp.andi_eq_one.1 (congrFun h fun a => a.elim0)
  obtain ⟨h0, h1⟩ := IntOp.andi_eq_one.1 hA
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i)⟩

set_option maxHeartbeats 4000000 in
/-- The kernel and the reference end with the same result arrays, the arguments being finite. -/
theorem same_results : Cert.algebraic_BandC16Ideal_BandC16RefIdeal_pre_finite_c16 := by
  pair_intro
  · run_from Cert.BandC16Ideal.Hand.run_main m g
  · refine (θ_run _ _ _).mono (fun r h c => ?_) (Cert.BandC16RefIdeal.Named.run m' g')
    obtain ⟨a0, a1, a2⟩ := hagree c
    obtain ⟨r0, r1, r2⟩ := all_real _ _ _ (hpre c)
    choose Q hQ using r0
    choose KV hKV using r1
    choose SL hSL using r2
    obtain ⟨h0, h1, ha⟩ := h c
    have f3 := final3 m c (fun n T j => Q (ix3 n T j)) (fun n T j => KV (ix3 n T j)) (fun h => SL (ix1 h))
      (fun _ _ _ => hQ _) (fun _ _ _ => hKV _) (fun _ => hSL _)
    have f4 := final4 m c (fun n T j => Q (ix3 n T j)) (fun n T j => KV (ix3 n T j)) (fun h => SL (ix1 h))
      (fun _ _ _ => hQ _) (fun _ _ _ => hKV _) (fun _ => hSL _)
    exact ⟨h0.trans ((same_args (Cert.BandC16RefIdeal.Read.val_main_v64 (F := Ideal)) a0 a1 a2).trans f3.symm),
      h1.trans ((same_args (Cert.BandC16RefIdeal.Read.val_main_v68 (F := Ideal)) a0 a1 a2).trans f4.symm), ha⟩

end Cert.BandC16Ideal.Val

end
-- ==== Proof.lean ====
module

public import proofs.«01_k».proof.Defs
public import proofs.«01_k».proof.Proof.Gen.Banded
public import proofs.«01_k».proof.Proof.Gen.Banded.Skeleton
public import proofs.«01_k».proof.Proof.Gen.Banded.Launch
public import proofs.«01_k».proof.Proof.Gen.Banded.Points
public import proofs.«01_k».proof.Proof.Gen.Banded.Frame
public import proofs.«01_k».proof.Proof.Gen.BandedIdeal
public import proofs.«01_k».proof.Proof.Gen.BandedIdeal.Skeleton
public import proofs.«01_k».proof.Proof.Gen.BandedIdeal.Launch
public import proofs.«01_k».proof.Proof.Gen.BandedIdeal.Points
public import proofs.«01_k».proof.Proof.Gen.BandedIdeal.Frame
public import proofs.«01_k».proof.Proof.Gen.BandedRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Pre_finite
public import proofs.«01_k».proof.Proof.Gen.ProjIdeal.Value
public import proofs.«01_k».proof.Proof.Gen.OutIdeal.Value
public import proofs.«01_k».proof.Proof.Gen.ProjRefIdeal.Run
public import proofs.«01_k».proof.Proof.Gen.OutRefIdeal.Run
public import proofs.«01_k».proof.Proof.Gen.BandedRefIdeal.Run
public import proofs.«01_k».proof.Proof.Gen.ProjRefIdeal.Read
public import proofs.«01_k».proof.Proof.Gen.OutRefIdeal.Read
public import proofs.«01_k».proof.Proof.Gen.BandedRefIdeal.Read
public import proofs.«01_k».proof.Proof.Gen.ProjB
public import proofs.«01_k».proof.Proof.Gen.ProjB.Skeleton
public import proofs.«01_k».proof.Proof.Gen.ProjB.Launch
public import proofs.«01_k».proof.Proof.Gen.ProjB.Points
public import proofs.«01_k».proof.Proof.Gen.ProjB.Frame
public import proofs.«01_k».proof.Proof.Gen.ProjBIdeal
public import proofs.«01_k».proof.Proof.Gen.ProjBIdeal.Skeleton
public import proofs.«01_k».proof.Proof.Gen.ProjBIdeal.Launch
public import proofs.«01_k».proof.Proof.Gen.ProjBIdeal.Points
public import proofs.«01_k».proof.Proof.Gen.ProjBIdeal.Frame
public import proofs.«01_k».proof.Proof.Gen.ProjBIdeal.Value
public import proofs.«01_k».proof.Proof.Gen.ProjBRefIdeal
public import proofs.«01_k».proof.Proof.Gen.ProjBRefIdeal.Run
public import proofs.«01_k».proof.Proof.Gen.ProjBRefIdeal.Read
public import proofs.«01_k».proof.Proof.Gen.ProjC
public import proofs.«01_k».proof.Proof.Gen.ProjC.Skeleton
public import proofs.«01_k».proof.Proof.Gen.ProjC.Launch
public import proofs.«01_k».proof.Proof.Gen.ProjC.Points
public import proofs.«01_k».proof.Proof.Gen.ProjC.Frame
public import proofs.«01_k».proof.Proof.Gen.ProjCIdeal
public import proofs.«01_k».proof.Proof.Gen.ProjCIdeal.Skeleton
public import proofs.«01_k».proof.Proof.Gen.ProjCIdeal.Launch
public import proofs.«01_k».proof.Proof.Gen.ProjCIdeal.Points
public import proofs.«01_k».proof.Proof.Gen.ProjCIdeal.Frame
public import proofs.«01_k».proof.Proof.Gen.ProjCIdeal.Value
public import proofs.«01_k».proof.Proof.Gen.ProjCRefIdeal
public import proofs.«01_k».proof.Proof.Gen.ProjCRefIdeal.Run
public import proofs.«01_k».proof.Proof.Gen.ProjCRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.BandC1
public import proofs.«01_k».proof.Proof.Gen.BandC1.Skeleton
public import proofs.«01_k».proof.Proof.Gen.BandC1.Launch
public import proofs.«01_k».proof.Proof.Gen.BandC1.Points
public import proofs.«01_k».proof.Proof.Gen.BandC1.Frame
public import proofs.«01_k».proof.Proof.Gen.BandC1Ideal
public import proofs.«01_k».proof.Proof.Gen.BandC1Ideal.Skeleton
public import proofs.«01_k».proof.Proof.Gen.BandC1Ideal.Launch
public import proofs.«01_k».proof.Proof.Gen.BandC1Ideal.Points
public import proofs.«01_k».proof.Proof.Gen.BandC1Ideal.Frame
public import proofs.«01_k».proof.Proof.Gen.BandC1RefIdeal
public import proofs.«01_k».proof.Proof.Gen.BandC1RefIdeal.Run
public import proofs.«01_k».proof.Proof.Gen.BandC1RefIdeal.Read
public import proofs.«01_k».proof.Proof.Gen.Pre_finite_c1
public import proofs.«01_k».proof.Proof.Gen.BandC4
public import proofs.«01_k».proof.Proof.Gen.BandC4.Skeleton
public import proofs.«01_k».proof.Proof.Gen.BandC4.Launch
public import proofs.«01_k».proof.Proof.Gen.BandC4.Points
public import proofs.«01_k».proof.Proof.Gen.BandC4.Frame
public import proofs.«01_k».proof.Proof.Gen.BandC4Ideal
public import proofs.«01_k».proof.Proof.Gen.BandC4Ideal.Skeleton
public import proofs.«01_k».proof.Proof.Gen.BandC4Ideal.Launch
public import proofs.«01_k».proof.Proof.Gen.BandC4Ideal.Points
public import proofs.«01_k».proof.Proof.Gen.BandC4Ideal.Frame
public import proofs.«01_k».proof.Proof.Gen.BandC4RefIdeal
public import proofs.«01_k».proof.Proof.Gen.BandC4RefIdeal.Run
public import proofs.«01_k».proof.Proof.Gen.BandC4RefIdeal.Read
public import proofs.«01_k».proof.Proof.Gen.Pre_finite_c4
public import proofs.«01_k».proof.Proof.Gen.BandC16
public import proofs.«01_k».proof.Proof.Gen.BandC16.Skeleton
public import proofs.«01_k».proof.Proof.Gen.BandC16.Launch
public import proofs.«01_k».proof.Proof.Gen.BandC16.Points
public import proofs.«01_k».proof.Proof.Gen.BandC16.Frame
public import proofs.«01_k».proof.Proof.Gen.BandC16Ideal
public import proofs.«01_k».proof.Proof.Gen.BandC16Ideal.Skeleton
public import proofs.«01_k».proof.Proof.Gen.BandC16Ideal.Launch
public import proofs.«01_k».proof.Proof.Gen.BandC16Ideal.Points
public import proofs.«01_k».proof.Proof.Gen.BandC16Ideal.Frame
public import proofs.«01_k».proof.Proof.Gen.BandC16RefIdeal
public import proofs.«01_k».proof.Proof.Gen.BandC16RefIdeal.Run
public import proofs.«01_k».proof.Proof.Gen.BandC16RefIdeal.Read
public import proofs.«01_k».proof.Proof.Gen.Pre_finite_c16
public import proofs.«01_k».proof.Proof.P.BFrame
public import proofs.«01_k».proof.Proof.V.BAlg
public import proofs.«01_k».proof.Proof.V.ProjAlg
public import proofs.«01_k».proof.Proof.V.OutAlg
public import proofs.«01_k».proof.Proof.V.ProjBAlg
public import proofs.«01_k».proof.Proof.V.ProjCAlg
public import proofs.«01_k».proof.Proof.V.MergeAlg
public import proofs.«01_k».proof.Proof.P.C1Frame
public import proofs.«01_k».proof.Proof.P.C4Frame
public import proofs.«01_k».proof.Proof.P.C16Frame
public import proofs.«01_k».proof.Proof.V.C1Alg
public import proofs.«01_k».proof.Proof.V.C4Alg
public import proofs.«01_k».proof.Proof.V.C16Alg
public import Idealize.ShloMosaic.Lib.Claim
public import Idealize.ShloMosaic.Adequacy
public import Idealize.ShloMosaic.Init

@[expose] public section

noncomputable section

namespace Cert.Proof

open Idealize.ShloMosaic Idealize.SL.Sem Cert.Banded

theorem claim : Cert.Claim := ⟨Cert.Banded.Gen.facts, Cert.BandedIdeal.Gen.facts, Cert.BandedRefIdeal.Gen.facts, Cert.Proj.Gen.facts, Cert.ProjIdeal.Gen.facts, Cert.ProjRefIdeal.Gen.facts, Cert.Out.Gen.facts, Cert.OutIdeal.Gen.facts, Cert.OutRefIdeal.Gen.facts, Cert.ProjB.Gen.facts, Cert.ProjBIdeal.Gen.facts, Cert.ProjBRefIdeal.Gen.facts, Cert.ProjC.Gen.facts, Cert.ProjCIdeal.Gen.facts, Cert.ProjCRefIdeal.Gen.facts, Cert.Merge.Gen.facts, Cert.MergeIdeal.Gen.facts, Cert.MergeRefIdeal.Gen.facts, Cert.BandC1.Gen.facts, Cert.BandC1Ideal.Gen.facts, Cert.BandC1RefIdeal.Gen.facts, Cert.BandC4.Gen.facts, Cert.BandC4Ideal.Gen.facts, Cert.BandC4RefIdeal.Gen.facts, Cert.BandC16.Gen.facts, Cert.BandC16Ideal.Gen.facts, Cert.BandC16RefIdeal.Gen.facts, Cert.Pre_finite.Gen.facts, Cert.Pre_finite_c1.Gen.facts, Cert.Pre_finite_c4.Gen.facts, Cert.Pre_finite_c16.Gen.facts, by
  refine ⟨fun m g _ => Cert.Banded.Hand.frame_all m g, fun m g _ => Cert.BandedIdeal.Hand.frame_all m g,
    fun m g _ => Cert.BandedIdeal.Hand.frame_all m g, ?_, ?_, fun m g _ => Cert.Proj.Gen.frame m g, fun m g _ => Cert.ProjIdeal.Gen.frame m g, ?_,
    fun m g _ => Cert.Out.Gen.frame m g, fun m g _ => Cert.OutIdeal.Gen.frame m g, ?_,
    fun m g _ => Cert.ProjB.Gen.frame m g, fun m g _ => Cert.ProjBIdeal.Gen.frame m g, ?_,
    fun m g _ => Cert.ProjC.Gen.frame m g, fun m g _ => Cert.ProjCIdeal.Gen.frame m g, ?_,
    fun m g _ => Cert.Merge.Gen.frame m g, fun m g _ => Cert.MergeIdeal.Gen.frame m g, ?_,
    fun m g _ => Cert.BandC1.Hand.frame_all m g, fun m g _ => Cert.BandC1Ideal.Hand.frame_all m g,
    fun m g _ => Cert.BandC1Ideal.Hand.frame_all m g, ?_, ?_,
    fun m g _ => Cert.BandC4.Hand.frame_all m g, fun m g _ => Cert.BandC4Ideal.Hand.frame_all m g,
    fun m g _ => Cert.BandC4Ideal.Hand.frame_all m g, ?_, ?_,
    fun m g _ => Cert.BandC16.Hand.frame_all m g, fun m g _ => Cert.BandC16Ideal.Hand.frame_all m g,
    fun m g _ => Cert.BandC16Ideal.Hand.frame_all m g, ?_, ?_,
    ?_, Cert.BandedIdeal.Val.same_results, ?_,
    Cert.ProjIdeal.Val.same_results, ?_, Cert.OutIdeal.Val.same_results, ?_, Cert.ProjBIdeal.Val.same_results, ?_,
    Cert.ProjCIdeal.Val.same_results, ?_, Cert.MergeIdeal.Val.same_results, ?_,
    Cert.BandC1Ideal.Val.same_results, ?_, Cert.BandC4Ideal.Val.same_results, ?_, Cert.BandC16Ideal.Val.same_results⟩
  · exact fun m g _ => (θ_run _ _ _).mono (fun r h => ⟨fun c => (h c).2, sem_eq_zero_of_no_sems rfl r.2⟩) (Cert.BandedRefIdeal.Value.run m g)
  · exact fun m g _ => (θ_run _ _ _).mono (fun r h => ⟨fun c => (h c).2, sem_eq_zero_of_no_sems rfl r.2⟩) (Cert.BandedRefIdeal.Value.run m g)
  · exact fun m g _ => (θ_run _ _ _).mono (fun r h => ⟨fun c => (h c).2.2.2.2, sem_eq_zero_of_no_sems rfl r.2⟩) (Cert.ProjRefIdeal.Value.run m g)
  · exact fun m g _ => (θ_run _ _ _).mono (fun r h => ⟨fun c => (h c).2, sem_eq_zero_of_no_sems rfl r.2⟩) (Cert.OutRefIdeal.Value.run m g)
  · exact fun m g _ => (θ_run _ _ _).mono (fun r h => ⟨fun c => (h c).2.2.2.2.2.2.2.2.2.2, sem_eq_zero_of_no_sems rfl r.2⟩) (Cert.ProjBRefIdeal.Value.run m g)
  · exact fun m g _ => (θ_run _ _ _).mono (fun r h => ⟨fun c => (h c).2.2.2.2.2.2.2.2, sem_eq_zero_of_no_sems rfl r.2⟩) (Cert.ProjCRefIdeal.Value.run m g)
  · exact fun m g _ => (θ_run _ _ _).mono (fun r h => ⟨fun c => (h c).2, sem_eq_zero_of_no_sems rfl r.2⟩) (Cert.MergeRefIdeal.Value.run m g)
  · exact fun m g _ => (θ_run _ _ _).mono (fun r h => ⟨fun c => (h c).2.2, sem_eq_zero_of_no_sems rfl r.2⟩) (Cert.BandC1RefIdeal.Value.run m g)
  · exact fun m g _ => (θ_run _ _ _).mono (fun r h => ⟨fun c => (h c).2.2, sem_eq_zero_of_no_sems rfl r.2⟩) (Cert.BandC1RefIdeal.Value.run m g)
  · exact fun m g _ => (θ_run _ _ _).mono (fun r h => ⟨fun c => (h c).2.2, sem_eq_zero_of_no_sems rfl r.2⟩) (Cert.BandC4RefIdeal.Value.run m g)
  · exact fun m g _ => (θ_run _ _ _).mono (fun r h => ⟨fun c => (h c).2.2, sem_eq_zero_of_no_sems rfl r.2⟩) (Cert.BandC4RefIdeal.Value.run m g)
  · exact fun m g _ => (θ_run _ _ _).mono (fun r h => ⟨fun c => (h c).2.2, sem_eq_zero_of_no_sems rfl r.2⟩) (Cert.BandC16RefIdeal.Value.run m g)
  · exact fun m g _ => (θ_run _ _ _).mono (fun r h => ⟨fun c => (h c).2.2, sem_eq_zero_of_no_sems rfl r.2⟩) (Cert.BandC16RefIdeal.Value.run m g)
  · exact IdealRules.named_const.statement Cert.BandedIdeal.κ "mask" .f32 0xF149F2CA#32 ⊥ rfl
  · trivial
  · trivial
  · trivial
  · trivial
  · trivial
  · exact IdealRules.named_const.statement Cert.BandC1Ideal.κ "mask" .f32 0xF149F2CA#32 ⊥ rfl
  · exact IdealRules.named_const.statement Cert.BandC4Ideal.κ "mask" .f32 0xF149F2CA#32 ⊥ rfl
  · exact IdealRules.named_const.statement Cert.BandC16Ideal.κ "mask" .f32 0xF149F2CA#32 ⊥ rfl⟩

end Cert.Proof

end
